-- ==== Defs.lean ====
def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradRefIdeal (m : (ℓ : Loc Cert.MergeGradRefIdeal.nD Cert.MergeGradRefIdeal.τ Cert.MergeGradRefIdeal.sig) → Buf (Elt Ideal) ℓ) : Prop :=
  True

def Pre_GluGrad (m : (ℓ : Loc Cert.GluGrad.nD Cert.GluGrad.τ Cert.GluGrad.sig) → Buf (Elt Bits) ℓ) : Prop :=
  True

def Pre_GluGradIdeal (m : (ℓ : Loc Cert.GluGradIdeal.nD Cert.GluGradIdeal.τ Cert.GluGradIdeal.sig) → Buf (Elt Ideal) ℓ) : Prop :=
  True

def Pre_GluGradRefIdeal (m : (ℓ : Loc Cert.GluGradRefIdeal.nD Cert.GluGradRefIdeal.τ Cert.GluGradRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_ProjShift (m : (ℓ : Loc Cert.ProjShift.nD Cert.ProjShift.τ Cert.ProjShift.sig) → Buf (Elt Bits) ℓ) : Prop :=
  True

def Pre_ProjShiftIdeal (m : (ℓ : Loc Cert.ProjShiftIdeal.nD Cert.ProjShiftIdeal.τ Cert.ProjShiftIdeal.sig) → Buf (Elt Ideal) ℓ) : Prop :=
  True

def Pre_ProjShiftRefIdeal (m : (ℓ : Loc Cert.ProjShiftRefIdeal.nD Cert.ProjShiftRefIdeal.τ Cert.ProjShiftRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3)
      ∧ r.2.mem ((c.tc : Thread Cert.MergeGrad.nD Cert.MergeGrad.τ).loc Cert.MergeGrad.main_arg4) = m ((c.tc : Thread Cert.MergeGrad.nD Cert.MergeGrad.τ).loc Cert.MergeGrad.main_arg4)
      ∧ r.2.mem ((c.tc : Thread Cert.MergeGrad.nD Cert.MergeGrad.τ).loc Cert.MergeGrad.main_arg5) = m ((c.tc : Thread Cert.MergeGrad.nD Cert.MergeGrad.τ).loc Cert.MergeGrad.main_arg5)
      ∧ r.2.mem ((c.tc : Thread Cert.MergeGrad.nD Cert.MergeGrad.τ).loc Cert.MergeGrad.main_arg6) = m ((c.tc : Thread Cert.MergeGrad.nD Cert.MergeGrad.τ).loc Cert.MergeGrad.main_arg6)
      ∧ r.2.mem ((c.tc : Thread Cert.MergeGrad.nD Cert.MergeGrad.τ).loc Cert.MergeGrad.main_arg7) = m ((c.tc : Thread Cert.MergeGrad.nD Cert.MergeGrad.τ).loc Cert.MergeGrad.main_arg7))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
      ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5)
      ∧ r.2.mem ((c.tc : Thread Cert.MergeGradIdeal.nD Cert.MergeGradIdeal.τ).loc Cert.MergeGradIdeal.main_arg6) = m ((c.tc : Thread Cert.MergeGradIdeal.nD Cert.MergeGradIdeal.τ).loc Cert.MergeGradIdeal.main_arg6)
      ∧ r.2.mem ((c.tc : Thread Cert.MergeGradIdeal.nD Cert.MergeGradIdeal.τ).loc Cert.MergeGradIdeal.main_arg7) = m ((c.tc : Thread Cert.MergeGradIdeal.nD Cert.MergeGradIdeal.τ).loc Cert.MergeGradIdeal.main_arg7))
      ∧ r.2.sem = fun _ => 0)

def quiescent_MergeGradRefIdeal [hMergeGradRefIdeal : Cert.MergeGradRefIdeal.Facts] : Prop :=
  ∀ (m : (ℓ : Loc Cert.MergeGradRefIdeal.nD Cert.MergeGradRefIdeal.τ Cert.MergeGradRefIdeal.sig) → Buf (Elt Ideal) ℓ) (g : Dev Cert.MergeGradRefIdeal.nD → PrngReg), Pre_MergeGradRefIdeal m →
    θ_run (Cert.MergeGradRefIdeal.defs (F := Ideal)) (onTc (τ := Cert.MergeGradRefIdeal.τ) (Cert.MergeGradRefIdeal.main (F := Ideal))) ⟨m, fun _ => 0, g⟩ (fun r => (∀ c : Dev Cert.MergeGradRefIdeal.nD,
      r.2.mem ((c.tc : Thread Cert.MergeGradRefIdeal.nD Cert.MergeGradRefIdeal.τ).loc Cert.MergeGradRefIdeal.main_arg0) = m ((c.tc : Thread Cert.MergeGradRefIdeal.nD Cert.MergeGradRefIdeal.τ).loc Cert.MergeGradRefIdeal.main_arg0)
      ∧ r.2.mem ((c.tc : Thread Cert.MergeGradRefIdeal.nD Cert.MergeGradRefIdeal.τ).loc Cert.MergeGradRefIdeal.main_arg1) = m ((c.tc : Thread Cert.MergeGradRefIdeal.nD Cert.MergeGradRefIdeal.τ).loc Cert.MergeGradRefIdeal.main_arg1)
      ∧ r.2.mem ((c.tc : Thread Cert.MergeGradRefIdeal.nD Cert.MergeGradRefIdeal.τ).loc Cert.MergeGradRefIdeal.main_arg2) = m ((c.tc : Thread Cert.MergeGradRefIdeal.nD Cert.MergeGradRefIdeal.τ).loc Cert.MergeGradRefIdeal.main_arg2)
      ∧ r.2.mem ((c.tc : Thread Cert.MergeGradRefIdeal.nD Cert.MergeGradRefIdeal.τ).loc Cert.MergeGradRefIdeal.main_arg3) = m ((c.tc : Thread Cert.MergeGradRefIdeal.nD Cert.MergeGradRefIdeal.τ).loc Cert.MergeGradRefIdeal.main_arg3)
      ∧ r.2.mem ((c.tc : Thread Cert.MergeGradRefIdeal.nD Cert.MergeGradRefIdeal.τ).loc Cert.MergeGradRefIdeal.main_arg4) = m ((c.tc : Thread Cert.MergeGradRefIdeal.nD Cert.MergeGradRefIdeal.τ).loc Cert.MergeGradRefIdeal.main_arg4)
      ∧ r.2.mem ((c.tc : Thread Cert.MergeGradRefIdeal.nD Cert.MergeGradRefIdeal.τ).loc Cert.MergeGradRefIdeal.main_arg5) = m ((c.tc : Thread Cert.MergeGradRefIdeal.nD Cert.MergeGradRefIdeal.τ).loc Cert.MergeGradRefIdeal.main_arg5)
      ∧ r.2.mem ((c.tc : Thread Cert.MergeGradRefIdeal.nD Cert.MergeGradRefIdeal.τ).loc Cert.MergeGradRefIdeal.main_arg6) = m ((c.tc : Thread Cert.MergeGradRefIdeal.nD Cert.MergeGradRefIdeal.τ).loc Cert.MergeGradRefIdeal.main_arg6)
      ∧ r.2.mem ((c.tc : Thread Cert.MergeGradRefIdeal.nD Cert.MergeGradRefIdeal.τ).loc Cert.MergeGradRefIdeal.main_arg7) = m ((c.tc : Thread Cert.MergeGradRefIdeal.nD Cert.MergeGradRefIdeal.τ).loc Cert.MergeGradRefIdeal.main_arg7))
      ∧ r.2.sem = fun _ => 0)

def quiescent_GluGrad [hGluGrad : Cert.GluGrad.Facts] : Prop :=
  ∀ (m : (ℓ : Loc Cert.GluGrad.nD Cert.GluGrad.τ Cert.GluGrad.sig) → Buf (Elt Bits) ℓ) (g : Dev Cert.GluGrad.nD → PrngReg), Pre_GluGrad m →
    θ_run (Cert.GluGrad.defs (F := Bits)) (onTc (τ := Cert.GluGrad.τ) (Cert.GluGrad.main (F := Bits))) ⟨m, fun _ => 0, g⟩ (fun r => (∀ c : Dev Cert.GluGrad.nD,
      r.2.mem ((c.tc : Thread Cert.GluGrad.nD Cert.GluGrad.τ).loc Cert.GluGrad.main_arg0) = m ((c.tc : Thread Cert.GluGrad.nD Cert.GluGrad.τ).loc Cert.GluGrad.main_arg0)
      ∧ r.2.mem ((c.tc : Thread Cert.GluGrad.nD Cert.GluGrad.τ).loc Cert.GluGrad.main_arg1) = m ((c.tc : Thread Cert.GluGrad.nD Cert.GluGrad.τ).loc Cert.GluGrad.main_arg1)
      ∧ r.2.mem ((c.tc : Thread Cert.GluGrad.nD Cert.GluGrad.τ).loc Cert.GluGrad.main_arg2) = m ((c.tc : Thread Cert.GluGrad.nD Cert.GluGrad.τ).loc Cert.GluGrad.main_arg2)
      ∧ r.2.mem ((c.tc : Thread Cert.GluGrad.nD Cert.GluGrad.τ).loc Cert.GluGrad.main_arg3) = m ((c.tc : Thread Cert.GluGrad.nD Cert.GluGrad.τ).loc Cert.GluGrad.main_arg3)
      ∧ r.2.mem ((c.tc : Thread Cert.GluGrad.nD Cert.GluGrad.τ).loc Cert.GluGrad.main_arg4) = m ((c.tc : Thread Cert.GluGrad.nD Cert.GluGrad.τ).loc Cert.GluGrad.main_arg4))
      ∧ r.2.sem = fun _ => 0)

def quiescent_GluGradIdeal [hGluGradIdeal : Cert.GluGradIdeal.Facts] : Prop :=
  ∀ (m : (ℓ : Loc Cert.GluGradIdeal.nD Cert.GluGradIdeal.τ Cert.GluGradIdeal.sig) → Buf (Elt Ideal) ℓ) (g : Dev Cert.GluGradIdeal.nD → PrngReg), Pre_GluGradIdeal m →
    θ_run (Cert.GluGradIdeal.defs (F := Ideal)) (onTc (τ := Cert.GluGradIdeal.τ) (Cert.GluGradIdeal.main (F := Ideal))) ⟨m, fun _ => 0, g⟩ (fun r => (∀ c : Dev Cert.GluGradIdeal.nD,
      r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
      ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
      ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
      ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3)
      ∧ r.2.mem ((c.tc : Thread Cert.GluGradIdeal.nD Cert.GluGradIdeal.τ).loc Cert.GluGradIdeal.main_arg4) = m ((c.tc : Thread Cert.GluGradIdeal.nD Cert.GluGradIdeal.τ).loc Cert.GluGradIdeal.main_arg4))
      ∧ r.2.sem = fun _ => 0)

def quiescent_GluGradRefIdeal [hGluGradRefIdeal : Cert.GluGradRefIdeal.Facts] : Prop :=
  ∀ (m : (ℓ : Loc Cert.GluGradRefIdeal.nD Cert.GluGradRefIdeal.τ Cert.GluGradRefIdeal.sig) → Buf (Elt Ideal) ℓ) (g : Dev Cert.GluGradRefIdeal.nD → PrngReg), Pre_GluGradRefIdeal m →
    θ_run (Cert.GluGradRefIdeal.defs (F := Ideal)) (onTc (τ := Cert.GluGradRefIdeal.τ) (Cert.GluGradRefIdeal.main (F := Ideal))) ⟨m, fun _ => 0, g⟩ (fun r => (∀ c : Dev Cert.GluGradRefIdeal.nD,
      r.2.mem ((c.tc : Thread Cert.GluGradRefIdeal.nD Cert.GluGradRefIdeal.τ).loc Cert.GluGradRefIdeal.main_arg0) = m ((c.tc : Thread Cert.GluGradRefIdeal.nD Cert.GluGradRefIdeal.τ).loc Cert.GluGradRefIdeal.main_arg0)
      ∧ r.2.mem ((c.tc : Thread Cert.GluGradRefIdeal.nD Cert.GluGradRefIdeal.τ).loc Cert.GluGradRefIdeal.main_arg1) = m ((c.tc : Thread Cert.GluGradRefIdeal.nD Cert.GluGradRefIdeal.τ).loc Cert.GluGradRefIdeal.main_arg1)
      ∧ r.2.mem ((c.tc : Thread Cert.GluGradRefIdeal.nD Cert.GluGradRefIdeal.τ).loc Cert.GluGradRefIdeal.main_arg2) = m ((c.tc : Thread Cert.GluGradRefIdeal.nD Cert.GluGradRefIdeal.τ).loc Cert.GluGradRefIdeal.main_arg2)
      ∧ r.2.mem ((c.tc : Thread Cert.GluGradRefIdeal.nD Cert.GluGradRefIdeal.τ).loc Cert.GluGradRefIdeal.main_arg3) = m ((c.tc : Thread Cert.GluGradRefIdeal.nD Cert.GluGradRefIdeal.τ).loc Cert.GluGradRefIdeal.main_arg3)
      ∧ r.2.mem ((c.tc : Thread Cert.GluGradRefIdeal.nD Cert.GluGradRefIdeal.τ).loc Cert.GluGradRefIdeal.main_arg4) = m ((c.tc : Thread Cert.GluGradRefIdeal.nD Cert.GluGradRefIdeal.τ).loc Cert.GluGradRefIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_ProjShift [hProjShift : Cert.ProjShift.Facts] : Prop :=
  ∀ (m : (ℓ : Loc Cert.ProjShift.nD Cert.ProjShift.τ Cert.ProjShift.sig) → Buf (Elt Bits) ℓ) (g : Dev Cert.ProjShift.nD → PrngReg), Pre_ProjShift m →
    θ_run (Cert.ProjShift.defs (F := Bits)) (onTc (τ := Cert.ProjShift.τ) (Cert.ProjShift.main (F := Bits))) ⟨m, fun _ => 0, g⟩ (fun r => (∀ c : Dev Cert.ProjShift.nD,
      r.2.mem ((c.tc : Thread Cert.ProjShift.nD Cert.ProjShift.τ).loc Cert.ProjShift.main_arg0) = m ((c.tc : Thread Cert.ProjShift.nD Cert.ProjShift.τ).loc Cert.ProjShift.main_arg0)
      ∧ r.2.mem ((c.tc : Thread Cert.ProjShift.nD Cert.ProjShift.τ).loc Cert.ProjShift.main_arg1) = m ((c.tc : Thread Cert.ProjShift.nD Cert.ProjShift.τ).loc Cert.ProjShift.main_arg1)
      ∧ r.2.mem ((c.tc : Thread Cert.ProjShift.nD Cert.ProjShift.τ).loc Cert.ProjShift.main_arg2) = m ((c.tc : Thread Cert.ProjShift.nD Cert.ProjShift.τ).loc Cert.ProjShift.main_arg2)
      ∧ r.2.mem ((c.tc : Thread Cert.ProjShift.nD Cert.ProjShift.τ).loc Cert.ProjShift.main_arg3) = m ((c.tc : Thread Cert.ProjShift.nD Cert.ProjShift.τ).loc Cert.ProjShift.main_arg3))
      ∧ r.2.sem = fun _ => 0)

def quiescent_ProjShiftIdeal [hProjShiftIdeal : Cert.ProjShiftIdeal.Facts] : Prop :=
  ∀ (m : (ℓ : Loc Cert.ProjShiftIdeal.nD Cert.ProjShiftIdeal.τ Cert.ProjShiftIdeal.sig) → Buf (Elt Ideal) ℓ) (g : Dev Cert.ProjShiftIdeal.nD → PrngReg), Pre_ProjShiftIdeal m →
    θ_run (Cert.ProjShiftIdeal.defs (F := Ideal)) (onTc (τ := Cert.ProjShiftIdeal.τ) (Cert.ProjShiftIdeal.main (F := Ideal))) ⟨m, fun _ => 0, g⟩ (fun r => (∀ c : Dev Cert.ProjShiftIdeal.nD,
      r.2.mem ((c.tc : Thread Cert.ProjShiftIdeal.nD Cert.ProjShiftIdeal.τ).loc Cert.ProjShiftIdeal.main_arg0) = m ((c.tc : Thread Cert.ProjShiftIdeal.nD Cert.ProjShiftIdeal.τ).loc Cert.ProjShiftIdeal.main_arg0)
      ∧ r.2.mem ((c.tc : Thread Cert.ProjShiftIdeal.nD Cert.ProjShiftIdeal.τ).loc Cert.ProjShiftIdeal.main_arg1) = m ((c.tc : Thread Cert.ProjShiftIdeal.nD Cert.ProjShiftIdeal.τ).loc Cert.ProjShiftIdeal.main_arg1)
      ∧ r.2.mem ((c.tc : Thread Cert.ProjShiftIdeal.nD Cert.ProjShiftIdeal.τ).loc Cert.ProjShiftIdeal.main_arg2) = m ((c.tc : Thread Cert.ProjShiftIdeal.nD Cert.ProjShiftIdeal.τ).loc Cert.ProjShiftIdeal.main_arg2)
      ∧ r.2.mem ((c.tc : Thread Cert.ProjShiftIdeal.nD Cert.ProjShiftIdeal.τ).loc Cert.ProjShiftIdeal.main_arg3) = m ((c.tc : Thread Cert.ProjShiftIdeal.nD Cert.ProjShiftIdeal.τ).loc Cert.ProjShiftIdeal.main_arg3))
      ∧ r.2.sem = fun _ => 0)

def quiescent_ProjShiftRefIdeal [hProjShiftRefIdeal : Cert.ProjShiftRefIdeal.Facts] : Prop :=
  ∀ (m : (ℓ : Loc Cert.ProjShiftRefIdeal.nD Cert.ProjShiftRefIdeal.τ Cert.ProjShiftRefIdeal.sig) → Buf (Elt Ideal) ℓ) (g : Dev Cert.ProjShiftRefIdeal.nD → PrngReg), Pre_ProjShiftRefIdeal m →
    θ_run (Cert.ProjShiftRefIdeal.defs (F := Ideal)) (onTc (τ := Cert.ProjShiftRefIdeal.τ) (Cert.ProjShiftRefIdeal.main (F := Ideal))) ⟨m, fun _ => 0, g⟩ (fun r => (∀ c : Dev Cert.ProjShiftRefIdeal.nD,
      r.2.mem ((c.tc : Thread Cert.ProjShiftRefIdeal.nD Cert.ProjShiftRefIdeal.τ).loc Cert.ProjShiftRefIdeal.main_arg0) = m ((c.tc : Thread Cert.ProjShiftRefIdeal.nD Cert.ProjShiftRefIdeal.τ).loc Cert.ProjShiftRefIdeal.main_arg0)
      ∧ r.2.mem ((c.tc : Thread Cert.ProjShiftRefIdeal.nD Cert.ProjShiftRefIdeal.τ).loc Cert.ProjShiftRefIdeal.main_arg1) = m ((c.tc : Thread Cert.ProjShiftRefIdeal.nD Cert.ProjShiftRefIdeal.τ).loc Cert.ProjShiftRefIdeal.main_arg1)
      ∧ r.2.mem ((c.tc : Thread Cert.ProjShiftRefIdeal.nD Cert.ProjShiftRefIdeal.τ).loc Cert.ProjShiftRefIdeal.main_arg2) = m ((c.tc : Thread Cert.ProjShiftRefIdeal.nD Cert.ProjShiftRefIdeal.τ).loc Cert.ProjShiftRefIdeal.main_arg2)
      ∧ r.2.mem ((c.tc : Thread Cert.ProjShiftRefIdeal.nD Cert.ProjShiftRefIdeal.τ).loc Cert.ProjShiftRefIdeal.main_arg3) = m ((c.tc : Thread Cert.ProjShiftRefIdeal.nD Cert.ProjShiftRefIdeal.τ).loc Cert.ProjShiftRefIdeal.main_arg3))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def preserves_MergeGrad_MergeGradIdeal : Prop :=
  True

def algebraic_MergeGradIdeal_MergeGradRefIdeal [hMergeGradIdeal : Cert.MergeGradIdeal.Facts] [hMergeGradRefIdeal : Cert.MergeGradRefIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradRefIdeal.nD Cert.MergeGradRefIdeal.τ Cert.MergeGradRefIdeal.sig) → Buf (Elt Ideal) ℓ) (g' : Dev Cert.MergeGradRefIdeal.nD → PrngReg), Pre_MergeGradIdeal m →
    (∀ c : Dev Cert.MergeGradIdeal.nD,
      m' ((c.tc : Thread Cert.MergeGradRefIdeal.nD Cert.MergeGradRefIdeal.τ).loc Cert.MergeGradRefIdeal.main_arg0) = m ((c.tc : Thread Cert.MergeGradIdeal.nD Cert.MergeGradIdeal.τ).loc Cert.MergeGradIdeal.main_arg0)
      ∧ m' ((c.tc : Thread Cert.MergeGradRefIdeal.nD Cert.MergeGradRefIdeal.τ).loc Cert.MergeGradRefIdeal.main_arg1) = m ((c.tc : Thread Cert.MergeGradIdeal.nD Cert.MergeGradIdeal.τ).loc Cert.MergeGradIdeal.main_arg1)
      ∧ m' ((c.tc : Thread Cert.MergeGradRefIdeal.nD Cert.MergeGradRefIdeal.τ).loc Cert.MergeGradRefIdeal.main_arg2) = m ((c.tc : Thread Cert.MergeGradIdeal.nD Cert.MergeGradIdeal.τ).loc Cert.MergeGradIdeal.main_arg2)
      ∧ m' ((c.tc : Thread Cert.MergeGradRefIdeal.nD Cert.MergeGradRefIdeal.τ).loc Cert.MergeGradRefIdeal.main_arg3) = m ((c.tc : Thread Cert.MergeGradIdeal.nD Cert.MergeGradIdeal.τ).loc Cert.MergeGradIdeal.main_arg3)
      ∧ m' ((c.tc : Thread Cert.MergeGradRefIdeal.nD Cert.MergeGradRefIdeal.τ).loc Cert.MergeGradRefIdeal.main_arg4) = m ((c.tc : Thread Cert.MergeGradIdeal.nD Cert.MergeGradIdeal.τ).loc Cert.MergeGradIdeal.main_arg4)
      ∧ m' ((c.tc : Thread Cert.MergeGradRefIdeal.nD Cert.MergeGradRefIdeal.τ).loc Cert.MergeGradRefIdeal.main_arg5) = m ((c.tc : Thread Cert.MergeGradIdeal.nD Cert.MergeGradIdeal.τ).loc Cert.MergeGradIdeal.main_arg5)
      ∧ m' ((c.tc : Thread Cert.MergeGradRefIdeal.nD Cert.MergeGradRefIdeal.τ).loc Cert.MergeGradRefIdeal.main_arg6) = m ((c.tc : Thread Cert.MergeGradIdeal.nD Cert.MergeGradIdeal.τ).loc Cert.MergeGradIdeal.main_arg6)
      ∧ m' ((c.tc : Thread Cert.MergeGradRefIdeal.nD Cert.MergeGradRefIdeal.τ).loc Cert.MergeGradRefIdeal.main_arg7) = m ((c.tc : Thread Cert.MergeGradIdeal.nD Cert.MergeGradIdeal.τ).loc Cert.MergeGradIdeal.main_arg7)) →
    ∃ (v0 : (c : Dev Cert.MergeGradIdeal.nD) → Buf (Elt Ideal) ((c.tc : Thread Cert.MergeGradIdeal.nD Cert.MergeGradIdeal.τ).loc Cert.MergeGradIdeal.main_v4_0)) (v1 : (c : Dev Cert.MergeGradIdeal.nD) → Buf (Elt Ideal) ((c.tc : Thread Cert.MergeGradIdeal.nD Cert.MergeGradIdeal.τ).loc Cert.MergeGradIdeal.main_v4_1)) (v2 : (c : Dev Cert.MergeGradIdeal.nD) → Buf (Elt Ideal) ((c.tc : Thread Cert.MergeGradIdeal.nD Cert.MergeGradIdeal.τ).loc Cert.MergeGradIdeal.main_v4_2)) (v3 : (c : Dev Cert.MergeGradIdeal.nD) → Buf (Elt Ideal) ((c.tc : Thread Cert.MergeGradIdeal.nD Cert.MergeGradIdeal.τ).loc Cert.MergeGradIdeal.main_v4_3)) (v4 : (c : Dev Cert.MergeGradIdeal.nD) → Buf (Elt Ideal) ((c.tc : Thread Cert.MergeGradIdeal.nD Cert.MergeGradIdeal.τ).loc Cert.MergeGradIdeal.main_v4_4)) (v5 : (c : Dev Cert.MergeGradIdeal.nD) → Buf (Elt Ideal) ((c.tc : Thread Cert.MergeGradIdeal.nD Cert.MergeGradIdeal.τ).loc Cert.MergeGradIdeal.main_v4_5)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v4_0) = v0 c
          ∧ r.2.mem ((c.tc : Thread Cert.MergeGradIdeal.nD Cert.MergeGradIdeal.τ).loc Cert.MergeGradIdeal.main_v4_1) = v1 c
          ∧ r.2.mem ((c.tc : Thread Cert.MergeGradIdeal.nD Cert.MergeGradIdeal.τ).loc Cert.MergeGradIdeal.main_v4_2) = v2 c
          ∧ r.2.mem ((c.tc : Thread Cert.MergeGradIdeal.nD Cert.MergeGradIdeal.τ).loc Cert.MergeGradIdeal.main_v4_3) = v3 c
          ∧ r.2.mem ((c.tc : Thread Cert.MergeGradIdeal.nD Cert.MergeGradIdeal.τ).loc Cert.MergeGradIdeal.main_v4_4) = v4 c
          ∧ r.2.mem ((c.tc : Thread Cert.MergeGradIdeal.nD Cert.MergeGradIdeal.τ).loc Cert.MergeGradIdeal.main_v4_5) = v5 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
          ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5)
          ∧ r.2.mem ((c.tc : Thread Cert.MergeGradIdeal.nD Cert.MergeGradIdeal.τ).loc Cert.MergeGradIdeal.main_arg6) = m ((c.tc : Thread Cert.MergeGradIdeal.nD Cert.MergeGradIdeal.τ).loc Cert.MergeGradIdeal.main_arg6)
          ∧ r.2.mem ((c.tc : Thread Cert.MergeGradIdeal.nD Cert.MergeGradIdeal.τ).loc Cert.MergeGradIdeal.main_arg7) = m ((c.tc : Thread Cert.MergeGradIdeal.nD Cert.MergeGradIdeal.τ).loc Cert.MergeGradIdeal.main_arg7))
      ∧ θ_run (Cert.MergeGradRefIdeal.defs (F := Ideal)) (onTc (τ := Cert.MergeGradRefIdeal.τ) (Cert.MergeGradRefIdeal.main (F := Ideal))) ⟨m', fun _ => 0, g'⟩ (fun r => ∀ c : Dev Cert.MergeGradRefIdeal.nD,
          r.2.mem ((c.tc : Thread Cert.MergeGradRefIdeal.nD Cert.MergeGradRefIdeal.τ).loc Cert.MergeGradRefIdeal.main_v39) = v0 c
          ∧ r.2.mem ((c.tc : Thread Cert.MergeGradRefIdeal.nD Cert.MergeGradRefIdeal.τ).loc Cert.MergeGradRefIdeal.main_v40) = v1 c
          ∧ r.2.mem ((c.tc : Thread Cert.MergeGradRefIdeal.nD Cert.MergeGradRefIdeal.τ).loc Cert.MergeGradRefIdeal.main_v41) = v2 c
          ∧ r.2.mem ((c.tc : Thread Cert.MergeGradRefIdeal.nD Cert.MergeGradRefIdeal.τ).loc Cert.MergeGradRefIdeal.main_v38) = v3 c
          ∧ r.2.mem ((c.tc : Thread Cert.MergeGradRefIdeal.nD Cert.MergeGradRefIdeal.τ).loc Cert.MergeGradRefIdeal.main_v37) = v4 c
          ∧ r.2.mem ((c.tc : Thread Cert.MergeGradRefIdeal.nD Cert.MergeGradRefIdeal.τ).loc Cert.MergeGradRefIdeal.main_v36) = v5 c
          ∧ r.2.mem ((c.tc : Thread Cert.MergeGradRefIdeal.nD Cert.MergeGradRefIdeal.τ).loc Cert.MergeGradRefIdeal.main_arg0) = m' ((c.tc : Thread Cert.MergeGradRefIdeal.nD Cert.MergeGradRefIdeal.τ).loc Cert.MergeGradRefIdeal.main_arg0)
          ∧ r.2.mem ((c.tc : Thread Cert.MergeGradRefIdeal.nD Cert.MergeGradRefIdeal.τ).loc Cert.MergeGradRefIdeal.main_arg1) = m' ((c.tc : Thread Cert.MergeGradRefIdeal.nD Cert.MergeGradRefIdeal.τ).loc Cert.MergeGradRefIdeal.main_arg1)
          ∧ r.2.mem ((c.tc : Thread Cert.MergeGradRefIdeal.nD Cert.MergeGradRefIdeal.τ).loc Cert.MergeGradRefIdeal.main_arg2) = m' ((c.tc : Thread Cert.MergeGradRefIdeal.nD Cert.MergeGradRefIdeal.τ).loc Cert.MergeGradRefIdeal.main_arg2)
          ∧ r.2.mem ((c.tc : Thread Cert.MergeGradRefIdeal.nD Cert.MergeGradRefIdeal.τ).loc Cert.MergeGradRefIdeal.main_arg3) = m' ((c.tc : Thread Cert.MergeGradRefIdeal.nD Cert.MergeGradRefIdeal.τ).loc Cert.MergeGradRefIdeal.main_arg3)
          ∧ r.2.mem ((c.tc : Thread Cert.MergeGradRefIdeal.nD Cert.MergeGradRefIdeal.τ).loc Cert.MergeGradRefIdeal.main_arg4) = m' ((c.tc : Thread Cert.MergeGradRefIdeal.nD Cert.MergeGradRefIdeal.τ).loc Cert.MergeGradRefIdeal.main_arg4)
          ∧ r.2.mem ((c.tc : Thread Cert.MergeGradRefIdeal.nD Cert.MergeGradRefIdeal.τ).loc Cert.MergeGradRefIdeal.main_arg5) = m' ((c.tc : Thread Cert.MergeGradRefIdeal.nD Cert.MergeGradRefIdeal.τ).loc Cert.MergeGradRefIdeal.main_arg5)
          ∧ r.2.mem ((c.tc : Thread Cert.MergeGradRefIdeal.nD Cert.MergeGradRefIdeal.τ).loc Cert.MergeGradRefIdeal.main_arg6) = m' ((c.tc : Thread Cert.MergeGradRefIdeal.nD Cert.MergeGradRefIdeal.τ).loc Cert.MergeGradRefIdeal.main_arg6)
          ∧ r.2.mem ((c.tc : Thread Cert.MergeGradRefIdeal.nD Cert.MergeGradRefIdeal.τ).loc Cert.MergeGradRefIdeal.main_arg7) = m' ((c.tc : Thread Cert.MergeGradRefIdeal.nD Cert.MergeGradRefIdeal.τ).loc Cert.MergeGradRefIdeal.main_arg7))

def preserves_GluGrad_GluGradIdeal : Prop :=
  True

def algebraic_GluGradIdeal_GluGradRefIdeal [hGluGradIdeal : Cert.GluGradIdeal.Facts] [hGluGradRefIdeal : Cert.GluGradRefIdeal.Facts] : Prop :=
  ∀ (m : (ℓ : Loc Cert.GluGradIdeal.nD Cert.GluGradIdeal.τ Cert.GluGradIdeal.sig) → Buf (Elt Ideal) ℓ) (g : Dev Cert.GluGradIdeal.nD → PrngReg)
    (m' : (ℓ : Loc Cert.GluGradRefIdeal.nD Cert.GluGradRefIdeal.τ Cert.GluGradRefIdeal.sig) → Buf (Elt Ideal) ℓ) (g' : Dev Cert.GluGradRefIdeal.nD → PrngReg), Pre_GluGradIdeal m →
    (∀ c : Dev Cert.GluGradIdeal.nD,
      m' ((c.tc : Thread Cert.GluGradRefIdeal.nD Cert.GluGradRefIdeal.τ).loc Cert.GluGradRefIdeal.main_arg0) = m ((c.tc : Thread Cert.GluGradIdeal.nD Cert.GluGradIdeal.τ).loc Cert.GluGradIdeal.main_arg0)
      ∧ m' ((c.tc : Thread Cert.GluGradRefIdeal.nD Cert.GluGradRefIdeal.τ).loc Cert.GluGradRefIdeal.main_arg1) = m ((c.tc : Thread Cert.GluGradIdeal.nD Cert.GluGradIdeal.τ).loc Cert.GluGradIdeal.main_arg1)
      ∧ m' ((c.tc : Thread Cert.GluGradRefIdeal.nD Cert.GluGradRefIdeal.τ).loc Cert.GluGradRefIdeal.main_arg2) = m ((c.tc : Thread Cert.GluGradIdeal.nD Cert.GluGradIdeal.τ).loc Cert.GluGradIdeal.main_arg2)
      ∧ m' ((c.tc : Thread Cert.GluGradRefIdeal.nD Cert.GluGradRefIdeal.τ).loc Cert.GluGradRefIdeal.main_arg3) = m ((c.tc : Thread Cert.GluGradIdeal.nD Cert.GluGradIdeal.τ).loc Cert.GluGradIdeal.main_arg3)
      ∧ m' ((c.tc : Thread Cert.GluGradRefIdeal.nD Cert.GluGradRefIdeal.τ).loc Cert.GluGradRefIdeal.main_arg4) = m ((c.tc : Thread Cert.GluGradIdeal.nD Cert.GluGradIdeal.τ).loc Cert.GluGradIdeal.main_arg4)) →
    ∃ (v0 : (c : Dev Cert.GluGradIdeal.nD) → Buf (Elt Ideal) ((c.tc : Thread Cert.GluGradIdeal.nD Cert.GluGradIdeal.τ).loc Cert.GluGradIdeal.main_v9_0)) (v1 : (c : Dev Cert.GluGradIdeal.nD) → Buf (Elt Ideal) ((c.tc : Thread Cert.GluGradIdeal.nD Cert.GluGradIdeal.τ).loc Cert.GluGradIdeal.main_v9_1)),
      θ_run (Cert.GluGradIdeal.defs (F := Ideal)) (onTc (τ := Cert.GluGradIdeal.τ) (Cert.GluGradIdeal.main (F := Ideal))) ⟨m, fun _ => 0, g⟩ (fun r => ∀ c : Dev Cert.GluGradIdeal.nD,
          r.2.mem ((c.tc : Thread Cert.GluGradIdeal.nD Cert.GluGradIdeal.τ).loc Cert.GluGradIdeal.main_v9_0) = v0 c
          ∧ r.2.mem ((c.tc : Thread Cert.GluGradIdeal.nD Cert.GluGradIdeal.τ).loc Cert.GluGradIdeal.main_v9_1) = v1 c
          ∧ r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
          ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
          ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
          ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3)
          ∧ r.2.mem ((c.tc : Thread Cert.GluGradIdeal.nD Cert.GluGradIdeal.τ).loc Cert.GluGradIdeal.main_arg4) = m ((c.tc : Thread Cert.GluGradIdeal.nD Cert.GluGradIdeal.τ).loc Cert.GluGradIdeal.main_arg4))
      ∧ θ_run (Cert.GluGradRefIdeal.defs (F := Ideal)) (onTc (τ := Cert.GluGradRefIdeal.τ) (Cert.GluGradRefIdeal.main (F := Ideal))) ⟨m', fun _ => 0, g'⟩ (fun r => ∀ c : Dev Cert.GluGradRefIdeal.nD,
          r.2.mem ((c.tc : Thread Cert.GluGradRefIdeal.nD Cert.GluGradRefIdeal.τ).loc Cert.GluGradRefIdeal.main_v16) = v0 c
          ∧ r.2.mem ((c.tc : Thread Cert.GluGradRefIdeal.nD Cert.GluGradRefIdeal.τ).loc Cert.GluGradRefIdeal.main_v19) = v1 c
          ∧ r.2.mem ((c.tc : Thread Cert.GluGradRefIdeal.nD Cert.GluGradRefIdeal.τ).loc Cert.GluGradRefIdeal.main_arg0) = m' ((c.tc : Thread Cert.GluGradRefIdeal.nD Cert.GluGradRefIdeal.τ).loc Cert.GluGradRefIdeal.main_arg0)
          ∧ r.2.mem ((c.tc : Thread Cert.GluGradRefIdeal.nD Cert.GluGradRefIdeal.τ).loc Cert.GluGradRefIdeal.main_arg1) = m' ((c.tc : Thread Cert.GluGradRefIdeal.nD Cert.GluGradRefIdeal.τ).loc Cert.GluGradRefIdeal.main_arg1)
          ∧ r.2.mem ((c.tc : Thread Cert.GluGradRefIdeal.nD Cert.GluGradRefIdeal.τ).loc Cert.GluGradRefIdeal.main_arg2) = m' ((c.tc : Thread Cert.GluGradRefIdeal.nD Cert.GluGradRefIdeal.τ).loc Cert.GluGradRefIdeal.main_arg2)
          ∧ r.2.mem ((c.tc : Thread Cert.GluGradRefIdeal.nD Cert.GluGradRefIdeal.τ).loc Cert.GluGradRefIdeal.main_arg3) = m' ((c.tc : Thread Cert.GluGradRefIdeal.nD Cert.GluGradRefIdeal.τ).loc Cert.GluGradRefIdeal.main_arg3)
          ∧ r.2.mem ((c.tc : Thread Cert.GluGradRefIdeal.nD Cert.GluGradRefIdeal.τ).loc Cert.GluGradRefIdeal.main_arg4) = m' ((c.tc : Thread Cert.GluGradRefIdeal.nD Cert.GluGradRefIdeal.τ).loc Cert.GluGradRefIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v8) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)) (v3 : (c : Dev Cert.NormGradIdeal.nD) → Buf (Elt Ideal) ((c.tc : Thread Cert.NormGradIdeal.nD Cert.NormGradIdeal.τ).loc Cert.NormGradIdeal.main_v0_3)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_v0_3) = v3 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v54) = v0 c
          ∧ r.2.mem ((c.tc : Thread Cert.NormGradRefIdeal.nD Cert.NormGradRefIdeal.τ).loc Cert.NormGradRefIdeal.main_v37) = v1 c
          ∧ r.2.mem ((c.tc : Thread Cert.NormGradRefIdeal.nD Cert.NormGradRefIdeal.τ).loc Cert.NormGradRefIdeal.main_v32) = v2 c
          ∧ r.2.mem ((c.tc : Thread Cert.NormGradRefIdeal.nD Cert.NormGradRefIdeal.τ).loc Cert.NormGradRefIdeal.main_v29) = v3 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)) (v3 : (c : Dev Cert.LossHeadIdeal.nD) → Buf (Elt Ideal) ((c.tc : Thread Cert.LossHeadIdeal.nD Cert.LossHeadIdeal.τ).loc Cert.LossHeadIdeal.main_v3_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_v3_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v26) = v0 c
          ∧ r.2.mem ((c.tc : Thread Cert.LossHeadRefIdeal.nD Cert.LossHeadRefIdeal.τ).loc Cert.LossHeadRefIdeal.main_v32) = v1 c
          ∧ r.2.mem ((c.tc : Thread Cert.LossHeadRefIdeal.nD Cert.LossHeadRefIdeal.τ).loc Cert.LossHeadRefIdeal.main_v33) = v2 c
          ∧ r.2.mem ((c.tc : Thread Cert.LossHeadRefIdeal.nD Cert.LossHeadRefIdeal.τ).loc Cert.LossHeadRefIdeal.main_v31) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_v15) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_ProjShift_ProjShiftIdeal : Prop :=
  True

def algebraic_ProjShiftIdeal_ProjShiftRefIdeal [hProjShiftIdeal : Cert.ProjShiftIdeal.Facts] [hProjShiftRefIdeal : Cert.ProjShiftRefIdeal.Facts] : Prop :=
  ∀ (m : (ℓ : Loc Cert.ProjShiftIdeal.nD Cert.ProjShiftIdeal.τ Cert.ProjShiftIdeal.sig) → Buf (Elt Ideal) ℓ) (g : Dev Cert.ProjShiftIdeal.nD → PrngReg)
    (m' : (ℓ : Loc Cert.ProjShiftRefIdeal.nD Cert.ProjShiftRefIdeal.τ Cert.ProjShiftRefIdeal.sig) → Buf (Elt Ideal) ℓ) (g' : Dev Cert.ProjShiftRefIdeal.nD → PrngReg), Pre_ProjShiftIdeal m →
    (∀ c : Dev Cert.ProjShiftIdeal.nD,
      m' ((c.tc : Thread Cert.ProjShiftRefIdeal.nD Cert.ProjShiftRefIdeal.τ).loc Cert.ProjShiftRefIdeal.main_arg0) = m ((c.tc : Thread Cert.ProjShiftIdeal.nD Cert.ProjShiftIdeal.τ).loc Cert.ProjShiftIdeal.main_arg0)
      ∧ m' ((c.tc : Thread Cert.ProjShiftRefIdeal.nD Cert.ProjShiftRefIdeal.τ).loc Cert.ProjShiftRefIdeal.main_arg1) = m ((c.tc : Thread Cert.ProjShiftIdeal.nD Cert.ProjShiftIdeal.τ).loc Cert.ProjShiftIdeal.main_arg1)
      ∧ m' ((c.tc : Thread Cert.ProjShiftRefIdeal.nD Cert.ProjShiftRefIdeal.τ).loc Cert.ProjShiftRefIdeal.main_arg2) = m ((c.tc : Thread Cert.ProjShiftIdeal.nD Cert.ProjShiftIdeal.τ).loc Cert.ProjShiftIdeal.main_arg2)
      ∧ m' ((c.tc : Thread Cert.ProjShiftRefIdeal.nD Cert.ProjShiftRefIdeal.τ).loc Cert.ProjShiftRefIdeal.main_arg3) = m ((c.tc : Thread Cert.ProjShiftIdeal.nD Cert.ProjShiftIdeal.τ).loc Cert.ProjShiftIdeal.main_arg3)) →
    ∃ (v0 : (c : Dev Cert.ProjShiftIdeal.nD) → Buf (Elt Ideal) ((c.tc : Thread Cert.ProjShiftIdeal.nD Cert.ProjShiftIdeal.τ).loc Cert.ProjShiftIdeal.main_v1_0)) (v1 : (c : Dev Cert.ProjShiftIdeal.nD) → Buf (Elt Ideal) ((c.tc : Thread Cert.ProjShiftIdeal.nD Cert.ProjShiftIdeal.τ).loc Cert.ProjShiftIdeal.main_v1_1)),
      θ_run (Cert.ProjShiftIdeal.defs (F := Ideal)) (onTc (τ := Cert.ProjShiftIdeal.τ) (Cert.ProjShiftIdeal.main (F := Ideal))) ⟨m, fun _ => 0, g⟩ (fun r => ∀ c : Dev Cert.ProjShiftIdeal.nD,
          r.2.mem ((c.tc : Thread Cert.ProjShiftIdeal.nD Cert.ProjShiftIdeal.τ).loc Cert.ProjShiftIdeal.main_v1_0) = v0 c
          ∧ r.2.mem ((c.tc : Thread Cert.ProjShiftIdeal.nD Cert.ProjShiftIdeal.τ).loc Cert.ProjShiftIdeal.main_v1_1) = v1 c
          ∧ r.2.mem ((c.tc : Thread Cert.ProjShiftIdeal.nD Cert.ProjShiftIdeal.τ).loc Cert.ProjShiftIdeal.main_arg0) = m ((c.tc : Thread Cert.ProjShiftIdeal.nD Cert.ProjShiftIdeal.τ).loc Cert.ProjShiftIdeal.main_arg0)
          ∧ r.2.mem ((c.tc : Thread Cert.ProjShiftIdeal.nD Cert.ProjShiftIdeal.τ).loc Cert.ProjShiftIdeal.main_arg1) = m ((c.tc : Thread Cert.ProjShiftIdeal.nD Cert.ProjShiftIdeal.τ).loc Cert.ProjShiftIdeal.main_arg1)
          ∧ r.2.mem ((c.tc : Thread Cert.ProjShiftIdeal.nD Cert.ProjShiftIdeal.τ).loc Cert.ProjShiftIdeal.main_arg2) = m ((c.tc : Thread Cert.ProjShiftIdeal.nD Cert.ProjShiftIdeal.τ).loc Cert.ProjShiftIdeal.main_arg2)
          ∧ r.2.mem ((c.tc : Thread Cert.ProjShiftIdeal.nD Cert.ProjShiftIdeal.τ).loc Cert.ProjShiftIdeal.main_arg3) = m ((c.tc : Thread Cert.ProjShiftIdeal.nD Cert.ProjShiftIdeal.τ).loc Cert.ProjShiftIdeal.main_arg3))
      ∧ θ_run (Cert.ProjShiftRefIdeal.defs (F := Ideal)) (onTc (τ := Cert.ProjShiftRefIdeal.τ) (Cert.ProjShiftRefIdeal.main (F := Ideal))) ⟨m', fun _ => 0, g'⟩ (fun r => ∀ c : Dev Cert.ProjShiftRefIdeal.nD,
          r.2.mem ((c.tc : Thread Cert.ProjShiftRefIdeal.nD Cert.ProjShiftRefIdeal.τ).loc Cert.ProjShiftRefIdeal.main_v25) = v0 c
          ∧ r.2.mem ((c.tc : Thread Cert.ProjShiftRefIdeal.nD Cert.ProjShiftRefIdeal.τ).loc Cert.ProjShiftRefIdeal.main_v27) = v1 c
          ∧ r.2.mem ((c.tc : Thread Cert.ProjShiftRefIdeal.nD Cert.ProjShiftRefIdeal.τ).loc Cert.ProjShiftRefIdeal.main_arg0) = m' ((c.tc : Thread Cert.ProjShiftRefIdeal.nD Cert.ProjShiftRefIdeal.τ).loc Cert.ProjShiftRefIdeal.main_arg0)
          ∧ r.2.mem ((c.tc : Thread Cert.ProjShiftRefIdeal.nD Cert.ProjShiftRefIdeal.τ).loc Cert.ProjShiftRefIdeal.main_arg1) = m' ((c.tc : Thread Cert.ProjShiftRefIdeal.nD Cert.ProjShiftRefIdeal.τ).loc Cert.ProjShiftRefIdeal.main_arg1)
          ∧ r.2.mem ((c.tc : Thread Cert.ProjShiftRefIdeal.nD Cert.ProjShiftRefIdeal.τ).loc Cert.ProjShiftRefIdeal.main_arg2) = m' ((c.tc : Thread Cert.ProjShiftRefIdeal.nD Cert.ProjShiftRefIdeal.τ).loc Cert.ProjShiftRefIdeal.main_arg2)
          ∧ r.2.mem ((c.tc : Thread Cert.ProjShiftRefIdeal.nD Cert.ProjShiftRefIdeal.τ).loc Cert.ProjShiftRefIdeal.main_arg3) = m' ((c.tc : Thread Cert.ProjShiftRefIdeal.nD Cert.ProjShiftRefIdeal.τ).loc Cert.ProjShiftRefIdeal.main_arg3))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v1)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v1) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v3) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v1)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v1) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v4) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)) (v3 : (c : Dev Cert.MixOutIdeal.nD) → Buf (Elt Ideal) ((c.tc : Thread Cert.MixOutIdeal.nD Cert.MixOutIdeal.τ).loc Cert.MixOutIdeal.main_v0_3)) (v4 : (c : Dev Cert.MixOutIdeal.nD) → Buf (Elt Ideal) ((c.tc : Thread Cert.MixOutIdeal.nD Cert.MixOutIdeal.τ).loc Cert.MixOutIdeal.main_v0_4)) (v5 : (c : Dev Cert.MixOutIdeal.nD) → Buf (Elt Ideal) ((c.tc : Thread Cert.MixOutIdeal.nD Cert.MixOutIdeal.τ).loc Cert.MixOutIdeal.main_v0_5)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_v0_3) = v3 c
          ∧ r.2.mem ((c.tc : Thread Cert.MixOutIdeal.nD Cert.MixOutIdeal.τ).loc Cert.MixOutIdeal.main_v0_4) = v4 c
          ∧ r.2.mem ((c.tc : Thread Cert.MixOutIdeal.nD Cert.MixOutIdeal.τ).loc Cert.MixOutIdeal.main_v0_5) = v5 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v49) = v0 c
          ∧ r.2.mem ((c.tc : Thread Cert.MixOutRefIdeal.nD Cert.MixOutRefIdeal.τ).loc Cert.MixOutRefIdeal.main_v50) = v1 c
          ∧ r.2.mem ((c.tc : Thread Cert.MixOutRefIdeal.nD Cert.MixOutRefIdeal.τ).loc Cert.MixOutRefIdeal.main_v51) = v2 c
          ∧ r.2.mem ((c.tc : Thread Cert.MixOutRefIdeal.nD Cert.MixOutRefIdeal.τ).loc Cert.MixOutRefIdeal.main_v27) = v3 c
          ∧ r.2.mem ((c.tc : Thread Cert.MixOutRefIdeal.nD Cert.MixOutRefIdeal.τ).loc Cert.MixOutRefIdeal.main_v30) = v4 c
          ∧ r.2.mem ((c.tc : Thread Cert.MixOutRefIdeal.nD Cert.MixOutRefIdeal.τ).loc Cert.MixOutRefIdeal.main_v52) = v5 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v37)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v37) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v156) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def Claim : Prop :=
  ∃ (hMergeGrad : Cert.MergeGrad.Facts) (hMergeGradIdeal : Cert.MergeGradIdeal.Facts) (hMergeGradRefIdeal : Cert.MergeGradRefIdeal.Facts) (hGluGrad : Cert.GluGrad.Facts) (hGluGradIdeal : Cert.GluGradIdeal.Facts) (hGluGradRefIdeal : Cert.GluGradRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hBranchDw : Cert.BranchDw.Facts) (hBranchDwIdeal : Cert.BranchDwIdeal.Facts) (hBranchDwRefIdeal : Cert.BranchDwRefIdeal.Facts) (hInDx : Cert.InDx.Facts) (hInDxIdeal : Cert.InDxIdeal.Facts) (hInDxRefIdeal : Cert.InDxRefIdeal.Facts) (hNormGrad : Cert.NormGrad.Facts) (hNormGradIdeal : Cert.NormGradIdeal.Facts) (hNormGradRefIdeal : Cert.NormGradRefIdeal.Facts) (hLossHead : Cert.LossHead.Facts) (hLossHeadIdeal : Cert.LossHeadIdeal.Facts) (hLossHeadRefIdeal : Cert.LossHeadRefIdeal.Facts) (hFfnUp : Cert.FfnUp.Facts) (hFfnUpIdeal : Cert.FfnUpIdeal.Facts) (hFfnUpRefIdeal : Cert.FfnUpRefIdeal.Facts) (hProjShift : Cert.ProjShift.Facts) (hProjShiftIdeal : Cert.ProjShiftIdeal.Facts) (hProjShiftRefIdeal : Cert.ProjShiftRefIdeal.Facts) (hProjQkv : Cert.ProjQkv.Facts) (hProjQkvIdeal : Cert.ProjQkvIdeal.Facts) (hProjQkvRefIdeal : Cert.ProjQkvRefIdeal.Facts) (hProjGates : Cert.ProjGates.Facts) (hProjGatesIdeal : Cert.ProjGatesIdeal.Facts) (hProjGatesRefIdeal : Cert.ProjGatesRefIdeal.Facts) (hMixOut : Cert.MixOut.Facts) (hMixOutIdeal : Cert.MixOutIdeal.Facts) (hMixOutRefIdeal : Cert.MixOutRefIdeal.Facts) (hAttn : Cert.Attn.Facts) (hAttnIdeal : Cert.AttnIdeal.Facts) (hAttnRefIdeal : Cert.AttnRefIdeal.Facts) (hPre_attn_finite : Cert.Pre_attn_finite.Facts),
    quiescent_MergeGrad (hMergeGrad := hMergeGrad)
    ∧ quiescent_MergeGradIdeal (hMergeGradIdeal := hMergeGradIdeal)
    ∧ quiescent_MergeGradRefIdeal (hMergeGradRefIdeal := hMergeGradRefIdeal)
    ∧ quiescent_GluGrad (hGluGrad := hGluGrad)
    ∧ quiescent_GluGradIdeal (hGluGradIdeal := hGluGradIdeal)
    ∧ quiescent_GluGradRefIdeal (hGluGradRefIdeal := hGluGradRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_ProjShift (hProjShift := hProjShift)
    ∧ quiescent_ProjShiftIdeal (hProjShiftIdeal := hProjShiftIdeal)
    ∧ quiescent_ProjShiftRefIdeal (hProjShiftRefIdeal := hProjShiftRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ preserves_MergeGrad_MergeGradIdeal
    ∧ algebraic_MergeGradIdeal_MergeGradRefIdeal (hMergeGradIdeal := hMergeGradIdeal) (hMergeGradRefIdeal := hMergeGradRefIdeal)
    ∧ preserves_GluGrad_GluGradIdeal
    ∧ algebraic_GluGradIdeal_GluGradRefIdeal (hGluGradIdeal := hGluGradIdeal) (hGluGradRefIdeal := hGluGradRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_BranchDw_BranchDwIdeal
    ∧ algebraic_BranchDwIdeal_BranchDwRefIdeal (hBranchDwIdeal := hBranchDwIdeal) (hBranchDwRefIdeal := hBranchDwRefIdeal)
    ∧ preserves_InDx_InDxIdeal
    ∧ algebraic_InDxIdeal_InDxRefIdeal (hInDxIdeal := hInDxIdeal) (hInDxRefIdeal := hInDxRefIdeal)
    ∧ preserves_NormGrad_NormGradIdeal
    ∧ algebraic_NormGradIdeal_NormGradRefIdeal (hNormGradIdeal := hNormGradIdeal) (hNormGradRefIdeal := hNormGradRefIdeal)
    ∧ preserves_LossHead_LossHeadIdeal
    ∧ algebraic_LossHeadIdeal_LossHeadRefIdeal (hLossHeadIdeal := hLossHeadIdeal) (hLossHeadRefIdeal := hLossHeadRefIdeal)
    ∧ preserves_FfnUp_FfnUpIdeal
    ∧ algebraic_FfnUpIdeal_FfnUpRefIdeal (hFfnUpIdeal := hFfnUpIdeal) (hFfnUpRefIdeal := hFfnUpRefIdeal)
    ∧ preserves_ProjShift_ProjShiftIdeal
    ∧ algebraic_ProjShiftIdeal_ProjShiftRefIdeal (hProjShiftIdeal := hProjShiftIdeal) (hProjShiftRefIdeal := hProjShiftRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_MixOut_MixOutIdeal
    ∧ algebraic_MixOutIdeal_MixOutRefIdeal (hMixOutIdeal := hMixOutIdeal) (hMixOutRefIdeal := hMixOutRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
-- ==== Pre_attn_finite.lean ====
abbrev S4096x768 : Shape := ⟨2, ![4096, 768]⟩
abbrev S4096 : Shape := ⟨1, ![4096]⟩
abbrev S1x64 : Shape := ⟨2, ![1, 64]⟩
abbrev S1x8 : Shape := ⟨2, ![1, 8]⟩
abbrev S4096x640 : Shape := ⟨2, ![4096, 640]⟩
abbrev S4096x64 : Shape := ⟨2, ![4096, 64]⟩
abbrev S4096x8 : Shape := ⟨2, ![4096, 8]⟩
abbrev S4096x776 : Shape := ⟨2, ![4096, 776]⟩
abbrev S_ : Shape := ⟨0, ![]⟩

class Facts : Prop where
  slices_S4096x768_S4096x640_0_0 : S4096x768.Slices ![0, 0] S4096x640
  bcast_S1x64_S4096x64_0_1 : S1x64.BroadcastsInDim S4096x64 (![0, 1] : Fin 2 → Fin S4096x64.rank)
  bcast_S1x8_S4096x8_0_1 : S1x8.BroadcastsInDim S4096x8 (![0, 1] : Fin 2 → Fin S4096x8.rank)
  concatenates_S4096x640_S4096x64_S4096x64_S4096x8_S4096x776_d1 : Shape.Concatenates [S4096x640, S4096x64, S4096x64, S4096x8] S4096x776 1
  bcast_S_S4096x776 : S_.BroadcastsInDim S4096x776 (![] : Fin 0 → Fin S4096x776.rank)

variable [Facts]

def fn {F : FTy → Type} [FloatOps F] (main_arg0 : FVec F S4096x768 .f32) (main_arg1 : IVec S4096 32) (main_arg2 : FVec F S1x64 .f32) (main_arg3 : FVec F S1x64 .f32) (main_arg4 : FVec F S1x8 .f32) : IVec S4096x776 1 :=
  let main_v0 : FVec F S4096x640 .f32 := (extractStridedSlice S4096x640 ![0, 0] · slices_S4096x768_S4096x640_0_0) main_arg0
  let main_v1 : FVec F S4096x64 .f32 := broadcastInDim S4096x64 ![0, 1] bcast_S1x64_S4096x64_0_1 main_arg2
  let main_v2 : FVec F S4096x64 .f32 := broadcastInDim S4096x64 ![0, 1] bcast_S1x64_S4096x64_0_1 main_arg3
  let main_v3 : FVec F S4096x8 .f32 := broadcastInDim S4096x8 ![0, 1] bcast_S1x8_S4096x8_0_1 main_arg4
  let main_v4 : FVec F S4096x776 .f32 := concatenate S4096x776 1 [⟨S4096x640, main_v0⟩, ⟨S4096x64, main_v1⟩, ⟨S4096x64, main_v2⟩, ⟨S4096x8, main_v3⟩] concatenates_S4096x640_S4096x64_S4096x64_S4096x8_S4096x776_d1
  let main_v5 : FVec F S4096x776 .f32 := Host.absf main_v4
  let main_cst : FVec F S_ .f32 := constant S_ .f32 0x7F800000#32
  let main_v6 : FVec F S4096x776 .f32 := broadcastInDim S4096x776 ![] bcast_S_S4096x776 main_cst
  let main_v7 : IVec S4096x776 1 := cmpf .olt main_v5 main_v6
  main_v7
-- ==== MergeGrad.lean ====
abbrev S4096x1024 : Shape := ⟨2, ![4096, 1024]⟩
abbrev S4096x2048 : Shape := ⟨2, ![4096, 2048]⟩
abbrev S4096x512 : Shape := ⟨2, ![4096, 512]⟩
abbrev S512x1024 : Shape := ⟨2, ![512, 1024]⟩
abbrev S1024x1024 : Shape := ⟨2, ![1024, 1024]⟩
abbrev S1x2048 : Shape := ⟨2, ![1, 2048]⟩
abbrev S512x2048 : Shape := ⟨2, ![512, 2048]⟩
abbrev S512x512 : Shape := ⟨2, ![512, 512]⟩
abbrev S2048 : Shape := ⟨1, ![2048]⟩

abbrev nBuf : Space → Nat
  | .hbm => 18
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x2048, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x2048, .bf16⟩
  | .hbm, ⟨13, _⟩ => ⟨S4096x1024, .bf16⟩
  | .hbm, ⟨14, _⟩ => ⟨S4096x1024, .bf16⟩
  | .hbm, ⟨15, _⟩ => ⟨S4096x512, .f32⟩
  | .hbm, ⟨16, _⟩ => ⟨S4096x512, .f32⟩
  | .hbm, ⟨17, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x2048, .f32⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S1x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MergeGradRefIdeal.lean ====
abbrev S4096x1024 : Shape := ⟨2, ![4096, 1024]⟩
abbrev S4096x2048 : Shape := ⟨2, ![4096, 2048]⟩
abbrev S4096x512 : Shape := ⟨2, ![4096, 512]⟩
abbrev S512x1024 : Shape := ⟨2, ![512, 1024]⟩
abbrev S1024x1024 : Shape := ⟨2, ![1024, 1024]⟩
abbrev S1x2048 : Shape := ⟨2, ![1, 2048]⟩
abbrev S_ : Shape := ⟨0, ![]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x2048, .f32⟩
  | .hbm, ⟨8, _⟩ => ⟨S4096x1024, .f32⟩
  | .hbm, ⟨9, _⟩ => ⟨S4096x2048, .f32⟩
  | .hbm, ⟨10, _⟩ => ⟨S4096x512, .f32⟩
  | .hbm, ⟨11, _⟩ => ⟨S4096x512, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x512, .f32⟩
  | .hbm, ⟨52, _⟩ => ⟨S4096x512, .f32⟩
  | .hbm, ⟨53, _⟩ => ⟨S4096x2048, .bf16⟩
  | .hbm, ⟨54, _⟩ => ⟨S4096x1024, .bf16⟩
  | .hbm, ⟨55, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== GluGrad.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S4x704x1024 : Shape := ⟨3, ![4, 704, 1024]⟩
abbrev S4096x4x704 : Shape := ⟨3, ![4096, 4, 704]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S4x704x1024, .bf16⟩
  | .hbm, ⟨10, _⟩ => ⟨S4096x4x704, .bf16⟩
  | .hbm, ⟨11, _⟩ => ⟨S4x4096x704, .bf16⟩
  | .hbm, ⟨12, _⟩ => ⟨S4096x4x704, .bf16⟩
  | .hbm, ⟨13, _⟩ => ⟨S4x4096x704, .bf16⟩
  | .hbm, ⟨14, _⟩ => ⟨S4x4096x704, .bf16⟩
  | .hbm, ⟨15, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluGradRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x4x704, .f32⟩
  | .hbm, ⟨35, _⟩ => ⟨S4x4096x704, .f32⟩
  | .hbm, ⟨36, _⟩ => ⟨S4x4096x704, .bf16⟩
  | .hbm, ⟨37, _⟩ => ⟨S4096x4x704, .f32⟩
  | .hbm, ⟨38, _⟩ => ⟨S4x4096x704, .f32⟩
  | .hbm, ⟨39, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== UpDw.lean ====
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x4x704, .bf16⟩
  | .hbm, ⟨3, _⟩ => ⟨S4x4096x704, .bf16⟩
  | .hbm, ⟨4, _⟩ => ⟨S4x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpDwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x4x704, .f32⟩
  | .hbm, ⟨10, _⟩ => ⟨S4x1024x704, .f32⟩
  | .hbm, ⟨11, _⟩ => ⟨S4x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S4x4096x704, .bf16⟩
  | .hbm, ⟨4, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | .hbm, ⟨10, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4096x1024 : Shape := ⟨2, ![4096, 1024]⟩
abbrev S4096x4608 : Shape := ⟨2, ![4096, 4608]⟩
abbrev S4x1024x1152 : Shape := ⟨3, ![4, 1024, 1152]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4x1024x1152, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .bf16⟩
  | .local _ .vmem, ⟨5, _⟩ => ⟨S1x1024x1152, .bf16⟩
  | .local _ .vmem, ⟨6, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwRefIdeal.lean ====
abbrev S4096x1024 : Shape := ⟨2, ![4096, 1024]⟩
abbrev S4096x4608 : Shape := ⟨2, ![4096, 4608]⟩
abbrev S_ : Shape := ⟨0, ![]⟩
abbrev S1024x4608 : Shape := ⟨2, ![1024, 4608]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4096x1024, .f32⟩
  | .hbm, ⟨3, _⟩ => ⟨S4096x4608, .f32⟩
  | .hbm, ⟨4, _⟩ => ⟨S_, .f32⟩
  | .hbm, ⟨5, _⟩ => ⟨S1024x4608, .f32⟩
  | .hbm, ⟨6, _⟩ => ⟨S4096x4608, .f32⟩
  | .hbm, ⟨7, _⟩ => ⟨S4608x1024, .f32⟩
  | .hbm, ⟨8, _⟩ => ⟨S1024x4608, .f32⟩
  | .hbm, ⟨9, _⟩ => ⟨S1024x4x1152, .f32⟩
  | .hbm, ⟨10, _⟩ => ⟨S4x1024x1152, .f32⟩
  | .hbm, ⟨11, _⟩ => ⟨S4x1024x1152, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchDw.lean ====
abbrev S4096x512 : Shape := ⟨2, ![4096, 512]⟩
abbrev S4096x1024 : Shape := ⟨2, ![4096, 1024]⟩
abbrev S4x512x256 : Shape := ⟨3, ![4, 512, 256]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== BranchDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDx.lean ====
abbrev S4096x4608 : Shape := ⟨2, ![4096, 4608]⟩
abbrev S1024x4608 : Shape := ⟨2, ![1024, 4608]⟩
abbrev S4096x1024 : Shape := ⟨2, ![4096, 1024]⟩
abbrev S512x4608 : Shape := ⟨2, ![512, 4608]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4608, .bf16⟩
  | .hbm, ⟨1, _⟩ => ⟨S1024x4608, .bf16⟩
  | .hbm, ⟨2, _⟩ => ⟨S4096x1024, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S512x1024, .f32⟩
  | .local _ .vmem, ⟨4, _⟩ => ⟨S512x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDxRefIdeal.lean ====
abbrev S4096x4608 : Shape := ⟨2, ![4096, 4608]⟩
abbrev S1024x4608 : Shape := ⟨2, ![1024, 4608]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S1024x4608, .bf16⟩
  | .hbm, ⟨2, _⟩ => ⟨S4096x4608, .f32⟩
  | .hbm, ⟨3, _⟩ => ⟨S1024x4608, .f32⟩
  | .hbm, ⟨4, _⟩ => ⟨S_, .f32⟩
  | .hbm, ⟨5, _⟩ => ⟨S4096x1024, .f32⟩
  | .hbm, ⟨6, _⟩ => ⟨S4096x4608, .f32⟩
  | .hbm, ⟨7, _⟩ => ⟨S4096x1024, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormGrad.lean ====
abbrev S4096x1024 : Shape := ⟨2, ![4096, 1024]⟩
abbrev S1x1024 : Shape := ⟨2, ![1, 1024]⟩
abbrev S1x6144 : Shape := ⟨2, ![1, 6144]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x6144, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x6144, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormGradRefIdeal.lean ====
abbrev S4096x1024 : Shape := ⟨2, ![4096, 1024]⟩
abbrev S1x1024 : Shape := ⟨2, ![1, 1024]⟩
abbrev S1x6144 : Shape := ⟨2, ![1, 6144]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== LossHead.lean ====
abbrev S4096x2816 : Shape := ⟨2, ![4096, 2816]⟩
abbrev S2816x1024 : Shape := ⟨2, ![2816, 1024]⟩
abbrev S4096x1024 : Shape := ⟨2, ![4096, 1024]⟩
abbrev S1x6144 : Shape := ⟨2, ![1, 6144]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x128 : Shape := ⟨2, ![1, 128]⟩
abbrev S1x1024 : Shape := ⟨2, ![1, 1024]⟩
abbrev S1x512x704 : Shape := ⟨3, ![1, 512, 704]⟩
abbrev S1x704x1024 : Shape := ⟨3, ![1, 704, 1024]⟩
abbrev S512x1024 : Shape := ⟨2, ![512, 1024]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 12
  | .vmem => 23
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x6144, .f32⟩
  | .hbm, ⟨5, _⟩ => ⟨S4096x4x704, .bf16⟩
  | .hbm, ⟨6, _⟩ => ⟨S4x4096x704, .bf16⟩
  | .hbm, ⟨7, _⟩ => ⟨S4x704x1024, .bf16⟩
  | .hbm, ⟨8, _⟩ => ⟨S4096x1024, .f32⟩
  | .hbm, ⟨9, _⟩ => ⟨S4096x1024, .bf16⟩
  | .hbm, ⟨10, _⟩ => ⟨S1x128, .f32⟩
  | .hbm, ⟨11, _⟩ => ⟨S1x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x704x1024, .bf16⟩
  | .local _ .vmem, ⟨3, _⟩ => ⟨S1x512x704, .bf16⟩
  | .local _ .vmem, ⟨4, _⟩ => ⟨S1x512x704, .bf16⟩
  | .local _ .vmem, ⟨5, _⟩ => ⟨S1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x704x1024, .bf16⟩
  | .local _ .vmem, ⟨9, _⟩ => ⟨S1x512x704, .bf16⟩
  | .local _ .vmem, ⟨10, _⟩ => ⟨S1x512x704, .bf16⟩
  | .local _ .vmem, ⟨11, _⟩ => ⟨S1x704x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x6144, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x128, .f32⟩
  | .local _ .vmem, ⟨22, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== LossHeadRefIdeal.lean ====
abbrev S4096x2816 : Shape := ⟨2, ![4096, 2816]⟩
abbrev S2816x1024 : Shape := ⟨2, ![2816, 1024]⟩
abbrev S4096x1024 : Shape := ⟨2, ![4096, 1024]⟩
abbrev S1x6144 : Shape := ⟨2, ![1, 6144]⟩
abbrev S1x1024 : Shape := ⟨2, ![1, 1024]⟩
abbrev S_ : Shape := ⟨0, ![]⟩
abbrev S4096 : Shape := ⟨1, ![4096]⟩
abbrev S1024 : Shape := ⟨1, ![1024]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x6144, .f32⟩
  | .hbm, ⟨5, _⟩ => ⟨S4096x2816, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .bf16⟩
  | .hbm, ⟨47, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== FfnUp.lean ====
abbrev S4096x1024 : Shape := ⟨2, ![4096, 1024]⟩
abbrev S1024x2816 : Shape := ⟨2, ![1024, 2816]⟩
abbrev S1024x4x704 : Shape := ⟨3, ![1024, 4, 704]⟩
abbrev S4x1024x704 : Shape := ⟨3, ![4, 1024, 704]⟩
abbrev S4x4096x704 : Shape := ⟨3, ![4, 4096, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S1024x4x704, .bf16⟩
  | .hbm, ⟨4, _⟩ => ⟨S4x1024x704, .bf16⟩
  | .hbm, ⟨5, _⟩ => ⟨S1024x4x704, .bf16⟩
  | .hbm, ⟨6, _⟩ => ⟨S4x1024x704, .bf16⟩
  | .hbm, ⟨7, _⟩ => ⟨S4x4096x704, .bf16⟩
  | .hbm, ⟨8, _⟩ => ⟨S4x4096x704, .bf16⟩
  | .hbm, ⟨9, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x1024, .f32⟩
  | .hbm, ⟨4, _⟩ => ⟨S1024x2816, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x4x704, .f32⟩
  | .hbm, ⟨12, _⟩ => ⟨S4x4096x704, .f32⟩
  | .hbm, ⟨13, _⟩ => ⟨S4x4096x704, .bf16⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x4x704, .f32⟩
  | .hbm, ⟨25, _⟩ => ⟨S4x4096x704, .f32⟩
  | .hbm, ⟨26, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== ProjShift.lean ====
abbrev S4096x1024 : Shape := ⟨2, ![4096, 1024]⟩
abbrev S1024x4608 : Shape := ⟨2, ![1024, 4608]⟩
abbrev S1x1024 : Shape := ⟨2, ![1, 1024]⟩
abbrev S1x6144 : Shape := ⟨2, ![1, 6144]⟩
abbrev S1024x1792 : Shape := ⟨2, ![1024, 1792]⟩
abbrev S4096x1792 : Shape := ⟨2, ![4096, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x4608, .bf16⟩
  | .hbm, ⟨2, _⟩ => ⟨S1x1024, .f32⟩
  | .hbm, ⟨3, _⟩ => ⟨S1x6144, .f32⟩
  | .hbm, ⟨4, _⟩ => ⟨S1024x1792, .bf16⟩
  | .hbm, ⟨5, _⟩ => ⟨S4096x1024, .bf16⟩
  | .hbm, ⟨6, _⟩ => ⟨S4096x1792, .f32⟩
  | .local _ .vmem, ⟨0, _⟩ => ⟨S1024x1792, .bf16⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1x6144, .f32⟩
  | .local _ .vmem, ⟨5, _⟩ => ⟨S512x1024, .bf16⟩
  | .local _ .vmem, ⟨6, _⟩ => ⟨S512x1024, .bf16⟩
  | .local _ .vmem, ⟨7, _⟩ => ⟨S512x1792, .f32⟩
  | .local _ .vmem, ⟨8, _⟩ => ⟨S512x1792, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjShiftRefIdeal.lean ====
abbrev S4096x1024 : Shape := ⟨2, ![4096, 1024]⟩
abbrev S1024x4608 : Shape := ⟨2, ![1024, 4608]⟩
abbrev S1x1024 : Shape := ⟨2, ![1, 1024]⟩
abbrev S1x6144 : Shape := ⟨2, ![1, 6144]⟩
abbrev S_ : Shape := ⟨0, ![]⟩
abbrev S4096 : Shape := ⟨1, ![4096]⟩
abbrev S4096x1 : Shape := ⟨2, ![4096, 1]⟩
abbrev S4096x4608 : Shape := ⟨2, ![4096, 4608]⟩
abbrev S4096x1792 : Shape := ⟨2, ![4096, 1792]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4608, .bf16⟩
  | .hbm, ⟨2, _⟩ => ⟨S1x1024, .f32⟩
  | .hbm, ⟨3, _⟩ => ⟨S1x6144, .f32⟩
  | .hbm, ⟨4, _⟩ => ⟨S1024x4608, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x4608, .f32⟩
  | .hbm, ⟨35, _⟩ => ⟨S4096x1792, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== ProjQkv.lean ====
abbrev S4096x1024 : Shape := ⟨2, ![4096, 1024]⟩
abbrev S1024x4608 : Shape := ⟨2, ![1024, 4608]⟩
abbrev S1024x768 : Shape := ⟨2, ![1024, 768]⟩
abbrev S4096x768 : Shape := ⟨2, ![4096, 768]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x4608, .bf16⟩
  | .hbm, ⟨2, _⟩ => ⟨S1024x768, .bf16⟩
  | .hbm, ⟨3, _⟩ => ⟨S4096x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvRefIdeal.lean ====
abbrev S4096x1024 : Shape := ⟨2, ![4096, 1024]⟩
abbrev S1024x4608 : Shape := ⟨2, ![1024, 4608]⟩
abbrev S4096x4608 : Shape := ⟨2, ![4096, 4608]⟩
abbrev S4096x768 : Shape := ⟨2, ![4096, 768]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4608, .bf16⟩
  | .hbm, ⟨2, _⟩ => ⟨S4096x1024, .f32⟩
  | .hbm, ⟨3, _⟩ => ⟨S1024x4608, .f32⟩
  | .hbm, ⟨4, _⟩ => ⟨S4096x4608, .f32⟩
  | .hbm, ⟨5, _⟩ => ⟨S4096x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGates.lean ====
abbrev S4096x1024 : Shape := ⟨2, ![4096, 1024]⟩
abbrev S1024x4608 : Shape := ⟨2, ![1024, 4608]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4608, .bf16⟩
  | .hbm, ⟨2, _⟩ => ⟨S1024x2048, .bf16⟩
  | .hbm, ⟨3, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGatesRefIdeal.lean ====
abbrev S4096x1024 : Shape := ⟨2, ![4096, 1024]⟩
abbrev S1024x4608 : Shape := ⟨2, ![1024, 4608]⟩
abbrev S4096x4608 : Shape := ⟨2, ![4096, 4608]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4608, .bf16⟩
  | .hbm, ⟨2, _⟩ => ⟨S4096x1024, .f32⟩
  | .hbm, ⟨3, _⟩ => ⟨S1024x4608, .f32⟩
  | .hbm, ⟨4, _⟩ => ⟨S4096x4608, .f32⟩
  | .hbm, ⟨5, _⟩ => ⟨S4096x2048, .f32⟩
  | .hbm, ⟨6, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOut.lean ====
abbrev S4096x2048 : Shape := ⟨2, ![4096, 2048]⟩
abbrev S4096x512 : Shape := ⟨2, ![4096, 512]⟩
abbrev S4096x1024 : Shape := ⟨2, ![4096, 1024]⟩
abbrev S1024x1024 : Shape := ⟨2, ![1024, 1024]⟩
abbrev S512x1024 : Shape := ⟨2, ![512, 1024]⟩
abbrev S1x2048 : Shape := ⟨2, ![1, 2048]⟩
abbrev S1x1024 : Shape := ⟨2, ![1, 1024]⟩
abbrev S1x6144 : Shape := ⟨2, ![1, 6144]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S1x2048, .f32⟩
  | .hbm, ⟨8, _⟩ => ⟨S1x1024, .f32⟩
  | .hbm, ⟨9, _⟩ => ⟨S1x6144, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S4096x1024, .bf16⟩
  | .local _ .vmem, ⟨0, _⟩ => ⟨S1024x1024, .bf16⟩
  | .local _ .vmem, ⟨1, _⟩ => ⟨S512x2048, .bf16⟩
  | .local _ .vmem, ⟨2, _⟩ => ⟨S512x2048, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x2048, .f32⟩
  | .local _ .vmem, ⟨12, _⟩ => ⟨S1x1024, .f32⟩
  | .local _ .vmem, ⟨13, _⟩ => ⟨S1x6144, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixOutRefIdeal.lean ====
abbrev S4096x2048 : Shape := ⟨2, ![4096, 2048]⟩
abbrev S4096x512 : Shape := ⟨2, ![4096, 512]⟩
abbrev S4096x1024 : Shape := ⟨2, ![4096, 1024]⟩
abbrev S1024x1024 : Shape := ⟨2, ![1024, 1024]⟩
abbrev S512x1024 : Shape := ⟨2, ![512, 1024]⟩
abbrev S1x2048 : Shape := ⟨2, ![1, 2048]⟩
abbrev S1x1024 : Shape := ⟨2, ![1, 1024]⟩
abbrev S1x6144 : Shape := ⟨2, ![1, 6144]⟩
abbrev S_ : Shape := ⟨0, ![]⟩
abbrev S4096 : Shape := ⟨1, ![4096]⟩
abbrev S4096x1 : Shape := ⟨2, ![4096, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S1x2048, .f32⟩
  | .hbm, ⟨8, _⟩ => ⟨S1x1024, .f32⟩
  | .hbm, ⟨9, _⟩ => ⟨S1x6144, .f32⟩
  | .hbm, ⟨10, _⟩ => ⟨S4096x2048, .f32⟩
  | .hbm, ⟨11, _⟩ => ⟨S4096x512, .f32⟩
  | .hbm, ⟨12, _⟩ => ⟨S4096x512, .f32⟩
  | .hbm, ⟨13, _⟩ => ⟨S1024x1024, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .bf16⟩
  | .hbm, ⟨66, _⟩ => ⟨S4096x1024, .bf16⟩
  | .hbm, ⟨67, _⟩ => ⟨S4096x1024, .bf16⟩
  | .hbm, ⟨68, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Attn.lean ====
abbrev S4096x768 : Shape := ⟨2, ![4096, 768]⟩
abbrev S4096 : Shape := ⟨1, ![4096]⟩
abbrev S1x64 : Shape := ⟨2, ![1, 64]⟩
abbrev S1x8 : Shape := ⟨2, ![1, 8]⟩
abbrev S8 : Shape := ⟨1, ![8]⟩
abbrev S_ : Shape := ⟨0, ![]⟩
abbrev S128 : Shape := ⟨1, ![128]⟩
abbrev S128x1 : Shape := ⟨2, ![128, 1]⟩
abbrev S4096x1 : Shape := ⟨2, ![4096, 1]⟩
abbrev S1x128 : Shape := ⟨2, ![1, 128]⟩
abbrev S4096x128 : Shape := ⟨2, ![4096, 128]⟩
abbrev S4096x384 : Shape := ⟨2, ![4096, 384]⟩
abbrev S4096x512 : Shape := ⟨2, ![4096, 512]⟩
abbrev S512x768 : Shape := ⟨2, ![512, 768]⟩
abbrev S128x768 : Shape := ⟨2, ![128, 768]⟩
abbrev S512x384 : Shape := ⟨2, ![512, 384]⟩
abbrev S128x384 : Shape := ⟨2, ![128, 384]⟩
abbrev S512x512 : Shape := ⟨2, ![512, 512]⟩
abbrev S1x512 : Shape := ⟨2, ![1, 512]⟩
abbrev S512x128 : Shape := ⟨2, ![512, 128]⟩
abbrev S128x128 : Shape := ⟨2, ![128, 128]⟩
abbrev S640x128 : Shape := ⟨2, ![640, 128]⟩
abbrev S640x384 : Shape := ⟨2, ![640, 384]⟩
abbrev S128x64 : Shape := ⟨2, ![128, 64]⟩
abbrev S512x64 : Shape := ⟨2, ![512, 64]⟩
abbrev S1x512x64 : Shape := ⟨3, ![1, 512, 64]⟩
abbrev S8x512x64 : Shape := ⟨3, ![8, 512, 64]⟩
abbrev S256x64 : Shape := ⟨2, ![256, 64]⟩
abbrev S1x256x64 : Shape := ⟨3, ![1, 256, 64]⟩
abbrev S8x256x64 : Shape := ⟨3, ![8, 256, 64]⟩
abbrev S8x512x256 : Shape := ⟨3, ![8, 512, 256]⟩
abbrev S512x256 : Shape := ⟨2, ![512, 256]⟩
abbrev S8x1x1 : Shape := ⟨3, ![8, 1, 1]⟩
abbrev S1x512x256 : Shape := ⟨3, ![1, 512, 256]⟩
abbrev S512x1 : Shape := ⟨2, ![512, 1]⟩
abbrev S1x1 : Shape := ⟨2, ![1, 1]⟩
abbrev S1x512x1 : Shape := ⟨3, ![1, 512, 1]⟩
abbrev S8x512x1 : Shape := ⟨3, ![8, 512, 1]⟩
abbrev S8x512 : Shape := ⟨2, ![8, 512]⟩
abbrev S1x128x64 : Shape := ⟨3, ![1, 128, 64]⟩
abbrev S128x512 : Shape := ⟨2, ![128, 512]⟩

abbrev nBuf : Space → Nat
  | .hbm => 107
  | .vmem => 13
  | .smem => 0
  | _ => 0

abbrev bufTy : (tb : Table) → Fin (tcTables nBuf tb) → BufTy
  | .hbm, ⟨0, _⟩ => ⟨S4096x768, .f32⟩
  | .hbm, ⟨1, _⟩ => ⟨S4096, .i32⟩
  | .hbm, ⟨2, _⟩ => ⟨S1x64, .f32⟩
  | .hbm, ⟨3, _⟩ => ⟨S1x64, .f32⟩
  | .hbm, ⟨4, _⟩ => ⟨S1x8, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S128, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S_, .i1⟩
  | .hbm, ⟨30, _⟩ => ⟨S128, .i1⟩
  | .hbm, ⟨31, _⟩ => ⟨S128, .i1⟩
  | .hbm, ⟨32, _⟩ => ⟨S128, .i1⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S_, .i1⟩
  | .hbm, ⟨55, _⟩ => ⟨S128, .i1⟩
  | .hbm, ⟨56, _⟩ => ⟨S128, .i1⟩
  | .hbm, ⟨57, _⟩ => ⟨S128, .i1⟩
  | .hbm, ⟨58, _⟩ => ⟨S128, .i32⟩
  | .hbm, ⟨59, _⟩ => ⟨S128, .i32⟩
  | .hbm, ⟨60, _⟩ => ⟨S128, .i32⟩
  | .hbm, ⟨61, _⟩ => ⟨S_, .i32⟩
  | .hbm, ⟨62, _⟩ => ⟨S128, .i32⟩
  | .hbm, ⟨63, _⟩ => ⟨S128, .i1⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S128x1, .i32⟩
  | .hbm, ⟨69, _⟩ => ⟨S128, .f32⟩
  | .hbm, ⟨70, _⟩ => ⟨S_, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S4096, .f32⟩
  | .hbm, ⟨75, _⟩ => ⟨S4096x1, .f32⟩
  | .hbm, ⟨76, _⟩ => ⟨S1x128, .f32⟩
  | .hbm, ⟨77, _⟩ => ⟨S4096x128, .f32⟩
  | .hbm, ⟨78, _⟩ => ⟨S4096x128, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S_, .f32⟩
  | .hbm, ⟨83, _⟩ => ⟨S_, .f32⟩
  | .hbm, ⟨84, _⟩ => ⟨S4096x128, .i1⟩
  | .hbm, ⟨85, _⟩ => ⟨S4096x128, .f32⟩
  | .hbm, ⟨86, _⟩ => ⟨S4096x128, .f32⟩
  | .hbm, ⟨87, _⟩ => ⟨S_, .i32⟩
  | .hbm, ⟨88, _⟩ => ⟨S128, .i32⟩
  | .hbm, ⟨89, _⟩ => ⟨S128, .i1⟩
  | .hbm, ⟨90, _⟩ => ⟨S4096x128, .f32⟩
  | .hbm, ⟨91, _⟩ => ⟨S_, .f32⟩
  | .hbm, ⟨92, _⟩ => ⟨S_, .f32⟩
  | .hbm, ⟨93, _⟩ => ⟨S4096x128, .i1⟩
  | .hbm, ⟨94, _⟩ => ⟨S4096x128, .f32⟩
  | .hbm, ⟨95, _⟩ => ⟨S4096x128, .f32⟩
  | .hbm, ⟨96, _⟩ => ⟨S_, .i32⟩
  | .hbm, ⟨97, _⟩ => ⟨S128, .i32⟩
  | .hbm, ⟨98, _⟩ => ⟨S128, .i1⟩
  | .hbm, ⟨99, _⟩ => ⟨S128, .i1⟩
  | .hbm, ⟨100, _⟩ => ⟨S_, .f32⟩
  | .hbm, ⟨101, _⟩ => ⟨S_, .f32⟩
  | .hbm, ⟨102, _⟩ => ⟨S4096x128, .i1⟩
  | .hbm, ⟨103, _⟩ => ⟨S4096x128, .f32⟩
  | .hbm, ⟨104, _⟩ => ⟨S4096x128, .f32⟩
  | .hbm, ⟨105, _⟩ => ⟨S4096x384, .f32⟩
  | .hbm, ⟨106, _⟩ => ⟨S4096x512, .bf16⟩
  | .local _ .vmem, ⟨0, _⟩ => ⟨S512x768, .f32⟩
  | .local _ .vmem, ⟨1, _⟩ => ⟨S512x768, .f32⟩
  | .local _ .vmem, ⟨2, _⟩ => ⟨S128x768, .f32⟩
  | .local _ .vmem, ⟨3, _⟩ => ⟨S128x768, .f32⟩
  | .local _ .vmem, ⟨4, _⟩ => ⟨S512x384, .f32⟩
  | .local _ .vmem, ⟨5, _⟩ => ⟨S512x384, .f32⟩
  | .local _ .vmem, ⟨6, _⟩ => ⟨S128x384, .f32⟩
  | .local _ .vmem, ⟨7, _⟩ => ⟨S128x384, .f32⟩
  | .local _ .vmem, ⟨8, _⟩ => ⟨S1x64, .f32⟩
  | .local _ .vmem, ⟨9, _⟩ => ⟨S1x64, .f32⟩
  | .local _ .vmem, ⟨10, _⟩ => ⟨S1x8, .f32⟩
  | .local _ .vmem, ⟨11, _⟩ => ⟨S512x512, .bf16⟩
  | .local _ .vmem, ⟨12, _⟩ => ⟨S512x512, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v7 : Ref sig .tc := ⟨.hbm, 35, rfl⟩
abbrev main_c_1 : Ref sig .tc := ⟨.hbm, 36, rfl⟩
abbrev main_v8 : Ref sig .tc := ⟨.hbm, 37, rfl⟩
abbrev main_v9 : Ref sig .tc := ⟨.hbm, 38, rfl⟩
abbrev main_c_2 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v10 : Ref sig .tc := ⟨.hbm, 60, rfl⟩
abbrev main_c_3 : Ref sig .tc := ⟨.hbm, 61, rfl⟩
abbrev main_v11 : Ref sig .tc := ⟨.hbm, 62, rfl⟩
abbrev main_v12 : Ref sig .tc := ⟨.hbm, 63, rfl⟩
abbrev main_c_4 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst_5 : Ref sig .tc := ⟨.hbm, 70, rfl⟩
abbrev main_call2_v0 : Ref sig .tc := ⟨.hbm, 71, rfl⟩
abbrev main_call2_v1 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_6 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v27 : Ref sig .tc := ⟨.hbm, 86, rfl⟩
abbrev main_c_7 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_8 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v31 : Ref sig .tc := ⟨.hbm, 95, rfl⟩
abbrev main_c_9 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_10 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S4096x768 : Shape := ⟨2, ![4096, 768]⟩
abbrev S4096 : Shape := ⟨1, ![4096]⟩
abbrev S1x64 : Shape := ⟨2, ![1, 64]⟩
abbrev S1x8 : Shape := ⟨2, ![1, 8]⟩
abbrev S4096x512 : Shape := ⟨2, ![4096, 512]⟩
abbrev S4096x128 : Shape := ⟨2, ![4096, 128]⟩
abbrev S4096x8x64 : Shape := ⟨3, ![4096, 8, 64]⟩
abbrev S64 : Shape := ⟨1, ![64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S8 : Shape := ⟨1, ![8]⟩
abbrev S4096x1 : Shape := ⟨2, ![4096, 1]⟩
abbrev S4096x1x8 : Shape := ⟨3, ![4096, 1, 8]⟩
abbrev S4096x8x8 : Shape := ⟨3, ![4096, 8, 8]⟩
abbrev S4096x8x48 : Shape := ⟨3, ![4096, 8, 48]⟩
abbrev S4096x2x64 : Shape := ⟨3, ![4096, 2, 64]⟩
abbrev S4096x2 : Shape := ⟨2, ![4096, 2]⟩
abbrev S4096x2x1 : Shape := ⟨3, ![4096, 2, 1]⟩
abbrev S4096x2x8 : Shape := ⟨3, ![4096, 2, 8]⟩
abbrev S4096x2x48 : Shape := ⟨3, ![4096, 2, 48]⟩
abbrev S32x128x2x64 : Shape := ⟨4, ![32, 128, 2, 64]⟩
abbrev S33x128x2x64 : Shape := ⟨4, ![33, 128, 2, 64]⟩
abbrev S32x256x2x64 : Shape := ⟨4, ![32, 256, 2, 64]⟩
abbrev S32x128x2x4x64 : Shape := ⟨5, ![32, 128, 2, 4, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩

abbrev nBuf : Space → Nat
  | .hbm => 188
  | .vmem => 0
  | .smem => 0
  | _ => 0

abbrev hbmTy0_0 (i : Nat) : BufTy := match i % 128 with
  | 0 => ⟨S4096x768, .f32⟩
  | 1 => ⟨S4096, .i32⟩
  | 2 => ⟨S1x64, .f32⟩
  | 3 => ⟨S1x64, .f32⟩
  | 4 => ⟨S1x8, .f32⟩
  | 5 => ⟨S4096x512, .f32⟩
  | 6 => ⟨S4096x128, .f32⟩
  | 7 => ⟨S4096x128, .f32⟩
  | 8 => ⟨S4096x8x64, .f32⟩
  | 9 => ⟨S64, .f32⟩
  | 10 => ⟨S4096x8x64, .f32⟩
  | 11 => ⟨S_, .f32⟩
  | 12 => ⟨S4096x8, .f32⟩
  | 13 => ⟨S4096x8x1, .f32⟩
  | 14 => ⟨S_, .f32⟩
  | 15 => ⟨S4096x8x1, .f32⟩
  | 16 => ⟨S4096x8x1, .f32⟩
  | 17 => ⟨S_, .f32⟩
  | 18 => ⟨S4096x8x1, .f32⟩
  | 19 => ⟨S4096x8x1, .f32⟩
  | 20 => ⟨S4096x8x1, .f32⟩
  | 21 => ⟨S4096x8x64, .f32⟩
  | 22 => ⟨S4096x8x64, .f32⟩
  | 23 => ⟨S1x1x64, .f32⟩
  | 24 => ⟨S4096x8x64, .f32⟩
  | 25 => ⟨S4096x8x64, .f32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S4096, .f32⟩
  | 35 => ⟨S4096x1, .f32⟩
  | 36 => ⟨S1x8, .f32⟩
  | 37 => ⟨S4096x8, .f32⟩
  | 38 => ⟨S4096x8, .f32⟩
  | 39 => ⟨S4096x8, .f32⟩
  | 40 => ⟨S4096x8, .f32⟩
  | 41 => ⟨S4096x1x8, .f32⟩
  | 42 => ⟨S4096x8, .f32⟩
  | 43 => ⟨S4096x1x8, .f32⟩
  | 44 => ⟨S4096x8x8, .f32⟩
  | 45 => ⟨S4096x8x8, .f32⟩
  | 46 => ⟨S4096x8x8, .f32⟩
  | 47 => ⟨S4096x8x8, .f32⟩
  | 48 => ⟨S4096x8x8, .f32⟩
  | 49 => ⟨S4096x8x8, .f32⟩
  | 50 => ⟨S4096x8x8, .f32⟩
  | 51 => ⟨S4096x8x8, .f32⟩
  | 52 => ⟨S4096x8x8, .f32⟩
  | 53 => ⟨S4096x8x8, .f32⟩
  | 54 => ⟨S4096x8x8, .f32⟩
  | 55 => ⟨S4096x8x8, .f32⟩
  | 56 => ⟨S4096x8x48, .f32⟩
  | 57 => ⟨S4096x8x64, .f32⟩
  | 58 => ⟨S4096x2x64, .f32⟩
  | 59 => ⟨S64, .f32⟩
  | 60 => ⟨S4096x2x64, .f32⟩
  | 61 => ⟨S_, .f32⟩
  | 62 => ⟨S4096x2, .f32⟩
  | 63 => ⟨S4096x2x1, .f32⟩
  | 64 => ⟨S_, .f32⟩
  | 65 => ⟨S4096x2x1, .f32⟩
  | 66 => ⟨S4096x2x1, .f32⟩
  | 67 => ⟨S_, .f32⟩
  | 68 => ⟨S4096x2x1, .f32⟩
  | 69 => ⟨S4096x2x1, .f32⟩
  | 70 => ⟨S4096x2x1, .f32⟩
  | 71 => ⟨S4096x2x64, .f32⟩
  | 72 => ⟨S4096x2x64, .f32⟩
  | 73 => ⟨S1x1x64, .f32⟩
  | 74 => ⟨S4096x2x64, .f32⟩
  | 75 => ⟨S4096x2x64, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S4096, .f32⟩
  | 85 => ⟨S4096x1, .f32⟩
  | 86 => ⟨S1x8, .f32⟩
  | 87 => ⟨S4096x8, .f32⟩
  | 88 => ⟨S4096x8, .f32⟩
  | 89 => ⟨S4096x8, .f32⟩
  | 90 => ⟨S4096x8, .f32⟩
  | 91 => ⟨S4096x1x8, .f32⟩
  | 92 => ⟨S4096x8, .f32⟩
  | 93 => ⟨S4096x1x8, .f32⟩
  | 94 => ⟨S4096x2x8, .f32⟩
  | 95 => ⟨S4096x2x8, .f32⟩
  | 96 => ⟨S4096x2x8, .f32⟩
  | 97 => ⟨S4096x2x8, .f32⟩
  | 98 => ⟨S4096x2x8, .f32⟩
  | 99 => ⟨S4096x2x8, .f32⟩
  | 100 => ⟨S4096x2x8, .f32⟩
  | 101 => ⟨S4096x2x8, .f32⟩
  | 102 => ⟨S4096x2x8, .f32⟩
  | 103 => ⟨S4096x2x8, .f32⟩
  | 104 => ⟨S4096x2x8, .f32⟩
  | 105 => ⟨S4096x2x8, .f32⟩
  | 106 => ⟨S4096x2x48, .f32⟩
  | 107 => ⟨S4096x2x64, .f32⟩
  | 108 => ⟨S32x128x2x64, .f32⟩
  | 109 => ⟨S_, .i32⟩
  | 110 => ⟨S_, .f32⟩
  | 111 => ⟨S33x128x2x64, .f32⟩
  | 112 => ⟨S32x128x2x64, .f32⟩
  | 113 => ⟨S32x256x2x64, .f32⟩
  | 114 => ⟨S32x128x2x64, .f32⟩
  | 115 => ⟨S_, .i32⟩
  | 116 => ⟨S_, .f32⟩
  | 117 => ⟨S33x128x2x64, .f32⟩
  | 118 => ⟨S32x128x2x64, .f32⟩
  | 119 => ⟨S32x256x2x64, .f32⟩
  | 120 => ⟨S32x128x2x4x64, .f32⟩
  | 121 => ⟨S32x2x256x128x4, .f32⟩
  | 122 => ⟨S32x2x4x128x256, .f32⟩
  | 123 => ⟨S_, .f32⟩
  | 124 => ⟨S32x2x4x128x256, .f32⟩
  | 125 => ⟨S32x2x4x128x256, .f32⟩
  | 126 => ⟨S128, .i32⟩
  | 127 => ⟨S128x1, .i32⟩
  | _ => ⟨S4096x768, .f32⟩

abbrev hbmTy0_1 (i : Nat) : BufTy := match i % 128 with
  | 0 => ⟨S256, .i32⟩
  | 1 => ⟨S1x256, .i32⟩
  | 2 => ⟨S_, .i32⟩
  | 3 => ⟨S128x1, .i32⟩
  | 4 => ⟨S128x1, .i32⟩
  | 5 => ⟨S128x256, .i32⟩
  | 6 => ⟨S128x256, .i32⟩
  | 7 => ⟨S128x256, .i32⟩
  | 8 => ⟨S_, .i32⟩
  | 9 => ⟨S128x256, .i32⟩
  | 10 => ⟨S128x256, .i1⟩
  | 11 => ⟨S_, .i32⟩
  | 12 => ⟨S128x256, .i32⟩
  | 13 => ⟨S128x256, .i1⟩
  | 14 => ⟨S128x256, .i1⟩
  | 15 => ⟨S32, .i32⟩
  | 16 => ⟨S32x1x1, .i32⟩
  | 17 => ⟨S1x128x256, .i1⟩
  | 18 => ⟨S_, .i32⟩
  | 19 => ⟨S32x1x1, .i32⟩
  | 20 => ⟨S32x1x1, .i1⟩
  | 21 => ⟨S_, .i32⟩
  | 22 => ⟨S1x256, .i32⟩
  | 23 => ⟨S1x256, .i1⟩
  | 24 => ⟨S1x1x256, .i1⟩
  | 25 => ⟨S32x1x256, .i1⟩
  | 26 => ⟨S32x1x256, .i1⟩
  | 27 => ⟨S32x1x256, .i1⟩
  | 28 => ⟨S32x128x256, .i1⟩
  | 29 => ⟨S32x128x256, .i1⟩
  | 30 => ⟨S32x128x256, .i1⟩
  | 31 => ⟨S32x1x1x128x256, .i1⟩
  | 32 => ⟨S_, .f32⟩
  | 33 => ⟨S_, .f32⟩
  | 34 => ⟨S32x2x4x128x256, .i1⟩
  | 35 => ⟨S32x2x4x128x256, .f32⟩
  | 36 => ⟨S32x2x4x128x256, .f32⟩
  | 37 => ⟨S2x4, .f32⟩
  | 38 => ⟨S1x2x4x1x1, .f32⟩
  | 39 => ⟨S_, .f32⟩
  | 40 => ⟨S32x2x4x128, .f32⟩
  | 41 => ⟨S32x2x4x128x1, .f32⟩
  | 42 => ⟨S32x2x4x128x1, .f32⟩
  | 43 => ⟨S32x2x4x128x1, .f32⟩
  | 44 => ⟨S32x2x4x128x256, .f32⟩
  | 45 => ⟨S32x2x4x128x256, .f32⟩
  | 46 => ⟨S32x2x4x128x256, .f32⟩
  | 47 => ⟨S_, .f32⟩
  | 48 => ⟨S32x2x4x128, .f32⟩
  | 49 => ⟨S32x2x4x128x1, .f32⟩
  | 50 => ⟨S32x2x4x128x1, .f32⟩
  | 51 => ⟨S32x2x4x128x1, .f32⟩
  | 52 => ⟨S32x2x4x128x1, .f32⟩
  | 53 => ⟨S32x2x4x128x1, .f32⟩
  | 54 => ⟨S32x2x4x128x256, .f32⟩
  | 55 => ⟨S32x2x4x128x256, .f32⟩
  | 56 => ⟨S32x2x64x4x128, .f32⟩
  | 57 => ⟨S32x128x2x4x64, .f32⟩
  | 58 => ⟨S4096x512, .f32⟩
  | 59 => ⟨S4096x512, .bf16⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_c : Ref sig .tc := ⟨.hbm, 109, rfl⟩
abbrev main_call0_v0 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_c_9 : Ref sig .tc := ⟨.hbm, 115, rfl⟩
abbrev main_call1_v0 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_10 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_c_11 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_12 : Ref sig .tc := ⟨.hbm, 136, rfl⟩
abbrev main_v115 : Ref sig .tc := ⟨.hbm, 137, rfl⟩
abbrev main_v116 : Ref sig .tc := ⟨.hbm, 138, rfl⟩
abbrev main_c_13 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_c_14 : Ref sig .tc := ⟨.hbm, 146, rfl⟩
abbrev main_v123 : Ref sig .tc := ⟨.hbm, 147, rfl⟩
abbrev main_v124 : Ref sig .tc := ⟨.hbm, 148, rfl⟩
abbrev main_c_15 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_16 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_17 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_18 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩

abbrev nD : Nat := 1
abbrev τ : Topo := Topo.v7x

variable {F : FTy → Type} [FloatOps F]

def κ : String → Option EReal := fun
  | "mask" => some ⊥
  | _ => none
-- ==== Proof.MergeWindows.lean ====
/- Hand-written. The windows of the gated-merge gradient call: which part of its array each block is. -/
module

public import proofs.«01_k».proof.Proof.Gen.MergeGradIdeal.Value
public import Idealize.ShloMosaic.Lib.Pointwise

@[expose] public section

noncomputable section

namespace Cert.Proof.Merge

open Cert.MergeGradIdeal Cert.MergeGradIdeal.Gen Cert.MergeGradIdeal.Value Idealize.ShloMosaic Idealize.ShloMosaic.TcCoe Idealize.SL.Sem

theorem pt_lt (t : Fin cfg0.N) : t.val < 8 := by
  have h := t.isLt
  have e : cfg0.N = 8 := N_0
  omega

/-- The block indices of each window at point `t`. -/
theorem index_at : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = 0 ∧ win0_13.index t 1 = 0) :=
  (by decide +kernel : ∀ t : Fin grid0.N, _)

/-- Element `i` of the block of 512 at index `t.val` of an axis of 4096. -/
abbrev at_g0_512_4096 (t : Fin cfg0.N) (i : Fin 512) : Fin 4096 :=
  ⟨(t.val) * 512 + i.val, by have := pt_lt t; omega⟩

variable (m : (ℓ : Loc nD τ sig) → Buf (Elt Ideal) ℓ) (c : Dev nD)

theorem emb0 (t : Fin cfg0.N) (i0 : Fin 512) (i1 : Fin 1024) :
    (((cfg0.win 0).blk t).view.emb (ix2 i0 i1) : S4096x1024.Idx) = ix2 (at_g0_512_4096 t i0) i1 := by
  obtain ⟨⟨e0, e1⟩, -⟩ := index_at t
  refine funext fun b => Fin.ext ?_
  match b with
  | ⟨0, _⟩ => show win0_0.index t 0 * 512 + 1 * i0.val = (t.val) * 512 + i0.val; omega
  | ⟨1, _⟩ => show win0_0.index t 1 * 1024 + 1 * i1.val = i1.val; omega

theorem iblk0 (t : Fin cfg0.N) (i0 : Fin 512) (i1 : Fin 1024) :
    (iblk m c 0 t : Vec Ideal S512x1024 .bf16) (ix2 i0 i1) = (m ((c : Thread nD τ).loc main_arg0) : Vec Ideal S4096x1024 .bf16) (ix2 (at_g0_512_4096 t i0) i1) :=
  (congrArg (V m c main_arg0) (emb0 t i0 i1)).trans (congrFun (V_main_arg0 m c) _)

theorem emb1 (t : Fin cfg0.N) (i0 : Fin 1024) (i1 : Fin 1024) :
    (((cfg0.win 1).blk t).view.emb (ix2 i0 i1) : S1024x1024.Idx) = ix2 i0 i1 := by
  obtain ⟨-, ⟨e0, e1⟩, -⟩ := index_at t
  refine funext fun b => Fin.ext ?_
  match b with
  | ⟨0, _⟩ => show win0_1.index t 0 * 1024 + 1 * i0.val = i0.val; omega
  | ⟨1, _⟩ => show win0_1.index t 1 * 1024 + 1 * i1.val = i1.val; omega

theorem iblk1 (t : Fin cfg0.N) (i0 : Fin 1024) (i1 : Fin 1024) :
    (iblk m c 1 t : Vec Ideal S1024x1024 .bf16) (ix2 i0 i1) = (m ((c : Thread nD τ).loc main_arg6) : Vec Ideal S1024x1024 .bf16) (ix2 i0 i1) :=
  (congrArg (V m c main_arg6) (emb1 t i0 i1)).trans (congrFun (V_main_arg6 m c) _)

theorem emb2 (t : Fin cfg0.N) (i0 : Fin 512) (i1 : Fin 2048) :
    (((cfg0.win 2).blk t).view.emb (ix2 i0 i1) : S4096x2048.Idx) = ix2 (at_g0_512_4096 t i0) i1 := by
  obtain ⟨-, -, ⟨e0, e1⟩, -⟩ := index_at t
  refine funext fun b => Fin.ext ?_
  match b with
  | ⟨0, _⟩ => show win0_2.index t 0 * 512 + 1 * i0.val = (t.val) * 512 + i0.val; omega
  | ⟨1, _⟩ => show win0_2.index t 1 * 2048 + 1 * i1.val = i1.val; omega

theorem iblk2 (t : Fin cfg0.N) (i0 : Fin 512) (i1 : Fin 2048) :
    (iblk m c 2 t : Vec Ideal S512x2048 .bf16) (ix2 i0 i1) = (m ((c : Thread nD τ).loc main_arg1) : Vec Ideal S4096x2048 .bf16) (ix2 (at_g0_512_4096 t i0) i1) :=
  (congrArg (V m c main_arg1) (emb2 t i0 i1)).trans (congrFun (V_main_arg1 m c) _)

theorem emb3 (t : Fin cfg0.N) (i0 : Fin 512) (i1 : Fin 1024) :
    (((cfg0.win 3).blk t).view.emb (ix2 i0 i1) : S4096x1024.Idx) = ix2 (at_g0_512_4096 t i0) i1 := by
  obtain ⟨-, -, -, ⟨e0, e1⟩, -⟩ := index_at t
  refine funext fun b => Fin.ext ?_
  match b with
  | ⟨0, _⟩ => show win0_3.index t 0 * 512 + 1 * i0.val = (t.val) * 512 + i0.val; omega
  | ⟨1, _⟩ => show win0_3.index t 1 * 1024 + 1 * i1.val = i1.val; omega

theorem iblk3 (t : Fin cfg0.N) (i0 : Fin 512) (i1 : Fin 1024) :
    (iblk m c 3 t : Vec Ideal S512x1024 .bf16) (ix2 i0 i1) = (V m c main_v1 : Vec Ideal S4096x1024 .bf16) (ix2 (at_g0_512_4096 t i0) i1) :=
  (congrArg (V m c main_v1) (emb3 t i0 i1))

theorem emb4 (t : Fin cfg0.N) (i0 : Fin 512) (i1 : Fin 1024) :
    (((cfg0.win 4).blk t).view.emb (ix2 i0 i1) : S4096x1024.Idx) = ix2 (at_g0_512_4096 t i0) i1 := by
  obtain ⟨-, -, -, -, ⟨e0, e1⟩, -⟩ := index_at t
  refine funext fun b => Fin.ext ?_
  match b with
  | ⟨0, _⟩ => show win0_4.index t 0 * 512 + 1 * i0.val = (t.val) * 512 + i0.val; omega
  | ⟨1, _⟩ => show win0_4.index t 1 * 1024 + 1 * i1.val = i1.val; omega

theorem iblk4 (t : Fin cfg0.N) (i0 : Fin 512) (i1 : Fin 1024) :
    (iblk m c 4 t : Vec Ideal S512x1024 .bf16) (ix2 i0 i1) = (V m c main_v3 : Vec Ideal S4096x1024 .bf16) (ix2 (at_g0_512_4096 t i0) i1) :=
  (congrArg (V m c main_v3) (emb4 t i0 i1))

theorem emb5 (t : Fin cfg0.N) (i0 : Fin 512) (i1 : Fin 1024) :
    (((cfg0.win 5).blk t).view.emb (ix2 i0 i1) : S512x1024.Idx) = ix2 i0 i1 := by
  obtain ⟨-, -, -, -, -, ⟨e0, e1⟩, -⟩ := index_at t
  refine funext fun b => Fin.ext ?_
  match b with
  | ⟨0, _⟩ => show win0_5.index t 0 * 512 + 1 * i0.val = i0.val; omega
  | ⟨1, _⟩ => show win0_5.index t 1 * 1024 + 1 * i1.val = i1.val; omega

theorem iblk5 (t : Fin cfg0.N) (i0 : Fin 512) (i1 : Fin 1024) :
    (iblk m c 5 t : Vec Ideal S512x1024 .bf16) (ix2 i0 i1) = (m ((c : Thread nD τ).loc main_arg4) : Vec Ideal S512x1024 .bf16) (ix2 i0 i1) :=
  (congrArg (V m c main_arg4) (emb5 t i0 i1)).trans (congrFun (V_main_arg4 m c) _)

theorem emb6 (t : Fin cfg0.N) (i0 : Fin 512) (i1 : Fin 1024) :
    (((cfg0.win 6).blk t).view.emb (ix2 i0 i1) : S512x1024.Idx) = ix2 i0 i1 := by
  obtain ⟨-, -, -, -, -, -, ⟨e0, e1⟩, -⟩ := index_at t
  refine funext fun b => Fin.ext ?_
  match b with
  | ⟨0, _⟩ => show win0_6.index t 0 * 512 + 1 * i0.val = i0.val; omega
  | ⟨1, _⟩ => show win0_6.index t 1 * 1024 + 1 * i1.val = i1.val; omega

theorem iblk6 (t : Fin cfg0.N) (i0 : Fin 512) (i1 : Fin 1024) :
    (iblk m c 6 t : Vec Ideal S512x1024 .bf16) (ix2 i0 i1) = (m ((c : Thread nD τ).loc main_arg5) : Vec Ideal S512x1024 .bf16) (ix2 i0 i1) :=
  (congrArg (V m c main_arg5) (emb6 t i0 i1)).trans (congrFun (V_main_arg5 m c) _)

theorem emb7 (t : Fin cfg0.N) (i0 : Fin 1) (i1 : Fin 2048) :
    (((cfg0.win 7).blk t).view.emb (ix2 i0 i1) : S1x2048.Idx) = ix2 i0 i1 := by
  obtain ⟨-, -, -, -, -, -, -, ⟨e0, e1⟩, -⟩ := index_at t
  refine funext fun b => Fin.ext ?_
  match b with
  | ⟨0, _⟩ => show win0_7.index t 0 * 1 + 1 * i0.val = i0.val; omega
  | ⟨1, _⟩ => show win0_7.index t 1 * 2048 + 1 * i1.val = i1.val; omega

theorem iblk7 (t : Fin cfg0.N) (i0 : Fin 1) (i1 : Fin 2048) :
    (iblk m c 7 t : Vec Ideal S1x2048 .f32) (ix2 i0 i1) = (m ((c : Thread nD τ).loc main_arg7) : Vec Ideal S1x2048 .f32) (ix2 i0 i1) :=
  (congrArg (V m c main_arg7) (emb7 t i0 i1)).trans (congrFun (V_main_arg7 m c) _)

theorem emb8 (t : Fin cfg0.N) (i0 : Fin 512) (i1 : Fin 2048) :
    (((cfg0.win 8).blk t).view.emb (ix2 i0 i1) : S4096x2048.Idx) = ix2 (at_g0_512_4096 t i0) i1 := by
  obtain ⟨-, -, -, -, -, -, -, -, ⟨e0, e1⟩, -⟩ := index_at t
  refine funext fun b => Fin.ext ?_
  match b with
  | ⟨0, _⟩ => show win0_8.index t 0 * 512 + 1 * i0.val = (t.val) * 512 + i0.val; omega
  | ⟨1, _⟩ => show win0_8.index t 1 * 2048 + 1 * i1.val = i1.val; omega

/-- The point whose block holds index `i`. -/
abbrev pt8 (i : S4096x2048.Idx) : Fin cfg0.N :=
  ⟨((i 0).val / 512), by
    have h0 : (i 0).val < 4096 := (i 0).isLt
    have h1 : (i 1).val < 2048 := (i 1).isLt
    rw [show cfg0.N = 8 from N_0]; omega⟩

theorem at_pt8 (i : S4096x2048.Idx) : (ix2 (at_g0_512_4096 (pt8 i) ⟨(i 0).val % 512, by omega⟩) (i 1) : S4096x2048.Idx) = i := by
  have h0 : (i 0).val < 4096 := (i 0).isLt
  have h1 : (i 1).val < 2048 := (i 1).isLt
  refine funext fun b => Fin.ext ?_
  match b with
  | ⟨0, _⟩ => show ((((i 0).val / 512))) * 512 + (i 0).val % 512 = (i 0).val; omega
  | ⟨1, _⟩ => rfl

theorem mem8 (i : S4096x2048.Idx) : i ∈ ((cfg0.win 8).blk (pt8 i)).view.set :=
  Eq.mp (congrArg (· ∈ ((cfg0.win 8).blk (pt8 i)).view.set) ((emb8 (pt8 i) _ _).trans (at_pt8 i)))
    (((cfg0.win 8).blk (pt8 i)).view.emb_mem_set (ix2 ⟨(i 0).val % 512, by omega⟩ (i 1)))

/-- If every block written back is the block of `G`, the array is `G` after the run. -/
theorem arr8 (X : Fin cfg0.N → Vec Ideal S512x2048 .bf16) (G : Vec Ideal S4096x2048 .bf16)
    (hX : ∀ t : Fin cfg0.N, (dats m 0 c).flushed 8 t = (cfg0.win 8).cut (grid0.coords t) (X t))
    (hG : ∀ (t : Fin cfg0.N) (i0 : Fin 512) (i1 : Fin 2048), X t (ix2 i0 i1) = G (ix2 (at_g0_512_4096 t i0) i1)) :
    (dats m 0 c).arrAt 8 cfg0.N = G :=
  (dats m 0 c).arrAt_eq_of_cover 8 G (fun t _ => by
    rw [hX t]
    funext j
    obtain ⟨i0, i1, rfl⟩ : ∃ (i0 : Fin 512) (i1 : Fin 2048), j = ix2 i0 i1 := ⟨j 0, j 1, eq_ix2 j⟩
    show X t (ix2 i0 i1) = G (((cfg0.win 8).blk t).view.emb (ix2 i0 i1))
    rw [hG t i0 i1, emb8]) fun i => ⟨pt8 i, flush0_8 _, mem8 i⟩

theorem emb9 (t : Fin cfg0.N) (i0 : Fin 512) (i1 : Fin 1024) :
    (((cfg0.win 9).blk t).view.emb (ix2 i0 i1) : S4096x1024.Idx) = ix2 (at_g0_512_4096 t i0) i1 := by
  obtain ⟨-, -, -, -, -, -, -, -, -, ⟨e0, e1⟩, -⟩ := index_at t
  refine funext fun b => Fin.ext ?_
  match b with
  | ⟨0, _⟩ => show win0_9.index t 0 * 512 + 1 * i0.val = (t.val) * 512 + i0.val; omega
  | ⟨1, _⟩ => show win0_9.index t 1 * 1024 + 1 * i1.val = i1.val; omega

/-- The point whose block holds index `i`. -/
abbrev pt9 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt9 (i : S4096x1024.Idx) : (ix2 (at_g0_512_4096 (pt9 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem9 (i : S4096x1024.Idx) : i ∈ ((cfg0.win 9).blk (pt9 i)).view.set :=
  Eq.mp (congrArg (· ∈ ((cfg0.win 9).blk (pt9 i)).view.set) ((emb9 (pt9 i) _ _).trans (at_pt9 i)))
    (((cfg0.win 9).blk (pt9 i)).view.emb_mem_set (ix2 ⟨(i 0).val % 512, by omega⟩ (i 1)))

/-- If every block written back is the block of `G`, the array is `G` after the run. -/
theorem arr9 (X : Fin cfg0.N → Vec Ideal S512x1024 .bf16) (G : Vec Ideal S4096x1024 .bf16)
    (hX : ∀ t : Fin cfg0.N, (dats m 0 c).flushed 9 t = (cfg0.win 9).cut (grid0.coords t) (X t))
    (hG : ∀ (t : Fin cfg0.N) (i0 : Fin 512) (i1 : Fin 1024), X t (ix2 i0 i1) = G (ix2 (at_g0_512_4096 t i0) i1)) :
    (dats m 0 c).arrAt 9 cfg0.N = G :=
  (dats m 0 c).arrAt_eq_of_cover 9 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 9).blk t).view.emb (ix2 i0 i1))
    rw [hG t i0 i1, emb9]) fun i => ⟨pt9 i, flush0_9 _, mem9 i⟩

theorem emb10 (t : Fin cfg0.N) (i0 : Fin 512) (i1 : Fin 1024) :
    (((cfg0.win 10).blk t).view.emb (ix2 i0 i1) : S4096x1024.Idx) = ix2 (at_g0_512_4096 t i0) i1 := by
  obtain ⟨-, -, -, -, -, -, -, -, -, -, ⟨e0, e1⟩, -⟩ := index_at t
  refine funext fun b => Fin.ext ?_
  match b with
  | ⟨0, _⟩ => show win0_10.index t 0 * 512 + 1 * i0.val = (t.val) * 512 + i0.val; omega
  | ⟨1, _⟩ => show win0_10.index t 1 * 1024 + 1 * i1.val = i1.val; omega

/-- The point whose block holds index `i`. -/
abbrev pt10 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt10 (i : S4096x1024.Idx) : (ix2 (at_g0_512_4096 (pt10 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem10 (i : S4096x1024.Idx) : i ∈ ((cfg0.win 10).blk (pt10 i)).view.set :=
  Eq.mp (congrArg (· ∈ ((cfg0.win 10).blk (pt10 i)).view.set) ((emb10 (pt10 i) _ _).trans (at_pt10 i)))
    (((cfg0.win 10).blk (pt10 i)).view.emb_mem_set (ix2 ⟨(i 0).val % 512, by omega⟩ (i 1)))

/-- If every block written back is the block of `G`, the array is `G` after the run. -/
theorem arr10 (X : Fin cfg0.N → Vec Ideal S512x1024 .bf16) (G : Vec Ideal S4096x1024 .bf16)
    (hX : ∀ t : Fin cfg0.N, (dats m 0 c).flushed 10 t = (cfg0.win 10).cut (grid0.coords t) (X t))
    (hG : ∀ (t : Fin cfg0.N) (i0 : Fin 512) (i1 : Fin 1024), X t (ix2 i0 i1) = G (ix2 (at_g0_512_4096 t i0) i1)) :
    (dats m 0 c).arrAt 10 cfg0.N = G :=
  (dats m 0 c).arrAt_eq_of_cover 10 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 10).blk t).view.emb (ix2 i0 i1))
    rw [hG t i0 i1, emb10]) fun i => ⟨pt10 i, flush0_10 _, mem10 i⟩

theorem emb11 (t : Fin cfg0.N) (i0 : Fin 512) (i1 : Fin 512) :
    (((cfg0.win 11).blk t).view.emb (ix2 i0 i1) : S4096x512.Idx) = ix2 (at_g0_512_4096 t i0) i1 := by
  obtain ⟨-, -, -, -, -, -, -, -, -, -, -, ⟨e0, e1⟩, -⟩ := index_at t
  refine funext fun b => Fin.ext ?_
  match b with
  | ⟨0, _⟩ => show win0_11.index t 0 * 512 + 1 * i0.val = (t.val) * 512 + i0.val; omega
  | ⟨1, _⟩ => show win0_11.index t 1 * 512 + 1 * i1.val = i1.val; omega

/-- The point whose block holds index `i`. -/
abbrev pt11 (i : S4096x512.Idx) : Fin cfg0.N :=
  ⟨((i 0).val / 512), by
    have h0 : (i 0).val < 4096 := (i 0).isLt
    have h1 : (i 1).val < 512 := (i 1).isLt
    rw [show cfg0.N = 8 from N_0]; omega⟩

theorem at_pt11 (i : S4096x512.Idx) : (ix2 (at_g0_512_4096 (pt11 i) ⟨(i 0).val % 512, by omega⟩) (i 1) : S4096x512.Idx) = i := by
  have h0 : (i 0).val < 4096 := (i 0).isLt
  have h1 : (i 1).val < 512 := (i 1).isLt
  refine funext fun b => Fin.ext ?_
  match b with
  | ⟨0, _⟩ => show ((((i 0).val / 512))) * 512 + (i 0).val % 512 = (i 0).val; omega
  | ⟨1, _⟩ => rfl

theorem mem11 (i : S4096x512.Idx) : i ∈ ((cfg0.win 11).blk (pt11 i)).view.set :=
  Eq.mp (congrArg (· ∈ ((cfg0.win 11).blk (pt11 i)).view.set) ((emb11 (pt11 i) _ _).trans (at_pt11 i)))
    (((cfg0.win 11).blk (pt11 i)).view.emb_mem_set (ix2 ⟨(i 0).val % 512, by omega⟩ (i 1)))

/-- If every block written back is the block of `G`, the array is `G` after the run. -/
theorem arr11 (X : Fin cfg0.N → Vec Ideal S512x512 .f32) (G : Vec Ideal S4096x512 .f32)
    (hX : ∀ t : Fin cfg0.N, (dats m 0 c).flushed 11 t = (cfg0.win 11).cut (grid0.coords t) (X t))
    (hG : ∀ (t : Fin cfg0.N) (i0 : Fin 512) (i1 : Fin 512), X t (ix2 i0 i1) = G (ix2 (at_g0_512_4096 t i0) i1)) :
    (dats m 0 c).arrAt 11 cfg0.N = G :=
  (dats m 0 c).arrAt_eq_of_cover 11 G (fun t _ => by
    rw [hX t]
    funext j
    obtain ⟨i0, i1, rfl⟩ : ∃ (i0 : Fin 512) (i1 : Fin 512), j = ix2 i0 i1 := ⟨j 0, j 1, eq_ix2 j⟩
    show X t (ix2 i0 i1) = G (((cfg0.win 11).blk t).view.emb (ix2 i0 i1))
    rw [hG t i0 i1, emb11]) fun i => ⟨pt11 i, flush0_11 _, mem11 i⟩

theorem emb12 (t : Fin cfg0.N) (i0 : Fin 512) (i1 : Fin 512) :
    (((cfg0.win 12).blk t).view.emb (ix2 i0 i1) : S4096x512.Idx) = ix2 (at_g0_512_4096 t i0) i1 := by
  obtain ⟨-, -, -, -, -, -, -, -, -, -, -, -, ⟨e0, e1⟩, -⟩ := index_at t
  refine funext fun b => Fin.ext ?_
  match b with
  | ⟨0, _⟩ => show win0_12.index t 0 * 512 + 1 * i0.val = (t.val) * 512 + i0.val; omega
  | ⟨1, _⟩ => show win0_12.index t 1 * 512 + 1 * i1.val = i1.val; omega

/-- The point whose block holds index `i`. -/
abbrev pt12 (i : S4096x512.Idx) : Fin cfg0.N :=
  ⟨((i 0).val / 512), by
    have h0 : (i 0).val < 4096 := (i 0).isLt
    have h1 : (i 1).val < 512 := (i 1).isLt
    rw [show cfg0.N = 8 from N_0]; omega⟩

theorem at_pt12 (i : S4096x512.Idx) : (ix2 (at_g0_512_4096 (pt12 i) ⟨(i 0).val % 512, by omega⟩) (i 1) : S4096x512.Idx) = i := by
  have h0 : (i 0).val < 4096 := (i 0).isLt
  have h1 : (i 1).val < 512 := (i 1).isLt
  refine funext fun b => Fin.ext ?_
  match b with
  | ⟨0, _⟩ => show ((((i 0).val / 512))) * 512 + (i 0).val % 512 = (i 0).val; omega
  | ⟨1, _⟩ => rfl

theorem mem12 (i : S4096x512.Idx) : i ∈ ((cfg0.win 12).blk (pt12 i)).view.set :=
  Eq.mp (congrArg (· ∈ ((cfg0.win 12).blk (pt12 i)).view.set) ((emb12 (pt12 i) _ _).trans (at_pt12 i)))
    (((cfg0.win 12).blk (pt12 i)).view.emb_mem_set (ix2 ⟨(i 0).val % 512, by omega⟩ (i 1)))

/-- If every block written back is the block of `G`, the array is `G` after the run. -/
theorem arr12 (X : Fin cfg0.N → Vec Ideal S512x512 .f32) (G : Vec Ideal S4096x512 .f32)
    (hX : ∀ t : Fin cfg0.N, (dats m 0 c).flushed 12 t = (cfg0.win 12).cut (grid0.coords t) (X t))
    (hG : ∀ (t : Fin cfg0.N) (i0 : Fin 512) (i1 : Fin 512), X t (ix2 i0 i1) = G (ix2 (at_g0_512_4096 t i0) i1)) :
    (dats m 0 c).arrAt 12 cfg0.N = G :=
  (dats m 0 c).arrAt_eq_of_cover 12 G (fun t _ => by
    rw [hX t]
    funext j
    obtain ⟨i0, i1, rfl⟩ : ∃ (i0 : Fin 512) (i1 : Fin 512), j = ix2 i0 i1 := ⟨j 0, j 1, eq_ix2 j⟩
    show X t (ix2 i0 i1) = G (((cfg0.win 12).blk t).view.emb (ix2 i0 i1))
    rw [hG t i0 i1, emb12]) fun i => ⟨pt12 i, flush0_12 _, mem12 i⟩

theorem emb13 (t : Fin cfg0.N) (i0 : Fin 1) (i1 : Fin 2048) :
    (((cfg0.win 13).blk t).view.emb (ix2 i0 i1) : S1x2048.Idx) = ix2 i0 i1 := by
  obtain ⟨-, -, -, -, -, -, -, -, -, -, -, -, -, ⟨e0, e1⟩⟩ := index_at t
  refine funext fun b => Fin.ext ?_
  match b with
  | ⟨0, _⟩ => show win0_13.index t 0 * 1 + 1 * i0.val = i0.val; omega
  | ⟨1, _⟩ => show win0_13.index t 1 * 2048 + 1 * i1.val = i1.val; omega

/-- The point whose block holds index `i`. -/
abbrev pt13 (i : S1x2048.Idx) : Fin cfg0.N :=
  ⟨(7), by
    have h0 : (i 0).val < 1 := (i 0).isLt
    have h1 : (i 1).val < 2048 := (i 1).isLt
    rw [show cfg0.N = 8 from N_0]; omega⟩

theorem at_pt13 (i : S1x2048.Idx) : (ix2 (i 0) (i 1) : S1x2048.Idx) = i := by
  have h0 : (i 0).val < 1 := (i 0).isLt
  have h1 : (i 1).val < 2048 := (i 1).isLt
  refine funext fun b => Fin.ext ?_
  match b with
  | ⟨0, _⟩ => rfl
  | ⟨1, _⟩ => rfl

theorem mem13 (i : S1x2048.Idx) : i ∈ ((cfg0.win 13).blk (pt13 i)).view.set :=
  Eq.mp (congrArg (· ∈ ((cfg0.win 13).blk (pt13 i)).view.set) ((emb13 (pt13 i) _ _).trans (at_pt13 i)))
    (((cfg0.win 13).blk (pt13 i)).view.emb_mem_set (ix2 (i 0) (i 1)))

/-- If every block written back is the block of `G`, the array is `G` after the run. -/
theorem arr13 (X : Fin cfg0.N → Vec Ideal S1x2048 .f32) (G : Vec Ideal S1x2048 .f32)
    (hX : ∀ t : Fin cfg0.N, t.val % 8 = 7 → (dats m 0 c).flushed 13 t = (cfg0.win 13).cut (grid0.coords t) (X t))
    (hG : ∀ (t : Fin cfg0.N) (i0 : Fin 1) (i1 : Fin 2048), t.val % 8 = 7 → X t (ix2 i0 i1) = G (ix2 i0 i1)) :
    (dats m 0 c).arrAt 13 cfg0.N = G :=
  (dats m 0 c).arrAt_eq_of_cover 13 G (fun t hf => by
    rw [hX t ((flush0_13 t).mp hf)]
    funext j
    obtain ⟨i0, i1, rfl⟩ : ∃ (i0 : Fin 1) (i1 : Fin 2048), j = ix2 i0 i1 := ⟨j 0, j 1, eq_ix2 j⟩
    show X t (ix2 i0 i1) = G (((cfg0.win 13).blk t).view.emb (ix2 i0 i1))
    rw [hG t i0 i1 ((flush0_13 t).mp hf), emb13]) fun i => ⟨pt13 i, (flush0_13 _).mpr (by show (((7)) % 8 = 7); have h0 : (i 0).val < 1 := (i 0).isLt; have h1 : (i 1).val < 2048 := (i 1).isLt; omega), mem13 i⟩

end Cert.Proof.Merge
-- ==== Proof.Algebra.lean ====
/- Hand-written. The extended-real facts that the gate gradients need: the slope of `1 / (1 + e^(-u))` written through the
   division rule is the slope written through the function's own value, at every extended real `u`. -/
module

public import Idealize.ShloMosaic.Lib.Pointwise

@[expose] public section

namespace Cert.Proof.Algebra

open Idealize.ShloMosaic

/-- `1 / (1 + e^(-u))`. -/
noncomputable def gate (u : EReal) : EReal := Ideal.div 1 (1 + Ideal.exp (-u))

theorem one_add_top : (1 : EReal) + ⊤ = ⊤ := EReal.add_top_of_ne_bot (by decide)

theorem div_one_top : Ideal.div 1 ⊤ = 0 := by
  rw [Ideal.div, if_neg (by decide), EReal.inv_top, mul_zero]

theorem div_one_one : Ideal.div 1 1 = 1 := by
  have h := Ideal.div_coe (y := 1) one_ne_zero 1
  rw [one_div_one, EReal.coe_one, mul_one] at h
  exact h

/-- The division rule's slope times `e^(-u)` is `s (1 - s)` of the gate `s`: at `u = ⊤` both are `0`, at `u = ⊥` both are
    `0` by `0 * ⊤ = 0`, and in between it is the real identity. -/
theorem gate_slope (u : EReal) :
    Ideal.div 1 ((1 + Ideal.exp (-u)) * (1 + Ideal.exp (-u))) * Ideal.exp (-u) = gate u * (1 - gate u) := by
  unfold gate
  induction u with
  | bot =>
    rw [EReal.neg_bot, Ideal.exp_top, one_add_top, EReal.top_mul_top, div_one_top, zero_mul, zero_mul]
  | top =>
    rw [EReal.neg_top, Ideal.exp_bot, add_zero, mul_one, div_one_one, mul_zero, one_mul]
    exact (sub_self (1 : ℝ) ▸ EReal.coe_sub 1 1 : ((0 : ℝ) : EReal) = (1 : ℝ) - (1 : ℝ))
  | coe r =>
    have he : 0 < Real.exp (-r) := Real.exp_pos _
    have h1 : (1 : ℝ) + Real.exp (-r) ≠ 0 := by positivity
    rw [← EReal.coe_neg, Ideal.exp_coe]
    generalize Real.exp (-r) = e at *
    have e1 : (1 : EReal) + (e : EReal) = ((1 + e : ℝ) : EReal) := by push_cast; rfl
    rw [e1, ← EReal.coe_mul, Ideal.div_coe (mul_ne_zero h1 h1), Ideal.div_coe h1, one_mul, one_mul,
      show (1 : EReal) = ((1 : ℝ) : EReal) from rfl, ← EReal.coe_sub, ← EReal.coe_mul, ← EReal.coe_mul]
    congr 1
    field_simp
    ring

/-- The gradient through a gate as the division rule gives it, `-((-(d / (1 + e)²)) e)`, is `d s (1 - s)`. -/
theorem gate_back (d u : EReal) :
    0 - (0 - d * Ideal.div 1 ((1 + Ideal.exp (0 - u)) * (1 + Ideal.exp (0 - u)))) * Ideal.exp (0 - u)
      = d * (gate u * (1 - gate u)) := by
  rw [zero_sub, zero_sub, zero_sub, EReal.neg_mul, neg_neg, mul_assoc, gate_slope]

theorem gate_eq (u : EReal) : Ideal.div 1 (1 + Ideal.exp (0 - u)) = gate u := by
  rw [zero_sub]; rfl

end Cert.Proof.Algebra
-- ==== Proof.Sums.lean ====
/- Hand-written. Sums cut into blocks, and what an accumulator holds after the last point of its group. -/
module

public import Idealize.ShloMosaic.Lib.Pointwise

@[expose] public section

noncomputable section

namespace Cert.Proof.Sums

/-- A sum over `n = a * b` indices is the sum over `a` blocks of the sums over each block's `b` indices. -/
theorem sum_blocks {a b n : ℕ} (h : a * b = n) (f : Fin n → EReal) :
    ∑ t, f t = ∑ g : Fin a, ∑ i : Fin b,
      f ⟨g.val * b + i.val, by subst h; calc g.val * b + i.val < g.val * b + b := by omega
                                        _ = (g.val + 1) * b := by ring
                                        _ ≤ a * b := Nat.mul_le_mul_right b g.isLt⟩ := by
  subst h
  rw [← Fintype.sum_prod_type', ← (finProdFinEquiv (m := a) (n := b)).sum_comp]
  refine Fintype.sum_congr _ _ fun p => congrArg f (Fin.ext ?_)
  show p.2.val + b * p.1.val = p.1.val * b + p.2.val
  ring

/-- An accumulator that is reset to its point's term at every multiple of `P` and otherwise adds its point's term to
    what the point before left: after the last point of a group it holds the sum of the group's terms. -/
theorem acc_sum {N P : ℕ} (hP : 0 < P) (a : (n : ℕ) → n < N → EReal) (r : Fin N → EReal)
    (h0 : ∀ n (h : n < N), n % P = 0 → a n h = r ⟨n, h⟩)
    (hs : ∀ n (h : n < N), ¬n % P = 0 → a n h = a (n - 1) (Nat.lt_of_le_of_lt (Nat.sub_le _ _) h) + r ⟨n, h⟩)
    (n : ℕ) (h : n < N) (hn : n % P = P - 1) :
    a n h = ∑ s : Fin P, r ⟨n - (P - 1) + s.val, by have := Nat.mod_le n P; have := s.isLt; omega⟩ := by
  have key : ∀ n (h : n < N), a n h
      = ∑ s ∈ Finset.range (n % P + 1), (if h' : n - n % P + s < N then r ⟨n - n % P + s, h'⟩ else 0) := by
    intro n
    induction n with
    | zero => intro h; rw [h0 0 h (Nat.zero_mod P)]; simp [h]
    | succ n ih =>
      intro h
      by_cases hn : (n + 1) % P = 0
      · rw [h0 _ h hn, hn]; simp [h]
      · have hm : (n + 1) % P = n % P + 1 := by
          have h1 := Nat.div_add_mod n P
          have h2 : n % P < P := Nat.mod_lt _ hP
          by_cases h3 : n % P + 1 = P
          · exfalso; apply hn
            have : n + 1 = P * (n / P) + P := by omega
            rw [this, Nat.mul_add_mod_self_left, Nat.mod_self]
          · have : n + 1 = P * (n / P) + (n % P + 1) := by omega
            rw [this, Nat.mul_add_mod_self_left, Nat.mod_eq_of_lt (by omega)]
        have hle : n % P ≤ n := Nat.mod_le _ _
        have hn' : n < N := by omega
        have hstep : a (n + 1) h = a n hn' + r ⟨n + 1, h⟩ := hs _ h hn
        rw [hstep, ih hn', hm, Finset.sum_range_succ _ (n % P + 1)]
        have e : n + 1 - (n % P + 1) = n - n % P := by omega
        rw [e]
        congr 1
        have e' : n - n % P + (n % P + 1) = n + 1 := by omega
        simp only [e', h, dif_pos]
  have hm := Nat.mod_le n P
  rw [key n h, hn, show P - 1 + 1 = P by omega, Finset.sum_range]
  refine Fintype.sum_congr _ _ fun s => ?_
  have hs := s.isLt
  rw [dif_pos (show n - (P - 1) + s.val < N by omega)]

/-- An accumulator over the four blocks of 1024 rows of group `g`: reset at the group's first point, it holds the sum over
    all 4096 rows after the group's last. -/
theorem acc_rows {N : ℕ} (g : ℕ) (a : (n : ℕ) → n < N → EReal) (f : Fin 4096 → EReal)
    (h0 : ∀ n (h : n < N), n / 4 = g → n % 4 = 0 → a n h = ∑ x : Fin 1024, f ⟨n % 4 * 1024 + x.val, by omega⟩)
    (hs : ∀ n (h : n < N), n / 4 = g → ¬n % 4 = 0 → a n h
      = a (n - 1) (Nat.lt_of_le_of_lt (Nat.sub_le _ _) h) + ∑ x : Fin 1024, f ⟨n % 4 * 1024 + x.val, by omega⟩)
    (n : ℕ) (h : n < N) (hg : n / 4 = g) (hn : n % 4 = 3) : a n h = ∑ t, f t := by
  rw [hs n h hg (by omega), hs (n - 1) _ (by omega) (by omega), hs (n - 1 - 1) _ (by omega) (by omega),
    h0 (n - 1 - 1 - 1) _ (by omega) (by omega), sum_blocks (a := 4) (b := 1024) rfl, Fin.sum_univ_four]
  have e1 : (n - 1) % 4 = 2 := by omega
  have e2 : (n - 1 - 1) % 4 = 1 := by omega
  have e3 : (n - 1 - 1 - 1) % 4 = 0 := by omega
  simp only [hn, e1, e2, e3]
  rfl

end Cert.Proof.Sums
-- ==== Proof.MergeKernel.lean ====
/- Hand-written. The gated-merge gradient call (`MergeGrad`) at the extended reals: what one grid point writes, and the six
   result arrays after the run, each element as one formula of the arguments. -/
module

public import proofs.«01_k».proof.Proof.MergeWindows
public import proofs.«01_k».proof.Proof.Algebra
public import proofs.«01_k».proof.Proof.Sums
public import Idealize.ShloMosaic.Lib.Tactic

@[expose] public section

noncomputable section

namespace Cert.Proof.Merge

open Cert.MergeGradIdeal Cert.MergeGradIdeal.Gen Cert.MergeGradIdeal.Value Idealize.ShloMosaic Idealize.ShloMosaic.TcCoe Idealize.SL.Sem
open Cert.Proof.Algebra (gate)

/-! ## The results as formulas of the arguments

`x0` is `dmo`, `x1` the gate projection, `x2`, `x3` the two branch outputs, `x4`, `x5` the branch weights, `x6` the output
weight and `x7` the gate's bias. -/

section

variable (x0 : Vec Ideal S4096x1024 .bf16) (x1 : Vec Ideal S4096x2048 .bf16) (x2 x3 : Vec Ideal S4096x512 .bf16)
  (x4 x5 : Vec Ideal S512x1024 .bf16) (x6 : Vec Ideal S1024x1024 .bf16) (x7 : Vec Ideal S1x2048 .f32)

/-- A branch's output `y @ w` at row `t` and column `k`. -/
def branch (y : Vec Ideal S4096x512 .bf16) (w : Vec Ideal S512x1024 .bf16) (t : Fin 4096) (k : Fin 1024) : EReal :=
  ∑ j : Fin 512, y (ix2 t j) * w (ix2 j k)

/-- `dmo @ w_outᵀ`, the gradient of the merged rows. -/
def dmerged (t : Fin 4096) (k : Fin 1024) : EReal := ∑ n : Fin 1024, x0 (ix2 t n) * x6 (ix2 k n)

/-- The gate. -/
def gates (t : Fin 4096) (n : Fin 2048) : EReal := gate (x1 (ix2 t n) + x7 (ix2 0 n))

/-- The gradient of the first branch: its half of the gate times the gradient of the merged rows. -/
def dma (t : Fin 4096) (k : Fin 1024) : EReal := gates x1 x7 t ⟨k.val, by omega⟩ * dmerged x0 x6 t k

/-- The gradient of the second branch. -/
def dmb (t : Fin 4096) (k : Fin 1024) : EReal := gates x1 x7 t ⟨1024 + k.val, by omega⟩ * dmerged x0 x6 t k

/-- The gradient of a branch's input, from the branch's gradient `d`. -/
def dy (d : Fin 4096 → Fin 1024 → EReal) (w : Vec Ideal S512x1024 .bf16) (t : Fin 4096) (j : Fin 512) : EReal :=
  ∑ k : Fin 1024, d t k * w (ix2 j k)

/-- The gradient of the gate's values: each half of the gate multiplies one branch. -/
def dgate (t : Fin 4096) (n : Fin 2048) : EReal :=
  (if h : n.val < 1024 then 0
    else dmerged x0 x6 t ⟨n.val - 1024, by omega⟩ * branch x3 x5 t ⟨n.val - 1024, by omega⟩)
  + (if h : n.val < 1024 then dmerged x0 x6 t ⟨n.val, h⟩ * branch x2 x4 t ⟨n.val, h⟩ else 0)

/-- The gradient of the gate projection. -/
def dpg (t : Fin 4096) (n : Fin 2048) : EReal :=
  dgate x0 x2 x3 x4 x5 x6 t n * (gates x1 x7 t n * (1 - gates x1 x7 t n))

/-- The gradient of the gate's bias. -/
def dbias (n : Fin 2048) : EReal := ∑ t : Fin 4096, dpg x0 x1 x2 x3 x4 x5 x6 x7 t n

end

/-- An array of rows and columns from its elements. -/
abbrev arr {a b : ℕ} (f : Fin a → Fin b → EReal) : (⟨2, ![a, b]⟩ : Shape).Idx → EReal := fun i => f (i 0) (i 1)

/-! ## One block -/

section

variable (v0 : Vec Ideal S512x2048 .bf16) (v1 v3 v5 v6 v8 : Vec Ideal S512x1024 .bf16) (v7 : Vec Ideal S1x2048 .f32)
  (v9 : Vec Ideal S1024x1024 .bf16)

theorem block_dma (i : Fin 512) (k : Fin 1024) : k0_pay16 v0 v7 v8 v9 (ix2 i k)
    = gate (v0 (ix2 i ⟨k.val, by omega⟩) + v7 (ix2 0 ⟨k.val, by omega⟩)) * ∑ x, v8 (ix2 i x) * v9 (ix2 k x) := by
  unfold_payloads
  pointwise [dot_S512x1024_S1024x1024_S512x1024_1_1_0_0_n_n]
  rw [Algebra.gate_eq]

theorem block_dmb (i : Fin 512) (k : Fin 1024) : k0_pay14 v0 v7 v8 v9 (ix2 i k)
    = gate (v0 (ix2 i ⟨1024 + k.val, by omega⟩) + v7 (ix2 0 ⟨1024 + k.val, by omega⟩)) * ∑ x, v8 (ix2 i x) * v9 (ix2 k x) := by
  unfold_payloads
  pointwise [dot_S512x1024_S1024x1024_S512x1024_1_1_0_0_n_n]
  rw [Algebra.gate_eq]

theorem block_dya (v : Vec Ideal S512x1024 .f32) (i j : Fin 512) : k0_pay4 v5 v (ix2 i j) = ∑ k, v (ix2 i k) * v5 (ix2 j k) := by
  unfold_payloads
  pointwise [dot_S512x1024_S512x1024_S512x512_1_1_0_0_n_n]

theorem block_dyb (v : Vec Ideal S512x1024 .f32) (i j : Fin 512) : k0_pay5 v6 v (ix2 i j) = ∑ k, v (ix2 i k) * v6 (ix2 j k) := by
  unfold_payloads
  pointwise [dot_S512x1024_S512x1024_S512x512_1_1_0_0_n_n]

theorem block_dpg (i : Fin 512) (n : Fin 2048) :
    k0_pay1 (k0_pay10 v0 v7) (k0_pay13 v0 v7) (k0_pay15 v3 v8 v9) (k0_pay17 v1 v8 v9) (ix2 i n)
      = ((if h : n.val < 1024 then 0
          else (∑ x, v8 (ix2 i x) * v9 (ix2 ⟨n.val - 1024, by omega⟩ x)) * v3 (ix2 i ⟨n.val - 1024, by omega⟩))
        + (if h : n.val < 1024 then (∑ x, v8 (ix2 i x) * v9 (ix2 ⟨n.val, h⟩ x)) * v1 (ix2 i ⟨n.val, h⟩) else 0))
        * (gate (v0 (ix2 i n) + v7 (ix2 0 n)) * (1 - gate (v0 (ix2 i n) + v7 (ix2 0 n)))) := by
  unfold_payloads
  pointwise [dot_S512x1024_S1024x1024_S512x1024_1_1_0_0_n_n]
  rw [Algebra.gate_back]

theorem block_acc (a b d e : Vec Ideal S512x2048 .f32) (v60 : Vec Ideal S1x2048 .f32) (i : Fin 1) (n : Fin 2048) :
    k0_pay8 (F := Ideal) a b d e v60 (ix2 i n) = v60 (ix2 i n) + ∑ x, k0_pay1 (F := Ideal) a b d e (ix2 x n) := by
  unfold k0_pay8
  pointwise

theorem block_cast (a b d e : Vec Ideal S512x2048 .f32) (i : Fin 512) (n : Fin 2048) :
    k0_pay6 (F := Ideal) a b d e (ix2 i n) = k0_pay1 (F := Ideal) a b d e (ix2 i n) := by
  unfold k0_pay6
  pointwise

theorem block_cast2 (v : Vec Ideal S512x1024 .f32) (i : Fin 512) (n : Fin 1024) : k0_pay2 (F := Ideal) v (ix2 i n) = v (ix2 i n) := by
  unfold k0_pay2
  pointwise

theorem block_cast3 (v : Vec Ideal S512x1024 .f32) (i : Fin 512) (n : Fin 1024) : k0_pay3 (F := Ideal) v (ix2 i n) = v (ix2 i n) := by
  unfold k0_pay3
  pointwise

theorem block_zero (i : Fin 1) (n : Fin 2048) : k0_pay7 (F := Ideal) (ix2 i n) = 0 := by
  unfold k0_pay7
  pointwise

end

/-! ## What each point writes back -/

variable (m : (ℓ : Loc nD τ sig) → Buf (Elt Ideal) ℓ) (c : Dev nD)

theorem hz2 : (![0, 0] : Fin 2 → Nat) = fun _ => 0 := funext fun a => by fin_cases a <;> rfl

theorem out8 (t : Fin cfg0.N) : (dats m 0 c).flushed 8 t = (cfg0.win 8).cut (grid0.coords t) (k0_pay6 (F := Ideal) (k0_pay10 (iblk m c 2 t) (iblk m c 7 t)) (k0_pay13 (iblk m c 2 t) (iblk m c 7 t)) (k0_pay15 (iblk m c 4 t) (iblk m c 0 t) (iblk m c 1 t)) (k0_pay17 (iblk m c 3 t) (iblk m c 0 t) (iblk m c 1 t))) := by
  by_cases h0 : t.val % 8 = 0
  · rw [flushed8_A m c t h0]
    unfold out0_A_8
    rw [View.read_writes_eq_canon _ _ _ (fun y => cover0_A_8 (y := y) ..)]
    unfold kernelRun0_A
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]
  · rw [flushed8_B m c t h0]
    unfold out0_B_8
    rw [View.read_writes_eq_canon _ _ _ (fun y => cover0_B_8 (y := y) ..)]
    unfold kernelRun0_B
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]

theorem out9 (t : Fin cfg0.N) : (dats m 0 c).flushed 9 t = (cfg0.win 9).cut (grid0.coords t) (k0_pay2 (F := Ideal) (k0_pay16 (iblk m c 2 t) (iblk m c 7 t) (iblk m c 0 t) (iblk m c 1 t))) := by
  by_cases h0 : t.val % 8 = 0
  · rw [flushed9_A m c t h0]
    unfold out0_A_9
    rw [View.read_writes_eq_canon _ _ _ (fun y => cover0_A_9 (y := y) ..)]
    unfold kernelRun0_A
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]
  · rw [flushed9_B m c t h0]
    unfold out0_B_9
    rw [View.read_writes_eq_canon _ _ _ (fun y => cover0_B_9 (y := y) ..)]
    unfold kernelRun0_B
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]

theorem out10 (t : Fin cfg0.N) : (dats m 0 c).flushed 10 t = (cfg0.win 10).cut (grid0.coords t) (k0_pay3 (F := Ideal) (k0_pay14 (iblk m c 2 t) (iblk m c 7 t) (iblk m c 0 t) (iblk m c 1 t))) := by
  by_cases h0 : t.val % 8 = 0
  · rw [flushed10_A m c t h0]
    unfold out0_A_10
    rw [View.read_writes_eq_canon _ _ _ (fun y => cover0_A_10 (y := y) ..)]
    unfold kernelRun0_A
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]
  · rw [flushed10_B m c t h0]
    unfold out0_B_10
    rw [View.read_writes_eq_canon _ _ _ (fun y => cover0_B_10 (y := y) ..)]
    unfold kernelRun0_B
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]

theorem out11 (t : Fin cfg0.N) : (dats m 0 c).flushed 11 t = (cfg0.win 11).cut (grid0.coords t) (k0_pay4 (F := Ideal) (iblk m c 5 t) (k0_pay16 (iblk m c 2 t) (iblk m c 7 t) (iblk m c 0 t) (iblk m c 1 t))) := by
  by_cases h0 : t.val % 8 = 0
  · rw [flushed11_A m c t h0]
    unfold out0_A_11
    rw [View.read_writes_eq_canon _ _ _ (fun y => cover0_A_11 (y := y) ..)]
    unfold kernelRun0_A
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]
  · rw [flushed11_B m c t h0]
    unfold out0_B_11
    rw [View.read_writes_eq_canon _ _ _ (fun y => cover0_B_11 (y := y) ..)]
    unfold kernelRun0_B
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]

theorem out12 (t : Fin cfg0.N) : (dats m 0 c).flushed 12 t = (cfg0.win 12).cut (grid0.coords t) (k0_pay5 (F := Ideal) (iblk m c 6 t) (k0_pay14 (iblk m c 2 t) (iblk m c 7 t) (iblk m c 0 t) (iblk m c 1 t))) := by
  by_cases h0 : t.val % 8 = 0
  · rw [flushed12_A m c t h0]
    unfold out0_A_12
    rw [View.read_writes_eq_canon _ _ _ (fun y => cover0_A_12 (y := y) ..)]
    unfold kernelRun0_A
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]
  · rw [flushed12_B m c t h0]
    unfold out0_B_12
    rw [View.read_writes_eq_canon _ _ _ (fun y => cover0_B_12 (y := y) ..)]
    unfold kernelRun0_B
    dsimp only
    sl_unfold_words
    rw [View.canon_unit_zero hz2]
    first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]

/-- The bias gradient's block after a point that starts the sum. -/
theorem acc_first (t : Fin cfg0.N) (h0 : t.val % 8 = 0) :
    (outsAt0 m c t.val t.isLt).2.2.2.2.2 = k0_pay8 (F := Ideal) (k0_pay10 (iblk m c 2 t) (iblk m c 7 t)) (k0_pay13 (iblk m c 2 t) (iblk m c 7 t)) (k0_pay15 (iblk m c 4 t) (iblk m c 0 t) (iblk m c 1 t)) (k0_pay17 (iblk m c 3 t) (iblk m c 0 t) (iblk m c 1 t)) (k0_pay7 (F := Ideal)) := by
  rw [outsAt0_A m c t h0]
  dsimp only
  unfold out0_A_13
  rw [View.read_writes_eq_canon _ _ _ (fun y => cover0_A_13 (y := y) ..)]
  unfold kernelRun0_A
  dsimp only
  sl_unfold_words
  rw [View.canon_cons_unit_zero (S := S1x2048) hz2, View.readCov_unit_zero (S := S1x2048) _ hz2]
  first | done | simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]

/-- … and after one that goes on with it. -/
theorem acc_next (t : Fin cfg0.N) (h0 : ¬t.val % 8 = 0) :
    (outsAt0 m c t.val t.isLt).2.2.2.2.2 = k0_pay8 (F := Ideal) (k0_pay10 (iblk m c 2 t) (iblk m c 7 t)) (k0_pay13 (iblk m c 2 t) (iblk m c 7 t)) (k0_pay15 (iblk m c 4 t) (iblk m c 0 t) (iblk m c 1 t)) (k0_pay17 (iblk m c 3 t) (iblk m c 0 t) (iblk m c 1 t))
      (outsAt0 m c (t.val - 1) (Nat.lt_of_le_of_lt (Nat.sub_le _ _) t.isLt)).2.2.2.2.2 := by
  rw [outsAt0_B m c t h0]
  dsimp only
  unfold out0_B_13
  rw [View.read_writes_eq_canon _ _ _ (fun y => cover0_B_13 (y := y) ..)]
  unfold kernelRun0_B
  dsimp only
  sl_unfold_words
  rw [View.canon_unit_zero hz2]
  simp only [View.readAt_eq_ld, Memref.IsWhole.read_unread, View.ld_unit_zero (S := S512x2048) hz2, View.ld_unit_zero (S := S512x1024) hz2, View.ld_unit_zero (S := S1024x1024) hz2, View.ld_unit_zero (S := S1x2048) hz2, shapeCast_self]

/-! ## The arrays as the call finds them -/

abbrev a0 : Vec Ideal S4096x1024 .bf16 := m ((c : Thread nD τ).loc main_arg0)
abbrev a1 : Vec Ideal S4096x2048 .bf16 := m ((c : Thread nD τ).loc main_arg1)
abbrev a2 : Vec Ideal S4096x512 .bf16 := m ((c : Thread nD τ).loc main_arg2)
abbrev a3 : Vec Ideal S4096x512 .bf16 := m ((c : Thread nD τ).loc main_arg3)
abbrev a4 : Vec Ideal S512x1024 .bf16 := m ((c : Thread nD τ).loc main_arg4)
abbrev a5 : Vec Ideal S512x1024 .bf16 := m ((c : Thread nD τ).loc main_arg5)
abbrev a6 : Vec Ideal S1024x1024 .bf16 := m ((c : Thread nD τ).loc main_arg6)
abbrev a7 : Vec Ideal S1x2048 .f32 := m ((c : Thread nD τ).loc main_arg7)

theorem V_ma (t : Fin 4096) (k : Fin 1024) :
    (V m c main_v1 : Vec Ideal S4096x1024 .bf16) (ix2 t k) = branch (a2 m c) (a4 m c) t k := by
  have h : V m c main_v1 = (truncf (F := Ideal) .bf16 (Host.dotGeneral (φ₁ := .bf16) (φ₂ := .bf16)
      dot_S4096x512_S512x1024_S4096x1024_1_0_0_1_n_n none (a2 m c) (a4 m c)) bitsLt_bf16_f32 : Vec Ideal S4096x1024 .bf16) := by
    show StableHlo.after hostOps0 _ (Proc.devRef .tc main_v1) = _
    after_results
  rw [h]
  pointwise [dot_S4096x512_S512x1024_S4096x1024_1_0_0_1_n_n]
  rfl

theorem V_mb (t : Fin 4096) (k : Fin 1024) :
    (V m c main_v3 : Vec Ideal S4096x1024 .bf16) (ix2 t k) = branch (a3 m c) (a5 m c) t k := by
  have h : V m c main_v3 = (truncf (F := Ideal) .bf16 (Host.dotGeneral (φ₁ := .bf16) (φ₂ := .bf16)
      dot_S4096x512_S512x1024_S4096x1024_1_0_0_1_n_n none (a3 m c) (a5 m c)) bitsLt_bf16_f32 : Vec Ideal S4096x1024 .bf16) := by
    show StableHlo.after hostOps0 _ (Proc.devRef .tc main_v3) = _
    after_results
  rw [h]
  pointwise [dot_S4096x512_S512x1024_S4096x1024_1_0_0_1_n_n]
  rfl

theorem block_ma (t : Fin cfg0.N) (i : Fin 512) (k : Fin 1024) :
    (iblk m c 3 t : Vec Ideal S512x1024 .bf16) (ix2 i k) = branch (a2 m c) (a4 m c) (at_g0_512_4096 t i) k :=
  (iblk3 m c t i k).trans (V_ma m c _ _)

theorem block_mb (t : Fin cfg0.N) (i : Fin 512) (k : Fin 1024) :
    (iblk m c 4 t : Vec Ideal S512x1024 .bf16) (ix2 i k) = branch (a3 m c) (a5 m c) (at_g0_512_4096 t i) k :=
  (iblk4 m c t i k).trans (V_mb m c _ _)

/-! ## The result arrays -/

theorem point_dma (t : Fin cfg0.N) (i : Fin 512) (k : Fin 1024) :
    k0_pay16 (F := Ideal) (iblk m c 2 t) (iblk m c 7 t) (iblk m c 0 t) (iblk m c 1 t) (ix2 i k)
      = dma (a0 m c) (a1 m c) (a6 m c) (a7 m c) (at_g0_512_4096 t i) k := by
  rw [block_dma]
  simp only [iblk0, iblk1, iblk2, iblk7]
  rfl

theorem point_dmb (t : Fin cfg0.N) (i : Fin 512) (k : Fin 1024) :
    k0_pay14 (F := Ideal) (iblk m c 2 t) (iblk m c 7 t) (iblk m c 0 t) (iblk m c 1 t) (ix2 i k)
      = dmb (a0 m c) (a1 m c) (a6 m c) (a7 m c) (at_g0_512_4096 t i) k := by
  rw [block_dmb]
  simp only [iblk0, iblk1, iblk2, iblk7]
  rfl

theorem point_dpg (t : Fin cfg0.N) (i : Fin 512) (n : Fin 2048) :
    k0_pay1 (F := Ideal) (k0_pay10 (iblk m c 2 t) (iblk m c 7 t)) (k0_pay13 (iblk m c 2 t) (iblk m c 7 t)) (k0_pay15 (iblk m c 4 t) (iblk m c 0 t) (iblk m c 1 t)) (k0_pay17 (iblk m c 3 t) (iblk m c 0 t) (iblk m c 1 t)) (ix2 i n)
      = dpg (a0 m c) (a1 m c) (a2 m c) (a3 m c) (a4 m c) (a5 m c) (a6 m c) (a7 m c) (at_g0_512_4096 t i) n := by
  rw [block_dpg]
  simp only [iblk0, iblk1, iblk2, block_ma, block_mb, iblk7]
  rfl

theorem final_dpg : (dats m 0 c).arrAt 8 cfg0.N
    = arr (dpg (a0 m c) (a1 m c) (a2 m c) (a3 m c) (a4 m c) (a5 m c) (a6 m c) (a7 m c)) :=
  arr8 m c _ _ (out8 m c) fun t i n => by (rw [block_cast, point_dpg]; rfl)

theorem final_dma : (dats m 0 c).arrAt 9 cfg0.N = arr (dma (a0 m c) (a1 m c) (a6 m c) (a7 m c)) :=
  arr9 m c _ _ (out9 m c) fun t i n => by (rw [block_cast2, point_dma]; rfl)

theorem final_dmb : (dats m 0 c).arrAt 10 cfg0.N = arr (dmb (a0 m c) (a1 m c) (a6 m c) (a7 m c)) :=
  arr10 m c _ _ (out10 m c) fun t i n => by (rw [block_cast3, point_dmb]; rfl)

theorem final_dya : (dats m 0 c).arrAt 11 cfg0.N = arr (dy (dma (a0 m c) (a1 m c) (a6 m c) (a7 m c)) (a4 m c)) :=
  arr11 m c _ _ (out11 m c) fun t i j => by
    rw [block_dya]
    simp only [point_dma, iblk5]
    rfl

theorem final_dyb : (dats m 0 c).arrAt 12 cfg0.N = arr (dy (dmb (a0 m c) (a1 m c) (a6 m c) (a7 m c)) (a5 m c)) :=
  arr12 m c _ _ (out12 m c) fun t i j => by
    rw [block_dyb]
    simp only [point_dmb, iblk6]
    rfl

theorem acc_last (t : Fin cfg0.N) (h : t.val % 8 = 7) (i : Fin 1) (n : Fin 2048) :
    (outsAt0 m c t.val t.isLt).2.2.2.2.2 (ix2 i n)
      = dbias (a0 m c) (a1 m c) (a2 m c) (a3 m c) (a4 m c) (a5 m c) (a6 m c) (a7 m c) n := by
  have key := Sums.acc_sum (N := cfg0.N) (P := 8) (by omega) (fun k hk => (outsAt0 m c k hk).2.2.2.2.2 (ix2 i n))
    (fun t => ∑ x : Fin 512, dpg (a0 m c) (a1 m c) (a2 m c) (a3 m c) (a4 m c) (a5 m c) (a6 m c) (a7 m c) (at_g0_512_4096 t x) n)
    (fun k hk h0 => by
      show (outsAt0 m c (⟨k, hk⟩ : Fin cfg0.N).val _).2.2.2.2.2 (ix2 i n) = _
      rw [acc_first m c ⟨k, hk⟩ h0, block_acc, block_zero, zero_add]
      simp only [point_dpg])
    (fun k hk h0 => by
      show (outsAt0 m c (⟨k, hk⟩ : Fin cfg0.N).val _).2.2.2.2.2 (ix2 i n) = _
      rw [acc_next m c ⟨k, hk⟩ h0, block_acc]
      simp only [point_dpg])
    t.val t.isLt h
  refine key.trans ?_
  have ht := pt_lt t
  rw [dbias, Sums.sum_blocks (a := 8) (b := 512) rfl]
  refine Fintype.sum_congr _ _ fun g => Fintype.sum_congr _ _ fun x => ?_
  refine congrArg (fun r => dpg _ _ _ _ _ _ _ _ r n) (Fin.ext ?_)
  show (t.val - (8 - 1) + g.val) * 512 + x.val = g.val * 512 + x.val
  omega

theorem final_dbias : (dats m 0 c).arrAt 13 cfg0.N
    = arr (fun (_ : Fin 1) => dbias (a0 m c) (a1 m c) (a2 m c) (a3 m c) (a4 m c) (a5 m c) (a6 m c) (a7 m c)) :=
  arr13 m c (fun t => (outsAt0 m c t.val t.isLt).2.2.2.2.2) _ (fun t _ => flushed13 m c t) fun t i n h => acc_last m c t h i n

end Cert.Proof.Merge
-- ==== Proof.MergeRef.lean ====
/- Hand-written. The reference of the gated-merge gradient at the extended reals: its six results are the same formulas of the
   arguments as the call's. -/
module

public import proofs.«01_k».proof.Proof.Gen.MergeGradRefIdeal.Run
public import proofs.«01_k».proof.Proof.Gen.MergeGradRefIdeal.Read
public import proofs.«01_k».proof.Proof.MergeKernel

@[expose] public section

noncomputable section

namespace Cert.Proof.Merge

open Cert.MergeGradRefIdeal Cert.MergeGradRefIdeal.Read Idealize.ShloMosaic Idealize.ShloMosaic.TcCoe Idealize.SL.Sem
open Cert.Proof.Algebra (gate)

variable (x0 : Vec Ideal S4096x1024 .bf16) (x1 : Vec Ideal S4096x2048 .bf16) (x2 x3 : Vec Ideal S4096x512 .bf16)
  (x4 x5 : Vec Ideal S512x1024 .bf16) (x6 : Vec Ideal S1024x1024 .bf16) (x7 : Vec Ideal S1x2048 .f32)

theorem ref_ma (t : Fin 4096) (k : Fin 1024) : val_main_v7 (F := Ideal) x2 x4 (ix2 t k) = branch x2 x4 t k := by
  unfold val_main_v7 val_main_v2 val_main_v4
  pointwise [dot_S4096x512_S512x1024_S4096x1024_1_0_0_1_n_n]
  rfl

theorem ref_mb (t : Fin 4096) (k : Fin 1024) : val_main_v8 (F := Ideal) x3 x5 (ix2 t k) = branch x3 x5 t k := by
  unfold val_main_v8 val_main_v3 val_main_v5
  pointwise [dot_S4096x512_S512x1024_S4096x1024_1_0_0_1_n_n]
  rfl

theorem ref_dmerged (t : Fin 4096) (k : Fin 1024) : val_main_v26 (F := Ideal) x0 x6 (ix2 t k) = dmerged x0 x6 t k := by
  unfold val_main_v26 val_main_v0 val_main_v6
  pointwise [dot_S4096x1024_S1024x1024_S4096x1024_1_1_0_0_n_n]
  rfl

theorem ref_gates (t : Fin 4096) (n : Fin 2048) : val_main_v16 (F := Ideal) x1 x7 (ix2 t n) = gates x1 x7 t n := by
  unfold val_main_v16 val_main_v15 val_main_cst_0 val_main_v14 val_main_v13 val_main_cst val_main_v12 val_main_v11
    val_main_v10 val_main_v9 val_main_v1
  pointwise
  rfl

theorem ref_dma (t : Fin 4096) (k : Fin 1024) : val_main_v29 (F := Ideal) x0 x1 x6 x7 (ix2 t k) = dma x0 x1 x6 x7 t k := by
  unfold val_main_v29 val_main_v20
  pointwise
  rw [ref_dmerged, ref_gates]
  rfl

theorem ref_dmb (t : Fin 4096) (k : Fin 1024) : val_main_v27 (F := Ideal) x0 x1 x6 x7 (ix2 t k) = dmb x0 x1 x6 x7 t k := by
  unfold val_main_v27 val_main_v21
  pointwise
  rw [ref_dmerged, ref_gates]
  rfl

theorem ref_dpg (t : Fin 4096) (n : Fin 2048) :
    val_main_v34 (F := Ideal) x0 x1 x2 x3 x4 x5 x6 x7 (ix2 t n) = dpg x0 x1 x2 x3 x4 x5 x6 x7 t n := by
  unfold val_main_v34 val_main_v33 val_main_v32 val_main_v31 val_main_v30 val_main_v28 val_main_cst_2 val_main_cst_3
    val_main_v19 val_main_v18 val_main_v17 val_main_cst_1
  pointwise
  simp only [ref_gates, ref_ma, ref_mb, ref_dmerged]
  unfold dpg dgate
  by_cases h : n.val < 1024
  · rw [dif_neg (by omega), dif_pos h, dif_pos h]
  · rw [dif_pos (by have := n.isLt; omega), dif_neg h, dif_neg h]

theorem final_ref_dpg : val_main_v39 (F := Ideal) x0 x1 x2 x3 x4 x5 x6 x7 = arr (dpg x0 x1 x2 x3 x4 x5 x6 x7) := by
  funext i
  obtain ⟨t, n, rfl⟩ : ∃ (t : Fin 4096) (n : Fin 2048), i = ix2 t n := ⟨i 0, i 1, eq_ix2 i⟩
  exact ref_dpg x0 x1 x2 x3 x4 x5 x6 x7 t n

theorem final_ref_dma : val_main_v40 (F := Ideal) x0 x1 x6 x7 = arr (dma x0 x1 x6 x7) := by
  funext i
  obtain ⟨t, n, rfl⟩ : ∃ (t : Fin 4096) (n : Fin 1024), i = ix2 t n := ⟨i 0, i 1, eq_ix2 i⟩
  exact ref_dma x0 x1 x6 x7 t n

theorem final_ref_dmb : val_main_v41 (F := Ideal) x0 x1 x6 x7 = arr (dmb x0 x1 x6 x7) := by
  funext i
  obtain ⟨t, n, rfl⟩ : ∃ (t : Fin 4096) (n : Fin 1024), i = ix2 t n := ⟨i 0, i 1, eq_ix2 i⟩
  exact ref_dmb x0 x1 x6 x7 t n

theorem final_ref_dya : val_main_v38 (F := Ideal) x0 x1 x4 x6 x7 = arr (dy (dma x0 x1 x6 x7) x4) := by
  funext i
  obtain ⟨t, n, rfl⟩ : ∃ (t : Fin 4096) (n : Fin 512), i = ix2 t n := ⟨i 0, i 1, eq_ix2 i⟩
  unfold val_main_v38 val_main_v4
  pointwise [dot_S4096x1024_S512x1024_S4096x512_1_1_0_0_n_n]
  simp only [ref_dma]
  rfl

theorem final_ref_dyb : val_main_v37 (F := Ideal) x0 x1 x5 x6 x7 = arr (dy (dmb x0 x1 x6 x7) x5) := by
  funext i
  obtain ⟨t, n, rfl⟩ : ∃ (t : Fin 4096) (n : Fin 512), i = ix2 t n := ⟨i 0, i 1, eq_ix2 i⟩
  unfold val_main_v37 val_main_v5
  pointwise [dot_S4096x1024_S512x1024_S4096x512_1_1_0_0_n_n]
  simp only [ref_dmb]
  rfl

theorem final_ref_dbias : val_main_v36 (F := Ideal) x0 x1 x2 x3 x4 x5 x6 x7
    = arr (fun (_ : Fin 1) => dbias x0 x1 x2 x3 x4 x5 x6 x7) := by
  funext i
  obtain ⟨t, n, rfl⟩ : ∃ (t : Fin 1) (n : Fin 2048), i = ix2 t n := ⟨i 0, i 1, eq_ix2 i⟩
  unfold val_main_v36 val_main_v35 val_main_cst_4
  pointwise
  simp only [ref_dpg]
  rfl

end Cert.Proof.Merge
-- ==== Proof.MergeClaim.lean ====
/- Hand-written. The gated-merge gradient: the reference's frame and the equation of the six results. -/
module

public import proofs.«01_k».proof.Defs
public import proofs.«01_k».proof.Proof.MergeKernel
public import proofs.«01_k».proof.Proof.MergeRef
public import Idealize.ShloMosaic.Adequacy

@[expose] public section

noncomputable section

namespace Cert.Proof.Merge

open Idealize.ShloMosaic Idealize.ShloMosaic.TcCoe Idealize.SL.Sem

/-- The reference has no semaphores, so none is left counting. -/
theorem frame_ref : Cert.quiescent_MergeGradRefIdeal := fun m ρ _ =>
  (θ_run Cert.MergeGradRefIdeal.defs _ _).mono (fun r h => ⟨fun c => (h c).2.2.2.2.2.2, sem_eq_zero_of_no_sems (by decide) r.2⟩)
    (Cert.MergeGradRefIdeal.Value.run (F := Ideal) m ρ)

/-- The call and its reference end with equal results. -/
theorem value : Cert.algebraic_MergeGradIdeal_MergeGradRefIdeal := by
  intro m ρ m' ρ' _ hagree
  refine ⟨fun c => (Cert.MergeGradIdeal.Gen.dats m 0 c).arrAt 8 Cert.MergeGradIdeal.cfg0.N, fun c => (Cert.MergeGradIdeal.Gen.dats m 0 c).arrAt 9 Cert.MergeGradIdeal.cfg0.N, fun c => (Cert.MergeGradIdeal.Gen.dats m 0 c).arrAt 10 Cert.MergeGradIdeal.cfg0.N, fun c => (Cert.MergeGradIdeal.Gen.dats m 0 c).arrAt 11 Cert.MergeGradIdeal.cfg0.N, fun c => (Cert.MergeGradIdeal.Gen.dats m 0 c).arrAt 12 Cert.MergeGradIdeal.cfg0.N, fun c => (Cert.MergeGradIdeal.Gen.dats m 0 c).arrAt 13 Cert.MergeGradIdeal.cfg0.N, ?_, ?_⟩
  · exact Cert.MergeGradIdeal.Value.run_blocks m ρ
  · refine (θ_run Cert.MergeGradRefIdeal.defs _ _).mono (fun _ h c => ?_) (Cert.MergeGradRefIdeal.Value.run (F := Ideal) m' ρ')
    obtain ⟨e0, e1, e2, e3, e4, e5, e6, e7⟩ := hagree c
    obtain ⟨h0, h1, h2, h3, h4, h5, hkept⟩ := h c
    refine ⟨?_, ?_, ?_, ?_, ?_, ?_, hkept⟩
    · refine h0.trans ((Cert.MergeGradRefIdeal.Read.val_main_v39_eq (F := Ideal) _ _ _ _ _ _ _ _).trans ?_)
      rw [e0, e1, e2, e3, e4, e5, e6, e7]
      exact (final_ref_dpg _ _ _ _ _ _ _ _).trans (final_dpg m c).symm
    · refine h1.trans ((Cert.MergeGradRefIdeal.Read.val_main_v40_eq (F := Ideal) _ _ _ _).trans ?_)
      rw [e0, e1, e6, e7]
      exact (final_ref_dma _ _ _ _).trans (final_dma m c).symm
    · refine h2.trans ((Cert.MergeGradRefIdeal.Read.val_main_v41_eq (F := Ideal) _ _ _ _).trans ?_)
      rw [e0, e1, e6, e7]
      exact (final_ref_dmb _ _ _ _).trans (final_dmb m c).symm
    · refine h3.trans ((Cert.MergeGradRefIdeal.Read.val_main_v38_eq (F := Ideal) _ _ _ _ _).trans ?_)
      rw [e0, e1, e4, e6, e7]
      exact (final_ref_dya _ _ _ _ _).trans (final_dya m c).symm
    · refine h4.trans ((Cert.MergeGradRefIdeal.Read.val_main_v37_eq (F := Ideal) _ _ _ _ _).trans ?_)
      rw [e0, e1, e5, e6, e7]
      exact (final_ref_dyb _ _ _ _ _).trans (final_dyb m c).symm
    · refine h5.trans ((Cert.MergeGradRefIdeal.Read.val_main_v36_eq (F := Ideal) _ _ _ _ _ _ _ _).trans ?_)
      rw [e0, e1, e2, e3, e4, e5, e6, e7]
      exact (final_ref_dbias _ _ _ _ _ _ _ _).trans (final_dbias m c).symm

end Cert.Proof.Merge
-- ==== Proof.GluKernel.lean ====
/- Hand-written. The SwiGLU gradient call (`GluGrad`) at the extended reals: what one grid point writes, and the two result
   arrays after the run, each element as one formula of the arguments (`final_du`, `final_dv`). -/
module

public import proofs.«01_k».proof.Proof.Gen.GluGradIdeal.Value
public import proofs.«01_k».proof.Proof.Algebra
public import Idealize.ShloMosaic.Lib.Tactic

@[expose] public section

noncomputable section

namespace Cert.Proof.Glu

open Cert.GluGradIdeal Cert.GluGradIdeal.Gen Cert.GluGradIdeal.Value Idealize.ShloMosaic Idealize.ShloMosaic.TcCoe Idealize.SL.Sem
open Cert.Proof.Algebra (gate)

/-! ## One block -/

/-- The block of `du`: with `p` the product's element, `p v` times the slope of `u ↦ u s(u)`. -/
theorem du_block (v0 : Vec Ideal S1024x1024 .bf16) (v1 : Vec Ideal S1x704x1024 .bf16) (v4 v7 : Vec Ideal S1x1024x704 .bf16)
    (a : Fin 1) (i : Fin 1024) (j : Fin 704) :
    k0_pay1 (k0_pay9 v0 v1 v4 v7) (ix3 a i j)
      = (∑ x, v0 (ix2 i x) * v1 (ix3 0 j x)) * v7 (ix3 0 i j) * gate (v4 (ix3 0 i j))
        + v4 (ix3 0 i j) * ((∑ x, v0 (ix2 i x) * v1 (ix3 0 j x)) * v7 (ix3 0 i j))
          * (gate (v4 (ix3 0 i j)) * (1 - gate (v4 (ix3 0 i j)))) := by
  unfold_payloads
  pointwise [dot_S1024x1024_S704x1024_S1024x704_1_1_0_0_n_n]
  rw [Algebra.gate_back, Algebra.gate_eq]

/-- The block of `dv`: `p` times `u s(u)`. -/
theorem dv_block (v0 : Vec Ideal S1024x1024 .bf16) (v1 : Vec Ideal S1x704x1024 .bf16) (v4 : Vec Ideal S1x1024x704 .bf16)
    (a : Fin 1) (i : Fin 1024) (j : Fin 704) :
    k0_pay2 (k0_pay8 v0 v1 v4) (ix3 a i j)
      = v4 (ix3 0 i j) * gate (v4 (ix3 0 i j)) * ∑ x, v0 (ix2 i x) * v1 (ix3 0 j x) := by
  unfold_payloads
  pointwise [dot_S1024x1024_S704x1024_S1024x704_1_1_0_0_n_n]
  rw [Algebra.gate_eq]

theorem hz2 : (![0, 0] : Fin 2 → Nat) = fun _ => 0 := funext fun a => by fin_cases a <;> rfl
theorem hz3 : (![0, 0, 0] : Fin 3 → Nat) = fun _ => 0 := funext fun a => by fin_cases a <;> rfl

theorem out4_eq (x0 : Vec Ideal S1024x1024 .bf16) (x1 : Vec Ideal S1x704x1024 .bf16) (x2 x3 : Vec Ideal S1x1024x704 .bf16) :
    out0_4 x0 x1 x2 x3 = k0_pay1 (k0_pay9 x0 x1 x2 x3) := by
  unfold out0_4
  rw [View.canon_unit_zero hz3, View.ld_unit_zero hz2, View.ld_unit_zero hz3, View.ld_unit_zero hz3, View.ld_unit_zero hz3]

theorem out5_eq (x0 : Vec Ideal S1024x1024 .bf16) (x1 : Vec Ideal S1x704x1024 .bf16) (x2 x3 : Vec Ideal S1x1024x704 .bf16) :
    out0_5 x0 x1 x2 x3 = k0_pay2 (k0_pay8 x0 x1 x2) := by
  unfold out0_5
  rw [View.canon_unit_zero hz3, View.ld_unit_zero hz2, View.ld_unit_zero hz3, View.ld_unit_zero hz3]

/-! ## The two results as formulas of the arguments -/

/-- `h2 @ w` at row `t` and column `n`. -/
def proj (h : Vec Ideal S4096x1024 .bf16) (w : Vec Ideal S1024x2816 .bf16) (t : Fin 4096) (n : Fin 2816) : EReal :=
  ∑ k : Fin 1024, h (ix2 t k) * w (ix2 k n)

section

variable (x0 x1 : Vec Ideal S4096x1024 .bf16) (x2 x3 : Vec Ideal S1024x2816 .bf16) (x4 : Vec Ideal S2816x1024 .bf16)

/-- `dff @ w2ᵀ` at row `t` and column `n`. -/
def dact (t : Fin 4096) (n : Fin 2816) : EReal := ∑ k : Fin 1024, x0 (ix2 t k) * x4 (ix2 n k)

/-- `du` at row `t` and column `n`: `x0` is `dff`, `x1` is `h2`, `x2`, `x3`, `x4` the weights `w1`, `w3`, `w2`. -/
def du (t : Fin 4096) (n : Fin 2816) : EReal :=
  dact x0 x4 t n * proj x1 x3 t n * gate (proj x1 x2 t n)
    + proj x1 x2 t n * (dact x0 x4 t n * proj x1 x3 t n) * (gate (proj x1 x2 t n) * (1 - gate (proj x1 x2 t n)))

/-- `dv` at row `t` and column `n`. -/
def dv (t : Fin 4096) (n : Fin 2816) : EReal := proj x1 x2 t n * gate (proj x1 x2 t n) * dact x0 x4 t n

end

/-- Column `k` of block `b` of four blocks of 704 columns. -/
abbrev col (b : Fin 4) (k : Fin 704) : Fin 2816 := ⟨b.val * 704 + k.val, by omega⟩

/-- An array of four column blocks from its elements. -/
abbrev blocks (f : Fin 4096 → Fin 2816 → EReal) : Vec Ideal S4x4096x704 .bf16 := fun i => f (i 1) (col (i 0) (i 2))

/-! ## The arrays as the call finds them -/

variable (m : (ℓ : Loc nD τ sig) → Buf (Elt Ideal) ℓ) (c : Dev nD)

abbrev dff : Vec Ideal S4096x1024 .bf16 := m ((c : Thread nD τ).loc main_arg0)
abbrev h2 : Vec Ideal S4096x1024 .bf16 := m ((c : Thread nD τ).loc main_arg1)
abbrev w1 : Vec Ideal S1024x2816 .bf16 := m ((c : Thread nD τ).loc main_arg2)
abbrev w3 : Vec Ideal S1024x2816 .bf16 := m ((c : Thread nD τ).loc main_arg3)
abbrev w2 : Vec Ideal S2816x1024 .bf16 := m ((c : Thread nD τ).loc main_arg4)

theorem V_u (b : Fin 4) (t : Fin 4096) (k : Fin 704) :
    (V m c main_v6 : Vec Ideal S4x4096x704 .bf16) (ix3 b t k) = proj (h2 m c) (w1 m c) t (col b k) := by
  have h : V m c main_v6 = (transpose S4x4096x704 [1, 0, 2] (shapeCast S4096x4x704 (truncf (F := Ideal) .bf16
      (Host.dotGeneral (φ₁ := .bf16) (φ₂ := .bf16) dot_S4096x1024_S1024x2816_S4096x2816_1_0_0_1_n_n none (h2 m c) (w1 m c)) bitsLt_bf16_f32)
      shapeCasts_S4096x2816_S4096x4x704) transposes_S4096x4x704_S4x4096x704_1_0_2 : Vec Ideal S4x4096x704 .bf16) := by
    show StableHlo.after hostOps0 _ (Proc.devRef .tc main_v6) = _
    after_results
    rfl
  rw [h]
  pointwise [dot_S4096x1024_S1024x2816_S4096x2816_1_0_0_1_n_n]
  rfl

theorem V_v (b : Fin 4) (t : Fin 4096) (k : Fin 704) :
    (V m c main_v8 : Vec Ideal S4x4096x704 .bf16) (ix3 b t k) = proj (h2 m c) (w3 m c) t (col b k) := by
  have h : V m c main_v8 = (transpose S4x4096x704 [1, 0, 2] (shapeCast S4096x4x704 (truncf (F := Ideal) .bf16
      (Host.dotGeneral (φ₁ := .bf16) (φ₂ := .bf16) dot_S4096x1024_S1024x2816_S4096x2816_1_0_0_1_n_n none (h2 m c) (w3 m c)) bitsLt_bf16_f32)
      shapeCasts_S4096x2816_S4096x4x704) transposes_S4096x4x704_S4x4096x704_1_0_2 : Vec Ideal S4x4096x704 .bf16) := by
    show StableHlo.after hostOps0 _ (Proc.devRef .tc main_v8) = _
    after_results
    rfl
  rw [h]
  pointwise [dot_S4096x1024_S1024x2816_S4096x2816_1_0_0_1_n_n]
  rfl

theorem V_w2 (b : Fin 4) (k : Fin 704) (n : Fin 1024) :
    (V m c main_v4 : Vec Ideal S4x704x1024 .bf16) (ix3 b k n) = w2 m c (ix2 (col b k) n) := by
  have h : V m c main_v4 = (shapeCast S4x704x1024 (w2 m c) shapeCasts_S2816x1024_S4x704x1024 : Vec Ideal S4x704x1024 .bf16) := by
    show StableHlo.after hostOps0 _ (Proc.devRef .tc main_v4) = _
    after_results
    rfl
  rw [h]
  pointwise

/-! ## Which block each point reads and writes -/

theorem idx : ∀ t : Fin cfg0.N, (win0_0.index t 0 = t.val % 4 ∧ win0_0.index t 1 = 0)
    ∧ (win0_1.index t 0 = t.val / 4 ∧ win0_1.index t 1 = 0 ∧ win0_1.index t 2 = 0)
    ∧ (win0_2.index t 0 = t.val / 4 ∧ win0_2.index t 1 = t.val % 4 ∧ win0_2.index t 2 = 0)
    ∧ (win0_3.index t 0 = t.val / 4 ∧ win0_3.index t 1 = t.val % 4 ∧ win0_3.index t 2 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0) :=
  (by decide +kernel : ∀ t : Fin grid0.N, _)

theorem lt16 (t : Fin cfg0.N) : t.val < 16 := by
  have h := t.isLt
  have e : cfg0.N = 16 := N_0
  omega

/-- The column block and the row of point `t`. -/
abbrev blk (t : Fin cfg0.N) : Fin 4 := ⟨t.val / 4, by have := lt16 t; omega⟩
abbrev row (t : Fin cfg0.N) (i : Fin 1024) : Fin 4096 := ⟨t.val % 4 * 1024 + i.val, by omega⟩

theorem iblk0 (t : Fin cfg0.N) (i : Fin 1024) (k : Fin 1024) :
    (iblk m c 0 t : Vec Ideal S1024x1024 .bf16) (ix2 i k) = dff m c (ix2 (row t i) k) := by
  obtain ⟨⟨e0, e1⟩, -⟩ := idx t
  show V m c main_arg0 (((cfg0.win 0).blk t).view.emb (ix2 i k)) = _
  rw [V_main_arg0]
  refine congrArg (dff m c) (funext fun a => Fin.ext ?_)
  match a with
  | ⟨0, _⟩ => show win0_0.index t 0 * 1024 + 1 * i.val = t.val % 4 * 1024 + i.val; omega
  | ⟨1, _⟩ => show win0_0.index t 1 * 1024 + 1 * k.val = k.val; omega

theorem iblk1 (t : Fin cfg0.N) (k : Fin 704) (n : Fin 1024) :
    (iblk m c 1 t : Vec Ideal S1x704x1024 .bf16) (ix3 0 k n) = w2 m c (ix2 (col (blk t) k) n) := by
  obtain ⟨-, ⟨e0, e1, e2⟩, -⟩ := idx t
  rw [← V_w2]
  show V m c main_v4 (((cfg0.win 1).blk t).view.emb (ix3 0 k n)) = _
  refine congrArg (V m c main_v4) (funext fun a => Fin.ext ?_)
  match a with
  | ⟨0, _⟩ => show win0_1.index t 0 * 1 + 1 * 0 = t.val / 4; omega
  | ⟨1, _⟩ => show win0_1.index t 1 * 704 + 1 * k.val = k.val; omega
  | ⟨2, _⟩ => show win0_1.index t 2 * 1024 + 1 * n.val = n.val; omega

theorem iblk2 (t : Fin cfg0.N) (i : Fin 1024) (k : Fin 704) :
    (iblk m c 2 t : Vec Ideal S1x1024x704 .bf16) (ix3 0 i k) = proj (h2 m c) (w1 m c) (row t i) (col (blk t) k) := by
  obtain ⟨-, -, ⟨e0, e1, e2⟩, -⟩ := idx t
  rw [← V_u]
  show V m c main_v6 (((cfg0.win 2).blk t).view.emb (ix3 0 i k)) = _
  refine congrArg (V m c main_v6) (funext fun a => Fin.ext ?_)
  match a with
  | ⟨0, _⟩ => show win0_2.index t 0 * 1 + 1 * 0 = t.val / 4; omega
  | ⟨1, _⟩ => show win0_2.index t 1 * 1024 + 1 * i.val = t.val % 4 * 1024 + i.val; omega
  | ⟨2, _⟩ => show win0_2.index t 2 * 704 + 1 * k.val = k.val; omega

theorem iblk3 (t : Fin cfg0.N) (i : Fin 1024) (k : Fin 704) :
    (iblk m c 3 t : Vec Ideal S1x1024x704 .bf16) (ix3 0 i k) = proj (h2 m c) (w3 m c) (row t i) (col (blk t) k) := by
  obtain ⟨-, -, -, ⟨e0, e1, e2⟩, -⟩ := idx t
  rw [← V_v]
  show V m c main_v8 (((cfg0.win 3).blk t).view.emb (ix3 0 i k)) = _
  refine congrArg (V m c main_v8) (funext fun a => Fin.ext ?_)
  match a with
  | ⟨0, _⟩ => show win0_3.index t 0 * 1 + 1 * 0 = t.val / 4; omega
  | ⟨1, _⟩ => show win0_3.index t 1 * 1024 + 1 * i.val = t.val % 4 * 1024 + i.val; omega
  | ⟨2, _⟩ => show win0_3.index t 2 * 704 + 1 * k.val = k.val; omega

theorem emb4 (t : Fin cfg0.N) (a : Fin 1) (i : Fin 1024) (k : Fin 704) :
    (((cfg0.win 4).blk t).view.emb (ix3 a i k) : S4x4096x704.Idx) = ix3 (blk t) (row t i) k := by
  obtain ⟨-, -, -, -, ⟨e0, e1, e2⟩, -⟩ := idx t
  refine funext fun b => Fin.ext ?_
  match b with
  | ⟨0, _⟩ => show win0_4.index t 0 * 1 + 1 * a.val = t.val / 4; omega
  | ⟨1, _⟩ => show win0_4.index t 1 * 1024 + 1 * i.val = t.val % 4 * 1024 + i.val; omega
  | ⟨2, _⟩ => show win0_4.index t 2 * 704 + 1 * k.val = k.val; omega

theorem emb5 (t : Fin cfg0.N) (a : Fin 1) (i : Fin 1024) (k : Fin 704) :
    (((cfg0.win 5).blk t).view.emb (ix3 a i k) : S4x4096x704.Idx) = ix3 (blk t) (row t i) k := by
  obtain ⟨-, -, -, -, -, ⟨e0, e1, e2⟩⟩ := idx t
  refine funext fun b => Fin.ext ?_
  match b with
  | ⟨0, _⟩ => show win0_5.index t 0 * 1 + 1 * a.val = t.val / 4; omega
  | ⟨1, _⟩ => show win0_5.index t 1 * 1024 + 1 * i.val = t.val % 4 * 1024 + i.val; omega
  | ⟨2, _⟩ => show win0_5.index t 2 * 704 + 1 * k.val = k.val; omega

/-! ## The result arrays -/

theorem flushed4_eq (t : Fin cfg0.N) :
    (dats m 0 c).flushed 4 t = ((cfg0.win 4).blk t).view.read (Elt Ideal) (blocks (du (dff m c) (h2 m c) (w1 m c) (w3 m c) (w2 m c))) := by
  rw [flushed4, out4_eq]
  funext j
  obtain ⟨a, i, k, rfl⟩ : ∃ (a : Fin 1) (i : Fin 1024) (k : Fin 704), j = ix3 a i k := ⟨j 0, j 1, j 2, eq_ix3 j⟩
  show k0_pay1 (F := Ideal) _ (ix3 a i k) = blocks (du (dff m c) (h2 m c) (w1 m c) (w3 m c) (w2 m c)) (((cfg0.win 4).blk t).view.emb (ix3 a i k))
  rw [emb4, du_block]
  simp only [iblk0, iblk1, iblk2, iblk3]
  rfl

theorem flushed5_eq (t : Fin cfg0.N) :
    (dats m 0 c).flushed 5 t = ((cfg0.win 5).blk t).view.read (Elt Ideal) (blocks (dv (dff m c) (h2 m c) (w1 m c) (w2 m c))) := by
  rw [flushed5, out5_eq]
  funext j
  obtain ⟨a, i, k, rfl⟩ : ∃ (a : Fin 1) (i : Fin 1024) (k : Fin 704), j = ix3 a i k := ⟨j 0, j 1, j 2, eq_ix3 j⟩
  show k0_pay2 (F := Ideal) _ (ix3 a i k) = blocks (dv (dff m c) (h2 m c) (w1 m c) (w2 m c)) (((cfg0.win 5).blk t).view.emb (ix3 a i k))
  rw [emb5, dv_block]
  simp only [iblk0, iblk1, iblk2, iblk3]
  rfl

/-- The point whose block holds row `i 1` of column block `i 0`. -/
abbrev pt (i : S4x4096x704.Idx) : Fin cfg0.N :=
  ⟨(i 0).val * 4 + (i 1).val / 1024, by
    have h0 : (i 0).val < 4 := (i 0).isLt
    have h1 : (i 1).val < 4096 := (i 1).isLt
    rw [show cfg0.N = 16 from N_0]; omega⟩

theorem at_pt (i : S4x4096x704.Idx) :
    (ix3 (blk (pt i)) (row (pt i) ⟨(i 1).val % 1024, by omega⟩) (i 2) : S4x4096x704.Idx) = i := by
  have h0 : (i 0).val < 4 := (i 0).isLt
  have h1 : (i 1).val < 4096 := (i 1).isLt
  refine funext fun b => Fin.ext ?_
  match b with
  | ⟨0, _⟩ => show ((i 0).val * 4 + (i 1).val / 1024) / 4 = (i 0).val; omega
  | ⟨1, _⟩ => show ((i 0).val * 4 + (i 1).val / 1024) % 4 * 1024 + (i 1).val % 1024 = (i 1).val; omega
  | ⟨2, _⟩ => rfl

theorem final_du : (dats m 0 c).arrAt 4 cfg0.N = blocks (du (dff m c) (h2 m c) (w1 m c) (w3 m c) (w2 m c)) :=
  (dats m 0 c).arrAt_eq_of_cover 4 (blocks (du (dff m c) (h2 m c) (w1 m c) (w3 m c) (w2 m c))) (fun t _ => flushed4_eq m c t) fun i =>
    ⟨pt i, flush0_4 _, by
      refine Eq.mp (congrArg (· ∈ ((cfg0.win 4).blk (pt i)).view.set) ((emb4 (pt i) 0 _ _).trans (at_pt i)))
        (((cfg0.win 4).blk (pt i)).view.emb_mem_set (ix3 0 ⟨(i 1).val % 1024, by omega⟩ (i 2)))⟩

theorem final_dv : (dats m 0 c).arrAt 5 cfg0.N = blocks (dv (dff m c) (h2 m c) (w1 m c) (w2 m c)) :=
  (dats m 0 c).arrAt_eq_of_cover 5 (blocks (dv (dff m c) (h2 m c) (w1 m c) (w2 m c))) (fun t _ => flushed5_eq m c t) fun i =>
    ⟨pt i, flush0_5 _, by
      refine Eq.mp (congrArg (· ∈ ((cfg0.win 5).blk (pt i)).view.set) ((emb5 (pt i) 0 _ _).trans (at_pt i)))
        (((cfg0.win 5).blk (pt i)).view.emb_mem_set (ix3 0 ⟨(i 1).val % 1024, by omega⟩ (i 2)))⟩

end Cert.Proof.Glu
-- ==== Proof.GluRef.lean ====
/- Hand-written. The reference of the SwiGLU gradient at the extended reals: its two results are the same formulas of the
   arguments as the call's. -/
module

public import proofs.«01_k».proof.Proof.Gen.GluGradRefIdeal.Run
public import proofs.«01_k».proof.Proof.Gen.GluGradRefIdeal.Read
public import proofs.«01_k».proof.Proof.GluKernel

@[expose] public section

noncomputable section

namespace Cert.Proof.Glu

open Cert.GluGradRefIdeal Cert.GluGradRefIdeal.Read Idealize.ShloMosaic Idealize.ShloMosaic.TcCoe Idealize.SL.Sem
open Cert.Proof.Algebra (gate)

variable (x0 x1 : Vec Ideal S4096x1024 .bf16) (x2 x3 : Vec Ideal S1024x2816 .bf16) (x4 : Vec Ideal S2816x1024 .bf16)

theorem ref_u (t : Fin 4096) (n : Fin 2816) : val_main_v5 (F := Ideal) x1 x2 (ix2 t n) = proj x1 x2 t n := by
  unfold val_main_v5 val_main_v1 val_main_v2
  pointwise [dot_S4096x1024_S1024x2816_S4096x2816_1_0_0_1_n_n]
  rfl

theorem ref_v (t : Fin 4096) (n : Fin 2816) : val_main_v6 (F := Ideal) x1 x3 (ix2 t n) = proj x1 x3 t n := by
  unfold val_main_v6 val_main_v1 val_main_v3
  pointwise [dot_S4096x1024_S1024x2816_S4096x2816_1_0_0_1_n_n]
  rfl

theorem ref_dact (t : Fin 4096) (n : Fin 2816) : val_main_v10 (F := Ideal) x0 x4 (ix2 t n) = dact x0 x4 t n := by
  unfold val_main_v10 val_main_v0 val_main_v4
  pointwise [dot_S4096x1024_S2816x1024_S4096x2816_1_1_0_0_n_n]
  rfl

theorem ref_gate (t : Fin 4096) (n : Fin 2816) :
    val_main_v7_2 (F := Ideal) x1 x2 (ix2 t n) = gate (proj x1 x2 t n) := by
  unfold val_main_v7_2 val_main_call0_v4 val_main_call0_cst_0 val_main_call0_v3 val_main_call0_v2 val_main_call0_cst val_main_call0_v1 val_main_call0_v0
  pointwise
  rw [ref_u]
  rfl

theorem ref_dv : val_main_v19 (F := Ideal) x0 x1 x2 x4 = blocks (dv x0 x1 x2 x4) := by
  funext i
  obtain ⟨b, t, k, rfl⟩ : ∃ (b : Fin 4) (t : Fin 4096) (k : Fin 704), i = ix3 b t k := ⟨i 0, i 1, i 2, eq_ix3 i⟩
  show _ = dv x0 x1 x2 x4 t (col b k)
  unfold val_main_v19 val_main_v18 val_main_v17 val_main_v11 val_main_v7_0
  pointwise
  rw [ref_u, ref_gate, ref_dact]
  rfl

theorem ref_du : val_main_v16 (F := Ideal) x0 x1 x2 x3 x4 = blocks (du x0 x1 x2 x3 x4) := by
  funext i
  obtain ⟨b, t, k, rfl⟩ : ∃ (b : Fin 4) (t : Fin 4096) (k : Fin 704), i = ix3 b t k := ⟨i 0, i 1, i 2, eq_ix3 i⟩
  show _ = du x0 x1 x2 x3 x4 t (col b k)
  unfold val_main_v16 val_main_v15 val_main_v14 val_main_v13 val_main_call1_v2 val_main_call1_v1 val_main_call1_v0
    val_main_v12 val_main_v7_1 val_main_call0_v7 val_main_call0_v6 val_main_call0_cst_1
  pointwise
  rw [ref_u, ref_v, ref_gate, ref_dact]
  rfl

end Cert.Proof.Glu
-- ==== Proof.GluClaim.lean ====
/- Hand-written. The SwiGLU gradient: the reference's frame and the equation of the two results. -/
module

public import proofs.«01_k».proof.Defs
public import proofs.«01_k».proof.Proof.GluKernel
public import proofs.«01_k».proof.Proof.GluRef
public import Idealize.ShloMosaic.Adequacy

@[expose] public section

noncomputable section

namespace Cert.Proof.Glu

open Idealize.ShloMosaic Idealize.ShloMosaic.TcCoe Idealize.SL.Sem

/-- The reference has no semaphores, so none is left counting. -/
theorem frame_ref : Cert.quiescent_GluGradRefIdeal := fun m ρ _ =>
  (θ_run Cert.GluGradRefIdeal.defs _ _).mono (fun r h => ⟨fun c => (h c).2.2, sem_eq_zero_of_no_sems (by decide) r.2⟩)
    (Cert.GluGradRefIdeal.Value.run (F := Ideal) m ρ)

/-- The call and its reference end with equal results. -/
theorem value : Cert.algebraic_GluGradIdeal_GluGradRefIdeal := by
  intro m ρ m' ρ' _ hagree
  refine ⟨fun c => (Cert.GluGradIdeal.Gen.dats m 0 c).arrAt 4 Cert.GluGradIdeal.cfg0.N, fun c => (Cert.GluGradIdeal.Gen.dats m 0 c).arrAt 5 Cert.GluGradIdeal.cfg0.N, ?_, ?_⟩
  · exact Cert.GluGradIdeal.Value.run_blocks m ρ
  · refine (θ_run Cert.GluGradRefIdeal.defs _ _).mono (fun _ h c => ?_) (Cert.GluGradRefIdeal.Value.run (F := Ideal) m' ρ')
    obtain ⟨e0, e1, e2, e3, e4⟩ := hagree c
    obtain ⟨h0, h1, hkept⟩ := h c
    refine ⟨?_, ?_, hkept⟩
    · refine h0.trans ((Cert.GluGradRefIdeal.Read.val_main_v16_eq (F := Ideal) _ _ _ _ _).trans ?_)
      rw [e0, e1, e2, e3, e4]
      exact (ref_du _ _ _ _ _).trans (final_du m c).symm
    · refine h1.trans ((Cert.GluGradRefIdeal.Read.val_main_v19_eq (F := Ideal) _ _ _ _).trans ?_)
      rw [e0, e1, e2, e4]
      exact (ref_dv _ _ _ _).trans (final_dv m c).symm

end Cert.Proof.Glu
-- ==== Proof.UpDwWindows.lean ====
/- Hand-written. Windows of the up projections' weight-gradient call: which block of which array each grid point sees. -/
module

public import proofs.«01_k».proof.Proof.Gen.UpDwIdeal.Value
public import Idealize.ShloMosaic.Lib.Pointwise

@[expose] public section

noncomputable section

namespace Cert.Proof.UpDw

open Cert.UpDwIdeal Cert.UpDwIdeal.Gen Cert.UpDwIdeal.Value Idealize.ShloMosaic Idealize.ShloMosaic.TcCoe Idealize.SL.Sem

theorem pt_lt (t : Fin cfg0.N) : t.val < 16 := by
  have h := t.isLt
  have e : cfg0.N = 16 := N_0
  omega

/-- The block indices of each window at point `t`. -/
theorem index_at : ∀ t : Fin cfg0.N, (win0_0.index t 0 = t.val % 4 ∧ win0_0.index t 1 = 0)
    ∧ (win0_1.index t 0 = t.val / 4 ∧ win0_1.index t 1 = t.val % 4 ∧ win0_1.index t 2 = 0)
    ∧ (win0_2.index t 0 = t.val / 4 ∧ win0_2.index t 1 = 0 ∧ win0_2.index t 2 = 0) :=
  (by decide +kernel : ∀ t : Fin grid0.N, _)

/-- Element `i` of the block of 1024 at index `t.val % 4` of an axis of 4096. -/
abbrev at_g1_1024_4096 (t : Fin cfg0.N) (i : Fin 1024) : Fin 4096 :=
  ⟨(t.val % 4) * 1024 + i.val, by have := pt_lt t; omega⟩

/-- Element `i` of the block of 1 at index `t.val / 4` of an axis of 4. -/
abbrev at_g0_1_4 (t : Fin cfg0.N) (i : Fin 1) : Fin 4 :=
  ⟨(t.val / 4) * 1 + i.val, by have := pt_lt t; omega⟩

variable (m : (ℓ : Loc nD τ sig) → Buf (Elt Ideal) ℓ) (c : Dev nD)

theorem emb0 (t : Fin cfg0.N) (i0 : Fin 1024) (i1 : Fin 1024) :
    (((cfg0.win 0).blk t).view.emb (ix2 i0 i1) : S4096x1024.Idx) = ix2 (at_g1_1024_4096 t i0) i1 := by
  obtain ⟨⟨e0, e1⟩, -⟩ := index_at t
  refine funext fun b => Fin.ext ?_
  match b with
  | ⟨0, _⟩ => show win0_0.index t 0 * 1024 + 1 * i0.val = (t.val % 4) * 1024 + i0.val; omega
  | ⟨1, _⟩ => show win0_0.index t 1 * 1024 + 1 * i1.val = i1.val; omega

theorem iblk0 (t : Fin cfg0.N) (i0 : Fin 1024) (i1 : Fin 1024) :
    (iblk m c 0 t : Vec Ideal S1024x1024 .bf16) (ix2 i0 i1) = (m ((c : Thread nD τ).loc main_arg0) : Vec Ideal S4096x1024 .bf16) (ix2 (at_g1_1024_4096 t i0) i1) :=
  (congrArg (V m c main_arg0) (emb0 t i0 i1)).trans (congrFun (V_main_arg0 m c) _)

theorem emb1 (t : Fin cfg0.N) (i0 : Fin 1) (i1 : Fin 1024) (i2 : Fin 704) :
    (((cfg0.win 1).blk t).view.emb (ix3 i0 i1 i2) : S4x4096x704.Idx) = ix3 (at_g0_1_4 t i0) (at_g1_1024_4096 t i1) i2 := by
  obtain ⟨-, ⟨e0, e1, e2⟩, -⟩ := index_at t
  refine funext fun b => Fin.ext ?_
  match b with
  | ⟨0, _⟩ => show win0_1.index t 0 * 1 + 1 * i0.val = (t.val / 4) * 1 + i0.val; omega
  | ⟨1, _⟩ => show win0_1.index t 1 * 1024 + 1 * i1.val = (t.val % 4) * 1024 + i1.val; omega
  | ⟨2, _⟩ => show win0_1.index t 2 * 704 + 1 * i2.val = i2.val; omega

theorem iblk1 (t : Fin cfg0.N) (i0 : Fin 1) (i1 : Fin 1024) (i2 : Fin 704) :
    (iblk m c 1 t : Vec Ideal S1x1024x704 .bf16) (ix3 i0 i1 i2) = (V m c main_v1 : Vec Ideal S4x4096x704 .bf16) (ix3 (at_g0_1_4 t i0) (at_g1_1024_4096 t i1) i2) :=
  (congrArg (V m c main_v1) (emb1 t i0 i1 i2))

theorem emb2 (t : Fin cfg0.N) (i0 : Fin 1) (i1 : Fin 1024) (i2 : Fin 704) :
    (((cfg0.win 2).blk t).view.emb (ix3 i0 i1 i2) : S4x1024x704.Idx) = ix3 (at_g0_1_4 t i0) i1 i2 := by
  obtain ⟨-, -, ⟨e0, e1, e2⟩⟩ := index_at t
  refine funext fun b => Fin.ext ?_
  match b with
  | ⟨0, _⟩ => show win0_2.index t 0 * 1 + 1 * i0.val = (t.val / 4) * 1 + i0.val; omega
  | ⟨1, _⟩ => show win0_2.index t 1 * 1024 + 1 * i1.val = i1.val; omega
  | ⟨2, _⟩ => show win0_2.index t 2 * 704 + 1 * i2.val = i2.val; omega

/-- The point whose block holds index `i`. -/
abbrev pt2 (i : S4x1024x704.Idx) : Fin cfg0.N :=
  ⟨((i 0).val) * 4 + (3), by
    have h0 : (i 0).val < 4 := (i 0).isLt
    have h1 : (i 1).val < 1024 := (i 1).isLt
    have h2 : (i 2).val < 704 := (i 2).isLt
    rw [show cfg0.N = 16 from N_0]; omega⟩

theorem at_pt2 (i : S4x1024x704.Idx) : (ix3 (at_g0_1_4 (pt2 i) ⟨(i 0).val % 1, by omega⟩) (i 1) (i 2) : S4x1024x704.Idx) = i := by
  have h0 : (i 0).val < 4 := (i 0).isLt
  have h1 : (i 1).val < 1024 := (i 1).isLt
  have h2 : (i 2).val < 704 := (i 2).isLt
  refine funext fun b => Fin.ext ?_
  match b with
  | ⟨0, _⟩ => show ((((i 0).val) * 4 + (3)) / 4) * 1 + (i 0).val % 1 = (i 0).val; omega
  | ⟨1, _⟩ => rfl
  | ⟨2, _⟩ => rfl

theorem mem2 (i : S4x1024x704.Idx) : i ∈ ((cfg0.win 2).blk (pt2 i)).view.set :=
  Eq.mp (congrArg (· ∈ ((cfg0.win 2).blk (pt2 i)).view.set) ((emb2 (pt2 i) _ _ _).trans (at_pt2 i)))
    (((cfg0.win 2).blk (pt2 i)).view.emb_mem_set (ix3 ⟨(i 0).val % 1, by omega⟩ (i 1) (i 2)))

/-- If every block written back is the block of `G`, the array is `G` after the run. -/
theorem arr2 (X : Fin cfg0.N → Vec Ideal S1x1024x704 .bf16) (G : Vec Ideal S4x1024x704 .bf16)
    (hX : ∀ t : Fin cfg0.N, t.val % 4 = 3 → (dats m 0 c).flushed 2 t = (cfg0.win 2).cut (grid0.coords t) (X t))
    (hG : ∀ (t : Fin cfg0.N) (i0 : Fin 1) (i1 : Fin 1024) (i2 : Fin 704), t.val % 4 = 3 → X t (ix3 i0 i1 i2) = G (ix3 (at_g0_1_4 t i0) i1 i2)) :
    (dats m 0 c).arrAt 2 cfg0.N = G :=
  (dats m 0 c).arrAt_eq_of_cover 2 G (fun t hf => by
    rw [hX t ((flush0_2 t).mp hf)]
    funext j
    obtain ⟨i0, i1, i2, rfl⟩ : ∃ (i0 : Fin 1) (i1 : Fin 1024) (i2 : Fin 704), j = ix3 i0 i1 i2 := ⟨j 0, j 1, j 2, eq_ix3 j⟩
    show X t (ix3 i0 i1 i2) = G (((cfg0.win 2).blk t).view.emb (ix3 i0 i1 i2))
    rw [hG t i0 i1 i2 ((flush0_2 t).mp hf), emb2]) fun i => ⟨pt2 i, (flush0_2 _).mpr (by show ((((i 0).val) * 4 + (3)) % 4 = 3); have h0 : (i 0).val < 4 := (i 0).isLt; have h1 : (i 1).val < 1024 := (i 1).isLt; have h2 : (i 2).val < 704 := (i 2).isLt; omega), mem2 i⟩

end Cert.Proof.UpDw
-- ==== Proof.UpDwKernel.lean ====
/- Hand-written. The weight gradient of an up projection (`UpDw`) at the extended reals: the accumulator carried over the
   four blocks of rows, and the result array after the run, each element as one sum over the rows. -/
module

public import proofs.«01_k».proof.Proof.UpDwWindows
public import proofs.«01_k».proof.Proof.Sums
public import Idealize.ShloMosaic.Lib.Tactic

@[expose] public section

noncomputable section

namespace Cert.Proof.UpDw

open Cert.UpDwIdeal Cert.UpDwIdeal.Gen Cert.UpDwIdeal.Value Idealize.ShloMosaic Idealize.ShloMosaic.TcCoe Idealize.SL.Sem

/-- The gradient of the weight of `x0 · w` whose product has the gradient `x1`, in its four blocks of columns. -/
def dw (x0 : Vec Ideal S4096x1024 .bf16) (x1 : Vec Ideal S4096x2816 .bf16) (b : Fin 4) (k : Fin 1024) (n : Fin 704) : EReal :=
  ∑ t : Fin 4096, x0 (ix2 t k) * x1 (ix2 t ⟨b.val * 704 + n.val, by omega⟩)

/-! ## One block -/

theorem block_acc (v3 : Vec Ideal S1024x704 .f32) (v4 : Vec Ideal S1024x1024 .bf16) (v5 : Vec Ideal S1x1024x704 .bf16)
    (k : Fin 1024) (n : Fin 704) : k0_pay2 v3 v4 v5 (ix2 k n) = v3 (ix2 k n) + ∑ x, v4 (ix2 x k) * v5 (ix3 0 x n) := by
  unfold_payloads
  pointwise [dot_S1024x1024_S1024x704_S1024x704_0_0_1_1_n_n]

theorem block_zero (k : Fin 1024) (n : Fin 704) : k0_pay1 (F := Ideal) (ix2 k n) = 0 := by
  unfold_payloads
  pointwise

theorem block_out (v15 : Vec Ideal S1024x704 .f32) (b : Fin 1) (k : Fin 1024) (n : Fin 704) :
    k0_pay3 v15 (ix3 b k n) = v15 (ix2 k n) := by
  unfold_payloads
  pointwise

/-! ## The accumulator and what is written back -/

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a point that starts the sum. -/
theorem acc_first (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x704) hz2, View.readCov_unit_zero (S := S1024x704) _ hz2]
  simp only [View.readAt_eq_ld, Memref.IsWhole.read_unread, View.ld_unit_zero (S := S1024x704) hz2, View.ld_unit_zero (S := S1024x1024) hz2, View.ld_unit_zero (S := S1x1024x704) hz3, shapeCast_self]

/-- … and after one that goes on with it. -/
theorem acc_next (t : Fin cfg0.N) (h0 : ¬t.val % 4 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz2]
    simp only [View.readAt_eq_ld, Memref.IsWhole.read_unread, View.ld_unit_zero (S := S1024x704) hz2, View.ld_unit_zero (S := S1024x1024) hz2, View.ld_unit_zero (S := S1x1024x704) hz3, shapeCast_self]
    exact congrArg (fun z => k0_pay2 (F := Ideal) z _ _) ((Memref.isWhole_whole cc0_scratch0).read_unread _)
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz2]
    simp only [View.readAt_eq_ld, Memref.IsWhole.read_unread, View.ld_unit_zero (S := S1024x704) hz2, View.ld_unit_zero (S := S1024x1024) hz2, View.ld_unit_zero (S := S1x1024x704) hz3, shapeCast_self]
    exact congrArg (fun z => k0_pay2 (F := Ideal) z _ _) ((Memref.isWhole_whole cc0_scratch0).read_unread _)

/-- The last point of a group writes back the accumulator it has just completed. -/
theorem out2 (t : Fin cfg0.N) (h1 : t.val % 4 = 3) :
    (dats m 0 c).flushed 2 t = (cfg0.win 2).cut (grid0.coords t) (k0_pay3 (F := Ideal) (outsAt0 m c t.val t.isLt).2) := by
  have h0 : ¬t.val % 4 = 0 := by omega
  rw [acc_next m c t h0, flushed2_C m c t h0 h1]
  unfold out0_C_2
  rw [View.read_writes_eq_canon _ _ _ (fun y => cover0_C_2 (y := y) ..)]
  unfold kernelRun0_C
  dsimp only
  sl_unfold_words
  rw [View.canon_unit_zero hz3]
  simp only [View.readAt_eq_ld, Memref.IsWhole.read_unread, View.ld_unit_zero (S := S1024x704) hz2, View.ld_unit_zero (S := S1024x1024) hz2, View.ld_unit_zero (S := S1x1024x704) hz3, shapeCast_self, View.readCov_unit_zero (S := S1024x704) _ hz2]
  exact congrArg (fun z => (cfg0.win 2).cut (grid0.coords t) (k0_pay3 (F := Ideal) (k0_pay2 (F := Ideal) z _ _)))
    ((Memref.isWhole_whole cc0_scratch0).read_unread _)

/-! ## The arrays as the call finds them -/

abbrev a0 : Vec Ideal S4096x1024 .bf16 := m ((c : Thread nD τ).loc main_arg0)
abbrev a1 : Vec Ideal S4096x2816 .bf16 := m ((c : Thread nD τ).loc main_arg1)

theorem V_cut (b : Fin 4) (t : Fin 4096) (n : Fin 704) :
    (V m c main_v1 : Vec Ideal S4x4096x704 .bf16) (ix3 b t n) = a1 m c (ix2 t ⟨b.val * 704 + n.val, by omega⟩) := by
  have h : V m c main_v1 = (transpose S4x4096x704 [1, 0, 2] (shapeCast S4096x4x704 (a1 m c)
      shapeCasts_S4096x2816_S4096x4x704) transposes_S4096x4x704_S4x4096x704_1_0_2 : Vec Ideal S4x4096x704 .bf16) := by
    show StableHlo.after hostOps0 _ (Proc.devRef .tc main_v1) = _
    after_results
    rfl
  rw [h]
  pointwise

theorem block_1 (t : Fin cfg0.N) (i : Fin 1) (x : Fin 1024) (n : Fin 704) :
    (iblk m c 1 t : Vec Ideal S1x1024x704 .bf16) (ix3 i x n)
      = a1 m c (ix2 (at_g1_1024_4096 t x) ⟨(at_g0_1_4 t i).val * 704 + n.val, by omega⟩) :=
  (iblk1 m c t i x n).trans (V_cut m c _ _ _)

/-! ## The result array -/

abbrev b0 (t : Fin cfg0.N) : Vec Ideal S1024x1024 .bf16 := iblk m c 0 t
abbrev b1 (t : Fin cfg0.N) : Vec Ideal S1x1024x704 .bf16 := iblk m c 1 t

/-- A point's product, over its own block of rows. -/
theorem point (t : Fin cfg0.N) (g : Fin 4) (hg : t.val / 4 = g.val) (k : Fin 1024) (n : Fin 704) :
    (∑ x : Fin 1024, b0 m c t (ix2 x k) * b1 m c t (ix3 0 x n))
      = ∑ x : Fin 1024, a0 m c (ix2 ⟨t.val % 4 * 1024 + x.val, by omega⟩ k)
          * a1 m c (ix2 ⟨t.val % 4 * 1024 + x.val, by omega⟩ ⟨g.val * 704 + n.val, by omega⟩) := by
  simp only [iblk0, block_1, hg, Fin.val_eq_zero, mul_one, add_zero]

theorem acc_last (t : Fin cfg0.N) (h : t.val % 4 = 3) (k : Fin 1024) (n : Fin 704) :
    (outsAt0 m c t.val t.isLt).2 (ix2 k n) = dw (a0 m c) (a1 m c) (at_g0_1_4 t 0) k n := by
  have hg : (at_g0_1_4 t 0).val = t.val / 4 := by show t.val / 4 * 1 + 0 = t.val / 4; omega
  refine Sums.acc_rows (N := cfg0.N) (t.val / 4) (fun j hj => (outsAt0 m c j hj).2 (ix2 k n))
    (fun r => a0 m c (ix2 r k) * a1 m c (ix2 r ⟨(at_g0_1_4 t 0).val * 704 + n.val, by omega⟩))
    (fun j hj hg' h0 => ?_) (fun j hj hg' h0 => ?_) t.val t.isLt rfl h
  · show (outsAt0 m c (⟨j, hj⟩ : Fin cfg0.N).val _).2 (ix2 k n) = _
    rw [acc_first m c ⟨j, hj⟩ h0, block_acc, block_zero, zero_add]
    exact point m c ⟨j, hj⟩ _ (hg'.trans hg.symm) k n
  · show (outsAt0 m c (⟨j, hj⟩ : Fin cfg0.N).val _).2 (ix2 k n) = _
    rw [acc_next m c ⟨j, hj⟩ h0, block_acc]
    exact congrArg (_ + ·) (point m c ⟨j, hj⟩ _ (hg'.trans hg.symm) k n)

theorem final_dw : (dats m 0 c).arrAt 2 cfg0.N
    = fun i => dw (a0 m c) (a1 m c) (i 0) (i 1) (i 2) :=
  arr2 m c (fun t => k0_pay3 (F := Ideal) (outsAt0 m c t.val t.isLt).2) _ (out2 m c) fun t i k n h => by
    rw [block_out, acc_last m c t h k n, Fin.fin_one_eq_zero i]
    rfl

end Cert.Proof.UpDw
-- ==== Proof.UpDwRef.lean ====
/- Hand-written. The reference of the up projection's weight gradient at the extended reals: the same sums over the rows. -/
module

public import proofs.«01_k».proof.Proof.Gen.UpDwRefIdeal.Run
public import proofs.«01_k».proof.Proof.Gen.UpDwRefIdeal.Read
public import proofs.«01_k».proof.Proof.UpDwKernel

@[expose] public section

noncomputable section

namespace Cert.Proof.UpDw

open Cert.UpDwRefIdeal Cert.UpDwRefIdeal.Read Idealize.ShloMosaic Idealize.ShloMosaic.TcCoe Idealize.SL.Sem

variable (x0 : Vec Ideal S4096x1024 .bf16) (x1 : Vec Ideal S4096x2816 .bf16)

theorem final_ref_dw : val_main_v8 (F := Ideal) x0 x1 = fun i => dw x0 x1 (i 0) (i 1) (i 2) := by
  funext i
  obtain ⟨b, k, n, rfl⟩ : ∃ (b : Fin 4) (k : Fin 1024) (n : Fin 704), i = ix3 b k n := ⟨i 0, i 1, i 2, eq_ix3 i⟩
  unfold val_main_v8 val_main_v7 val_main_v6 val_main_v5 val_main_v4 val_main_v1 val_main_v0
  pointwise [dot_S4096x2816_S4096x1024_S2816x1024_0_0_1_1_n_n]
  exact Fintype.sum_congr _ _ fun t => mul_comm _ _

end Cert.Proof.UpDw
-- ==== Proof.UpDwClaim.lean ====
/- Hand-written. An up projection's weight gradient: the reference's frame and the equation of the result. -/
module

public import proofs.«01_k».proof.Defs
public import proofs.«01_k».proof.Proof.UpDwKernel
public import proofs.«01_k».proof.Proof.UpDwRef
public import Idealize.ShloMosaic.Adequacy

@[expose] public section

noncomputable section

namespace Cert.Proof.UpDw

open Idealize.ShloMosaic Idealize.ShloMosaic.TcCoe Idealize.SL.Sem

/-- The reference has no semaphores, so none is left counting. -/
theorem frame_ref : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- The call and its reference end with equal results. -/
theorem value : Cert.algebraic_UpDwIdeal_UpDwRefIdeal := by
  intro m ρ m' ρ' _ hagree
  refine ⟨fun c => (Cert.UpDwIdeal.Gen.dats m 0 c).arrAt 2 Cert.UpDwIdeal.cfg0.N, ?_, ?_⟩
  · exact Cert.UpDwIdeal.Value.run_blocks m ρ
  · refine (θ_run Cert.UpDwRefIdeal.defs _ _).mono (fun _ h c => ?_) (Cert.UpDwRefIdeal.Value.run (F := Ideal) m' ρ')
    obtain ⟨e0, e1⟩ := hagree c
    obtain ⟨h0, hkept⟩ := h c
    refine ⟨?_, hkept⟩
    · refine h0.trans ((Cert.UpDwRefIdeal.Read.val_main_v8_eq (F := Ideal) _ _).trans ?_)
      rw [e0, e1]
      exact (final_ref_dw _ _).trans (final_dw m c).symm

end Cert.Proof.UpDw
-- ==== Proof.DownDwWindows.lean ====
/- Hand-written. Windows of the down projection's weight-gradient call: which block of which array each grid point sees. -/
module

public import proofs.«01_k».proof.Proof.Gen.DownDwIdeal.Value
public import Idealize.ShloMosaic.Lib.Pointwise

@[expose] public section

noncomputable section

namespace Cert.Proof.DownDw

open Cert.DownDwIdeal Cert.DownDwIdeal.Gen Cert.DownDwIdeal.Value Idealize.ShloMosaic Idealize.ShloMosaic.TcCoe Idealize.SL.Sem

theorem pt_lt (t : Fin cfg0.N) : t.val < 16 := by
  have h := t.isLt
  have e : cfg0.N = 16 := N_0
  omega

/-- The block indices of each window at point `t`. -/
theorem index_at : ∀ t : Fin cfg0.N, (win0_0.index t 0 = t.val / 4 ∧ win0_0.index t 1 = t.val % 4 ∧ win0_0.index t 2 = 0)
    ∧ (win0_1.index t 0 = t.val % 4 ∧ win0_1.index t 1 = 0)
    ∧ (win0_2.index t 0 = t.val / 4 ∧ win0_2.index t 1 = 0 ∧ win0_2.index t 2 = 0) :=
  (by decide +kernel : ∀ t : Fin grid0.N, _)

/-- Element `i` of the block of 1 at index `t.val / 4` of an axis of 4. -/
abbrev at_g0_1_4 (t : Fin cfg0.N) (i : Fin 1) : Fin 4 :=
  ⟨(t.val / 4) * 1 + i.val, by have := pt_lt t; omega⟩

/-- Element `i` of the block of 1024 at index `t.val % 4` of an axis of 4096. -/
abbrev at_g1_1024_4096 (t : Fin cfg0.N) (i : Fin 1024) : Fin 4096 :=
  ⟨(t.val % 4) * 1024 + i.val, by have := pt_lt t; omega⟩

variable (m : (ℓ : Loc nD τ sig) → Buf (Elt Ideal) ℓ) (c : Dev nD)

theorem emb0 (t : Fin cfg0.N) (i0 : Fin 1) (i1 : Fin 1024) (i2 : Fin 704) :
    (((cfg0.win 0).blk t).view.emb (ix3 i0 i1 i2) : S4x4096x704.Idx) = ix3 (at_g0_1_4 t i0) (at_g1_1024_4096 t i1) i2 := by
  obtain ⟨⟨e0, e1, e2⟩, -⟩ := index_at t
  refine funext fun b => Fin.ext ?_
  match b with
  | ⟨0, _⟩ => show win0_0.index t 0 * 1 + 1 * i0.val = (t.val / 4) * 1 + i0.val; omega
  | ⟨1, _⟩ => show win0_0.index t 1 * 1024 + 1 * i1.val = (t.val % 4) * 1024 + i1.val; omega
  | ⟨2, _⟩ => show win0_0.index t 2 * 704 + 1 * i2.val = i2.val; omega

theorem iblk0 (t : Fin cfg0.N) (i0 : Fin 1) (i1 : Fin 1024) (i2 : Fin 704) :
    (iblk m c 0 t : Vec Ideal S1x1024x704 .bf16) (ix3 i0 i1 i2) = (V m c main_v1 : Vec Ideal S4x4096x704 .bf16) (ix3 (at_g0_1_4 t i0) (at_g1_1024_4096 t i1) i2) :=
  (congrArg (V m c main_v1) (emb0 t i0 i1 i2))

theorem emb1 (t : Fin cfg0.N) (i0 : Fin 1024) (i1 : Fin 1024) :
    (((cfg0.win 1).blk t).view.emb (ix2 i0 i1) : S4096x1024.Idx) = ix2 (at_g1_1024_4096 t i0) i1 := by
  obtain ⟨-, ⟨e0, e1⟩, -⟩ := index_at t
  refine funext fun b => Fin.ext ?_
  match b with
  | ⟨0, _⟩ => show win0_1.index t 0 * 1024 + 1 * i0.val = (t.val % 4) * 1024 + i0.val; omega
  | ⟨1, _⟩ => show win0_1.index t 1 * 1024 + 1 * i1.val = i1.val; omega

theorem iblk1 (t : Fin cfg0.N) (i0 : Fin 1024) (i1 : Fin 1024) :
    (iblk m c 1 t : Vec Ideal S1024x1024 .bf16) (ix2 i0 i1) = (m ((c : Thread nD τ).loc main_arg1) : Vec Ideal S4096x1024 .bf16) (ix2 (at_g1_1024_4096 t i0) i1) :=
  (congrArg (V m c main_arg1) (emb1 t i0 i1)).trans (congrFun (V_main_arg1 m c) _)

theorem emb2 (t : Fin cfg0.N) (i0 : Fin 1) (i1 : Fin 704) (i2 : Fin 1024) :
    (((cfg0.win 2).blk t).view.emb (ix3 i0 i1 i2) : S4x704x1024.Idx) = ix3 (at_g0_1_4 t i0) i1 i2 := by
  obtain ⟨-, -, ⟨e0, e1, e2⟩⟩ := index_at t
  refine funext fun b => Fin.ext ?_
  match b with
  | ⟨0, _⟩ => show win0_2.index t 0 * 1 + 1 * i0.val = (t.val / 4) * 1 + i0.val; omega
  | ⟨1, _⟩ => show win0_2.index t 1 * 704 + 1 * i1.val = i1.val; omega
  | ⟨2, _⟩ => show win0_2.index t 2 * 1024 + 1 * i2.val = i2.val; omega

/-- The point whose block holds index `i`. -/
abbrev pt2 (i : S4x704x1024.Idx) : Fin cfg0.N :=
  ⟨((i 0).val) * 4 + (3), by
    have h0 : (i 0).val < 4 := (i 0).isLt
    have h1 : (i 1).val < 704 := (i 1).isLt
    have h2 : (i 2).val < 1024 := (i 2).isLt
    rw [show cfg0.N = 16 from N_0]; omega⟩

theorem at_pt2 (i : S4x704x1024.Idx) : (ix3 (at_g0_1_4 (pt2 i) ⟨(i 0).val % 1, by omega⟩) (i 1) (i 2) : S4x704x1024.Idx) = i := by
  have h0 : (i 0).val < 4 := (i 0).isLt
  have h1 : (i 1).val < 704 := (i 1).isLt
  have h2 : (i 2).val < 1024 := (i 2).isLt
  refine funext fun b => Fin.ext ?_
  match b with
  | ⟨0, _⟩ => show ((((i 0).val) * 4 + (3)) / 4) * 1 + (i 0).val % 1 = (i 0).val; omega
  | ⟨1, _⟩ => rfl
  | ⟨2, _⟩ => rfl

theorem mem2 (i : S4x704x1024.Idx) : i ∈ ((cfg0.win 2).blk (pt2 i)).view.set :=
  Eq.mp (congrArg (· ∈ ((cfg0.win 2).blk (pt2 i)).view.set) ((emb2 (pt2 i) _ _ _).trans (at_pt2 i)))
    (((cfg0.win 2).blk (pt2 i)).view.emb_mem_set (ix3 ⟨(i 0).val % 1, by omega⟩ (i 1) (i 2)))

/-- If every block written back is the block of `G`, the array is `G` after the run. -/
theorem arr2 (X : Fin cfg0.N → Vec Ideal S1x704x1024 .bf16) (G : Vec Ideal S4x704x1024 .bf16)
    (hX : ∀ t : Fin cfg0.N, t.val % 4 = 3 → (dats m 0 c).flushed 2 t = (cfg0.win 2).cut (grid0.coords t) (X t))
    (hG : ∀ (t : Fin cfg0.N) (i0 : Fin 1) (i1 : Fin 704) (i2 : Fin 1024), t.val % 4 = 3 → X t (ix3 i0 i1 i2) = G (ix3 (at_g0_1_4 t i0) i1 i2)) :
    (dats m 0 c).arrAt 2 cfg0.N = G :=
  (dats m 0 c).arrAt_eq_of_cover 2 G (fun t hf => by
    rw [hX t ((flush0_2 t).mp hf)]
    funext j
    obtain ⟨i0, i1, i2, rfl⟩ : ∃ (i0 : Fin 1) (i1 : Fin 704) (i2 : Fin 1024), j = ix3 i0 i1 i2 := ⟨j 0, j 1, j 2, eq_ix3 j⟩
    show X t (ix3 i0 i1 i2) = G (((cfg0.win 2).blk t).view.emb (ix3 i0 i1 i2))
    rw [hG t i0 i1 i2 ((flush0_2 t).mp hf), emb2]) fun i => ⟨pt2 i, (flush0_2 _).mpr (by show ((((i 0).val) * 4 + (3)) % 4 = 3); have h0 : (i 0).val < 4 := (i 0).isLt; have h1 : (i 1).val < 704 := (i 1).isLt; have h2 : (i 2).val < 1024 := (i 2).isLt; omega), mem2 i⟩

end Cert.Proof.DownDw
-- ==== Proof.DownDwKernel.lean ====
/- Hand-written. The weight gradient of the down projection (`DownDw`) at the extended reals: the accumulator carried over the
   four blocks of rows, and the result array after the run, each element as one sum over the rows. -/
module

public import proofs.«01_k».proof.Proof.DownDwWindows
public import proofs.«01_k».proof.Proof.Sums
public import Idealize.ShloMosaic.Lib.Tactic

@[expose] public section

noncomputable section

namespace Cert.Proof.DownDw

open Cert.DownDwIdeal Cert.DownDwIdeal.Gen Cert.DownDwIdeal.Value Idealize.ShloMosaic Idealize.ShloMosaic.TcCoe Idealize.SL.Sem

/-- The gradient of the weight of `x0 · w` whose product has the gradient `x1`, in its four blocks of rows. -/
def dw (x0 : Vec Ideal S4096x2816 .bf16) (x1 : Vec Ideal S4096x1024 .bf16) (b : Fin 4) (k : Fin 704) (n : Fin 1024) : EReal :=
  ∑ t : Fin 4096, x0 (ix2 t ⟨b.val * 704 + k.val, by omega⟩) * x1 (ix2 t n)

/-! ## One block -/

theorem block_acc (v3 : Vec Ideal S704x1024 .f32) (v4 : Vec Ideal S1x1024x704 .bf16) (v6 : Vec Ideal S1024x1024 .bf16)
    (k : Fin 704) (n : Fin 1024) : k0_pay2 v3 v4 v6 (ix2 k n) = v3 (ix2 k n) + ∑ x, v4 (ix3 0 x k) * v6 (ix2 x n) := by
  unfold_payloads
  pointwise [dot_S1024x704_S1024x1024_S704x1024_0_0_1_1_n_n]

theorem block_zero (k : Fin 704) (n : Fin 1024) : k0_pay1 (F := Ideal) (ix2 k n) = 0 := by
  unfold_payloads
  pointwise

theorem block_out (v15 : Vec Ideal S704x1024 .f32) (b : Fin 1) (k : Fin 704) (n : Fin 1024) :
    k0_pay3 v15 (ix3 b k n) = v15 (ix2 k n) := by
  unfold_payloads
  pointwise

/-! ## The accumulator and what is written back -/

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a point that starts the sum. -/
theorem acc_first (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S704x1024) hz2, View.readCov_unit_zero (S := S704x1024) _ hz2]
  simp only [View.readAt_eq_ld, Memref.IsWhole.read_unread, View.ld_unit_zero (S := S704x1024) hz2, View.ld_unit_zero (S := S1024x1024) hz2, View.ld_unit_zero (S := S1x1024x704) hz3, shapeCast_self]

/-- … and after one that goes on with it. -/
theorem acc_next (t : Fin cfg0.N) (h0 : ¬t.val % 4 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz2]
    simp only [View.readAt_eq_ld, Memref.IsWhole.read_unread, View.ld_unit_zero (S := S704x1024) hz2, View.ld_unit_zero (S := S1024x1024) hz2, View.ld_unit_zero (S := S1x1024x704) hz3, shapeCast_self]
    exact congrArg (fun z => k0_pay2 (F := Ideal) z _ _) ((Memref.isWhole_whole cc0_scratch0).read_unread _)
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz2]
    simp only [View.readAt_eq_ld, Memref.IsWhole.read_unread, View.ld_unit_zero (S := S704x1024) hz2, View.ld_unit_zero (S := S1024x1024) hz2, View.ld_unit_zero (S := S1x1024x704) hz3, shapeCast_self]
    exact congrArg (fun z => k0_pay2 (F := Ideal) z _ _) ((Memref.isWhole_whole cc0_scratch0).read_unread _)

/-- The last point of a group writes back the accumulator it has just completed. -/
theorem out2 (t : Fin cfg0.N) (h1 : t.val % 4 = 3) :
    (dats m 0 c).flushed 2 t = (cfg0.win 2).cut (grid0.coords t) (k0_pay3 (F := Ideal) (outsAt0 m c t.val t.isLt).2) := by
  have h0 : ¬t.val % 4 = 0 := by omega
  rw [acc_next m c t h0, flushed2_C m c t h0 h1]
  unfold out0_C_2
  rw [View.read_writes_eq_canon _ _ _ (fun y => cover0_C_2 (y := y) ..)]
  unfold kernelRun0_C
  dsimp only
  sl_unfold_words
  rw [View.canon_unit_zero hz3]
  simp only [View.readAt_eq_ld, Memref.IsWhole.read_unread, View.ld_unit_zero (S := S704x1024) hz2, View.ld_unit_zero (S := S1024x1024) hz2, View.ld_unit_zero (S := S1x1024x704) hz3, shapeCast_self, View.readCov_unit_zero (S := S704x1024) _ hz2]
  exact congrArg (fun z => (cfg0.win 2).cut (grid0.coords t) (k0_pay3 (F := Ideal) (k0_pay2 (F := Ideal) z _ _)))
    ((Memref.isWhole_whole cc0_scratch0).read_unread _)

/-! ## The arrays as the call finds them -/

abbrev a0 : Vec Ideal S4096x2816 .bf16 := m ((c : Thread nD τ).loc main_arg0)
abbrev a1 : Vec Ideal S4096x1024 .bf16 := m ((c : Thread nD τ).loc main_arg1)

theorem V_cut (b : Fin 4) (t : Fin 4096) (n : Fin 704) :
    (V m c main_v1 : Vec Ideal S4x4096x704 .bf16) (ix3 b t n) = a0 m c (ix2 t ⟨b.val * 704 + n.val, by omega⟩) := by
  have h : V m c main_v1 = (transpose S4x4096x704 [1, 0, 2] (shapeCast S4096x4x704 (a0 m c)
      shapeCasts_S4096x2816_S4096x4x704) transposes_S4096x4x704_S4x4096x704_1_0_2 : Vec Ideal S4x4096x704 .bf16) := by
    show StableHlo.after hostOps0 _ (Proc.devRef .tc main_v1) = _
    after_results
    rfl
  rw [h]
  pointwise

theorem block_0 (t : Fin cfg0.N) (i : Fin 1) (x : Fin 1024) (n : Fin 704) :
    (iblk m c 0 t : Vec Ideal S1x1024x704 .bf16) (ix3 i x n)
      = a0 m c (ix2 (at_g1_1024_4096 t x) ⟨(at_g0_1_4 t i).val * 704 + n.val, by omega⟩) :=
  (iblk0 m c t i x n).trans (V_cut m c _ _ _)

/-! ## The result array -/

abbrev b0 (t : Fin cfg0.N) : Vec Ideal S1x1024x704 .bf16 := iblk m c 0 t
abbrev b1 (t : Fin cfg0.N) : Vec Ideal S1024x1024 .bf16 := iblk m c 1 t

/-- A point's product, over its own block of rows. -/
theorem point (t : Fin cfg0.N) (g : Fin 4) (hg : t.val / 4 = g.val) (k : Fin 704) (n : Fin 1024) :
    (∑ x : Fin 1024, b0 m c t (ix3 0 x k) * b1 m c t (ix2 x n))
      = ∑ x : Fin 1024, a0 m c (ix2 ⟨t.val % 4 * 1024 + x.val, by omega⟩ ⟨g.val * 704 + k.val, by omega⟩)
          * a1 m c (ix2 ⟨t.val % 4 * 1024 + x.val, by omega⟩ n) := by
  simp only [block_0, iblk1, hg, Fin.val_eq_zero, mul_one, add_zero] <;> rfl

theorem acc_last (t : Fin cfg0.N) (h : t.val % 4 = 3) (k : Fin 704) (n : Fin 1024) :
    (outsAt0 m c t.val t.isLt).2 (ix2 k n) = dw (a0 m c) (a1 m c) (at_g0_1_4 t 0) k n := by
  have hg : (at_g0_1_4 t 0).val = t.val / 4 := by show t.val / 4 * 1 + 0 = t.val / 4; omega
  refine Sums.acc_rows (N := cfg0.N) (t.val / 4) (fun j hj => (outsAt0 m c j hj).2 (ix2 k n))
    (fun r => a0 m c (ix2 r ⟨(at_g0_1_4 t 0).val * 704 + k.val, by omega⟩) * a1 m c (ix2 r n))
    (fun j hj hg' h0 => ?_) (fun j hj hg' h0 => ?_) t.val t.isLt rfl h
  · show (outsAt0 m c (⟨j, hj⟩ : Fin cfg0.N).val _).2 (ix2 k n) = _
    rw [acc_first m c ⟨j, hj⟩ h0, block_acc, block_zero, zero_add]
    exact point m c ⟨j, hj⟩ _ (hg'.trans hg.symm) k n
  · show (outsAt0 m c (⟨j, hj⟩ : Fin cfg0.N).val _).2 (ix2 k n) = _
    rw [acc_next m c ⟨j, hj⟩ h0, block_acc]
    exact congrArg (_ + ·) (point m c ⟨j, hj⟩ _ (hg'.trans hg.symm) k n)

theorem final_dw : (dats m 0 c).arrAt 2 cfg0.N
    = fun i => dw (a0 m c) (a1 m c) (i 0) (i 1) (i 2) :=
  arr2 m c (fun t => k0_pay3 (F := Ideal) (outsAt0 m c t.val t.isLt).2) _ (out2 m c) fun t i k n h => by
    rw [block_out, acc_last m c t h k n, Fin.fin_one_eq_zero i]
    rfl

end Cert.Proof.DownDw
-- ==== Proof.DownDwRef.lean ====
/- Hand-written. The reference of the down projection's weight gradient at the extended reals: the same sums over the rows. -/
module

public import proofs.«01_k».proof.Proof.Gen.DownDwRefIdeal.Run
public import proofs.«01_k».proof.Proof.Gen.DownDwRefIdeal.Read
public import proofs.«01_k».proof.Proof.DownDwKernel

@[expose] public section

noncomputable section

namespace Cert.Proof.DownDw

open Cert.DownDwRefIdeal Cert.DownDwRefIdeal.Read Idealize.ShloMosaic Idealize.ShloMosaic.TcCoe Idealize.SL.Sem

variable (x0 : Vec Ideal S4096x2816 .bf16) (x1 : Vec Ideal S4096x1024 .bf16)

theorem final_ref_dw : val_main_v7 (F := Ideal) x0 x1 = fun i => dw x0 x1 (i 0) (i 1) (i 2) := by
  funext i
  obtain ⟨b, k, n, rfl⟩ : ∃ (b : Fin 4) (k : Fin 704) (n : Fin 1024), i = ix3 b k n := ⟨i 0, i 1, i 2, eq_ix3 i⟩
  unfold val_main_v7 val_main_v6 val_main_v5 val_main_v4 val_main_v1 val_main_v0
  pointwise [dot_S4096x1024_S4096x2816_S1024x2816_0_0_1_1_n_n]
  exact Fintype.sum_congr _ _ fun t => mul_comm _ _

end Cert.Proof.DownDw
-- ==== Proof.DownDwClaim.lean ====
/- Hand-written. The down projection's weight gradient: the reference's frame and the equation of the result. -/
module

public import proofs.«01_k».proof.Defs
public import proofs.«01_k».proof.Proof.DownDwKernel
public import proofs.«01_k».proof.Proof.DownDwRef
public import Idealize.ShloMosaic.Adequacy

@[expose] public section

noncomputable section

namespace Cert.Proof.DownDw

open Idealize.ShloMosaic Idealize.ShloMosaic.TcCoe Idealize.SL.Sem

/-- The reference has no semaphores, so none is left counting. -/
theorem frame_ref : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The call and its reference end with equal results. -/
theorem value : Cert.algebraic_DownDwIdeal_DownDwRefIdeal := by
  intro m ρ m' ρ' _ hagree
  refine ⟨fun c => (Cert.DownDwIdeal.Gen.dats m 0 c).arrAt 2 Cert.DownDwIdeal.cfg0.N, ?_, ?_⟩
  · exact Cert.DownDwIdeal.Value.run_blocks m ρ
  · refine (θ_run Cert.DownDwRefIdeal.defs _ _).mono (fun _ h c => ?_) (Cert.DownDwRefIdeal.Value.run (F := Ideal) m' ρ')
    obtain ⟨e0, e1⟩ := hagree c
    obtain ⟨h0, hkept⟩ := h c
    refine ⟨?_, hkept⟩
    · refine h0.trans ((Cert.DownDwRefIdeal.Read.val_main_v7_eq (F := Ideal) _ _).trans ?_)
      rw [e0, e1]
      exact (final_ref_dw _ _).trans (final_dw m c).symm

end Cert.Proof.DownDw
-- ==== Proof.OutDwWindows.lean ====
/- Hand-written. Windows of the output projection's weight-gradient call: which block of which array each grid point sees. -/
module

public import proofs.«01_k».proof.Proof.Gen.OutDwIdeal.Value
public import Idealize.ShloMosaic.Lib.Pointwise

@[expose] public section

noncomputable section

namespace Cert.Proof.OutDw

open Cert.OutDwIdeal Cert.OutDwIdeal.Gen Cert.OutDwIdeal.Value Idealize.ShloMosaic Idealize.ShloMosaic.TcCoe Idealize.SL.Sem

theorem pt_lt (t : Fin cfg0.N) : t.val < 4 := by
  have h := t.isLt
  have e : cfg0.N = 4 := N_0
  omega

/-- The block indices of each window at point `t`. -/
theorem index_at : ∀ t : Fin cfg0.N, (win0_0.index t 0 = t.val % 4 ∧ win0_0.index t 1 = 0)
    ∧ (win0_1.index t 0 = t.val % 4 ∧ win0_1.index t 1 = 0)
    ∧ (win0_2.index t 0 = 0 ∧ win0_2.index t 1 = 0) :=
  (by decide +kernel : ∀ t : Fin grid0.N, _)

/-- Element `i` of the block of 1024 at index `t.val % 4` of an axis of 4096. -/
abbrev at_g1_1024_4096 (t : Fin cfg0.N) (i : Fin 1024) : Fin 4096 :=
  ⟨(t.val % 4) * 1024 + i.val, by have := pt_lt t; omega⟩

variable (m : (ℓ : Loc nD τ sig) → Buf (Elt Ideal) ℓ) (c : Dev nD)

theorem emb0 (t : Fin cfg0.N) (i0 : Fin 1024) (i1 : Fin 1024) :
    (((cfg0.win 0).blk t).view.emb (ix2 i0 i1) : S4096x1024.Idx) = ix2 (at_g1_1024_4096 t i0) i1 := by
  obtain ⟨⟨e0, e1⟩, -⟩ := index_at t
  refine funext fun b => Fin.ext ?_
  match b with
  | ⟨0, _⟩ => show win0_0.index t 0 * 1024 + 1 * i0.val = (t.val % 4) * 1024 + i0.val; omega
  | ⟨1, _⟩ => show win0_0.index t 1 * 1024 + 1 * i1.val = i1.val; omega

theorem iblk0 (t : Fin cfg0.N) (i0 : Fin 1024) (i1 : Fin 1024) :
    (iblk m c 0 t : Vec Ideal S1024x1024 .bf16) (ix2 i0 i1) = (m ((c : Thread nD τ).loc main_arg0) : Vec Ideal S4096x1024 .bf16) (ix2 (at_g1_1024_4096 t i0) i1) :=
  (congrArg (V m c main_arg0) (emb0 t i0 i1)).trans (congrFun (V_main_arg0 m c) _)

theorem emb1 (t : Fin cfg0.N) (i0 : Fin 1024) (i1 : Fin 1024) :
    (((cfg0.win 1).blk t).view.emb (ix2 i0 i1) : S4096x1024.Idx) = ix2 (at_g1_1024_4096 t i0) i1 := by
  obtain ⟨-, ⟨e0, e1⟩, -⟩ := index_at t
  refine funext fun b => Fin.ext ?_
  match b with
  | ⟨0, _⟩ => show win0_1.index t 0 * 1024 + 1 * i0.val = (t.val % 4) * 1024 + i0.val; omega
  | ⟨1, _⟩ => show win0_1.index t 1 * 1024 + 1 * i1.val = i1.val; omega

theorem iblk1 (t : Fin cfg0.N) (i0 : Fin 1024) (i1 : Fin 1024) :
    (iblk m c 1 t : Vec Ideal S1024x1024 .bf16) (ix2 i0 i1) = (m ((c : Thread nD τ).loc main_arg1) : Vec Ideal S4096x1024 .bf16) (ix2 (at_g1_1024_4096 t i0) i1) :=
  (congrArg (V m c main_arg1) (emb1 t i0 i1)).trans (congrFun (V_main_arg1 m c) _)

theorem emb2 (t : Fin cfg0.N) (i0 : Fin 1024) (i1 : Fin 1024) :
    (((cfg0.win 2).blk t).view.emb (ix2 i0 i1) : S1024x1024.Idx) = ix2 i0 i1 := by
  obtain ⟨-, -, ⟨e0, e1⟩⟩ := index_at t
  refine funext fun b => Fin.ext ?_
  match b with
  | ⟨0, _⟩ => show win0_2.index t 0 * 1024 + 1 * i0.val = i0.val; omega
  | ⟨1, _⟩ => show win0_2.index t 1 * 1024 + 1 * i1.val = i1.val; omega

/-- The point whose block holds index `i`. -/
abbrev pt2 (i : S1024x1024.Idx) : Fin cfg0.N :=
  ⟨(0) * 4 + (3), by
    have h0 : (i 0).val < 1024 := (i 0).isLt
    have h1 : (i 1).val < 1024 := (i 1).isLt
    rw [show cfg0.N = 4 from N_0]; omega⟩

theorem at_pt2 (i : S1024x1024.Idx) : (ix2 (i 0) (i 1) : S1024x1024.Idx) = i := by
  have h0 : (i 0).val < 1024 := (i 0).isLt
  have h1 : (i 1).val < 1024 := (i 1).isLt
  refine funext fun b => Fin.ext ?_
  match b with
  | ⟨0, _⟩ => rfl
  | ⟨1, _⟩ => rfl

theorem mem2 (i : S1024x1024.Idx) : i ∈ ((cfg0.win 2).blk (pt2 i)).view.set :=
  Eq.mp (congrArg (· ∈ ((cfg0.win 2).blk (pt2 i)).view.set) ((emb2 (pt2 i) _ _).trans (at_pt2 i)))
    (((cfg0.win 2).blk (pt2 i)).view.emb_mem_set (ix2 (i 0) (i 1)))

/-- If every block written back is the block of `G`, the array is `G` after the run. -/
theorem arr2 (X : Fin cfg0.N → Vec Ideal S1024x1024 .bf16) (G : Vec Ideal S1024x1024 .bf16)
    (hX : ∀ t : Fin cfg0.N, t.val % 4 = 3 → (dats m 0 c).flushed 2 t = (cfg0.win 2).cut (grid0.coords t) (X t))
    (hG : ∀ (t : Fin cfg0.N) (i0 : Fin 1024) (i1 : Fin 1024), t.val % 4 = 3 → X t (ix2 i0 i1) = G (ix2 i0 i1)) :
    (dats m 0 c).arrAt 2 cfg0.N = G :=
  (dats m 0 c).arrAt_eq_of_cover 2 G (fun t hf => by
    rw [hX t ((flush0_2 t).mp hf)]
    funext j
    obtain ⟨i0, i1, rfl⟩ : ∃ (i0 : Fin 1024) (i1 : Fin 1024), j = ix2 i0 i1 := ⟨j 0, j 1, eq_ix2 j⟩
    show X t (ix2 i0 i1) = G (((cfg0.win 2).blk t).view.emb (ix2 i0 i1))
    rw [hG t i0 i1 ((flush0_2 t).mp hf), emb2]) fun i => ⟨pt2 i, (flush0_2 _).mpr (by show (((0) * 4 + (3)) % 4 = 3); have h0 : (i 0).val < 1024 := (i 0).isLt; have h1 : (i 1).val < 1024 := (i 1).isLt; omega), mem2 i⟩

end Cert.Proof.OutDw
-- ==== Proof.OutDwKernel.lean ====
/- Hand-written. The weight gradient of the output projection (`OutDw`) at the extended reals: the accumulator carried over the
   four blocks of rows, and the result array after the run, each element as one sum over the rows. -/
module

public import proofs.«01_k».proof.Proof.OutDwWindows
public import proofs.«01_k».proof.Proof.Sums
public import Idealize.ShloMosaic.Lib.Tactic

@[expose] public section

noncomputable section

namespace Cert.Proof.OutDw

open Cert.OutDwIdeal Cert.OutDwIdeal.Gen Cert.OutDwIdeal.Value Idealize.ShloMosaic Idealize.ShloMosaic.TcCoe Idealize.SL.Sem

/-- The gradient of the weight of `x0 · w` whose product has the gradient `x1`. -/
def dw (x0 : Vec Ideal S4096x1024 .bf16) (x1 : Vec Ideal S4096x1024 .bf16) (k : Fin 1024) (n : Fin 1024) : EReal :=
  ∑ t : Fin 4096, x0 (ix2 t k) * x1 (ix2 t n)

/-! ## One block -/

theorem block_acc (v3 : Vec Ideal S1024x1024 .f32) (v4 : Vec Ideal S1024x1024 .bf16) (v5 : Vec Ideal S1024x1024 .bf16)
    (k : Fin 1024) (n : Fin 1024) : k0_pay2 v3 v4 v5 (ix2 k n) = v3 (ix2 k n) + ∑ x, v4 (ix2 x k) * v5 (ix2 x n) := by
  unfold_payloads
  pointwise [dot_S1024x1024_S1024x1024_S1024x1024_0_0_1_1_n_n]

theorem block_zero (k : Fin 1024) (n : Fin 1024) : k0_pay1 (F := Ideal) (ix2 k n) = 0 := by
  unfold_payloads
  pointwise

theorem block_out (v14 : Vec Ideal S1024x1024 .f32) (k : Fin 1024) (n : Fin 1024) :
    k0_pay3 v14 (ix2 k n) = v14 (ix2 k n) := by
  unfold_payloads
  pointwise

/-! ## The accumulator and what is written back -/

variable (m : (ℓ : Loc nD τ sig) → Buf (Elt Ideal) ℓ) (c : Dev nD)

theorem hz2 : (![0, 0] : Fin 2 → Nat) = fun _ => 0 := funext fun a => by fin_cases a <;> rfl

/-- The accumulator after a point that starts the sum. -/
theorem acc_first (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) hz2, View.readCov_unit_zero (S := S1024x1024) _ hz2]
  simp only [View.readAt_eq_ld, Memref.IsWhole.read_unread, View.ld_unit_zero (S := S1024x1024) hz2, shapeCast_self]

/-- … and after one that goes on with it. -/
theorem acc_next (t : Fin cfg0.N) (h0 : ¬t.val % 4 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz2]
    simp only [View.readAt_eq_ld, Memref.IsWhole.read_unread, View.ld_unit_zero (S := S1024x1024) hz2, shapeCast_self]
    exact congrArg (fun z => k0_pay2 (F := Ideal) z _ _) ((Memref.isWhole_whole cc0_scratch0).read_unread _)
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz2]
    simp only [View.readAt_eq_ld, Memref.IsWhole.read_unread, View.ld_unit_zero (S := S1024x1024) hz2, shapeCast_self]
    exact congrArg (fun z => k0_pay2 (F := Ideal) z _ _) ((Memref.isWhole_whole cc0_scratch0).read_unread _)

/-- The last point of a group writes back the accumulator it has just completed. -/
theorem out2 (t : Fin cfg0.N) (h1 : t.val % 4 = 3) :
    (dats m 0 c).flushed 2 t = (cfg0.win 2).cut (grid0.coords t) (k0_pay3 (F := Ideal) (outsAt0 m c t.val t.isLt).2) := by
  have h0 : ¬t.val % 4 = 0 := by omega
  rw [acc_next m c t h0, flushed2_C m c t h0 h1]
  unfold out0_C_2
  rw [View.read_writes_eq_canon _ _ _ (fun y => cover0_C_2 (y := y) ..)]
  unfold kernelRun0_C
  dsimp only
  sl_unfold_words
  rw [View.canon_unit_zero hz2]
  simp only [View.readAt_eq_ld, Memref.IsWhole.read_unread, View.ld_unit_zero (S := S1024x1024) hz2, shapeCast_self, View.readCov_unit_zero (S := S1024x1024) _ hz2]
  exact congrArg (fun z => (cfg0.win 2).cut (grid0.coords t) (k0_pay3 (F := Ideal) (k0_pay2 (F := Ideal) z _ _)))
    ((Memref.isWhole_whole cc0_scratch0).read_unread _)

/-! ## The arrays as the call finds them -/

abbrev a0 : Vec Ideal S4096x1024 .bf16 := m ((c : Thread nD τ).loc main_arg0)
abbrev a1 : Vec Ideal S4096x1024 .bf16 := m ((c : Thread nD τ).loc main_arg1)

/-! ## The result array -/

abbrev b0 (t : Fin cfg0.N) : Vec Ideal S1024x1024 .bf16 := iblk m c 0 t
abbrev b1 (t : Fin cfg0.N) : Vec Ideal S1024x1024 .bf16 := iblk m c 1 t

/-- A point's product, over its own block of rows. -/
theorem point (t : Fin cfg0.N) (k : Fin 1024) (n : Fin 1024) :
    (∑ x : Fin 1024, b0 m c t (ix2 x k) * b1 m c t (ix2 x n))
      = ∑ x : Fin 1024, a0 m c (ix2 ⟨t.val % 4 * 1024 + x.val, by omega⟩ k)
          * a1 m c (ix2 ⟨t.val % 4 * 1024 + x.val, by omega⟩ n) := by
  simp only [iblk0, iblk1] <;> rfl

theorem acc_last (t : Fin cfg0.N) (h : t.val % 4 = 3) (k : Fin 1024) (n : Fin 1024) :
    (outsAt0 m c t.val t.isLt).2 (ix2 k n) = dw (a0 m c) (a1 m c) k n := by
  refine Sums.acc_rows (N := cfg0.N) (t.val / 4) (fun j hj => (outsAt0 m c j hj).2 (ix2 k n))
    (fun r => a0 m c (ix2 r k) * a1 m c (ix2 r n))
    (fun j hj hg' h0 => ?_) (fun j hj hg' h0 => ?_) t.val t.isLt rfl h
  · show (outsAt0 m c (⟨j, hj⟩ : Fin cfg0.N).val _).2 (ix2 k n) = _
    rw [acc_first m c ⟨j, hj⟩ h0, block_acc, block_zero, zero_add]
    exact point m c ⟨j, hj⟩ k n
  · show (outsAt0 m c (⟨j, hj⟩ : Fin cfg0.N).val _).2 (ix2 k n) = _
    rw [acc_next m c ⟨j, hj⟩ h0, block_acc]
    exact congrArg (_ + ·) (point m c ⟨j, hj⟩ k n)

theorem final_dw : (dats m 0 c).arrAt 2 cfg0.N
    = fun i => dw (a0 m c) (a1 m c) (i 0) (i 1) :=
  arr2 m c (fun t => k0_pay3 (F := Ideal) (outsAt0 m c t.val t.isLt).2) _ (out2 m c) fun t k n h => by
    rw [block_out, acc_last m c t h k n]
    rfl

end Cert.Proof.OutDw
-- ==== Proof.OutDwRef.lean ====
/- Hand-written. The reference of the output projection's weight gradient at the extended reals: the same sums over the rows. -/
module

public import proofs.«01_k».proof.Proof.Gen.OutDwRefIdeal.Run
public import proofs.«01_k».proof.Proof.Gen.OutDwRefIdeal.Read
public import proofs.«01_k».proof.Proof.OutDwKernel

@[expose] public section

noncomputable section

namespace Cert.Proof.OutDw

open Cert.OutDwRefIdeal Cert.OutDwRefIdeal.Read Idealize.ShloMosaic Idealize.ShloMosaic.TcCoe Idealize.SL.Sem

variable (x0 : Vec Ideal S4096x1024 .bf16) (x1 : Vec Ideal S4096x1024 .bf16)

theorem final_ref_dw : val_main_v6 (F := Ideal) x0 x1 = fun i => dw x0 x1 (i 0) (i 1) := by
  funext i
  obtain ⟨k, n, rfl⟩ : ∃ (k : Fin 1024) (n : Fin 1024), i = ix2 k n := ⟨i 0, i 1, eq_ix2 i⟩
  unfold val_main_v6 val_main_v5 val_main_v4 val_main_v1 val_main_v0
  pointwise [dot_S4096x1024_S4096x1024_S1024x1024_0_0_1_1_n_n]
  exact Fintype.sum_congr _ _ fun t => mul_comm _ _

end Cert.Proof.OutDw
-- ==== Proof.OutDwClaim.lean ====
/- Hand-written. The output projection's weight gradient: the reference's frame and the equation of the result. -/
module

public import proofs.«01_k».proof.Defs
public import proofs.«01_k».proof.Proof.OutDwKernel
public import proofs.«01_k».proof.Proof.OutDwRef
public import Idealize.ShloMosaic.Adequacy

@[expose] public section

noncomputable section

namespace Cert.Proof.OutDw

open Idealize.ShloMosaic Idealize.ShloMosaic.TcCoe Idealize.SL.Sem

/-- The reference has no semaphores, so none is left counting. -/
theorem frame_ref : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- The call and its reference end with equal results. -/
theorem value : Cert.algebraic_OutDwIdeal_OutDwRefIdeal := by
  intro m ρ m' ρ' _ hagree
  refine ⟨fun c => (Cert.OutDwIdeal.Gen.dats m 0 c).arrAt 2 Cert.OutDwIdeal.cfg0.N, ?_, ?_⟩
  · exact Cert.OutDwIdeal.Value.run_blocks m ρ
  · refine (θ_run Cert.OutDwRefIdeal.defs _ _).mono (fun _ h c => ?_) (Cert.OutDwRefIdeal.Value.run (F := Ideal) m' ρ')
    obtain ⟨e0, e1⟩ := hagree c
    obtain ⟨h0, hkept⟩ := h c
    refine ⟨?_, hkept⟩
    · refine h0.trans ((Cert.OutDwRefIdeal.Read.val_main_v6_eq (F := Ideal) _ _).trans ?_)
      rw [e0, e1]
      exact (final_ref_dw _ _).trans (final_dw m c).symm

end Cert.Proof.OutDw
-- ==== Proof.InDwWindows.lean ====
/- Hand-written. Windows of the input projection's weight-gradient call: which block of which array each grid point sees. -/
module

public import proofs.«01_k».proof.Proof.Gen.InDwIdeal.Value
public import Idealize.ShloMosaic.Lib.Pointwise

@[expose] public section

noncomputable section

namespace Cert.Proof.InDw

open Cert.InDwIdeal Cert.InDwIdeal.Gen Cert.InDwIdeal.Value Idealize.ShloMosaic Idealize.ShloMosaic.TcCoe Idealize.SL.Sem

theorem pt_lt (t : Fin cfg0.N) : t.val < 16 := by
  have h := t.isLt
  have e : cfg0.N = 16 := N_0
  omega

/-- The block indices of each window at point `t`. -/
theorem index_at : ∀ t : Fin cfg0.N, (win0_0.index t 0 = t.val % 4 ∧ win0_0.index t 1 = 0)
    ∧ (win0_1.index t 0 = t.val % 4 ∧ win0_1.index t 1 = t.val / 4)
    ∧ (win0_2.index t 0 = t.val / 4 ∧ win0_2.index t 1 = 0 ∧ win0_2.index t 2 = 0) :=
  (by decide +kernel : ∀ t : Fin grid0.N, _)

/-- Element `i` of the block of 1024 at index `t.val % 4` of an axis of 4096. -/
abbrev at_g1_1024_4096 (t : Fin cfg0.N) (i : Fin 1024) : Fin 4096 :=
  ⟨(t.val % 4) * 1024 + i.val, by have := pt_lt t; omega⟩

/-- Element `i` of the block of 1152 at index `t.val / 4` of an axis of 4608. -/
abbrev at_g0_1152_4608 (t : Fin cfg0.N) (i : Fin 1152) : Fin 4608 :=
  ⟨(t.val / 4) * 1152 + i.val, by have := pt_lt t; omega⟩

/-- Element `i` of the block of 1 at index `t.val / 4` of an axis of 4. -/
abbrev at_g0_1_4 (t : Fin cfg0.N) (i : Fin 1) : Fin 4 :=
  ⟨(t.val / 4) * 1 + i.val, by have := pt_lt t; omega⟩

variable (m : (ℓ : Loc nD τ sig) → Buf (Elt Ideal) ℓ) (c : Dev nD)

theorem emb0 (t : Fin cfg0.N) (i0 : Fin 1024) (i1 : Fin 1024) :
    (((cfg0.win 0).blk t).view.emb (ix2 i0 i1) : S4096x1024.Idx) = ix2 (at_g1_1024_4096 t i0) i1 := by
  obtain ⟨⟨e0, e1⟩, -⟩ := index_at t
  refine funext fun b => Fin.ext ?_
  match b with
  | ⟨0, _⟩ => show win0_0.index t 0 * 1024 + 1 * i0.val = (t.val % 4) * 1024 + i0.val; omega
  | ⟨1, _⟩ => show win0_0.index t 1 * 1024 + 1 * i1.val = i1.val; omega

theorem iblk0 (t : Fin cfg0.N) (i0 : Fin 1024) (i1 : Fin 1024) :
    (iblk m c 0 t : Vec Ideal S1024x1024 .bf16) (ix2 i0 i1) = (m ((c : Thread nD τ).loc main_arg0) : Vec Ideal S4096x1024 .bf16) (ix2 (at_g1_1024_4096 t i0) i1) :=
  (congrArg (V m c main_arg0) (emb0 t i0 i1)).trans (congrFun (V_main_arg0 m c) _)

theorem emb1 (t : Fin cfg0.N) (i0 : Fin 1024) (i1 : Fin 1152) :
    (((cfg0.win 1).blk t).view.emb (ix2 i0 i1) : S4096x4608.Idx) = ix2 (at_g1_1024_4096 t i0) (at_g0_1152_4608 t i1) := by
  obtain ⟨-, ⟨e0, e1⟩, -⟩ := index_at t
  refine funext fun b => Fin.ext ?_
  match b with
  | ⟨0, _⟩ => show win0_1.index t 0 * 1024 + 1 * i0.val = (t.val % 4) * 1024 + i0.val; omega
  | ⟨1, _⟩ => show win0_1.index t 1 * 1152 + 1 * i1.val = (t.val / 4) * 1152 + i1.val; omega

theorem iblk1 (t : Fin cfg0.N) (i0 : Fin 1024) (i1 : Fin 1152) :
    (iblk m c 1 t : Vec Ideal S1024x1152 .bf16) (ix2 i0 i1) = (m ((c : Thread nD τ).loc main_arg1) : Vec Ideal S4096x4608 .bf16) (ix2 (at_g1_1024_4096 t i0) (at_g0_1152_4608 t i1)) :=
  (congrArg (V m c main_arg1) (emb1 t i0 i1)).trans (congrFun (V_main_arg1 m c) _)

theorem emb2 (t : Fin cfg0.N) (i0 : Fin 1) (i1 : Fin 1024) (i2 : Fin 1152) :
    (((cfg0.win 2).blk t).view.emb (ix3 i0 i1 i2) : S4x1024x1152.Idx) = ix3 (at_g0_1_4 t i0) i1 i2 := by
  obtain ⟨-, -, ⟨e0, e1, e2⟩⟩ := index_at t
  refine funext fun b => Fin.ext ?_
  match b with
  | ⟨0, _⟩ => show win0_2.index t 0 * 1 + 1 * i0.val = (t.val / 4) * 1 + i0.val; omega
  | ⟨1, _⟩ => show win0_2.index t 1 * 1024 + 1 * i1.val = i1.val; omega
  | ⟨2, _⟩ => show win0_2.index t 2 * 1152 + 1 * i2.val = i2.val; omega

/-- The point whose block holds index `i`. -/
abbrev pt2 (i : S4x1024x1152.Idx) : Fin cfg0.N :=
  ⟨((i 0).val) * 4 + (3), by
    have h0 : (i 0).val < 4 := (i 0).isLt
    have h1 : (i 1).val < 1024 := (i 1).isLt
    have h2 : (i 2).val < 1152 := (i 2).isLt
    rw [show cfg0.N = 16 from N_0]; omega⟩

theorem at_pt2 (i : S4x1024x1152.Idx) : (ix3 (at_g0_1_4 (pt2 i) ⟨(i 0).val % 1, by omega⟩) (i 1) (i 2) : S4x1024x1152.Idx) = i := by
  have h0 : (i 0).val < 4 := (i 0).isLt
  have h1 : (i 1).val < 1024 := (i 1).isLt
  have h2 : (i 2).val < 1152 := (i 2).isLt
  refine funext fun b => Fin.ext ?_
  match b with
  | ⟨0, _⟩ => show ((((i 0).val) * 4 + (3)) / 4) * 1 + (i 0).val % 1 = (i 0).val; omega
  | ⟨1, _⟩ => rfl
  | ⟨2, _⟩ => rfl

theorem mem2 (i : S4x1024x1152.Idx) : i ∈ ((cfg0.win 2).blk (pt2 i)).view.set :=
  Eq.mp (congrArg (· ∈ ((cfg0.win 2).blk (pt2 i)).view.set) ((emb2 (pt2 i) _ _ _).trans (at_pt2 i)))
    (((cfg0.win 2).blk (pt2 i)).view.emb_mem_set (ix3 ⟨(i 0).val % 1, by omega⟩ (i 1) (i 2)))

/-- If every block written back is the block of `G`, the array is `G` after the run. -/
theorem arr2 (X : Fin cfg0.N → Vec Ideal S1x1024x1152 .bf16) (G : Vec Ideal S4x1024x1152 .bf16)
    (hX : ∀ t : Fin cfg0.N, t.val % 4 = 3 → (dats m 0 c).flushed 2 t = (cfg0.win 2).cut (grid0.coords t) (X t))
    (hG : ∀ (t : Fin cfg0.N) (i0 : Fin 1) (i1 : Fin 1024) (i2 : Fin 1152), t.val % 4 = 3 → X t (ix3 i0 i1 i2) = G (ix3 (at_g0_1_4 t i0) i1 i2)) :
    (dats m 0 c).arrAt 2 cfg0.N = G :=
  (dats m 0 c).arrAt_eq_of_cover 2 G (fun t hf => by
    rw [hX t ((flush0_2 t).mp hf)]
    funext j
    obtain ⟨i0, i1, i2, rfl⟩ : ∃ (i0 : Fin 1) (i1 : Fin 1024) (i2 : Fin 1152), j = ix3 i0 i1 i2 := ⟨j 0, j 1, j 2, eq_ix3 j⟩
    show X t (ix3 i0 i1 i2) = G (((cfg0.win 2).blk t).view.emb (ix3 i0 i1 i2))
    rw [hG t i0 i1 i2 ((flush0_2 t).mp hf), emb2]) fun i => ⟨pt2 i, (flush0_2 _).mpr (by show ((((i 0).val) * 4 + (3)) % 4 = 3); have h0 : (i 0).val < 4 := (i 0).isLt; have h1 : (i 1).val < 1024 := (i 1).isLt; have h2 : (i 2).val < 1152 := (i 2).isLt; omega), mem2 i⟩

end Cert.Proof.InDw
-- ==== Proof.InDwKernel.lean ====
/- Hand-written. The weight gradient of the input projection (`InDw`) at the extended reals: the accumulator carried over the
   four blocks of rows, and the result array after the run, each element as one sum over the rows. -/
module

public import proofs.«01_k».proof.Proof.InDwWindows
public import proofs.«01_k».proof.Proof.Sums
public import Idealize.ShloMosaic.Lib.Tactic

@[expose] public section

noncomputable section

namespace Cert.Proof.InDw

open Cert.InDwIdeal Cert.InDwIdeal.Gen Cert.InDwIdeal.Value Idealize.ShloMosaic Idealize.ShloMosaic.TcCoe Idealize.SL.Sem

/-- The gradient of the weight of `x0 · w` whose product has the gradient `x1`, in its four blocks of columns. -/
def dw (x0 : Vec Ideal S4096x1024 .bf16) (x1 : Vec Ideal S4096x4608 .bf16) (b : Fin 4) (k : Fin 1024) (n : Fin 1152) : EReal :=
  ∑ t : Fin 4096, x0 (ix2 t k) * x1 (ix2 t ⟨b.val * 1152 + n.val, by omega⟩)

/-! ## One block -/

theorem block_acc (v3 : Vec Ideal S1024x1152 .f32) (v4 : Vec Ideal S1024x1024 .bf16) (v5 : Vec Ideal S1024x1152 .bf16)
    (k : Fin 1024) (n : Fin 1152) : k0_pay2 v3 v4 v5 (ix2 k n) = v3 (ix2 k n) + ∑ x, v4 (ix2 x k) * v5 (ix2 x n) := by
  unfold_payloads
  pointwise [dot_S1024x1024_S1024x1152_S1024x1152_0_0_1_1_n_n]

theorem block_zero (k : Fin 1024) (n : Fin 1152) : k0_pay1 (F := Ideal) (ix2 k n) = 0 := by
  unfold_payloads
  pointwise

theorem block_out (v14 : Vec Ideal S1024x1152 .f32) (b : Fin 1) (k : Fin 1024) (n : Fin 1152) :
    k0_pay3 v14 (ix3 b k n) = v14 (ix2 k n) := by
  unfold_payloads
  pointwise

/-! ## The accumulator and what is written back -/

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a point that starts the sum. -/
theorem acc_first (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1152) hz2, View.readCov_unit_zero (S := S1024x1152) _ hz2]
  simp only [View.readAt_eq_ld, Memref.IsWhole.read_unread, View.ld_unit_zero (S := S1024x1152) hz2, View.ld_unit_zero (S := S1024x1024) hz2, View.ld_unit_zero (S := S1024x1152) hz2, shapeCast_self]

/-- … and after one that goes on with it. -/
theorem acc_next (t : Fin cfg0.N) (h0 : ¬t.val % 4 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz2]
    simp only [View.readAt_eq_ld, Memref.IsWhole.read_unread, View.ld_unit_zero (S := S1024x1152) hz2, View.ld_unit_zero (S := S1024x1024) hz2, View.ld_unit_zero (S := S1024x1152) hz2, shapeCast_self]
    exact congrArg (fun z => k0_pay2 (F := Ideal) z _ _) ((Memref.isWhole_whole cc0_scratch0).read_unread _)
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz2]
    simp only [View.readAt_eq_ld, Memref.IsWhole.read_unread, View.ld_unit_zero (S := S1024x1152) hz2, View.ld_unit_zero (S := S1024x1024) hz2, View.ld_unit_zero (S := S1024x1152) hz2, shapeCast_self]
    exact congrArg (fun z => k0_pay2 (F := Ideal) z _ _) ((Memref.isWhole_whole cc0_scratch0).read_unread _)

/-- The last point of a group writes back the accumulator it has just completed. -/
theorem out2 (t : Fin cfg0.N) (h1 : t.val % 4 = 3) :
    (dats m 0 c).flushed 2 t = (cfg0.win 2).cut (grid0.coords t) (k0_pay3 (F := Ideal) (outsAt0 m c t.val t.isLt).2) := by
  have h0 : ¬t.val % 4 = 0 := by omega
  rw [acc_next m c t h0, flushed2_C m c t h0 h1]
  unfold out0_C_2
  rw [View.read_writes_eq_canon _ _ _ (fun y => cover0_C_2 (y := y) ..)]
  unfold kernelRun0_C
  dsimp only
  sl_unfold_words
  rw [View.canon_unit_zero hz3]
  simp only [View.readAt_eq_ld, Memref.IsWhole.read_unread, View.ld_unit_zero (S := S1024x1152) hz2, View.ld_unit_zero (S := S1024x1024) hz2, View.ld_unit_zero (S := S1024x1152) hz2, shapeCast_self, View.readCov_unit_zero (S := S1024x1152) _ hz2]
  exact congrArg (fun z => (cfg0.win 2).cut (grid0.coords t) (k0_pay3 (F := Ideal) (k0_pay2 (F := Ideal) z _ _)))
    ((Memref.isWhole_whole cc0_scratch0).read_unread _)

/-! ## The arrays as the call finds them -/

abbrev a0 : Vec Ideal S4096x1024 .bf16 := m ((c : Thread nD τ).loc main_arg0)
abbrev a1 : Vec Ideal S4096x4608 .bf16 := m ((c : Thread nD τ).loc main_arg1)

/-! ## The result array -/

abbrev b0 (t : Fin cfg0.N) : Vec Ideal S1024x1024 .bf16 := iblk m c 0 t
abbrev b1 (t : Fin cfg0.N) : Vec Ideal S1024x1152 .bf16 := iblk m c 1 t

/-- A point's product, over its own block of rows. -/
theorem point (t : Fin cfg0.N) (g : Fin 4) (hg : t.val / 4 = g.val) (k : Fin 1024) (n : Fin 1152) :
    (∑ x : Fin 1024, b0 m c t (ix2 x k) * b1 m c t (ix2 x n))
      = ∑ x : Fin 1024, a0 m c (ix2 ⟨t.val % 4 * 1024 + x.val, by omega⟩ k)
          * a1 m c (ix2 ⟨t.val % 4 * 1024 + x.val, by omega⟩ ⟨g.val * 1152 + n.val, by omega⟩) := by
  simp only [iblk0, iblk1, at_g0_1152_4608, hg, Fin.val_eq_zero, mul_one, add_zero] <;> rfl

theorem acc_last (t : Fin cfg0.N) (h : t.val % 4 = 3) (k : Fin 1024) (n : Fin 1152) :
    (outsAt0 m c t.val t.isLt).2 (ix2 k n) = dw (a0 m c) (a1 m c) (at_g0_1_4 t 0) k n := by
  have hg : (at_g0_1_4 t 0).val = t.val / 4 := by show t.val / 4 * 1 + 0 = t.val / 4; omega
  refine Sums.acc_rows (N := cfg0.N) (t.val / 4) (fun j hj => (outsAt0 m c j hj).2 (ix2 k n))
    (fun r => a0 m c (ix2 r k) * a1 m c (ix2 r ⟨(at_g0_1_4 t 0).val * 1152 + n.val, by omega⟩))
    (fun j hj hg' h0 => ?_) (fun j hj hg' h0 => ?_) t.val t.isLt rfl h
  · show (outsAt0 m c (⟨j, hj⟩ : Fin cfg0.N).val _).2 (ix2 k n) = _
    rw [acc_first m c ⟨j, hj⟩ h0, block_acc, block_zero, zero_add]
    exact point m c ⟨j, hj⟩ _ (hg'.trans hg.symm) k n
  · show (outsAt0 m c (⟨j, hj⟩ : Fin cfg0.N).val _).2 (ix2 k n) = _
    rw [acc_next m c ⟨j, hj⟩ h0, block_acc]
    exact congrArg (_ + ·) (point m c ⟨j, hj⟩ _ (hg'.trans hg.symm) k n)

theorem final_dw : (dats m 0 c).arrAt 2 cfg0.N
    = fun i => dw (a0 m c) (a1 m c) (i 0) (i 1) (i 2) :=
  arr2 m c (fun t => k0_pay3 (F := Ideal) (outsAt0 m c t.val t.isLt).2) _ (out2 m c) fun t i k n h => by
    rw [block_out, acc_last m c t h k n, Fin.fin_one_eq_zero i]
    rfl

end Cert.Proof.InDw
-- ==== Proof.InDwRef.lean ====
/- Hand-written. The reference of the input projection's weight gradient at the extended reals: the same sums over the rows. -/
module

public import proofs.«01_k».proof.Proof.Gen.InDwRefIdeal.Run
public import proofs.«01_k».proof.Proof.Gen.InDwRefIdeal.Read
public import proofs.«01_k».proof.Proof.InDwKernel

@[expose] public section

noncomputable section

namespace Cert.Proof.InDw

open Cert.InDwRefIdeal Cert.InDwRefIdeal.Read Idealize.ShloMosaic Idealize.ShloMosaic.TcCoe Idealize.SL.Sem

variable (x0 : Vec Ideal S4096x1024 .bf16) (x1 : Vec Ideal S4096x4608 .bf16)

theorem final_ref_dw : val_main_v8 (F := Ideal) x0 x1 = fun i => dw x0 x1 (i 0) (i 1) (i 2) := by
  funext i
  obtain ⟨b, k, n, rfl⟩ : ∃ (b : Fin 4) (k : Fin 1024) (n : Fin 1152), i = ix3 b k n := ⟨i 0, i 1, i 2, eq_ix3 i⟩
  unfold val_main_v8 val_main_v7 val_main_v6 val_main_v5 val_main_v4 val_main_v1 val_main_v0
  pointwise [dot_S4096x4608_S4096x1024_S4608x1024_0_0_1_1_n_n]
  exact Fintype.sum_congr _ _ fun t => mul_comm _ _

end Cert.Proof.InDw
-- ==== Proof.InDwClaim.lean ====
/- Hand-written. The input projection's weight gradient: the reference's frame and the equation of the result. -/
module

public import proofs.«01_k».proof.Defs
public import proofs.«01_k».proof.Proof.InDwKernel
public import proofs.«01_k».proof.Proof.InDwRef
public import Idealize.ShloMosaic.Adequacy

@[expose] public section

noncomputable section

namespace Cert.Proof.InDw

open Idealize.ShloMosaic Idealize.ShloMosaic.TcCoe Idealize.SL.Sem

/-- The reference has no semaphores, so none is left counting. -/
theorem frame_ref : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- The call and its reference end with equal results. -/
theorem value : Cert.algebraic_InDwIdeal_InDwRefIdeal := by
  intro m ρ m' ρ' _ hagree
  refine ⟨fun c => (Cert.InDwIdeal.Gen.dats m 0 c).arrAt 2 Cert.InDwIdeal.cfg0.N, ?_, ?_⟩
  · exact Cert.InDwIdeal.Value.run_blocks m ρ
  · refine (θ_run Cert.InDwRefIdeal.defs _ _).mono (fun _ h c => ?_) (Cert.InDwRefIdeal.Value.run (F := Ideal) m' ρ')
    obtain ⟨e0, e1⟩ := hagree c
    obtain ⟨h0, hkept⟩ := h c
    refine ⟨?_, hkept⟩
    · refine h0.trans ((Cert.InDwRefIdeal.Read.val_main_v8_eq (F := Ideal) _ _).trans ?_)
      rw [e0, e1]
      exact (final_ref_dw _ _).trans (final_dw m c).symm

end Cert.Proof.InDw
-- ==== Proof.BranchDwWindows.lean ====
/- Hand-written. Windows of a branch projection's weight-gradient call: which block of which array each grid point sees. -/
module

public import proofs.«01_k».proof.Proof.Gen.BranchDwIdeal.Value
public import Idealize.ShloMosaic.Lib.Pointwise

@[expose] public section

noncomputable section

namespace Cert.Proof.BranchDw

open Cert.BranchDwIdeal Cert.BranchDwIdeal.Gen Cert.BranchDwIdeal.Value Idealize.ShloMosaic Idealize.ShloMosaic.TcCoe Idealize.SL.Sem

theorem pt_lt (t : Fin cfg0.N) : t.val < 16 := by
  have h := t.isLt
  have e : cfg0.N = 16 := N_0
  omega

/-- The block indices of each window at point `t`. -/
theorem index_at : ∀ t : Fin cfg0.N, (win0_0.index t 0 = t.val % 4 ∧ win0_0.index t 1 = 0)
    ∧ (win0_1.index t 0 = t.val % 4 ∧ win0_1.index t 1 = t.val / 4)
    ∧ (win0_2.index t 0 = t.val / 4 ∧ win0_2.index t 1 = 0 ∧ win0_2.index t 2 = 0) :=
  (by decide +kernel : ∀ t : Fin grid0.N, _)

/-- Element `i` of the block of 1024 at index `t.val % 4` of an axis of 4096. -/
abbrev at_g1_1024_4096 (t : Fin cfg0.N) (i : Fin 1024) : Fin 4096 :=
  ⟨(t.val % 4) * 1024 + i.val, by have := pt_lt t; omega⟩

/-- Element `i` of the block of 256 at index `t.val / 4` of an axis of 1024. -/
abbrev at_g0_256_1024 (t : Fin cfg0.N) (i : Fin 256) : Fin 1024 :=
  ⟨(t.val / 4) * 256 + i.val, by have := pt_lt t; omega⟩

/-- Element `i` of the block of 1 at index `t.val / 4` of an axis of 4. -/
abbrev at_g0_1_4 (t : Fin cfg0.N) (i : Fin 1) : Fin 4 :=
  ⟨(t.val / 4) * 1 + i.val, by have := pt_lt t; omega⟩

variable (m : (ℓ : Loc nD τ sig) → Buf (Elt Ideal) ℓ) (c : Dev nD)

theorem emb0 (t : Fin cfg0.N) (i0 : Fin 1024) (i1 : Fin 512) :
    (((cfg0.win 0).blk t).view.emb (ix2 i0 i1) : S4096x512.Idx) = ix2 (at_g1_1024_4096 t i0) i1 := by
  obtain ⟨⟨e0, e1⟩, -⟩ := index_at t
  refine funext fun b => Fin.ext ?_
  match b with
  | ⟨0, _⟩ => show win0_0.index t 0 * 1024 + 1 * i0.val = (t.val % 4) * 1024 + i0.val; omega
  | ⟨1, _⟩ => show win0_0.index t 1 * 512 + 1 * i1.val = i1.val; omega

theorem iblk0 (t : Fin cfg0.N) (i0 : Fin 1024) (i1 : Fin 512) :
    (iblk m c 0 t : Vec Ideal S1024x512 .bf16) (ix2 i0 i1) = (m ((c : Thread nD τ).loc main_arg0) : Vec Ideal S4096x512 .bf16) (ix2 (at_g1_1024_4096 t i0) i1) :=
  (congrArg (V m c main_arg0) (emb0 t i0 i1)).trans (congrFun (V_main_arg0 m c) _)

theorem emb1 (t : Fin cfg0.N) (i0 : Fin 1024) (i1 : Fin 256) :
    (((cfg0.win 1).blk t).view.emb (ix2 i0 i1) : S4096x1024.Idx) = ix2 (at_g1_1024_4096 t i0) (at_g0_256_1024 t i1) := by
  obtain ⟨-, ⟨e0, e1⟩, -⟩ := index_at t
  refine funext fun b => Fin.ext ?_
  match b with
  | ⟨0, _⟩ => show win0_1.index t 0 * 1024 + 1 * i0.val = (t.val % 4) * 1024 + i0.val; omega
  | ⟨1, _⟩ => show win0_1.index t 1 * 256 + 1 * i1.val = (t.val / 4) * 256 + i1.val; omega

theorem iblk1 (t : Fin cfg0.N) (i0 : Fin 1024) (i1 : Fin 256) :
    (iblk m c 1 t : Vec Ideal S1024x256 .bf16) (ix2 i0 i1) = (m ((c : Thread nD τ).loc main_arg1) : Vec Ideal S4096x1024 .bf16) (ix2 (at_g1_1024_4096 t i0) (at_g0_256_1024 t i1)) :=
  (congrArg (V m c main_arg1) (emb1 t i0 i1)).trans (congrFun (V_main_arg1 m c) _)

theorem emb2 (t : Fin cfg0.N) (i0 : Fin 1) (i1 : Fin 512) (i2 : Fin 256) :
    (((cfg0.win 2).blk t).view.emb (ix3 i0 i1 i2) : S4x512x256.Idx) = ix3 (at_g0_1_4 t i0) i1 i2 := by
  obtain ⟨-, -, ⟨e0, e1, e2⟩⟩ := index_at t
  refine funext fun b => Fin.ext ?_
  match b with
  | ⟨0, _⟩ => show win0_2.index t 0 * 1 + 1 * i0.val = (t.val / 4) * 1 + i0.val; omega
  | ⟨1, _⟩ => show win0_2.index t 1 * 512 + 1 * i1.val = i1.val; omega
  | ⟨2, _⟩ => show win0_2.index t 2 * 256 + 1 * i2.val = i2.val; omega

/-- The point whose block holds index `i`. -/
abbrev pt2 (i : S4x512x256.Idx) : Fin cfg0.N :=
  ⟨((i 0).val) * 4 + (3), by
    have h0 : (i 0).val < 4 := (i 0).isLt
    have h1 : (i 1).val < 512 := (i 1).isLt
    have h2 : (i 2).val < 256 := (i 2).isLt
    rw [show cfg0.N = 16 from N_0]; omega⟩

theorem at_pt2 (i : S4x512x256.Idx) : (ix3 (at_g0_1_4 (pt2 i) ⟨(i 0).val % 1, by omega⟩) (i 1) (i 2) : S4x512x256.Idx) = i := by
  have h0 : (i 0).val < 4 := (i 0).isLt
  have h1 : (i 1).val < 512 := (i 1).isLt
  have h2 : (i 2).val < 256 := (i 2).isLt
  refine funext fun b => Fin.ext ?_
  match b with
  | ⟨0, _⟩ => show ((((i 0).val) * 4 + (3)) / 4) * 1 + (i 0).val % 1 = (i 0).val; omega
  | ⟨1, _⟩ => rfl
  | ⟨2, _⟩ => rfl

theorem mem2 (i : S4x512x256.Idx) : i ∈ ((cfg0.win 2).blk (pt2 i)).view.set :=
  Eq.mp (congrArg (· ∈ ((cfg0.win 2).blk (pt2 i)).view.set) ((emb2 (pt2 i) _ _ _).trans (at_pt2 i)))
    (((cfg0.win 2).blk (pt2 i)).view.emb_mem_set (ix3 ⟨(i 0).val % 1, by omega⟩ (i 1) (i 2)))

/-- If every block written back is the block of `G`, the array is `G` after the run. -/
theorem arr2 (X : Fin cfg0.N → Vec Ideal S1x512x256 .bf16) (G : Vec Ideal S4x512x256 .bf16)
    (hX : ∀ t : Fin cfg0.N, t.val % 4 = 3 → (dats m 0 c).flushed 2 t = (cfg0.win 2).cut (grid0.coords t) (X t))
    (hG : ∀ (t : Fin cfg0.N) (i0 : Fin 1) (i1 : Fin 512) (i2 : Fin 256), t.val % 4 = 3 → X t (ix3 i0 i1 i2) = G (ix3 (at_g0_1_4 t i0) i1 i2)) :
    (dats m 0 c).arrAt 2 cfg0.N = G :=
  (dats m 0 c).arrAt_eq_of_cover 2 G (fun t hf => by
    rw [hX t ((flush0_2 t).mp hf)]
    funext j
    obtain ⟨i0, i1, i2, rfl⟩ : ∃ (i0 : Fin 1) (i1 : Fin 512) (i2 : Fin 256), j = ix3 i0 i1 i2 := ⟨j 0, j 1, j 2, eq_ix3 j⟩
    show X t (ix3 i0 i1 i2) = G (((cfg0.win 2).blk t).view.emb (ix3 i0 i1 i2))
    rw [hG t i0 i1 i2 ((flush0_2 t).mp hf), emb2]) fun i => ⟨pt2 i, (flush0_2 _).mpr (by show ((((i 0).val) * 4 + (3)) % 4 = 3); have h0 : (i 0).val < 4 := (i 0).isLt; have h1 : (i 1).val < 512 := (i 1).isLt; have h2 : (i 2).val < 256 := (i 2).isLt; omega), mem2 i⟩

end Cert.Proof.BranchDw
-- ==== Proof.BranchDwKernel.lean ====
/- Hand-written. The weight gradient of a branch projection (`BranchDw`) at the extended reals: the accumulator carried over the
   four blocks of rows, and the result array after the run, each element as one sum over the rows. -/
module

public import proofs.«01_k».proof.Proof.BranchDwWindows
public import proofs.«01_k».proof.Proof.Sums
public import Idealize.ShloMosaic.Lib.Tactic

@[expose] public section

noncomputable section

namespace Cert.Proof.BranchDw

open Cert.BranchDwIdeal Cert.BranchDwIdeal.Gen Cert.BranchDwIdeal.Value Idealize.ShloMosaic Idealize.ShloMosaic.TcCoe Idealize.SL.Sem

/-- The gradient of the weight of `x0 · w` whose product has the gradient `x1`, in its four blocks of columns. -/
def dw (x0 : Vec Ideal S4096x512 .bf16) (x1 : Vec Ideal S4096x1024 .bf16) (b : Fin 4) (k : Fin 512) (n : Fin 256) : EReal :=
  ∑ t : Fin 4096, x0 (ix2 t k) * x1 (ix2 t ⟨b.val * 256 + n.val, by omega⟩)

/-! ## One block -/

theorem block_acc (v3 : Vec Ideal S512x256 .f32) (v4 : Vec Ideal S1024x512 .bf16) (v5 : Vec Ideal S1024x256 .bf16)
    (k : Fin 512) (n : Fin 256) : k0_pay2 v3 v4 v5 (ix2 k n) = v3 (ix2 k n) + ∑ x, v4 (ix2 x k) * v5 (ix2 x n) := by
  unfold_payloads
  pointwise [dot_S1024x512_S1024x256_S512x256_0_0_1_1_n_n]

theorem block_zero (k : Fin 512) (n : Fin 256) : k0_pay1 (F := Ideal) (ix2 k n) = 0 := by
  unfold_payloads
  pointwise

theorem block_out (v14 : Vec Ideal S512x256 .f32) (b : Fin 1) (k : Fin 512) (n : Fin 256) :
    k0_pay3 v14 (ix3 b k n) = v14 (ix2 k n) := by
  unfold_payloads
  pointwise

/-! ## The accumulator and what is written back -/

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a point that starts the sum. -/
theorem acc_first (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S512x256) hz2, View.readCov_unit_zero (S := S512x256) _ hz2]
  simp only [View.readAt_eq_ld, Memref.IsWhole.read_unread, View.ld_unit_zero (S := S512x256) hz2, View.ld_unit_zero (S := S1024x512) hz2, View.ld_unit_zero (S := S1024x256) hz2, shapeCast_self]

/-- … and after one that goes on with it. -/
theorem acc_next (t : Fin cfg0.N) (h0 : ¬t.val % 4 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz2]
    simp only [View.readAt_eq_ld, Memref.IsWhole.read_unread, View.ld_unit_zero (S := S512x256) hz2, View.ld_unit_zero (S := S1024x512) hz2, View.ld_unit_zero (S := S1024x256) hz2, shapeCast_self]
    exact congrArg (fun z => k0_pay2 (F := Ideal) z _ _) ((Memref.isWhole_whole cc0_scratch0).read_unread _)
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz2]
    simp only [View.readAt_eq_ld, Memref.IsWhole.read_unread, View.ld_unit_zero (S := S512x256) hz2, View.ld_unit_zero (S := S1024x512) hz2, View.ld_unit_zero (S := S1024x256) hz2, shapeCast_self]
    exact congrArg (fun z => k0_pay2 (F := Ideal) z _ _) ((Memref.isWhole_whole cc0_scratch0).read_unread _)

/-- The last point of a group writes back the accumulator it has just completed. -/
theorem out2 (t : Fin cfg0.N) (h1 : t.val % 4 = 3) :
    (dats m 0 c).flushed 2 t = (cfg0.win 2).cut (grid0.coords t) (k0_pay3 (F := Ideal) (outsAt0 m c t.val t.isLt).2) := by
  have h0 : ¬t.val % 4 = 0 := by omega
  rw [acc_next m c t h0, flushed2_C m c t h0 h1]
  unfold out0_C_2
  rw [View.read_writes_eq_canon _ _ _ (fun y => cover0_C_2 (y := y) ..)]
  unfold kernelRun0_C
  dsimp only
  sl_unfold_words
  rw [View.canon_unit_zero hz3]
  simp only [View.readAt_eq_ld, Memref.IsWhole.read_unread, View.ld_unit_zero (S := S512x256) hz2, View.ld_unit_zero (S := S1024x512) hz2, View.ld_unit_zero (S := S1024x256) hz2, shapeCast_self, View.readCov_unit_zero (S := S512x256) _ hz2]
  exact congrArg (fun z => (cfg0.win 2).cut (grid0.coords t) (k0_pay3 (F := Ideal) (k0_pay2 (F := Ideal) z _ _)))
    ((Memref.isWhole_whole cc0_scratch0).read_unread _)

/-! ## The arrays as the call finds them -/

abbrev a0 : Vec Ideal S4096x512 .bf16 := m ((c : Thread nD τ).loc main_arg0)
abbrev a1 : Vec Ideal S4096x1024 .bf16 := m ((c : Thread nD τ).loc main_arg1)

/-! ## The result array -/

abbrev b0 (t : Fin cfg0.N) : Vec Ideal S1024x512 .bf16 := iblk m c 0 t
abbrev b1 (t : Fin cfg0.N) : Vec Ideal S1024x256 .bf16 := iblk m c 1 t

/-- A point's product, over its own block of rows. -/
theorem point (t : Fin cfg0.N) (g : Fin 4) (hg : t.val / 4 = g.val) (k : Fin 512) (n : Fin 256) :
    (∑ x : Fin 1024, b0 m c t (ix2 x k) * b1 m c t (ix2 x n))
      = ∑ x : Fin 1024, a0 m c (ix2 ⟨t.val % 4 * 1024 + x.val, by omega⟩ k)
          * a1 m c (ix2 ⟨t.val % 4 * 1024 + x.val, by omega⟩ ⟨g.val * 256 + n.val, by omega⟩) := by
  simp only [iblk0, iblk1, at_g0_256_1024, hg, Fin.val_eq_zero, mul_one, add_zero] <;> rfl

theorem acc_last (t : Fin cfg0.N) (h : t.val % 4 = 3) (k : Fin 512) (n : Fin 256) :
    (outsAt0 m c t.val t.isLt).2 (ix2 k n) = dw (a0 m c) (a1 m c) (at_g0_1_4 t 0) k n := by
  have hg : (at_g0_1_4 t 0).val = t.val / 4 := by show t.val / 4 * 1 + 0 = t.val / 4; omega
  refine Sums.acc_rows (N := cfg0.N) (t.val / 4) (fun j hj => (outsAt0 m c j hj).2 (ix2 k n))
    (fun r => a0 m c (ix2 r k) * a1 m c (ix2 r ⟨(at_g0_1_4 t 0).val * 256 + n.val, by omega⟩))
    (fun j hj hg' h0 => ?_) (fun j hj hg' h0 => ?_) t.val t.isLt rfl h
  · show (outsAt0 m c (⟨j, hj⟩ : Fin cfg0.N).val _).2 (ix2 k n) = _
    rw [acc_first m c ⟨j, hj⟩ h0, block_acc, block_zero, zero_add]
    exact point m c ⟨j, hj⟩ _ (hg'.trans hg.symm) k n
  · show (outsAt0 m c (⟨j, hj⟩ : Fin cfg0.N).val _).2 (ix2 k n) = _
    rw [acc_next m c ⟨j, hj⟩ h0, block_acc]
    exact congrArg (_ + ·) (point m c ⟨j, hj⟩ _ (hg'.trans hg.symm) k n)

theorem final_dw : (dats m 0 c).arrAt 2 cfg0.N
    = fun i => dw (a0 m c) (a1 m c) (i 0) (i 1) (i 2) :=
  arr2 m c (fun t => k0_pay3 (F := Ideal) (outsAt0 m c t.val t.isLt).2) _ (out2 m c) fun t i k n h => by
    rw [block_out, acc_last m c t h k n, Fin.fin_one_eq_zero i]
    rfl

end Cert.Proof.BranchDw
-- ==== Proof.BranchDwRef.lean ====
/- Hand-written. The reference of the branch projection's weight gradient at the extended reals: the same sums over the rows. -/
module

public import proofs.«01_k».proof.Proof.Gen.BranchDwRefIdeal.Run
public import proofs.«01_k».proof.Proof.Gen.BranchDwRefIdeal.Read
public import proofs.«01_k».proof.Proof.BranchDwKernel

@[expose] public section

noncomputable section

namespace Cert.Proof.BranchDw

open Cert.BranchDwRefIdeal Cert.BranchDwRefIdeal.Read Idealize.ShloMosaic Idealize.ShloMosaic.TcCoe Idealize.SL.Sem

variable (x0 : Vec Ideal S4096x512 .bf16) (x1 : Vec Ideal S4096x1024 .bf16)

theorem final_ref_dw : val_main_v8 (F := Ideal) x0 x1 = fun i => dw x0 x1 (i 0) (i 1) (i 2) := by
  funext i
  obtain ⟨b, k, n, rfl⟩ : ∃ (b : Fin 4) (k : Fin 512) (n : Fin 256), i = ix3 b k n := ⟨i 0, i 1, i 2, eq_ix3 i⟩
  unfold val_main_v8 val_main_v7 val_main_v6 val_main_v5 val_main_v4 val_main_v1 val_main_v0
  pointwise [dot_S4096x1024_S4096x512_S1024x512_0_0_1_1_n_n]
  exact Fintype.sum_congr _ _ fun t => mul_comm _ _

end Cert.Proof.BranchDw
-- ==== Proof.BranchDwClaim.lean ====
/- Hand-written. A branch projection's weight gradient: the reference's frame and the equation of the result. -/
module

public import proofs.«01_k».proof.Defs
public import proofs.«01_k».proof.Proof.BranchDwKernel
public import proofs.«01_k».proof.Proof.BranchDwRef
public import Idealize.ShloMosaic.Adequacy

@[expose] public section

noncomputable section

namespace Cert.Proof.BranchDw

open Idealize.ShloMosaic Idealize.ShloMosaic.TcCoe Idealize.SL.Sem

/-- The reference has no semaphores, so none is left counting. -/
theorem frame_ref : Cert.quiescent_BranchDwRefIdeal := fun m ρ _ =>
  (θ_run Cert.BranchDwRefIdeal.defs _ _).mono (fun r h => ⟨fun c => (h c).2, sem_eq_zero_of_no_sems (by decide) r.2⟩)
    (Cert.BranchDwRefIdeal.Value.run (F := Ideal) m ρ)

/-- The call and its reference end with equal results. -/
theorem value : Cert.algebraic_BranchDwIdeal_BranchDwRefIdeal := by
  intro m ρ m' ρ' _ hagree
  refine ⟨fun c => (Cert.BranchDwIdeal.Gen.dats m 0 c).arrAt 2 Cert.BranchDwIdeal.cfg0.N, ?_, ?_⟩
  · exact Cert.BranchDwIdeal.Value.run_blocks m ρ
  · refine (θ_run Cert.BranchDwRefIdeal.defs _ _).mono (fun _ h c => ?_) (Cert.BranchDwRefIdeal.Value.run (F := Ideal) m' ρ')
    obtain ⟨e0, e1⟩ := hagree c
    obtain ⟨h0, hkept⟩ := h c
    refine ⟨?_, hkept⟩
    · refine h0.trans ((Cert.BranchDwRefIdeal.Read.val_main_v8_eq (F := Ideal) _ _).trans ?_)
      rw [e0, e1]
      exact (final_ref_dw _ _).trans (final_dw m c).symm

end Cert.Proof.BranchDw
-- ==== Proof.InDxWindows.lean ====
/- Hand-written. Windows of the call that takes the gradient back through the input projection: which block of which array each grid point sees. -/
module

public import proofs.«01_k».proof.Proof.Gen.InDxIdeal.Value
public import Idealize.ShloMosaic.Lib.Pointwise

@[expose] public section

noncomputable section

namespace Cert.Proof.InDx

open Cert.InDxIdeal Cert.InDxIdeal.Gen Cert.InDxIdeal.Value Idealize.ShloMosaic Idealize.ShloMosaic.TcCoe Idealize.SL.Sem

theorem pt_lt (t : Fin cfg0.N) : t.val < 8 := by
  have h := t.isLt
  have e : cfg0.N = 8 := N_0
  omega

/-- The block indices of each window at point `t`. -/
theorem index_at : ∀ t : Fin cfg0.N, (win0_0.index t 0 = t.val % 8 ∧ win0_0.index t 1 = 0)
    ∧ (win0_1.index t 0 = 0 ∧ win0_1.index t 1 = 0)
    ∧ (win0_2.index t 0 = t.val % 8 ∧ win0_2.index t 1 = 0) :=
  (by decide +kernel : ∀ t : Fin grid0.N, _)

/-- Element `i` of the block of 512 at index `t.val % 8` of an axis of 4096. -/
abbrev at_g1_512_4096 (t : Fin cfg0.N) (i : Fin 512) : Fin 4096 :=
  ⟨(t.val % 8) * 512 + i.val, by have := pt_lt t; omega⟩

variable (m : (ℓ : Loc nD τ sig) → Buf (Elt Ideal) ℓ) (c : Dev nD)

theorem emb0 (t : Fin cfg0.N) (i0 : Fin 512) (i1 : Fin 4608) :
    (((cfg0.win 0).blk t).view.emb (ix2 i0 i1) : S4096x4608.Idx) = ix2 (at_g1_512_4096 t i0) i1 := by
  obtain ⟨⟨e0, e1⟩, -⟩ := index_at t
  refine funext fun b => Fin.ext ?_
  match b with
  | ⟨0, _⟩ => show win0_0.index t 0 * 512 + 1 * i0.val = (t.val % 8) * 512 + i0.val; omega
  | ⟨1, _⟩ => show win0_0.index t 1 * 4608 + 1 * i1.val = i1.val; omega

theorem iblk0 (t : Fin cfg0.N) (i0 : Fin 512) (i1 : Fin 4608) :
    (iblk m c 0 t : Vec Ideal S512x4608 .bf16) (ix2 i0 i1) = (m ((c : Thread nD τ).loc main_arg0) : Vec Ideal S4096x4608 .bf16) (ix2 (at_g1_512_4096 t i0) i1) :=
  (congrArg (V m c main_arg0) (emb0 t i0 i1)).trans (congrFun (V_main_arg0 m c) _)

theorem emb1 (t : Fin cfg0.N) (i0 : Fin 1024) (i1 : Fin 4608) :
    (((cfg0.win 1).blk t).view.emb (ix2 i0 i1) : S1024x4608.Idx) = ix2 i0 i1 := by
  obtain ⟨-, ⟨e0, e1⟩, -⟩ := index_at t
  refine funext fun b => Fin.ext ?_
  match b with
  | ⟨0, _⟩ => show win0_1.index t 0 * 1024 + 1 * i0.val = i0.val; omega
  | ⟨1, _⟩ => show win0_1.index t 1 * 4608 + 1 * i1.val = i1.val; omega

theorem iblk1 (t : Fin cfg0.N) (i0 : Fin 1024) (i1 : Fin 4608) :
    (iblk m c 1 t : Vec Ideal S1024x4608 .bf16) (ix2 i0 i1) = (m ((c : Thread nD τ).loc main_arg1) : Vec Ideal S1024x4608 .bf16) (ix2 i0 i1) :=
  (congrArg (V m c main_arg1) (emb1 t i0 i1)).trans (congrFun (V_main_arg1 m c) _)

theorem emb2 (t : Fin cfg0.N) (i0 : Fin 512) (i1 : Fin 1024) :
    (((cfg0.win 2).blk t).view.emb (ix2 i0 i1) : S4096x1024.Idx) = ix2 (at_g1_512_4096 t i0) i1 := by
  obtain ⟨-, -, ⟨e0, e1⟩⟩ := index_at t
  refine funext fun b => Fin.ext ?_
  match b with
  | ⟨0, _⟩ => show win0_2.index t 0 * 512 + 1 * i0.val = (t.val % 8) * 512 + i0.val; omega
  | ⟨1, _⟩ => show win0_2.index t 1 * 1024 + 1 * i1.val = i1.val; omega

/-- The point whose block holds index `i`. -/
abbrev pt2 (i : S4096x1024.Idx) : Fin cfg0.N :=
  ⟨(0) * 8 + ((i 0).val / 512), by
    have h0 : (i 0).val < 4096 := (i 0).isLt
    have h1 : (i 1).val < 1024 := (i 1).isLt
    rw [show cfg0.N = 8 from N_0]; omega⟩

theorem at_pt2 (i : S4096x1024.Idx) : (ix2 (at_g1_512_4096 (pt2 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show (((0) * 8 + ((i 0).val / 512)) % 8) * 512 + (i 0).val % 512 = (i 0).val; omega
  | ⟨1, _⟩ => rfl

theorem mem2 (i : S4096x1024.Idx) : i ∈ ((cfg0.win 2).blk (pt2 i)).view.set :=
  Eq.mp (congrArg (· ∈ ((cfg0.win 2).blk (pt2 i)).view.set) ((emb2 (pt2 i) _ _).trans (at_pt2 i)))
    (((cfg0.win 2).blk (pt2 i)).view.emb_mem_set (ix2 ⟨(i 0).val % 512, by omega⟩ (i 1)))

/-- If every block written back is the block of `G`, the array is `G` after the run. -/
theorem arr2 (X : Fin cfg0.N → Vec Ideal S512x1024 .f32) (G : Vec Ideal S4096x1024 .f32)
    (hX : ∀ t : Fin cfg0.N, (dats m 0 c).flushed 2 t = (cfg0.win 2).cut (grid0.coords t) (X t))
    (hG : ∀ (t : Fin cfg0.N) (i0 : Fin 512) (i1 : Fin 1024), X t (ix2 i0 i1) = G (ix2 (at_g1_512_4096 t i0) i1)) :
    (dats m 0 c).arrAt 2 cfg0.N = G :=
  (dats m 0 c).arrAt_eq_of_cover 2 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 2).blk t).view.emb (ix2 i0 i1))
    rw [hG t i0 i1, emb2]) fun i => ⟨pt2 i, flush0_2 _, mem2 i⟩

end Cert.Proof.InDx
-- ==== Proof.InDxKernel.lean ====
/- Hand-written. The call that takes the gradient back through the input projection (`InDx`) and its reference at the extended
   reals: each element of the result is the same sum over the projection's columns. -/
module

public import proofs.«01_k».proof.Proof.InDxWindows
public import proofs.«01_k».proof.Proof.Gen.InDxRefIdeal.Run
public import proofs.«01_k».proof.Proof.Gen.InDxRefIdeal.Read
public import Idealize.ShloMosaic.Lib.Tactic

@[expose] public section

noncomputable section

namespace Cert.Proof.InDx

open Idealize.ShloMosaic Idealize.ShloMosaic.TcCoe Idealize.SL.Sem

/-- `x0 @ x1ᵀ`: the gradient of the projection's input at row `t` and column `k`. -/
def dh (x0 : Vec Ideal (⟨2, ![4096, 4608]⟩ : Shape) .bf16) (x1 : Vec Ideal (⟨2, ![1024, 4608]⟩ : Shape) .bf16) (t : Fin 4096)
    (k : Fin 1024) : EReal := ∑ n : Fin 4608, x0 (ix2 t n) * x1 (ix2 k n)

/-- An array of rows and columns from its elements. -/
abbrev arr {a b : ℕ} (f : Fin a → Fin b → EReal) : (⟨2, ![a, b]⟩ : Shape).Idx → EReal := fun i => f (i 0) (i 1)

section

open Cert.InDxRefIdeal Cert.InDxRefIdeal.Read

theorem final_ref (x0 : Vec Ideal S4096x4608 .bf16) (x1 : Vec Ideal S1024x4608 .bf16) :
    val_main_v4 (F := Ideal) x0 x1 = arr (dh x0 x1) := by
  funext i
  obtain ⟨t, k, rfl⟩ : ∃ (t : Fin 4096) (k : Fin 1024), i = ix2 t k := ⟨i 0, i 1, eq_ix2 i⟩
  unfold val_main_v4 val_main_v0 val_main_v1
  pointwise [dot_S4096x4608_S1024x4608_S4096x1024_1_1_0_0_n_n]
  rfl

end

open Cert.InDxIdeal Cert.InDxIdeal.Gen Cert.InDxIdeal.Value

theorem block (v0 : Vec Ideal S512x4608 .bf16) (v1 : Vec Ideal S1024x4608 .bf16) (i : Fin 512) (k : Fin 1024) :
    k0_pay1 (F := Ideal) v0 v1 (ix2 i k) = ∑ n, v0 (ix2 i n) * v1 (ix2 k n) := by
  unfold k0_pay1
  pointwise [dot_S512x4608_S1024x4608_S512x1024_1_1_0_0_n_n]

theorem hz2 : (![0, 0] : Fin 2 → Nat) = fun _ => 0 := funext fun a => by fin_cases a <;> rfl

theorem out2_eq (x0 : Vec Ideal S512x4608 .bf16) (x1 : Vec Ideal S1024x4608 .bf16) : out0_2 x0 x1 = k0_pay1 x0 x1 := by
  unfold out0_2
  rw [View.canon_unit_zero hz2, View.ld_unit_zero hz2, View.ld_unit_zero hz2]

variable (m : (ℓ : Loc nD τ sig) → Buf (Elt Ideal) ℓ) (c : Dev nD)

theorem final : (dats m 0 c).arrAt 2 cfg0.N
    = arr (dh (m ((c : Thread nD τ).loc main_arg0)) (m ((c : Thread nD τ).loc main_arg1))) :=
  arr2 m c _ _ (fun t => by rw [flushed2, out2_eq]) fun t i k => by
    rw [block]
    simp only [iblk0, iblk1]
    rfl

end Cert.Proof.InDx
-- ==== Proof.InDxClaim.lean ====
/- Hand-written. The gradient back through the input projection: the reference's frame and the equation of the result. -/
module

public import proofs.«01_k».proof.Defs
public import proofs.«01_k».proof.Proof.InDxKernel
public import Idealize.ShloMosaic.Adequacy

@[expose] public section

noncomputable section

namespace Cert.Proof.InDx

open Idealize.ShloMosaic Idealize.ShloMosaic.TcCoe Idealize.SL.Sem

/-- The reference has no semaphores, so none is left counting. -/
theorem frame_ref : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

/-- The call and its reference end with equal results. -/
theorem value : Cert.algebraic_InDxIdeal_InDxRefIdeal := by
  intro m ρ m' ρ' _ hagree
  refine ⟨fun c => (Cert.InDxIdeal.Gen.dats m 0 c).arrAt 2 Cert.InDxIdeal.cfg0.N, ?_, ?_⟩
  · exact Cert.InDxIdeal.Value.run_blocks m ρ
  · refine (θ_run Cert.InDxRefIdeal.defs _ _).mono (fun _ h c => ?_) (Cert.InDxRefIdeal.Value.run (F := Ideal) m' ρ')
    obtain ⟨e0, e1⟩ := hagree c
    obtain ⟨h0, hkept⟩ := h c
    refine ⟨?_, hkept⟩
    · refine h0.trans ((Cert.InDxRefIdeal.Read.val_main_v4_eq (F := Ideal) _ _).trans ?_)
      rw [e0, e1]
      exact (final_ref _ _).trans (final m c).symm

end Cert.Proof.InDx
-- ==== Proof.NormGradWindows.lean ====
/- Hand-written. Windows of the call that takes the gradient through the first norm: which block of which array each grid point sees. -/
module

public import proofs.«01_k».proof.Proof.Gen.NormGradIdeal.Value
public import Idealize.ShloMosaic.Lib.Pointwise

@[expose] public section

noncomputable section

namespace Cert.Proof.NormGrad

open Cert.NormGradIdeal Cert.NormGradIdeal.Gen Cert.NormGradIdeal.Value Idealize.ShloMosaic Idealize.ShloMosaic.TcCoe Idealize.SL.Sem

theorem pt_lt (t : Fin cfg0.N) : t.val < 8 := by
  have h := t.isLt
  have e : cfg0.N = 8 := N_0
  omega

/-- The block indices of each window at point `t`. -/
theorem index_at : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) :=
  (by decide +kernel : ∀ t : Fin grid0.N, _)

/-- Element `i` of the block of 512 at index `t.val` of an axis of 4096. -/
abbrev at_g0_512_4096 (t : Fin cfg0.N) (i : Fin 512) : Fin 4096 :=
  ⟨(t.val) * 512 + i.val, by have := pt_lt t; omega⟩

variable (m : (ℓ : Loc nD τ sig) → Buf (Elt Ideal) ℓ) (c : Dev nD)

theorem emb0 (t : Fin cfg0.N) (i0 : Fin 512) (i1 : Fin 1024) :
    (((cfg0.win 0).blk t).view.emb (ix2 i0 i1) : S4096x1024.Idx) = ix2 (at_g0_512_4096 t i0) i1 := by
  obtain ⟨⟨e0, e1⟩, -⟩ := index_at t
  refine funext fun b => Fin.ext ?_
  match b with
  | ⟨0, _⟩ => show win0_0.index t 0 * 512 + 1 * i0.val = (t.val) * 512 + i0.val; omega
  | ⟨1, _⟩ => show win0_0.index t 1 * 1024 + 1 * i1.val = i1.val; omega

theorem iblk0 (t : Fin cfg0.N) (i0 : Fin 512) (i1 : Fin 1024) :
    (iblk m c 0 t : Vec Ideal S512x1024 .f32) (ix2 i0 i1) = (m ((c : Thread nD τ).loc main_arg0) : Vec Ideal S4096x1024 .f32) (ix2 (at_g0_512_4096 t i0) i1) :=
  (congrArg (V m c main_arg0) (emb0 t i0 i1)).trans (congrFun (V_main_arg0 m c) _)

theorem emb1 (t : Fin cfg0.N) (i0 : Fin 512) (i1 : Fin 1024) :
    (((cfg0.win 1).blk t).view.emb (ix2 i0 i1) : S4096x1024.Idx) = ix2 (at_g0_512_4096 t i0) i1 := by
  obtain ⟨-, ⟨e0, e1⟩, -⟩ := index_at t
  refine funext fun b => Fin.ext ?_
  match b with
  | ⟨0, _⟩ => show win0_1.index t 0 * 512 + 1 * i0.val = (t.val) * 512 + i0.val; omega
  | ⟨1, _⟩ => show win0_1.index t 1 * 1024 + 1 * i1.val = i1.val; omega

theorem iblk1 (t : Fin cfg0.N) (i0 : Fin 512) (i1 : Fin 1024) :
    (iblk m c 1 t : Vec Ideal S512x1024 .f32) (ix2 i0 i1) = (m ((c : Thread nD τ).loc main_arg1) : Vec Ideal S4096x1024 .f32) (ix2 (at_g0_512_4096 t i0) i1) :=
  (congrArg (V m c main_arg1) (emb1 t i0 i1)).trans (congrFun (V_main_arg1 m c) _)

theorem emb2 (t : Fin cfg0.N) (i0 : Fin 512) (i1 : Fin 1024) :
    (((cfg0.win 2).blk t).view.emb (ix2 i0 i1) : S4096x1024.Idx) = ix2 (at_g0_512_4096 t i0) i1 := by
  obtain ⟨-, -, ⟨e0, e1⟩, -⟩ := index_at t
  refine funext fun b => Fin.ext ?_
  match b with
  | ⟨0, _⟩ => show win0_2.index t 0 * 512 + 1 * i0.val = (t.val) * 512 + i0.val; omega
  | ⟨1, _⟩ => show win0_2.index t 1 * 1024 + 1 * i1.val = i1.val; omega

theorem iblk2 (t : Fin cfg0.N) (i0 : Fin 512) (i1 : Fin 1024) :
    (iblk m c 2 t : Vec Ideal S512x1024 .f32) (ix2 i0 i1) = (m ((c : Thread nD τ).loc main_arg2) : Vec Ideal S4096x1024 .f32) (ix2 (at_g0_512_4096 t i0) i1) :=
  (congrArg (V m c main_arg2) (emb2 t i0 i1)).trans (congrFun (V_main_arg2 m c) _)

theorem emb3 (t : Fin cfg0.N) (i0 : Fin 1) (i1 : Fin 1024) :
    (((cfg0.win 3).blk t).view.emb (ix2 i0 i1) : S1x1024.Idx) = ix2 i0 i1 := by
  obtain ⟨-, -, -, ⟨e0, e1⟩, -⟩ := index_at t
  refine funext fun b => Fin.ext ?_
  match b with
  | ⟨0, _⟩ => show win0_3.index t 0 * 1 + 1 * i0.val = i0.val; omega
  | ⟨1, _⟩ => show win0_3.index t 1 * 1024 + 1 * i1.val = i1.val; omega

theorem iblk3 (t : Fin cfg0.N) (i0 : Fin 1) (i1 : Fin 1024) :
    (iblk m c 3 t : Vec Ideal S1x1024 .f32) (ix2 i0 i1) = (m ((c : Thread nD τ).loc main_arg3) : Vec Ideal S1x1024 .f32) (ix2 i0 i1) :=
  (congrArg (V m c main_arg3) (emb3 t i0 i1)).trans (congrFun (V_main_arg3 m c) _)

theorem emb4 (t : Fin cfg0.N) (i0 : Fin 1) (i1 : Fin 6144) :
    (((cfg0.win 4).blk t).view.emb (ix2 i0 i1) : S1x6144.Idx) = ix2 i0 i1 := by
  obtain ⟨-, -, -, -, ⟨e0, e1⟩, -⟩ := index_at t
  refine funext fun b => Fin.ext ?_
  match b with
  | ⟨0, _⟩ => show win0_4.index t 0 * 1 + 1 * i0.val = i0.val; omega
  | ⟨1, _⟩ => show win0_4.index t 1 * 6144 + 1 * i1.val = i1.val; omega

theorem iblk4 (t : Fin cfg0.N) (i0 : Fin 1) (i1 : Fin 6144) :
    (iblk m c 4 t : Vec Ideal S1x6144 .f32) (ix2 i0 i1) = (m ((c : Thread nD τ).loc main_arg4) : Vec Ideal S1x6144 .f32) (ix2 i0 i1) :=
  (congrArg (V m c main_arg4) (emb4 t i0 i1)).trans (congrFun (V_main_arg4 m c) _)

theorem emb5 (t : Fin cfg0.N) (i0 : Fin 512) (i1 : Fin 1024) :
    (((cfg0.win 5).blk t).view.emb (ix2 i0 i1) : S4096x1024.Idx) = ix2 (at_g0_512_4096 t i0) i1 := by
  obtain ⟨-, -, -, -, -, ⟨e0, e1⟩, -⟩ := index_at t
  refine funext fun b => Fin.ext ?_
  match b with
  | ⟨0, _⟩ => show win0_5.index t 0 * 512 + 1 * i0.val = (t.val) * 512 + i0.val; omega
  | ⟨1, _⟩ => show win0_5.index t 1 * 1024 + 1 * i1.val = i1.val; omega

/-- The point whose block holds index `i`. -/
abbrev pt5 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt5 (i : S4096x1024.Idx) : (ix2 (at_g0_512_4096 (pt5 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem5 (i : S4096x1024.Idx) : i ∈ ((cfg0.win 5).blk (pt5 i)).view.set :=
  Eq.mp (congrArg (· ∈ ((cfg0.win 5).blk (pt5 i)).view.set) ((emb5 (pt5 i) _ _).trans (at_pt5 i)))
    (((cfg0.win 5).blk (pt5 i)).view.emb_mem_set (ix2 ⟨(i 0).val % 512, by omega⟩ (i 1)))

/-- If every block written back is the block of `G`, the array is `G` after the run. -/
theorem arr5 (X : Fin cfg0.N → Vec Ideal S512x1024 .f32) (G : Vec Ideal S4096x1024 .f32)
    (hX : ∀ t : Fin cfg0.N, (dats m 0 c).flushed 5 t = (cfg0.win 5).cut (grid0.coords t) (X t))
    (hG : ∀ (t : Fin cfg0.N) (i0 : Fin 512) (i1 : Fin 1024), X t (ix2 i0 i1) = G (ix2 (at_g0_512_4096 t i0) i1)) :
    (dats m 0 c).arrAt 5 cfg0.N = G :=
  (dats m 0 c).arrAt_eq_of_cover 5 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 5).blk t).view.emb (ix2 i0 i1))
    rw [hG t i0 i1, emb5]) fun i => ⟨pt5 i, flush0_5 _, mem5 i⟩

theorem emb6 (t : Fin cfg0.N) (i0 : Fin 1) (i1 : Fin 1024) :
    (((cfg0.win 6).blk t).view.emb (ix2 i0 i1) : S1x1024.Idx) = ix2 i0 i1 := by
  obtain ⟨-, -, -, -, -, -, ⟨e0, e1⟩, -⟩ := index_at t
  refine funext fun b => Fin.ext ?_
  match b with
  | ⟨0, _⟩ => show win0_6.index t 0 * 1 + 1 * i0.val = i0.val; omega
  | ⟨1, _⟩ => show win0_6.index t 1 * 1024 + 1 * i1.val = i1.val; omega

/-- The point whose block holds index `i`. -/
abbrev pt6 (i : S1x1024.Idx) : Fin cfg0.N :=
  ⟨(7), by
    have h0 : (i 0).val < 1 := (i 0).isLt
    have h1 : (i 1).val < 1024 := (i 1).isLt
    rw [show cfg0.N = 8 from N_0]; omega⟩

theorem at_pt6 (i : S1x1024.Idx) : (ix2 (i 0) (i 1) : S1x1024.Idx) = i := by
  have h0 : (i 0).val < 1 := (i 0).isLt
  have h1 : (i 1).val < 1024 := (i 1).isLt
  refine funext fun b => Fin.ext ?_
  match b with
  | ⟨0, _⟩ => rfl
  | ⟨1, _⟩ => rfl

theorem mem6 (i : S1x1024.Idx) : i ∈ ((cfg0.win 6).blk (pt6 i)).view.set :=
  Eq.mp (congrArg (· ∈ ((cfg0.win 6).blk (pt6 i)).view.set) ((emb6 (pt6 i) _ _).trans (at_pt6 i)))
    (((cfg0.win 6).blk (pt6 i)).view.emb_mem_set (ix2 (i 0) (i 1)))

/-- If every block written back is the block of `G`, the array is `G` after the run. -/
theorem arr6 (X : Fin cfg0.N → Vec Ideal S1x1024 .f32) (G : Vec Ideal S1x1024 .f32)
    (hX : ∀ t : Fin cfg0.N, t.val % 8 = 7 → (dats m 0 c).flushed 6 t = (cfg0.win 6).cut (grid0.coords t) (X t))
    (hG : ∀ (t : Fin cfg0.N) (i0 : Fin 1) (i1 : Fin 1024), t.val % 8 = 7 → X t (ix2 i0 i1) = G (ix2 i0 i1)) :
    (dats m 0 c).arrAt 6 cfg0.N = G :=
  (dats m 0 c).arrAt_eq_of_cover 6 G (fun t hf => by
    rw [hX t ((flush0_6 t).mp hf)]
    funext j
    obtain ⟨i0, i1, rfl⟩ : ∃ (i0 : Fin 1) (i1 : Fin 1024), j = ix2 i0 i1 := ⟨j 0, j 1, eq_ix2 j⟩
    show X t (ix2 i0 i1) = G (((cfg0.win 6).blk t).view.emb (ix2 i0 i1))
    rw [hG t i0 i1 ((flush0_6 t).mp hf), emb6]) fun i => ⟨pt6 i, (flush0_6 _).mpr (by show (((7)) % 8 = 7); have h0 : (i 0).val < 1 := (i 0).isLt; have h1 : (i 1).val < 1024 := (i 1).isLt; omega), mem6 i⟩

theorem emb7 (t : Fin cfg0.N) (i0 : Fin 1) (i1 : Fin 1024) :
    (((cfg0.win 7).blk t).view.emb (ix2 i0 i1) : S1x1024.Idx) = ix2 i0 i1 := by
  obtain ⟨-, -, -, -, -, -, -, ⟨e0, e1⟩, -⟩ := index_at t
  refine funext fun b => Fin.ext ?_
  match b with
  | ⟨0, _⟩ => show win0_7.index t 0 * 1 + 1 * i0.val = i0.val; omega
  | ⟨1, _⟩ => show win0_7.index t 1 * 1024 + 1 * i1.val = i1.val; omega

/-- The point whose block holds index `i`. -/
abbrev pt7 (i : S1x1024.Idx) : Fin cfg0.N :=
  ⟨(7), by
    have h0 : (i 0).val < 1 := (i 0).isLt
    have h1 : (i 1).val < 1024 := (i 1).isLt
    rw [show cfg0.N = 8 from N_0]; omega⟩

theorem at_pt7 (i : S1x1024.Idx) : (ix2 (i 0) (i 1) : S1x1024.Idx) = i := by
  have h0 : (i 0).val < 1 := (i 0).isLt
  have h1 : (i 1).val < 1024 := (i 1).isLt
  refine funext fun b => Fin.ext ?_
  match b with
  | ⟨0, _⟩ => rfl
  | ⟨1, _⟩ => rfl

theorem mem7 (i : S1x1024.Idx) : i ∈ ((cfg0.win 7).blk (pt7 i)).view.set :=
  Eq.mp (congrArg (· ∈ ((cfg0.win 7).blk (pt7 i)).view.set) ((emb7 (pt7 i) _ _).trans (at_pt7 i)))
    (((cfg0.win 7).blk (pt7 i)).view.emb_mem_set (ix2 (i 0) (i 1)))

/-- If every block written back is the block of `G`, the array is `G` after the run. -/
theorem arr7 (X : Fin cfg0.N → Vec Ideal S1x1024 .f32) (G : Vec Ideal S1x1024 .f32)
    (hX : ∀ t : Fin cfg0.N, t.val % 8 = 7 → (dats m 0 c).flushed 7 t = (cfg0.win 7).cut (grid0.coords t) (X t))
    (hG : ∀ (t : Fin cfg0.N) (i0 : Fin 1) (i1 : Fin 1024), t.val % 8 = 7 → X t (ix2 i0 i1) = G (ix2 i0 i1)) :
    (dats m 0 c).arrAt 7 cfg0.N = G :=
  (dats m 0 c).arrAt_eq_of_cover 7 G (fun t hf => by
    rw [hX t ((flush0_7 t).mp hf)]
    funext j
    obtain ⟨i0, i1, rfl⟩ : ∃ (i0 : Fin 1) (i1 : Fin 1024), j = ix2 i0 i1 := ⟨j 0, j 1, eq_ix2 j⟩
    show X t (ix2 i0 i1) = G (((cfg0.win 7).blk t).view.emb (ix2 i0 i1))
    rw [hG t i0 i1 ((flush0_7 t).mp hf), emb7]) fun i => ⟨pt7 i, (flush0_7 _).mpr (by show (((7)) % 8 = 7); have h0 : (i 0).val < 1 := (i 0).isLt; have h1 : (i 1).val < 1024 := (i 1).isLt; omega), mem7 i⟩

theorem emb8 (t : Fin cfg0.N) (i0 : Fin 1) (i1 : Fin 1024) :
    (((cfg0.win 8).blk t).view.emb (ix2 i0 i1) : S1x1024.Idx) = ix2 i0 i1 := by
  obtain ⟨-, -, -, -, -, -, -, -, ⟨e0, e1⟩⟩ := index_at t
  refine funext fun b => Fin.ext ?_
  match b with
  | ⟨0, _⟩ => show win0_8.index t 0 * 1 + 1 * i0.val = i0.val; omega
  | ⟨1, _⟩ => show win0_8.index t 1 * 1024 + 1 * i1.val = i1.val; omega

/-- The point whose block holds index `i`. -/
abbrev pt8 (i : S1x1024.Idx) : Fin cfg0.N :=
  ⟨(7), by
    have h0 : (i 0).val < 1 := (i 0).isLt
    have h1 : (i 1).val < 1024 := (i 1).isLt
    rw [show cfg0.N = 8 from N_0]; omega⟩

theorem at_pt8 (i : S1x1024.Idx) : (ix2 (i 0) (i 1) : S1x1024.Idx) = i := by
  have h0 : (i 0).val < 1 := (i 0).isLt
  have h1 : (i 1).val < 1024 := (i 1).isLt
  refine funext fun b => Fin.ext ?_
  match b with
  | ⟨0, _⟩ => rfl
  | ⟨1, _⟩ => rfl

theorem mem8 (i : S1x1024.Idx) : i ∈ ((cfg0.win 8).blk (pt8 i)).view.set :=
  Eq.mp (congrArg (· ∈ ((cfg0.win 8).blk (pt8 i)).view.set) ((emb8 (pt8 i) _ _).trans (at_pt8 i)))
    (((cfg0.win 8).blk (pt8 i)).view.emb_mem_set (ix2 (i 0) (i 1)))

/-- If every block written back is the block of `G`, the array is `G` after the run. -/
theorem arr8 (X : Fin cfg0.N → Vec Ideal S1x1024 .f32) (G : Vec Ideal S1x1024 .f32)
    (hX : ∀ t : Fin cfg0.N, t.val % 8 = 7 → (dats m 0 c).flushed 8 t = (cfg0.win 8).cut (grid0.coords t) (X t))
    (hG : ∀ (t : Fin cfg0.N) (i0 : Fin 1) (i1 : Fin 1024), t.val % 8 = 7 → X t (ix2 i0 i1) = G (ix2 i0 i1)) :
    (dats m 0 c).arrAt 8 cfg0.N = G :=
  (dats m 0 c).arrAt_eq_of_cover 8 G (fun t hf => by
    rw [hX t ((flush0_8 t).mp hf)]
    funext j
    obtain ⟨i0, i1, rfl⟩ : ∃ (i0 : Fin 1) (i1 : Fin 1024), j = ix2 i0 i1 := ⟨j 0, j 1, eq_ix2 j⟩
    show X t (ix2 i0 i1) = G (((cfg0.win 8).blk t).view.emb (ix2 i0 i1))
    rw [hG t i0 i1 ((flush0_8 t).mp hf), emb8]) fun i => ⟨pt8 i, (flush0_8 _).mpr (by show (((7)) % 8 = 7); have h0 : (i 0).val < 1 := (i 0).isLt; have h1 : (i 1).val < 1024 := (i 1).isLt; omega), mem8 i⟩

end Cert.Proof.NormGrad
-- ==== Proof.Norm.lean ====
/- Hand-written. The normalisation of a row of 1024 numbers with its gain, scale and shift, at the extended reals. -/
module

public import Idealize.ShloMosaic.Lib.Pointwise

@[expose] public section

noncomputable section

namespace Cert.Proof.Norm

open Idealize.ShloMosaic

/-- The mean square of a row plus the normalisation's small constant. -/
def meanSq (x : Fin 1024 → EReal) : EReal :=
  Ideal.div (∑ k, x k * x k) (Ideal.ofBits .f32 0x44800000#32) + Ideal.ofBits .f32 0x358637BD#32

/-- The normalised row times the gain and one plus the scale, plus the shift. -/
def norm (x g scale shift : Fin 1024 → EReal) (k : Fin 1024) : EReal :=
  x k * Ideal.rsqrt (meanSq x) * g k * (1 + scale k) + shift k

/-- The gradient of the norm's result with respect to the normalised row before the gain. -/
def back (d g scale : Fin 1024 → EReal) (k : Fin 1024) : EReal := d k * (1 + scale k) * g k

/-- The share of the gradient that reaches a row's numbers through the row's mean square. -/
def share (x d g scale : Fin 1024 → EReal) : EReal :=
  Ideal.div ((∑ k, x k * back d g scale k)
    * (Ideal.ofBits .f32 0xBF000000#32 * Ideal.div (Ideal.rsqrt (meanSq x)) (meanSq x))) (Ideal.ofBits .f32 0x44800000#32)

end Cert.Proof.Norm
-- ==== Proof.NormGradKernel.lean ====
/- Hand-written. The first norm's backward call (`NormGrad`) at the extended reals: the gradient of the rows at every point, and
   the gradients of the gain, the scale and the shift summed over the rows in eight points. -/
module

public import proofs.«01_k».proof.Proof.NormGradWindows
public import proofs.«01_k».proof.Proof.Sums
public import proofs.«01_k».proof.Proof.Norm
public import Idealize.ShloMosaic.Lib.Tactic

@[expose] public section

noncomputable section

namespace Cert.Proof.NormGrad

open Cert.NormGradIdeal Cert.NormGradIdeal.Gen Cert.NormGradIdeal.Value Idealize.ShloMosaic Idealize.ShloMosaic.TcCoe Idealize.SL.Sem
open Cert.Proof.Norm (meanSq back share)

section

variable (x0 x1 x2 : Vec Ideal S4096x1024 .f32) (x3 : Vec Ideal S1x1024 .f32) (x4 : Vec Ideal S1x6144 .f32)

/-- The scale's columns of the modulation. -/
abbrev scale (k : Fin 1024) : EReal := x4 (ix2 0 ⟨1024 + k.val, by omega⟩)

/-- The gradient of row `t`, added to the one that came along the residual stream. -/
def dx (t : Fin 4096) (k : Fin 1024) : EReal :=
  x2 (ix2 t k) + back (fun n => x1 (ix2 t n)) (fun n => x3 (ix2 0 n)) (scale x4) k * Ideal.rsqrt (meanSq fun n => x0 (ix2 t n))
    + x0 (ix2 t k) * share (fun n => x0 (ix2 t n)) (fun n => x1 (ix2 t n)) (fun n => x3 (ix2 0 n)) (scale x4)
    + share (fun n => x0 (ix2 t n)) (fun n => x1 (ix2 t n)) (fun n => x3 (ix2 0 n)) (scale x4) * x0 (ix2 t k)

/-- What row `t` adds to the gradient of the gain … -/
def gainRow (t : Fin 4096) (k : Fin 1024) : EReal :=
  x0 (ix2 t k) * Ideal.rsqrt (meanSq fun n => x0 (ix2 t n)) * (x1 (ix2 t k) * (1 + scale x4 k))

/-- … and of the scale. -/
def scaleRow (t : Fin 4096) (k : Fin 1024) : EReal :=
  x0 (ix2 t k) * Ideal.rsqrt (meanSq fun n => x0 (ix2 t n)) * x3 (ix2 0 k) * x1 (ix2 t k)

end

/-- An array of rows and columns from its elements. -/
abbrev arr {a b : ℕ} (f : Fin a → Fin b → EReal) : (⟨2, ![a, b]⟩ : Shape).Idx → EReal := fun i => f (i 0) (i 1)

/-- One row: at each column the sum of all rows. -/
abbrev total (f : Fin 4096 → Fin 1024 → EReal) : (⟨2, ![1, 1024]⟩ : Shape).Idx → EReal := fun i => ∑ t, f t (i 1)

/-! ## One block -/

section

variable (v0 v1 v2 : Vec Ideal S512x1024 .f32) (v3 : Vec Ideal S1x1024 .f32) (v4 : Vec Ideal S1x6144 .f32)
  (r : Vec Ideal S1x1024 .f32) (i : Fin 512) (j : Fin 1) (k : Fin 1024)

theorem block_dx : k0_pay13 (F := Ideal) v0 v2 (k0_pay3 v0) (k0_pay10 v1 v3 v4) (k0_pay11 v0 v1 v3 v4) (k0_pay12 v0) (ix2 i k)
    = back (fun n => v1 (ix2 i n)) (fun n => v3 (ix2 0 n)) (fun n => v4 (ix2 0 ⟨1024 + n.val, by omega⟩)) k
          * Ideal.rsqrt (meanSq fun n => v0 (ix2 i n))
        + v0 (ix2 i k) * share (fun n => v0 (ix2 i n)) (fun n => v1 (ix2 i n)) (fun n => v3 (ix2 0 n))
          (fun n => v4 (ix2 0 ⟨1024 + n.val, by omega⟩))
        + share (fun n => v0 (ix2 i n)) (fun n => v1 (ix2 i n)) (fun n => v3 (ix2 0 n))
          (fun n => v4 (ix2 0 ⟨1024 + n.val, by omega⟩)) * v0 (ix2 i k)
      + v2 (ix2 i k) := by
  unfold_payloads
  pointwise
  simp only [Finset.univ_unique, Finset.sum_singleton]
  rfl

theorem block_gain : k0_pay15 (F := Ideal) (k0_pay9 v0 v1 v4) r (ix2 j k) = r (ix2 j k)
    + ∑ i, v0 (ix2 i k) * Ideal.rsqrt (meanSq fun n => v0 (ix2 i n)) * (v1 (ix2 i k) * (1 + v4 (ix2 0 ⟨1024 + k.val, by omega⟩))) := by
  unfold_payloads
  pointwise
  rfl

theorem block_scale : k0_pay17 (F := Ideal) (k0_pay7 v0 v1 v3) r (ix2 j k) = r (ix2 j k)
    + ∑ i, v0 (ix2 i k) * Ideal.rsqrt (meanSq fun n => v0 (ix2 i n)) * v3 (ix2 0 k) * v1 (ix2 i k) := by
  unfold_payloads
  pointwise
  rfl

theorem block_shift : k0_pay19 (F := Ideal) (k0_pay6 v1) r (ix2 j k) = r (ix2 j k) + ∑ i, v1 (ix2 i k) := by
  unfold_payloads
  pointwise

theorem block_zero : k0_pay14 (F := Ideal) (ix2 j k) = 0 ∧ k0_pay16 (F := Ideal) (ix2 j k) = 0 ∧ k0_pay18 (F := Ideal) (ix2 j k) = 0 := by
  refine ⟨?_, ?_, ?_⟩ <;> unfold_payloads <;> pointwise

end

/-! ## What each point writes back -/

theorem hz2 : (![0, 0] : Fin 2 → Nat) = fun _ => 0 := funext fun a => by fin_cases a <;> rfl

variable (m : (ℓ : Loc nD τ sig) → Buf (Elt Ideal) ℓ) (c : Dev nD)

theorem out5 (t : Fin cfg0.N) : (dats m 0 c).flushed 5 t = (cfg0.win 5).cut (grid0.coords t) (k0_pay13 (F := Ideal) (iblk m c 0 t) (iblk m c 2 t) (k0_pay3 (iblk m c 0 t)) (k0_pay10 (iblk m c 1 t) (iblk m c 3 t) (iblk m c 4 t)) (k0_pay11 (iblk m c 0 t) (iblk m c 1 t) (iblk m c 3 t) (iblk m c 4 t)) (k0_pay12 (iblk m c 0 t))) := by
  by_cases h0 : t.val % 8 = 0
  · rw [flushed5_A m c t h0 h0 h0]
    unfold out0_A_5
    rw [View.read_writes_eq_canon _ _ _ (fun y => cover0_A_5 (y := y) ..)]
    unfold kernelRun0_A
    dsimp only
    sl_unfold_words
    rw [View.canon_unit_zero hz2]
    simp only [View.readAt_eq_ld, Memref.IsWhole.read_unread, View.ld_unit_zero (S := S512x1024) hz2, View.ld_unit_zero (S := S1x1024) hz2, View.ld_unit_zero (S := S1x6144) hz2, shapeCast_self]
  · rw [flushed5_B m c t h0 h0 h0]
    unfold out0_B_5
    rw [View.read_writes_eq_canon _ _ _ (fun y => cover0_B_5 (y := y) ..)]
    unfold kernelRun0_B
    dsimp only
    sl_unfold_words
    rw [View.canon_unit_zero hz2]
    simp only [View.readAt_eq_ld, Memref.IsWhole.read_unread, View.ld_unit_zero (S := S512x1024) hz2, View.ld_unit_zero (S := S1x1024) hz2, View.ld_unit_zero (S := S1x6144) hz2, shapeCast_self]

/-- The gain gradient's block after a point that starts the sum. -/
theorem gain_first (t : Fin cfg0.N) (h0 : t.val % 8 = 0) :
    (outsAt0 m c t.val t.isLt).2.1 = k0_pay15 (F := Ideal) (k0_pay9 (iblk m c 0 t) (iblk m c 1 t) (iblk m c 4 t)) (k0_pay14 (F := Ideal)) := by
  rw [outsAt0_A m c t h0 h0 h0]
  dsimp only
  unfold out0_A_6
  rw [View.read_writes_eq_canon _ _ _ (fun y => cover0_A_6 (y := y) ..)]
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := S512x1024) hz2, View.ld_unit_zero (S := S1x1024) hz2, View.ld_unit_zero (S := S1x6144) hz2, shapeCast_self]

/-- … and after one that goes on with it. -/
theorem gain_next (t : Fin cfg0.N) (h0 : ¬t.val % 8 = 0) :
    (outsAt0 m c t.val t.isLt).2.1 = k0_pay15 (F := Ideal) (k0_pay9 (iblk m c 0 t) (iblk m c 1 t) (iblk m c 4 t)) (outsAt0 m c (t.val - 1) (Nat.lt_of_le_of_lt (Nat.sub_le _ _) t.isLt)).2.1 := by
  rw [outsAt0_B m c t h0 h0 h0]
  dsimp only
  unfold out0_B_6
  rw [View.read_writes_eq_canon _ _ _ (fun y => cover0_B_6 (y := y) ..)]
  unfold kernelRun0_B
  dsimp only
  sl_unfold_words
  rw [View.canon_unit_zero hz2]
  simp only [View.readAt_eq_ld, Memref.IsWhole.read_unread, View.ld_unit_zero (S := S512x1024) hz2, View.ld_unit_zero (S := S1x1024) hz2, View.ld_unit_zero (S := S1x6144) hz2, shapeCast_self]

/-- The scale gradient's block after a point that starts the sum. -/
theorem scale_first (t : Fin cfg0.N) (h0 : t.val % 8 = 0) :
    (outsAt0 m c t.val t.isLt).2.2.1 = k0_pay17 (F := Ideal) (k0_pay7 (iblk m c 0 t) (iblk m c 1 t) (iblk m c 3 t)) (k0_pay16 (F := Ideal)) := by
  rw [outsAt0_A m c t h0 h0 h0]
  dsimp only
  unfold out0_A_7
  rw [View.read_writes_eq_canon _ _ _ (fun y => cover0_A_7 (y := y) ..)]
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := S512x1024) hz2, View.ld_unit_zero (S := S1x1024) hz2, View.ld_unit_zero (S := S1x6144) hz2, shapeCast_self]

/-- … and after one that goes on with it. -/
theorem scale_next (t : Fin cfg0.N) (h0 : ¬t.val % 8 = 0) :
    (outsAt0 m c t.val t.isLt).2.2.1 = k0_pay17 (F := Ideal) (k0_pay7 (iblk m c 0 t) (iblk m c 1 t) (iblk m c 3 t)) (outsAt0 m c (t.val - 1) (Nat.lt_of_le_of_lt (Nat.sub_le _ _) t.isLt)).2.2.1 := by
  rw [outsAt0_B m c t h0 h0 h0]
  dsimp only
  unfold out0_B_7
  rw [View.read_writes_eq_canon _ _ _ (fun y => cover0_B_7 (y := y) ..)]
  unfold kernelRun0_B
  dsimp only
  sl_unfold_words
  rw [View.canon_unit_zero hz2]
  simp only [View.readAt_eq_ld, Memref.IsWhole.read_unread, View.ld_unit_zero (S := S512x1024) hz2, View.ld_unit_zero (S := S1x1024) hz2, View.ld_unit_zero (S := S1x6144) hz2, shapeCast_self]

/-- The shift gradient's block after a point that starts the sum. -/
theorem shift_first (t : Fin cfg0.N) (h0 : t.val % 8 = 0) :
    (outsAt0 m c t.val t.isLt).2.2.2 = k0_pay19 (F := Ideal) (k0_pay6 (iblk m c 1 t)) (k0_pay18 (F := Ideal)) := by
  rw [outsAt0_A m c t h0 h0 h0]
  dsimp only
  unfold out0_A_8
  rw [View.read_writes_eq_canon _ _ _ (fun y => cover0_A_8 (y := y) ..)]
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := S512x1024) hz2, View.ld_unit_zero (S := S1x1024) hz2, View.ld_unit_zero (S := S1x6144) hz2, shapeCast_self]

/-- … and after one that goes on with it. -/
theorem shift_next (t : Fin cfg0.N) (h0 : ¬t.val % 8 = 0) :
    (outsAt0 m c t.val t.isLt).2.2.2 = k0_pay19 (F := Ideal) (k0_pay6 (iblk m c 1 t)) (outsAt0 m c (t.val - 1) (Nat.lt_of_le_of_lt (Nat.sub_le _ _) t.isLt)).2.2.2 := by
  rw [outsAt0_B m c t h0 h0 h0]
  dsimp only
  unfold out0_B_8
  rw [View.read_writes_eq_canon _ _ _ (fun y => cover0_B_8 (y := y) ..)]
  unfold kernelRun0_B
  dsimp only
  sl_unfold_words
  rw [View.canon_unit_zero hz2]
  simp only [View.readAt_eq_ld, Memref.IsWhole.read_unread, View.ld_unit_zero (S := S512x1024) hz2, View.ld_unit_zero (S := S1x1024) hz2, View.ld_unit_zero (S := S1x6144) hz2, shapeCast_self]

/-! ## The result arrays -/

abbrev a0 : Vec Ideal S4096x1024 .f32 := m ((c : Thread nD τ).loc main_arg0)
abbrev a1 : Vec Ideal S4096x1024 .f32 := m ((c : Thread nD τ).loc main_arg1)
abbrev a2 : Vec Ideal S4096x1024 .f32 := m ((c : Thread nD τ).loc main_arg2)
abbrev a3 : Vec Ideal S1x1024 .f32 := m ((c : Thread nD τ).loc main_arg3)
abbrev a4 : Vec Ideal S1x6144 .f32 := m ((c : Thread nD τ).loc main_arg4)

theorem final_dx : (dats m 0 c).arrAt 5 cfg0.N = arr (dx (a0 m c) (a1 m c) (a2 m c) (a3 m c) (a4 m c)) :=
  arr5 m c _ _ (out5 m c) fun t i k => by
    rw [block_dx]
    simp only [iblk0, iblk1, iblk2, iblk3, iblk4]
    show _ + _ + _ + a2 m c (ix2 (at_g0_512_4096 t i) k) = a2 m c (ix2 (at_g0_512_4096 t i) k) + _ + _ + _
    rw [add_comm, add_assoc, add_assoc, add_assoc]
    rfl

/-- A block that starts at zero and to which every point adds its 512 rows holds all rows' sum at the last point. -/
theorem all_rows (a : (n : ℕ) → n < cfg0.N → Vec Ideal S1x1024 .f32) (f : Fin 4096 → Fin 1024 → EReal)
    (first : ∀ t : Fin cfg0.N, t.val % 8 = 0 → ∀ (j : Fin 1) (k : Fin 1024),
      a t.val t.isLt (ix2 j k) = ∑ x : Fin 512, f (at_g0_512_4096 t x) k)
    (next : ∀ t : Fin cfg0.N, ¬t.val % 8 = 0 → ∀ (j : Fin 1) (k : Fin 1024), a t.val t.isLt (ix2 j k)
      = a (t.val - 1) (Nat.lt_of_le_of_lt (Nat.sub_le _ _) t.isLt) (ix2 j k) + ∑ x : Fin 512, f (at_g0_512_4096 t x) k)
    (t : Fin cfg0.N) (j : Fin 1) (k : Fin 1024) (h : t.val % 8 = 7) : a t.val t.isLt (ix2 j k) = ∑ r, f r k := by
  refine (Sums.acc_sum (N := cfg0.N) (P := 8) (by omega) (fun n hn => a n hn (ix2 j k))
    (fun t => ∑ x : Fin 512, f (at_g0_512_4096 t x) k) (fun n hn h0 => first ⟨n, hn⟩ h0 j k)
    (fun n hn h0 => next ⟨n, hn⟩ h0 j k) t.val t.isLt h).trans ?_
  have ht := pt_lt t
  rw [Sums.sum_blocks (a := 8) (b := 512) rfl]
  refine Fintype.sum_congr _ _ fun g => Fintype.sum_congr _ _ fun x => congrArg (fun r => f r k) (Fin.ext ?_)
  show (t.val - (8 - 1) + g.val) * 512 + x.val = g.val * 512 + x.val
  omega

theorem final_gain : (dats m 0 c).arrAt 6 cfg0.N = total (gainRow (a0 m c) (a1 m c) (a4 m c)) :=
  arr6 m c (fun t => (outsAt0 m c t.val t.isLt).2.1) _ (fun t _ => flushed6 m c t) (all_rows (fun n hn => (outsAt0 m c n hn).2.1) _
    (fun t h0 j k => by
      rw [gain_first m c t h0, block_gain, (block_zero _ _).1, zero_add]
      simp only [iblk0, iblk1, iblk4]
      rfl)
    fun t h0 j k => by
      rw [gain_next m c t h0, block_gain]
      simp only [iblk0, iblk1, iblk4]
      rfl)

theorem final_scale : (dats m 0 c).arrAt 7 cfg0.N = total (scaleRow (a0 m c) (a1 m c) (a3 m c)) :=
  arr7 m c (fun t => (outsAt0 m c t.val t.isLt).2.2.1) _ (fun t _ => flushed7 m c t) (all_rows (fun n hn => (outsAt0 m c n hn).2.2.1) _
    (fun t h0 j k => by
      rw [scale_first m c t h0, block_scale, (block_zero _ _).2.1, zero_add]
      simp only [iblk0, iblk1, iblk3]
      rfl)
    fun t h0 j k => by
      rw [scale_next m c t h0, block_scale]
      simp only [iblk0, iblk1, iblk3]
      rfl)

theorem final_shift : (dats m 0 c).arrAt 8 cfg0.N = total fun t k => a1 m c (ix2 t k) :=
  arr8 m c (fun t => (outsAt0 m c t.val t.isLt).2.2.2) _ (fun t _ => flushed8 m c t) (all_rows (fun n hn => (outsAt0 m c n hn).2.2.2)
    (fun t k => a1 m c (ix2 t k))
    (fun t h0 j k => by
      rw [shift_first m c t h0, block_shift, (block_zero _ _).2.2, zero_add]
      simp only [iblk1])
    fun t h0 j k => by
      rw [shift_next m c t h0, block_shift]
      simp only [iblk1])

end Cert.Proof.NormGrad
-- ==== Proof.NormGradRef.lean ====
/- Hand-written. The reference of the first norm's backward call at the extended reals: the same four formulas. -/
module

public import proofs.«01_k».proof.Proof.Gen.NormGradRefIdeal.Run
public import proofs.«01_k».proof.Proof.Gen.NormGradRefIdeal.Read
public import proofs.«01_k».proof.Proof.NormGradKernel

@[expose] public section

noncomputable section

namespace Cert.Proof.NormGrad

open Cert.NormGradRefIdeal Cert.NormGradRefIdeal.Read Idealize.ShloMosaic Idealize.ShloMosaic.TcCoe Idealize.SL.Sem
open Cert.Proof.Norm (meanSq back share)

variable (x0 x1 x2 : Vec Ideal S4096x1024 .f32) (x3 : Vec Ideal S1x1024 .f32) (x4 : Vec Ideal S1x6144 .f32)

theorem ref_sq (t : Fin 4096) (j : Fin 1) : val_main_v12 (F := Ideal) x0 (ix2 t j) = meanSq fun n => x0 (ix2 t n) := by
  unfold val_main_v12 val_main_v11 val_main_v10 val_main_v9 val_main_v8 val_main_v7 val_main_v6 val_main_cst val_main_cst_0
    val_main_cst_1
  pointwise
  rfl

theorem ref_back (t : Fin 4096) (k : Fin 1024) : val_main_v39 (F := Ideal) x1 x3 x4 (ix2 t k)
    = back (fun n => x1 (ix2 t n)) (fun n => x3 (ix2 0 n)) (scale x4) k := by
  unfold val_main_v39 val_main_v38 val_main_v34 val_main_v33 val_main_v27 val_main_v22 val_main_v21 val_main_v1 val_main_cst_3
  pointwise
  rfl

theorem ref_share (t : Fin 4096) : val_main_v49 (F := Ideal) x0 x1 x3 x4 (ix1 t)
    = share (fun n => x0 (ix2 t n)) (fun n => x1 (ix2 t n)) (fun n => x3 (ix2 0 n)) (scale x4) := by
  unfold val_main_v49 val_main_v48 val_main_v47 val_main_v46 val_main_v42 val_main_v41 val_main_v40 val_main_v16 val_main_v15
    val_main_v14 val_main_v13 val_main_cst_2 val_main_cst_7 val_main_cst_8 val_main_cst_9
  pointwise
  simp only [ref_sq, ref_back, Finset.univ_unique, Finset.sum_singleton]
  rfl

theorem final_ref_dx : val_main_v54 (F := Ideal) x0 x1 x2 x3 x4 = arr (dx x0 x1 x2 x3 x4) := by
  funext i
  obtain ⟨t, k, rfl⟩ : ∃ (t : Fin 4096) (k : Fin 1024), i = ix2 t k := ⟨i 0, i 1, eq_ix2 i⟩
  unfold val_main_v54 val_main_v53 val_main_v52 val_main_v51 val_main_v50 val_main_v45 val_main_v44 val_main_v43 val_main_v13
  pointwise
  rw [ref_back, ref_share, ref_sq]
  rfl

theorem final_ref_gain : val_main_v37 (F := Ideal) x0 x1 x4 = total (gainRow x0 x1 x4) := by
  funext i
  obtain ⟨j, k, rfl⟩ : ∃ (j : Fin 1) (k : Fin 1024), i = ix2 j k := ⟨i 0, i 1, eq_ix2 i⟩
  unfold val_main_v37 val_main_v36 val_main_v35 val_main_v34 val_main_v33 val_main_v27 val_main_v22 val_main_v21 val_main_v18
    val_main_v17 val_main_v13 val_main_v1 val_main_cst_3 val_main_cst_6
  pointwise
  simp only [ref_sq]
  rfl

theorem final_ref_scale : val_main_v32 (F := Ideal) x0 x1 x3 = total (scaleRow x0 x1 x3) := by
  funext i
  obtain ⟨j, k, rfl⟩ : ∃ (j : Fin 1) (k : Fin 1024), i = ix2 j k := ⟨i 0, i 1, eq_ix2 i⟩
  unfold val_main_v32 val_main_v31 val_main_v30 val_main_v27 val_main_v20 val_main_v19 val_main_v18 val_main_v17 val_main_v13
    val_main_cst_5
  pointwise
  simp only [ref_sq]
  rfl

theorem final_ref_shift : val_main_v29 (F := Ideal) x1 = total fun t k => x1 (ix2 t k) := by
  funext i
  obtain ⟨j, k, rfl⟩ : ∃ (j : Fin 1) (k : Fin 1024), i = ix2 j k := ⟨i 0, i 1, eq_ix2 i⟩
  unfold val_main_v29 val_main_v28 val_main_cst_4
  pointwise
  rfl

end Cert.Proof.NormGrad
-- ==== Proof.NormGradClaim.lean ====
/- Hand-written. The first norm's backward call: the reference's frame and the equation of the four results. -/
module

public import proofs.«01_k».proof.Defs
public import proofs.«01_k».proof.Proof.NormGradKernel
public import proofs.«01_k».proof.Proof.NormGradRef
public import Idealize.ShloMosaic.Adequacy

@[expose] public section

noncomputable section

namespace Cert.Proof.NormGrad

open Idealize.ShloMosaic Idealize.ShloMosaic.TcCoe Idealize.SL.Sem

/-- The reference has no semaphores, so none is left counting. -/
theorem frame_ref : Cert.quiescent_NormGradRefIdeal := fun m ρ _ =>
  (θ_run Cert.NormGradRefIdeal.defs _ _).mono (fun r h => ⟨fun c => (h c).2.2.2.2, sem_eq_zero_of_no_sems (by decide) r.2⟩)
    (Cert.NormGradRefIdeal.Value.run (F := Ideal) m ρ)

/-- The call and its reference end with equal results. -/
theorem value : Cert.algebraic_NormGradIdeal_NormGradRefIdeal := by
  intro m ρ m' ρ' _ hagree
  refine ⟨fun c => (Cert.NormGradIdeal.Gen.dats m 0 c).arrAt 5 Cert.NormGradIdeal.cfg0.N, fun c => (Cert.NormGradIdeal.Gen.dats m 0 c).arrAt 6 Cert.NormGradIdeal.cfg0.N, fun c => (Cert.NormGradIdeal.Gen.dats m 0 c).arrAt 7 Cert.NormGradIdeal.cfg0.N, fun c => (Cert.NormGradIdeal.Gen.dats m 0 c).arrAt 8 Cert.NormGradIdeal.cfg0.N, ?_, ?_⟩
  · exact Cert.NormGradIdeal.Value.run_blocks m ρ
  · refine (θ_run Cert.NormGradRefIdeal.defs _ _).mono (fun _ h c => ?_) (Cert.NormGradRefIdeal.Value.run (F := Ideal) m' ρ')
    obtain ⟨e0, e1, e2, e3, e4⟩ := hagree c
    obtain ⟨h0, h1, h2, h3, hkept⟩ := h c
    refine ⟨?_, ?_, ?_, ?_, hkept⟩
    · refine h0.trans ((Cert.NormGradRefIdeal.Read.val_main_v54_eq (F := Ideal) _ _).trans ?_)
      rw [e0, e1, e2, e3, e4]
      exact (final_ref_dx _ _ _ _ _).trans (final_dx m c).symm
    · refine h1.trans ((Cert.NormGradRefIdeal.Read.val_main_v37_eq (F := Ideal) _ _ _).trans ?_)
      rw [e0, e1, e4]
      exact (final_ref_gain _ _ _).trans (final_gain m c).symm
    · refine h2.trans ((Cert.NormGradRefIdeal.Read.val_main_v32_eq (F := Ideal) _ _ _).trans ?_)
      rw [e0, e1, e3]
      exact (final_ref_scale _ _ _).trans (final_scale m c).symm
    · refine h3.trans ((Cert.NormGradRefIdeal.Read.val_main_v29_eq (F := Ideal) _).trans ?_)
      rw [e1]
      exact (final_ref_shift _).trans (final_shift m c).symm

end Cert.Proof.NormGrad
-- ==== Proof.LossHeadWindows.lean ====
/- Hand-written. Windows of the call of the down projection and the loss: which block of which array each grid point sees. -/
module

public import proofs.«01_k».proof.Proof.Gen.LossHeadIdeal.Value
public import Idealize.ShloMosaic.Lib.Pointwise

@[expose] public section

noncomputable section

namespace Cert.Proof.LossHead

open Cert.LossHeadIdeal Cert.LossHeadIdeal.Gen Cert.LossHeadIdeal.Value Idealize.ShloMosaic Idealize.ShloMosaic.TcCoe Idealize.SL.Sem

theorem pt_lt (t : Fin cfg0.N) : t.val < 8 := by
  have h := t.isLt
  have e : cfg0.N = 8 := N_0
  omega

/-- The block indices of each window at point `t`. -/
theorem index_at : ∀ t : Fin cfg0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = 1 ∧ win0_2.index t 1 = t.val ∧ win0_2.index t 2 = 0)
    ∧ (win0_3.index t 0 = 1 ∧ win0_3.index t 1 = 0 ∧ win0_3.index t 2 = 0)
    ∧ (win0_4.index t 0 = 2 ∧ win0_4.index t 1 = t.val ∧ win0_4.index t 2 = 0)
    ∧ (win0_5.index t 0 = 2 ∧ win0_5.index t 1 = 0 ∧ win0_5.index t 2 = 0)
    ∧ (win0_6.index t 0 = 3 ∧ win0_6.index t 1 = t.val ∧ win0_6.index t 2 = 0)
    ∧ (win0_7.index t 0 = 3 ∧ win0_7.index t 1 = 0 ∧ win0_7.index t 2 = 0)
    ∧ (win0_8.index t 0 = t.val ∧ win0_8.index t 1 = 0)
    ∧ (win0_9.index t 0 = t.val ∧ win0_9.index t 1 = 0)
    ∧ (win0_10.index t 0 = 0 ∧ win0_10.index t 1 = 0)
    ∧ (win0_11.index t 0 = t.val ∧ win0_11.index t 1 = 0)
    ∧ (win0_12.index t 0 = t.val ∧ win0_12.index t 1 = 0)
    ∧ (win0_13.index t 0 = 0 ∧ win0_13.index t 1 = 0)
    ∧ (win0_14.index t 0 = 0 ∧ win0_14.index t 1 = 0) :=
  (by decide +kernel : ∀ t : Fin grid0.N, _)

/-- Element `i` of the block of 1 at index `0` of an axis of 4. -/
abbrev at_0_1_4 (t : Fin cfg0.N) (i : Fin 1) : Fin 4 :=
  ⟨(0) * 1 + i.val, by have := pt_lt t; omega⟩

/-- Element `i` of the block of 512 at index `t.val` of an axis of 4096. -/
abbrev at_g0_512_4096 (t : Fin cfg0.N) (i : Fin 512) : Fin 4096 :=
  ⟨(t.val) * 512 + i.val, by have := pt_lt t; omega⟩

/-- Element `i` of the block of 1 at index `1` of an axis of 4. -/
abbrev at_c1_1_4 (t : Fin cfg0.N) (i : Fin 1) : Fin 4 :=
  ⟨(1) * 1 + i.val, by have := pt_lt t; omega⟩

/-- Element `i` of the block of 1 at index `2` of an axis of 4. -/
abbrev at_c2_1_4 (t : Fin cfg0.N) (i : Fin 1) : Fin 4 :=
  ⟨(2) * 1 + i.val, by have := pt_lt t; omega⟩

/-- Element `i` of the block of 1 at index `3` of an axis of 4. -/
abbrev at_c3_1_4 (t : Fin cfg0.N) (i : Fin 1) : Fin 4 :=
  ⟨(3) * 1 + i.val, by have := pt_lt t; omega⟩

variable (m : (ℓ : Loc nD τ sig) → Buf (Elt Ideal) ℓ) (c : Dev nD)

theorem emb0 (t : Fin cfg0.N) (i0 : Fin 1) (i1 : Fin 512) (i2 : Fin 704) :
    (((cfg0.win 0).blk t).view.emb (ix3 i0 i1 i2) : S4x4096x704.Idx) = ix3 (at_0_1_4 t i0) (at_g0_512_4096 t i1) i2 := by
  obtain ⟨⟨e0, e1, e2⟩, -⟩ := index_at t
  refine funext fun b => Fin.ext ?_
  match b with
  | ⟨0, _⟩ => show win0_0.index t 0 * 1 + 1 * i0.val = (0) * 1 + i0.val; omega
  | ⟨1, _⟩ => show win0_0.index t 1 * 512 + 1 * i1.val = (t.val) * 512 + i1.val; omega
  | ⟨2, _⟩ => show win0_0.index t 2 * 704 + 1 * i2.val = i2.val; omega

theorem iblk0 (t : Fin cfg0.N) (i0 : Fin 1) (i1 : Fin 512) (i2 : Fin 704) :
    (iblk m c 0 t : Vec Ideal S1x512x704 .bf16) (ix3 i0 i1 i2) = (V m c main_v1 : Vec Ideal S4x4096x704 .bf16) (ix3 (at_0_1_4 t i0) (at_g0_512_4096 t i1) i2) :=
  (congrArg (V m c main_v1) (emb0 t i0 i1 i2))

theorem emb1 (t : Fin cfg0.N) (i0 : Fin 1) (i1 : Fin 704) (i2 : Fin 1024) :
    (((cfg0.win 1).blk t).view.emb (ix3 i0 i1 i2) : S4x704x1024.Idx) = ix3 (at_0_1_4 t i0) i1 i2 := by
  obtain ⟨-, ⟨e0, e1, e2⟩, -⟩ := index_at t
  refine funext fun b => Fin.ext ?_
  match b with
  | ⟨0, _⟩ => show win0_1.index t 0 * 1 + 1 * i0.val = (0) * 1 + i0.val; omega
  | ⟨1, _⟩ => show win0_1.index t 1 * 704 + 1 * i1.val = i1.val; omega
  | ⟨2, _⟩ => show win0_1.index t 2 * 1024 + 1 * i2.val = i2.val; omega

theorem iblk1 (t : Fin cfg0.N) (i0 : Fin 1) (i1 : Fin 704) (i2 : Fin 1024) :
    (iblk m c 1 t : Vec Ideal S1x704x1024 .bf16) (ix3 i0 i1 i2) = (V m c main_v2 : Vec Ideal S4x704x1024 .bf16) (ix3 (at_0_1_4 t i0) i1 i2) :=
  (congrArg (V m c main_v2) (emb1 t i0 i1 i2))

theorem emb2 (t : Fin cfg0.N) (i0 : Fin 1) (i1 : Fin 512) (i2 : Fin 704) :
    (((cfg0.win 2).blk t).view.emb (ix3 i0 i1 i2) : S4x4096x704.Idx) = ix3 (at_c1_1_4 t i0) (at_g0_512_4096 t i1) i2 := by
  obtain ⟨-, -, ⟨e0, e1, e2⟩, -⟩ := index_at t
  refine funext fun b => Fin.ext ?_
  match b with
  | ⟨0, _⟩ => show win0_2.index t 0 * 1 + 1 * i0.val = (1) * 1 + i0.val; omega
  | ⟨1, _⟩ => show win0_2.index t 1 * 512 + 1 * i1.val = (t.val) * 512 + i1.val; omega
  | ⟨2, _⟩ => show win0_2.index t 2 * 704 + 1 * i2.val = i2.val; omega

theorem iblk2 (t : Fin cfg0.N) (i0 : Fin 1) (i1 : Fin 512) (i2 : Fin 704) :
    (iblk m c 2 t : Vec Ideal S1x512x704 .bf16) (ix3 i0 i1 i2) = (V m c main_v1 : Vec Ideal S4x4096x704 .bf16) (ix3 (at_c1_1_4 t i0) (at_g0_512_4096 t i1) i2) :=
  (congrArg (V m c main_v1) (emb2 t i0 i1 i2))

theorem emb3 (t : Fin cfg0.N) (i0 : Fin 1) (i1 : Fin 704) (i2 : Fin 1024) :
    (((cfg0.win 3).blk t).view.emb (ix3 i0 i1 i2) : S4x704x1024.Idx) = ix3 (at_c1_1_4 t i0) i1 i2 := by
  obtain ⟨-, -, -, ⟨e0, e1, e2⟩, -⟩ := index_at t
  refine funext fun b => Fin.ext ?_
  match b with
  | ⟨0, _⟩ => show win0_3.index t 0 * 1 + 1 * i0.val = (1) * 1 + i0.val; omega
  | ⟨1, _⟩ => show win0_3.index t 1 * 704 + 1 * i1.val = i1.val; omega
  | ⟨2, _⟩ => show win0_3.index t 2 * 1024 + 1 * i2.val = i2.val; omega

theorem iblk3 (t : Fin cfg0.N) (i0 : Fin 1) (i1 : Fin 704) (i2 : Fin 1024) :
    (iblk m c 3 t : Vec Ideal S1x704x1024 .bf16) (ix3 i0 i1 i2) = (V m c main_v2 : Vec Ideal S4x704x1024 .bf16) (ix3 (at_c1_1_4 t i0) i1 i2) :=
  (congrArg (V m c main_v2) (emb3 t i0 i1 i2))

theorem emb4 (t : Fin cfg0.N) (i0 : Fin 1) (i1 : Fin 512) (i2 : Fin 704) :
    (((cfg0.win 4).blk t).view.emb (ix3 i0 i1 i2) : S4x4096x704.Idx) = ix3 (at_c2_1_4 t i0) (at_g0_512_4096 t i1) i2 := by
  obtain ⟨-, -, -, -, ⟨e0, e1, e2⟩, -⟩ := index_at t
  refine funext fun b => Fin.ext ?_
  match b with
  | ⟨0, _⟩ => show win0_4.index t 0 * 1 + 1 * i0.val = (2) * 1 + i0.val; omega
  | ⟨1, _⟩ => show win0_4.index t 1 * 512 + 1 * i1.val = (t.val) * 512 + i1.val; omega
  | ⟨2, _⟩ => show win0_4.index t 2 * 704 + 1 * i2.val = i2.val; omega

theorem iblk4 (t : Fin cfg0.N) (i0 : Fin 1) (i1 : Fin 512) (i2 : Fin 704) :
    (iblk m c 4 t : Vec Ideal S1x512x704 .bf16) (ix3 i0 i1 i2) = (V m c main_v1 : Vec Ideal S4x4096x704 .bf16) (ix3 (at_c2_1_4 t i0) (at_g0_512_4096 t i1) i2) :=
  (congrArg (V m c main_v1) (emb4 t i0 i1 i2))

theorem emb5 (t : Fin cfg0.N) (i0 : Fin 1) (i1 : Fin 704) (i2 : Fin 1024) :
    (((cfg0.win 5).blk t).view.emb (ix3 i0 i1 i2) : S4x704x1024.Idx) = ix3 (at_c2_1_4 t i0) i1 i2 := by
  obtain ⟨-, -, -, -, -, ⟨e0, e1, e2⟩, -⟩ := index_at t
  refine funext fun b => Fin.ext ?_
  match b with
  | ⟨0, _⟩ => show win0_5.index t 0 * 1 + 1 * i0.val = (2) * 1 + i0.val; omega
  | ⟨1, _⟩ => show win0_5.index t 1 * 704 + 1 * i1.val = i1.val; omega
  | ⟨2, _⟩ => show win0_5.index t 2 * 1024 + 1 * i2.val = i2.val; omega

theorem iblk5 (t : Fin cfg0.N) (i0 : Fin 1) (i1 : Fin 704) (i2 : Fin 1024) :
    (iblk m c 5 t : Vec Ideal S1x704x1024 .bf16) (ix3 i0 i1 i2) = (V m c main_v2 : Vec Ideal S4x704x1024 .bf16) (ix3 (at_c2_1_4 t i0) i1 i2) :=
  (congrArg (V m c main_v2) (emb5 t i0 i1 i2))

theorem emb6 (t : Fin cfg0.N) (i0 : Fin 1) (i1 : Fin 512) (i2 : Fin 704) :
    (((cfg0.win 6).blk t).view.emb (ix3 i0 i1 i2) : S4x4096x704.Idx) = ix3 (at_c3_1_4 t i0) (at_g0_512_4096 t i1) i2 := by
  obtain ⟨-, -, -, -, -, -, ⟨e0, e1, e2⟩, -⟩ := index_at t
  refine funext fun b => Fin.ext ?_
  match b with
  | ⟨0, _⟩ => show win0_6.index t 0 * 1 + 1 * i0.val = (3) * 1 + i0.val; omega
  | ⟨1, _⟩ => show win0_6.index t 1 * 512 + 1 * i1.val = (t.val) * 512 + i1.val; omega
  | ⟨2, _⟩ => show win0_6.index t 2 * 704 + 1 * i2.val = i2.val; omega

theorem iblk6 (t : Fin cfg0.N) (i0 : Fin 1) (i1 : Fin 512) (i2 : Fin 704) :
    (iblk m c 6 t : Vec Ideal S1x512x704 .bf16) (ix3 i0 i1 i2) = (V m c main_v1 : Vec Ideal S4x4096x704 .bf16) (ix3 (at_c3_1_4 t i0) (at_g0_512_4096 t i1) i2) :=
  (congrArg (V m c main_v1) (emb6 t i0 i1 i2))

theorem emb7 (t : Fin cfg0.N) (i0 : Fin 1) (i1 : Fin 704) (i2 : Fin 1024) :
    (((cfg0.win 7).blk t).view.emb (ix3 i0 i1 i2) : S4x704x1024.Idx) = ix3 (at_c3_1_4 t i0) i1 i2 := by
  obtain ⟨-, -, -, -, -, -, -, ⟨e0, e1, e2⟩, -⟩ := index_at t
  refine funext fun b => Fin.ext ?_
  match b with
  | ⟨0, _⟩ => show win0_7.index t 0 * 1 + 1 * i0.val = (3) * 1 + i0.val; omega
  | ⟨1, _⟩ => show win0_7.index t 1 * 704 + 1 * i1.val = i1.val; omega
  | ⟨2, _⟩ => show win0_7.index t 2 * 1024 + 1 * i2.val = i2.val; omega

theorem iblk7 (t : Fin cfg0.N) (i0 : Fin 1) (i1 : Fin 704) (i2 : Fin 1024) :
    (iblk m c 7 t : Vec Ideal S1x704x1024 .bf16) (ix3 i0 i1 i2) = (V m c main_v2 : Vec Ideal S4x704x1024 .bf16) (ix3 (at_c3_1_4 t i0) i1 i2) :=
  (congrArg (V m c main_v2) (emb7 t i0 i1 i2))

theorem emb8 (t : Fin cfg0.N) (i0 : Fin 512) (i1 : Fin 1024) :
    (((cfg0.win 8).blk t).view.emb (ix2 i0 i1) : S4096x1024.Idx) = ix2 (at_g0_512_4096 t i0) i1 := by
  obtain ⟨-, -, -, -, -, -, -, -, ⟨e0, e1⟩, -⟩ := index_at t
  refine funext fun b => Fin.ext ?_
  match b with
  | ⟨0, _⟩ => show win0_8.index t 0 * 512 + 1 * i0.val = (t.val) * 512 + i0.val; omega
  | ⟨1, _⟩ => show win0_8.index t 1 * 1024 + 1 * i1.val = i1.val; omega

theorem iblk8 (t : Fin cfg0.N) (i0 : Fin 512) (i1 : Fin 1024) :
    (iblk m c 8 t : Vec Ideal S512x1024 .f32) (ix2 i0 i1) = (m ((c : Thread nD τ).loc main_arg2) : Vec Ideal S4096x1024 .f32) (ix2 (at_g0_512_4096 t i0) i1) :=
  (congrArg (V m c main_arg2) (emb8 t i0 i1)).trans (congrFun (V_main_arg2 m c) _)

theorem emb9 (t : Fin cfg0.N) (i0 : Fin 512) (i1 : Fin 1024) :
    (((cfg0.win 9).blk t).view.emb (ix2 i0 i1) : S4096x1024.Idx) = ix2 (at_g0_512_4096 t i0) i1 := by
  obtain ⟨-, -, -, -, -, -, -, -, -, ⟨e0, e1⟩, -⟩ := index_at t
  refine funext fun b => Fin.ext ?_
  match b with
  | ⟨0, _⟩ => show win0_9.index t 0 * 512 + 1 * i0.val = (t.val) * 512 + i0.val; omega
  | ⟨1, _⟩ => show win0_9.index t 1 * 1024 + 1 * i1.val = i1.val; omega

theorem iblk9 (t : Fin cfg0.N) (i0 : Fin 512) (i1 : Fin 1024) :
    (iblk m c 9 t : Vec Ideal S512x1024 .f32) (ix2 i0 i1) = (m ((c : Thread nD τ).loc main_arg3) : Vec Ideal S4096x1024 .f32) (ix2 (at_g0_512_4096 t i0) i1) :=
  (congrArg (V m c main_arg3) (emb9 t i0 i1)).trans (congrFun (V_main_arg3 m c) _)

theorem emb10 (t : Fin cfg0.N) (i0 : Fin 1) (i1 : Fin 6144) :
    (((cfg0.win 10).blk t).view.emb (ix2 i0 i1) : S1x6144.Idx) = ix2 i0 i1 := by
  obtain ⟨-, -, -, -, -, -, -, -, -, -, ⟨e0, e1⟩, -⟩ := index_at t
  refine funext fun b => Fin.ext ?_
  match b with
  | ⟨0, _⟩ => show win0_10.index t 0 * 1 + 1 * i0.val = i0.val; omega
  | ⟨1, _⟩ => show win0_10.index t 1 * 6144 + 1 * i1.val = i1.val; omega

theorem iblk10 (t : Fin cfg0.N) (i0 : Fin 1) (i1 : Fin 6144) :
    (iblk m c 10 t : Vec Ideal S1x6144 .f32) (ix2 i0 i1) = (m ((c : Thread nD τ).loc main_arg4) : Vec Ideal S1x6144 .f32) (ix2 i0 i1) :=
  (congrArg (V m c main_arg4) (emb10 t i0 i1)).trans (congrFun (V_main_arg4 m c) _)

theorem emb11 (t : Fin cfg0.N) (i0 : Fin 512) (i1 : Fin 1024) :
    (((cfg0.win 11).blk t).view.emb (ix2 i0 i1) : S4096x1024.Idx) = ix2 (at_g0_512_4096 t i0) i1 := by
  obtain ⟨-, -, -, -, -, -, -, -, -, -, -, ⟨e0, e1⟩, -⟩ := index_at t
  refine funext fun b => Fin.ext ?_
  match b with
  | ⟨0, _⟩ => show win0_11.index t 0 * 512 + 1 * i0.val = (t.val) * 512 + i0.val; omega
  | ⟨1, _⟩ => show win0_11.index t 1 * 1024 + 1 * i1.val = i1.val; omega

/-- The point whose block holds index `i`. -/
abbrev pt11 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt11 (i : S4096x1024.Idx) : (ix2 (at_g0_512_4096 (pt11 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem11 (i : S4096x1024.Idx) : i ∈ ((cfg0.win 11).blk (pt11 i)).view.set :=
  Eq.mp (congrArg (· ∈ ((cfg0.win 11).blk (pt11 i)).view.set) ((emb11 (pt11 i) _ _).trans (at_pt11 i)))
    (((cfg0.win 11).blk (pt11 i)).view.emb_mem_set (ix2 ⟨(i 0).val % 512, by omega⟩ (i 1)))

/-- If every block written back is the block of `G`, the array is `G` after the run. -/
theorem arr11 (X : Fin cfg0.N → Vec Ideal S512x1024 .f32) (G : Vec Ideal S4096x1024 .f32)
    (hX : ∀ t : Fin cfg0.N, (dats m 0 c).flushed 11 t = (cfg0.win 11).cut (grid0.coords t) (X t))
    (hG : ∀ (t : Fin cfg0.N) (i0 : Fin 512) (i1 : Fin 1024), X t (ix2 i0 i1) = G (ix2 (at_g0_512_4096 t i0) i1)) :
    (dats m 0 c).arrAt 11 cfg0.N = G :=
  (dats m 0 c).arrAt_eq_of_cover 11 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 11).blk t).view.emb (ix2 i0 i1))
    rw [hG t i0 i1, emb11]) fun i => ⟨pt11 i, flush0_11 _, mem11 i⟩

theorem emb12 (t : Fin cfg0.N) (i0 : Fin 512) (i1 : Fin 1024) :
    (((cfg0.win 12).blk t).view.emb (ix2 i0 i1) : S4096x1024.Idx) = ix2 (at_g0_512_4096 t i0) i1 := by
  obtain ⟨-, -, -, -, -, -, -, -, -, -, -, -, ⟨e0, e1⟩, -⟩ := index_at t
  refine funext fun b => Fin.ext ?_
  match b with
  | ⟨0, _⟩ => show win0_12.index t 0 * 512 + 1 * i0.val = (t.val) * 512 + i0.val; omega
  | ⟨1, _⟩ => show win0_12.index t 1 * 1024 + 1 * i1.val = i1.val; omega

/-- The point whose block holds index `i`. -/
abbrev pt12 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt12 (i : S4096x1024.Idx) : (ix2 (at_g0_512_4096 (pt12 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem12 (i : S4096x1024.Idx) : i ∈ ((cfg0.win 12).blk (pt12 i)).view.set :=
  Eq.mp (congrArg (· ∈ ((cfg0.win 12).blk (pt12 i)).view.set) ((emb12 (pt12 i) _ _).trans (at_pt12 i)))
    (((cfg0.win 12).blk (pt12 i)).view.emb_mem_set (ix2 ⟨(i 0).val % 512, by omega⟩ (i 1)))

/-- If every block written back is the block of `G`, the array is `G` after the run. -/
theorem arr12 (X : Fin cfg0.N → Vec Ideal S512x1024 .bf16) (G : Vec Ideal S4096x1024 .bf16)
    (hX : ∀ t : Fin cfg0.N, (dats m 0 c).flushed 12 t = (cfg0.win 12).cut (grid0.coords t) (X t))
    (hG : ∀ (t : Fin cfg0.N) (i0 : Fin 512) (i1 : Fin 1024), X t (ix2 i0 i1) = G (ix2 (at_g0_512_4096 t i0) i1)) :
    (dats m 0 c).arrAt 12 cfg0.N = G :=
  (dats m 0 c).arrAt_eq_of_cover 12 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 12).blk t).view.emb (ix2 i0 i1))
    rw [hG t i0 i1, emb12]) fun i => ⟨pt12 i, flush0_12 _, mem12 i⟩

theorem emb13 (t : Fin cfg0.N) (i0 : Fin 1) (i1 : Fin 128) :
    (((cfg0.win 13).blk t).view.emb (ix2 i0 i1) : S1x128.Idx) = ix2 i0 i1 := by
  obtain ⟨-, -, -, -, -, -, -, -, -, -, -, -, -, ⟨e0, e1⟩, -⟩ := index_at t
  refine funext fun b => Fin.ext ?_
  match b with
  | ⟨0, _⟩ => show win0_13.index t 0 * 1 + 1 * i0.val = i0.val; omega
  | ⟨1, _⟩ => show win0_13.index t 1 * 128 + 1 * i1.val = i1.val; omega

/-- The point whose block holds index `i`. -/
abbrev pt13 (i : S1x128.Idx) : Fin cfg0.N :=
  ⟨(7), by
    have h0 : (i 0).val < 1 := (i 0).isLt
    have h1 : (i 1).val < 128 := (i 1).isLt
    rw [show cfg0.N = 8 from N_0]; omega⟩

theorem at_pt13 (i : S1x128.Idx) : (ix2 (i 0) (i 1) : S1x128.Idx) = i := by
  have h0 : (i 0).val < 1 := (i 0).isLt
  have h1 : (i 1).val < 128 := (i 1).isLt
  refine funext fun b => Fin.ext ?_
  match b with
  | ⟨0, _⟩ => rfl
  | ⟨1, _⟩ => rfl

theorem mem13 (i : S1x128.Idx) : i ∈ ((cfg0.win 13).blk (pt13 i)).view.set :=
  Eq.mp (congrArg (· ∈ ((cfg0.win 13).blk (pt13 i)).view.set) ((emb13 (pt13 i) _ _).trans (at_pt13 i)))
    (((cfg0.win 13).blk (pt13 i)).view.emb_mem_set (ix2 (i 0) (i 1)))

/-- If every block written back is the block of `G`, the array is `G` after the run. -/
theorem arr13 (X : Fin cfg0.N → Vec Ideal S1x128 .f32) (G : Vec Ideal S1x128 .f32)
    (hX : ∀ t : Fin cfg0.N, t.val % 8 = 7 → (dats m 0 c).flushed 13 t = (cfg0.win 13).cut (grid0.coords t) (X t))
    (hG : ∀ (t : Fin cfg0.N) (i0 : Fin 1) (i1 : Fin 128), t.val % 8 = 7 → X t (ix2 i0 i1) = G (ix2 i0 i1)) :
    (dats m 0 c).arrAt 13 cfg0.N = G :=
  (dats m 0 c).arrAt_eq_of_cover 13 G (fun t hf => by
    rw [hX t ((flush0_13 t).mp hf)]
    funext j
    obtain ⟨i0, i1, rfl⟩ : ∃ (i0 : Fin 1) (i1 : Fin 128), j = ix2 i0 i1 := ⟨j 0, j 1, eq_ix2 j⟩
    show X t (ix2 i0 i1) = G (((cfg0.win 13).blk t).view.emb (ix2 i0 i1))
    rw [hG t i0 i1 ((flush0_13 t).mp hf), emb13]) fun i => ⟨pt13 i, (flush0_13 _).mpr (by show (((7)) % 8 = 7); have h0 : (i 0).val < 1 := (i 0).isLt; have h1 : (i 1).val < 128 := (i 1).isLt; omega), mem13 i⟩

theorem emb14 (t : Fin cfg0.N) (i0 : Fin 1) (i1 : Fin 1024) :
    (((cfg0.win 14).blk t).view.emb (ix2 i0 i1) : S1x1024.Idx) = ix2 i0 i1 := by
  obtain ⟨-, -, -, -, -, -, -, -, -, -, -, -, -, -, ⟨e0, e1⟩⟩ := index_at t
  refine funext fun b => Fin.ext ?_
  match b with
  | ⟨0, _⟩ => show win0_14.index t 0 * 1 + 1 * i0.val = i0.val; omega
  | ⟨1, _⟩ => show win0_14.index t 1 * 1024 + 1 * i1.val = i1.val; omega

/-- The point whose block holds index `i`. -/
abbrev pt14 (i : S1x1024.Idx) : Fin cfg0.N :=
  ⟨(7), by
    have h0 : (i 0).val < 1 := (i 0).isLt
    have h1 : (i 1).val < 1024 := (i 1).isLt
    rw [show cfg0.N = 8 from N_0]; omega⟩

theorem at_pt14 (i : S1x1024.Idx) : (ix2 (i 0) (i 1) : S1x1024.Idx) = i := by
  have h0 : (i 0).val < 1 := (i 0).isLt
  have h1 : (i 1).val < 1024 := (i 1).isLt
  refine funext fun b => Fin.ext ?_
  match b with
  | ⟨0, _⟩ => rfl
  | ⟨1, _⟩ => rfl

theorem mem14 (i : S1x1024.Idx) : i ∈ ((cfg0.win 14).blk (pt14 i)).view.set :=
  Eq.mp (congrArg (· ∈ ((cfg0.win 14).blk (pt14 i)).view.set) ((emb14 (pt14 i) _ _).trans (at_pt14 i)))
    (((cfg0.win 14).blk (pt14 i)).view.emb_mem_set (ix2 (i 0) (i 1)))

/-- If every block written back is the block of `G`, the array is `G` after the run. -/
theorem arr14 (X : Fin cfg0.N → Vec Ideal S1x1024 .f32) (G : Vec Ideal S1x1024 .f32)
    (hX : ∀ t : Fin cfg0.N, t.val % 8 = 7 → (dats m 0 c).flushed 14 t = (cfg0.win 14).cut (grid0.coords t) (X t))
    (hG : ∀ (t : Fin cfg0.N) (i0 : Fin 1) (i1 : Fin 1024), t.val % 8 = 7 → X t (ix2 i0 i1) = G (ix2 i0 i1)) :
    (dats m 0 c).arrAt 14 cfg0.N = G :=
  (dats m 0 c).arrAt_eq_of_cover 14 G (fun t hf => by
    rw [hX t ((flush0_14 t).mp hf)]
    funext j
    obtain ⟨i0, i1, rfl⟩ : ∃ (i0 : Fin 1) (i1 : Fin 1024), j = ix2 i0 i1 := ⟨j 0, j 1, eq_ix2 j⟩
    show X t (ix2 i0 i1) = G (((cfg0.win 14).blk t).view.emb (ix2 i0 i1))
    rw [hG t i0 i1 ((flush0_14 t).mp hf), emb14]) fun i => ⟨pt14 i, (flush0_14 _).mpr (by show (((7)) % 8 = 7); have h0 : (i 0).val < 1 := (i 0).isLt; have h1 : (i 1).val < 1024 := (i 1).isLt; omega), mem14 i⟩

end Cert.Proof.LossHead
-- ==== Proof.LossHeadKernel.lean ====
/- Hand-written. The call of the down projection, the loss and the loss's gradient (`LossHead`) at the extended reals: its four
   results as formulas of the arguments. The loss and the gate's gradient are summed over the rows in eight points. -/
module

public import proofs.«01_k».proof.Proof.LossHeadWindows
public import proofs.«01_k».proof.Proof.Sums
public import Idealize.ShloMosaic.Lib.Tactic

@[expose] public section

noncomputable section

namespace Cert.Proof.LossHead

open Cert.LossHeadIdeal Cert.LossHeadIdeal.Gen Cert.LossHeadIdeal.Value Idealize.ShloMosaic Idealize.ShloMosaic.TcCoe Idealize.SL.Sem

/-- One over the number of columns, and a half. -/
abbrev per : EReal := Ideal.ofBits .f32 0x3A800000#32
abbrev half : EReal := Ideal.ofBits .f32 0x3F000000#32

section

variable (x0 : Vec Ideal S4096x2816 .bf16) (x1 : Vec Ideal S2816x1024 .bf16) (x2 x3 : Vec Ideal S4096x1024 .f32)
  (x4 : Vec Ideal S1x6144 .f32)

/-- The down projection. -/
def down (t : Fin 4096) (k : Fin 1024) : EReal := ∑ n : Fin 2816, x0 (ix2 t n) * x1 (ix2 n k)

/-- The step's output minus the target. -/
def err (t : Fin 4096) (k : Fin 1024) : EReal :=
  x2 (ix2 t k) + x4 (ix2 0 ⟨5120 + k.val, by omega⟩) * down x0 x1 t k - x3 (ix2 t k)

/-- The loss's gradient with respect to the output … -/
def dout (t : Fin 4096) (k : Fin 1024) : EReal := err x0 x1 x2 x3 x4 t k * per

/-- … and to the down projection. -/
def ddown (t : Fin 4096) (k : Fin 1024) : EReal := dout x0 x1 x2 x3 x4 t k * x4 (ix2 0 ⟨5120 + k.val, by omega⟩)

/-- What row `t` adds to the loss … -/
def lossRow (t : Fin 4096) : EReal := half * ((∑ k, err x0 x1 x2 x3 x4 t k * err x0 x1 x2 x3 x4 t k) * per)

/-- … and to the gradient of the gate of the down projection. -/
def gateRow (t : Fin 4096) (k : Fin 1024) : EReal := dout x0 x1 x2 x3 x4 t k * down x0 x1 t k

end

/-- An array of rows and columns from its elements. -/
abbrev arr {a b : ℕ} (f : Fin a → Fin b → EReal) : (⟨2, ![a, b]⟩ : Shape).Idx → EReal := fun i => f (i 0) (i 1)

/-! ## Constants -/

theorem half_eq : half = ((1 / 2 : ℝ) : EReal) := by
  simp [Ideal.ofBits, Ideal.ieee, -EReal.coe_mul]; norm_num

theorem per_eq : per = ((1 / 1024 : ℝ) : EReal) := by
  simp [Ideal.ofBits, Ideal.ieee, -EReal.coe_mul]; norm_num

/-- A product with a half goes into a sum, whatever its terms. -/
theorem half_sum {ι : Type} (s : Finset ι) (f : ι → EReal) : half * ∑ i ∈ s, f i = ∑ i ∈ s, half * f i := by
  classical
  induction s using Finset.induction_on with
  | empty => simp
  | insert i s hi ih =>
    rw [Finset.sum_insert hi, Finset.sum_insert hi, ← ih, half_eq]
    exact EReal.left_distrib_of_nonneg_of_ne_top (EReal.coe_nonneg.mpr (by norm_num)) (EReal.coe_ne_top _) _ _

/-! ## One block -/

section

variable (v0 v1 : Vec Ideal S512x1024 .f32) (v2 : Vec Ideal S1x6144 .f32) (a b : Vec Ideal S512x1024 .f32)
  (p0 p1 p2 p3 : Vec Ideal S1x512x704 .bf16) (q0 q1 q2 q3 : Vec Ideal S1x704x1024 .bf16) (i : Fin 512) (j : Fin 1) (k : Fin 1024)

theorem block_down : k0_pay4 (F := Ideal) (k0_pay2 p0 q0 p1 q1 p2 q2) (k0_pay3 p3 q3) (ix2 i k)
    = ∑ n, p0 (ix3 0 i n) * q0 (ix3 0 n k) + ∑ n, p1 (ix3 0 i n) * q1 (ix3 0 n k) + ∑ n, p2 (ix3 0 i n) * q2 (ix3 0 n k)
      + ∑ n, p3 (ix3 0 i n) * q3 (ix3 0 n k) := by
  unfold_payloads
  pointwise [dot_S512x704_S704x1024_S512x1024_1_0_0_1_n_n]

theorem block_err : k0_pay6 (F := Ideal) v0 v1 v2 a b (ix2 i k)
    = v0 (ix2 i k) + v2 (ix2 0 ⟨5120 + k.val, by omega⟩) * k0_pay4 (F := Ideal) a b (ix2 i k) - v1 (ix2 i k) := by
  unfold k0_pay6 k0_pay5
  pointwise

theorem block_dout : k0_pay7 (F := Ideal) v0 v1 v2 a b (ix2 i k) = k0_pay6 (F := Ideal) v0 v1 v2 a b (ix2 i k) * per := by
  unfold k0_pay7
  pointwise

theorem block_ddown : k0_pay9 (F := Ideal) v0 v1 v2 a b (ix2 i k)
    = k0_pay7 (F := Ideal) v0 v1 v2 a b (ix2 i k) * v2 (ix2 0 ⟨5120 + k.val, by omega⟩) := by
  unfold k0_pay9 k0_pay5
  pointwise

theorem block_loss (r : Vec Ideal S1x128 .f32) (n : Fin 128) : k0_pay11 (F := Ideal) v0 v1 v2 a b r (ix2 j n)
    = r (ix2 j n) + half * ∑ i, (∑ k, k0_pay6 (F := Ideal) v0 v1 v2 a b (ix2 i k) * k0_pay6 (F := Ideal) v0 v1 v2 a b (ix2 i k))
      * per := by
  unfold k0_pay11
  pointwise

theorem block_gate (r : Vec Ideal S1x1024 .f32) : k0_pay1 (F := Ideal) (k0_pay8 v0 v1 v2 a b) r (ix2 j k)
    = r (ix2 j k) + ∑ i, k0_pay7 (F := Ideal) v0 v1 v2 a b (ix2 i k) * k0_pay4 (F := Ideal) a b (ix2 i k) := by
  unfold k0_pay1 k0_pay8
  pointwise

theorem zero_loss (n : Fin 128) : k0_pay10 (F := Ideal) (ix2 j n) = 0 := by
  unfold k0_pay10
  pointwise

theorem zero_gate : k0_pay12 (F := Ideal) (ix2 j k) = 0 := by
  unfold k0_pay12
  pointwise

end

/-! ## What each point writes back -/

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

theorem out11 (t : Fin cfg0.N) : (dats m 0 c).flushed 11 t = (cfg0.win 11).cut (grid0.coords t)
    (k0_pay7 (F := Ideal) (iblk m c 8 t) (iblk m c 9 t) (iblk m c 10 t) (k0_pay2 (iblk m c 0 t) (iblk m c 1 t) (iblk m c 2 t) (iblk m c 3 t) (iblk m c 4 t) (iblk m c 5 t)) (k0_pay3 (iblk m c 6 t) (iblk m c 7 t))) := by
  by_cases h0 : t.val % 8 = 0
  · rw [flushed11_A m c t h0 h0]
    unfold out0_A_11
    rw [View.read_writes_eq_canon _ _ _ (fun y => cover0_A_11 (y := y) ..)]
    unfold kernelRun0_A
    dsimp only
    sl_unfold_words
    rw [View.canon_unit_zero hz2]
    simp only [View.readAt_eq_ld, Memref.IsWhole.read_unread, View.ld_unit_zero (S := S512x1024) hz2, View.ld_unit_zero (S := S1x1024) hz2, View.ld_unit_zero (S := S1x128) hz2, View.ld_unit_zero (S := S1x6144) hz2, View.ld_unit_zero (S := S1x512x704) hz3, View.ld_unit_zero (S := S1x704x1024) hz3, shapeCast_self]
  · rw [flushed11_B m c t h0 h0]
    unfold out0_B_11
    rw [View.read_writes_eq_canon _ _ _ (fun y => cover0_B_11 (y := y) ..)]
    unfold kernelRun0_B
    dsimp only
    sl_unfold_words
    rw [View.canon_unit_zero hz2]
    simp only [View.readAt_eq_ld, Memref.IsWhole.read_unread, View.ld_unit_zero (S := S512x1024) hz2, View.ld_unit_zero (S := S1x1024) hz2, View.ld_unit_zero (S := S1x128) hz2, View.ld_unit_zero (S := S1x6144) hz2, View.ld_unit_zero (S := S1x512x704) hz3, View.ld_unit_zero (S := S1x704x1024) hz3, shapeCast_self]

theorem out12 (t : Fin cfg0.N) : (dats m 0 c).flushed 12 t = (cfg0.win 12).cut (grid0.coords t)
    (k0_pay9 (F := Ideal) (iblk m c 8 t) (iblk m c 9 t) (iblk m c 10 t) (k0_pay2 (iblk m c 0 t) (iblk m c 1 t) (iblk m c 2 t) (iblk m c 3 t) (iblk m c 4 t) (iblk m c 5 t)) (k0_pay3 (iblk m c 6 t) (iblk m c 7 t))) := by
  by_cases h0 : t.val % 8 = 0
  · rw [flushed12_A m c t h0 h0]
    unfold out0_A_12
    rw [View.read_writes_eq_canon _ _ _ (fun y => cover0_A_12 (y := y) ..)]
    unfold kernelRun0_A
    dsimp only
    sl_unfold_words
    rw [View.canon_unit_zero hz2]
    simp only [View.readAt_eq_ld, Memref.IsWhole.read_unread, View.ld_unit_zero (S := S512x1024) hz2, View.ld_unit_zero (S := S1x1024) hz2, View.ld_unit_zero (S := S1x128) hz2, View.ld_unit_zero (S := S1x6144) hz2, View.ld_unit_zero (S := S1x512x704) hz3, View.ld_unit_zero (S := S1x704x1024) hz3, shapeCast_self]
  · rw [flushed12_B m c t h0 h0]
    unfold out0_B_12
    rw [View.read_writes_eq_canon _ _ _ (fun y => cover0_B_12 (y := y) ..)]
    unfold kernelRun0_B
    dsimp only
    sl_unfold_words
    rw [View.canon_unit_zero hz2]
    simp only [View.readAt_eq_ld, Memref.IsWhole.read_unread, View.ld_unit_zero (S := S512x1024) hz2, View.ld_unit_zero (S := S1x1024) hz2, View.ld_unit_zero (S := S1x128) hz2, View.ld_unit_zero (S := S1x6144) hz2, View.ld_unit_zero (S := S1x512x704) hz3, View.ld_unit_zero (S := S1x704x1024) hz3, shapeCast_self]

/-- The loss's block after a point that starts the sum. -/
theorem loss_first (t : Fin cfg0.N) (h0 : t.val % 8 = 0) :
    (outsAt0 m c t.val t.isLt).2.2.1 = k0_pay11 (F := Ideal) (iblk m c 8 t) (iblk m c 9 t) (iblk m c 10 t) (k0_pay2 (iblk m c 0 t) (iblk m c 1 t) (iblk m c 2 t) (iblk m c 3 t) (iblk m c 4 t) (iblk m c 5 t)) (k0_pay3 (iblk m c 6 t) (iblk m c 7 t)) (k0_pay10 (F := Ideal)) := by
  rw [outsAt0_A m c t h0 h0]
  dsimp only
  unfold out0_A_13
  rw [View.read_writes_eq_canon _ _ _ (fun y => cover0_A_13 (y := y) ..)]
  unfold kernelRun0_A
  dsimp only
  sl_unfold_words
  rw [View.canon_cons_unit_zero (S := S1x128) hz2, View.readCov_unit_zero (S := S1x128) _ hz2]
  simp only [View.readAt_eq_ld, Memref.IsWhole.read_unread, View.ld_unit_zero (S := S512x1024) hz2, View.ld_unit_zero (S := S1x1024) hz2, View.ld_unit_zero (S := S1x128) hz2, View.ld_unit_zero (S := S1x6144) hz2, View.ld_unit_zero (S := S1x512x704) hz3, View.ld_unit_zero (S := S1x704x1024) hz3, shapeCast_self]

/-- … and after one that goes on with it. -/
theorem loss_next (t : Fin cfg0.N) (h0 : ¬t.val % 8 = 0) :
    (outsAt0 m c t.val t.isLt).2.2.1 = k0_pay11 (F := Ideal) (iblk m c 8 t) (iblk m c 9 t) (iblk m c 10 t) (k0_pay2 (iblk m c 0 t) (iblk m c 1 t) (iblk m c 2 t) (iblk m c 3 t) (iblk m c 4 t) (iblk m c 5 t)) (k0_pay3 (iblk m c 6 t) (iblk m c 7 t)) (outsAt0 m c (t.val - 1) (Nat.lt_of_le_of_lt (Nat.sub_le _ _) t.isLt)).2.2.1 := by
  rw [outsAt0_B m c t h0 h0]
  dsimp only
  unfold out0_B_13
  rw [View.read_writes_eq_canon _ _ _ (fun y => cover0_B_13 (y := y) ..)]
  unfold kernelRun0_B
  dsimp only
  sl_unfold_words
  rw [View.canon_unit_zero hz2]
  simp only [View.readAt_eq_ld, Memref.IsWhole.read_unread, View.ld_unit_zero (S := S512x1024) hz2, View.ld_unit_zero (S := S1x1024) hz2, View.ld_unit_zero (S := S1x128) hz2, View.ld_unit_zero (S := S1x6144) hz2, View.ld_unit_zero (S := S1x512x704) hz3, View.ld_unit_zero (S := S1x704x1024) hz3, shapeCast_self]

/-- The gate's block after a point that starts the sum. -/
theorem gate_first (t : Fin cfg0.N) (h0 : t.val % 8 = 0) :
    (outsAt0 m c t.val t.isLt).2.2.2 = k0_pay1 (F := Ideal) (k0_pay8 (iblk m c 8 t) (iblk m c 9 t) (iblk m c 10 t) (k0_pay2 (iblk m c 0 t) (iblk m c 1 t) (iblk m c 2 t) (iblk m c 3 t) (iblk m c 4 t) (iblk m c 5 t)) (k0_pay3 (iblk m c 6 t) (iblk m c 7 t))) (k0_pay12 (F := Ideal)) := by
  rw [outsAt0_A m c t h0 h0]
  dsimp only
  unfold out0_A_14
  rw [View.read_writes_eq_canon _ _ _ (fun y => cover0_A_14 (y := y) ..)]
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := S512x1024) hz2, View.ld_unit_zero (S := S1x1024) hz2, View.ld_unit_zero (S := S1x128) hz2, View.ld_unit_zero (S := S1x6144) hz2, View.ld_unit_zero (S := S1x512x704) hz3, View.ld_unit_zero (S := S1x704x1024) hz3, shapeCast_self]

/-- … and after one that goes on with it. -/
theorem gate_next (t : Fin cfg0.N) (h0 : ¬t.val % 8 = 0) :
    (outsAt0 m c t.val t.isLt).2.2.2 = k0_pay1 (F := Ideal) (k0_pay8 (iblk m c 8 t) (iblk m c 9 t) (iblk m c 10 t) (k0_pay2 (iblk m c 0 t) (iblk m c 1 t) (iblk m c 2 t) (iblk m c 3 t) (iblk m c 4 t) (iblk m c 5 t)) (k0_pay3 (iblk m c 6 t) (iblk m c 7 t))) (outsAt0 m c (t.val - 1) (Nat.lt_of_le_of_lt (Nat.sub_le _ _) t.isLt)).2.2.2 := by
  rw [outsAt0_B m c t h0 h0]
  dsimp only
  unfold out0_B_14
  rw [View.read_writes_eq_canon _ _ _ (fun y => cover0_B_14 (y := y) ..)]
  unfold kernelRun0_B
  dsimp only
  sl_unfold_words
  rw [View.canon_unit_zero hz2]
  simp only [View.readAt_eq_ld, Memref.IsWhole.read_unread, View.ld_unit_zero (S := S512x1024) hz2, View.ld_unit_zero (S := S1x1024) hz2, View.ld_unit_zero (S := S1x128) hz2, View.ld_unit_zero (S := S1x6144) hz2, View.ld_unit_zero (S := S1x512x704) hz3, View.ld_unit_zero (S := S1x704x1024) hz3, shapeCast_self]

/-! ## The result arrays -/

abbrev a0 : Vec Ideal S4096x2816 .bf16 := m ((c : Thread nD τ).loc main_arg0)
abbrev a1 : Vec Ideal S2816x1024 .bf16 := m ((c : Thread nD τ).loc main_arg1)
abbrev a2 : Vec Ideal S4096x1024 .f32 := m ((c : Thread nD τ).loc main_arg2)
abbrev a3 : Vec Ideal S4096x1024 .f32 := m ((c : Thread nD τ).loc main_arg3)
abbrev a4 : Vec Ideal S1x6144 .f32 := m ((c : Thread nD τ).loc main_arg4)

/-- Column `n` of block `b` of four blocks of 704 columns. -/
abbrev col (b : Fin 4) (n : Fin 704) : Fin 2816 := ⟨b.val * 704 + n.val, by omega⟩

theorem V_act (b : Fin 4) (t : Fin 4096) (n : Fin 704) :
    (V m c main_v1 : Vec Ideal S4x4096x704 .bf16) (ix3 b t n) = a0 m c (ix2 t (col b n)) := by
  have h : V m c main_v1 = (transpose S4x4096x704 [1, 0, 2] (shapeCast S4096x4x704 (a0 m c) shapeCasts_S4096x2816_S4096x4x704)
      transposes_S4096x4x704_S4x4096x704_1_0_2 : Vec Ideal S4x4096x704 .bf16) := by
    show StableHlo.after hostOps0 _ (Proc.devRef .tc main_v1) = _
    after_results
    rfl
  rw [h]
  pointwise

theorem V_w2 (b : Fin 4) (n : Fin 704) (k : Fin 1024) :
    (V m c main_v2 : Vec Ideal S4x704x1024 .bf16) (ix3 b n k) = a1 m c (ix2 (col b n) k) := by
  have h : V m c main_v2 = (shapeCast S4x704x1024 (a1 m c) shapeCasts_S2816x1024_S4x704x1024 : Vec Ideal S4x704x1024 .bf16) := by
    show StableHlo.after hostOps0 _ (Proc.devRef .tc main_v2) = _
    after_results
    rfl
  rw [h]
  pointwise

theorem row_down (t : Fin cfg0.N) (i : Fin 512) (k : Fin 1024) : k0_pay4 (F := Ideal)
    (k0_pay2 (iblk m c 0 t) (iblk m c 1 t) (iblk m c 2 t) (iblk m c 3 t) (iblk m c 4 t) (iblk m c 5 t)) (k0_pay3 (iblk m c 6 t) (iblk m c 7 t)) (ix2 i k) = down (a0 m c) (a1 m c) (at_g0_512_4096 t i) k := by
  rw [block_down, down, Sums.sum_blocks (a := 4) (b := 704) rfl, Fin.sum_univ_four]
  simp only [fun i n => (iblk0 m c t 0 i n).trans (V_act m c _ _ _), fun n k => (iblk1 m c t 0 n k).trans (V_w2 m c _ _ _),
    fun i n => (iblk2 m c t 0 i n).trans (V_act m c _ _ _), fun n k => (iblk3 m c t 0 n k).trans (V_w2 m c _ _ _),
    fun i n => (iblk4 m c t 0 i n).trans (V_act m c _ _ _), fun n k => (iblk5 m c t 0 n k).trans (V_w2 m c _ _ _),
    fun i n => (iblk6 m c t 0 i n).trans (V_act m c _ _ _), fun n k => (iblk7 m c t 0 n k).trans (V_w2 m c _ _ _)]
  rfl

theorem row_err (t : Fin cfg0.N) (i : Fin 512) (k : Fin 1024) : k0_pay6 (F := Ideal)
    (iblk m c 8 t) (iblk m c 9 t) (iblk m c 10 t) (k0_pay2 (iblk m c 0 t) (iblk m c 1 t) (iblk m c 2 t) (iblk m c 3 t) (iblk m c 4 t) (iblk m c 5 t)) (k0_pay3 (iblk m c 6 t) (iblk m c 7 t)) (ix2 i k) = err (a0 m c) (a1 m c) (a2 m c) (a3 m c) (a4 m c) (at_g0_512_4096 t i) k := by
  rw [block_err, row_down]
  simp only [iblk8, iblk9, iblk10]
  rfl

theorem row_dout (t : Fin cfg0.N) (i : Fin 512) (k : Fin 1024) : k0_pay7 (F := Ideal)
    (iblk m c 8 t) (iblk m c 9 t) (iblk m c 10 t) (k0_pay2 (iblk m c 0 t) (iblk m c 1 t) (iblk m c 2 t) (iblk m c 3 t) (iblk m c 4 t) (iblk m c 5 t)) (k0_pay3 (iblk m c 6 t) (iblk m c 7 t)) (ix2 i k) = dout (a0 m c) (a1 m c) (a2 m c) (a3 m c) (a4 m c) (at_g0_512_4096 t i) k := by
  rw [block_dout, row_err]
  rfl

theorem final_dout : (dats m 0 c).arrAt 11 cfg0.N = arr (dout (a0 m c) (a1 m c) (a2 m c) (a3 m c) (a4 m c)) :=
  arr11 m c _ _ (out11 m c) (row_dout m c)

theorem final_ddown : (dats m 0 c).arrAt 12 cfg0.N = arr (ddown (a0 m c) (a1 m c) (a2 m c) (a3 m c) (a4 m c)) :=
  arr12 m c _ _ (out12 m c) fun t i k => by
    rw [block_ddown, row_dout]
    simp only [iblk10]
    rfl

/-- A number that starts at zero and to which every point adds its 512 rows is all rows' sum at the last point. -/
theorem all_rows (a : (n : ℕ) → n < cfg0.N → EReal) (f : Fin 4096 → EReal)
    (first : ∀ t : Fin cfg0.N, t.val % 8 = 0 → a t.val t.isLt = ∑ x : Fin 512, f (at_g0_512_4096 t x))
    (next : ∀ t : Fin cfg0.N, ¬t.val % 8 = 0 → a t.val t.isLt
      = a (t.val - 1) (Nat.lt_of_le_of_lt (Nat.sub_le _ _) t.isLt) + ∑ x : Fin 512, f (at_g0_512_4096 t x))
    (t : Fin cfg0.N) (h : t.val % 8 = 7) : a t.val t.isLt = ∑ r, f r := by
  refine (Sums.acc_sum (N := cfg0.N) (P := 8) (by omega) a (fun t => ∑ x : Fin 512, f (at_g0_512_4096 t x))
    (fun n hn h0 => first ⟨n, hn⟩ h0) (fun n hn h0 => next ⟨n, hn⟩ h0) t.val t.isLt h).trans ?_
  have ht := pt_lt t
  rw [Sums.sum_blocks (a := 8) (b := 512) rfl]
  refine Fintype.sum_congr _ _ fun g => Fintype.sum_congr _ _ fun x => congrArg f (Fin.ext ?_)
  show (t.val - (8 - 1) + g.val) * 512 + x.val = g.val * 512 + x.val
  omega

theorem final_loss : (dats m 0 c).arrAt 13 cfg0.N
    = arr fun _ _ => ∑ t, lossRow (a0 m c) (a1 m c) (a2 m c) (a3 m c) (a4 m c) t :=
  arr13 m c (fun t => (outsAt0 m c t.val t.isLt).2.2.1) _ (fun t _ => flushed13 m c t) fun t j n =>
    all_rows (fun s hs => (outsAt0 m c s hs).2.2.1 (ix2 j n)) _
    (fun t h0 => by
      rw [loss_first m c t h0, block_loss, zero_loss, zero_add, half_sum]
      simp only [row_err]
      rfl)
    (fun t h0 => by
      rw [loss_next m c t h0, block_loss, half_sum]
      simp only [row_err]
      rfl) t

theorem final_gate : (dats m 0 c).arrAt 14 cfg0.N
    = arr fun _ k => ∑ t, gateRow (a0 m c) (a1 m c) (a2 m c) (a3 m c) (a4 m c) t k :=
  arr14 m c (fun t => (outsAt0 m c t.val t.isLt).2.2.2) _ (fun t _ => flushed14 m c t) fun t j k =>
    all_rows (fun s hs => (outsAt0 m c s hs).2.2.2 (ix2 j k))
    (fun t => gateRow (a0 m c) (a1 m c) (a2 m c) (a3 m c) (a4 m c) t k)
    (fun t h0 => by
      rw [gate_first m c t h0, block_gate, zero_gate, zero_add]
      simp only [row_dout, row_down]
      rfl)
    (fun t h0 => by
      rw [gate_next m c t h0, block_gate]
      simp only [row_dout, row_down]
      rfl) t

end Cert.Proof.LossHead
-- ==== Proof.LossHeadRef.lean ====
/- Hand-written. The reference of the loss call at the extended reals: the same four formulas. The reference divides by the number
   of columns where the call multiplies by its reciprocal, and takes the half of the whole sum of the rows. -/
module

public import proofs.«01_k».proof.Proof.Gen.LossHeadRefIdeal.Run
public import proofs.«01_k».proof.Proof.Gen.LossHeadRefIdeal.Read
public import proofs.«01_k».proof.Proof.LossHeadKernel

@[expose] public section

noncomputable section

namespace Cert.Proof.LossHead

open Cert.LossHeadRefIdeal Cert.LossHeadRefIdeal.Read Idealize.ShloMosaic Idealize.ShloMosaic.TcCoe Idealize.SL.Sem

/-- The number of columns, as the reference's divisor. -/
theorem columns_eq : Ideal.ofBits .f32 0x44800000#32 = ((1024 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem div_columns (x : EReal) : Ideal.div x (Ideal.ofBits .f32 0x44800000#32) = x * per := by
  rw [columns_eq, Ideal.div_coe (by norm_num), per_eq]

/-- A half over the number of columns, times twice a number, is the number over the number of columns. -/
theorem half_two (x : EReal) : half * per * (Ideal.ofBits .f32 0x40000000#32 * x) = x * per := by
  rw [← mul_assoc, half_eq, per_eq, two_eq, ← EReal.coe_mul, ← EReal.coe_mul, mul_comm]
  norm_num

variable (x0 : Vec Ideal S4096x2816 .bf16) (x1 : Vec Ideal S2816x1024 .bf16) (x2 x3 : Vec Ideal S4096x1024 .f32)
  (x4 : Vec Ideal S1x6144 .f32)

theorem ref_down (t : Fin 4096) (k : Fin 1024) : val_main_v8 (F := Ideal) x0 x1 (ix2 t k) = down x0 x1 t k := by
  unfold val_main_v8 val_main_v0 val_main_v1
  pointwise [dot_S4096x2816_S2816x1024_S4096x1024_1_0_0_1_n_n]
  rfl

theorem ref_err (t : Fin 4096) (k : Fin 1024) : val_main_v12 (F := Ideal) x0 x1 x2 x3 x4 (ix2 t k) = err x0 x1 x2 x3 x4 t k := by
  unfold val_main_v12 val_main_v11 val_main_v10 val_main_v9 val_main_v7
  pointwise
  rw [ref_down]
  rfl

theorem final_ref_dout : val_main_v26 (F := Ideal) x0 x1 x2 x3 x4 = arr (dout x0 x1 x2 x3 x4) := by
  funext i
  obtain ⟨t, k, rfl⟩ : ∃ (t : Fin 4096) (k : Fin 1024), i = ix2 t k := ⟨i 0, i 1, eq_ix2 i⟩
  unfold val_main_v26 val_main_v25 val_main_v24 val_main_v23 val_main_v22 val_main_v21 val_main_v15 val_main_v14 val_main_cst
    val_main_cst_4 val_main_cst_5 val_main_cst_6
  pointwise
  rw [ref_err, div_columns]
  exact half_two _

theorem final_ref_ddown : val_main_v32 (F := Ideal) x0 x1 x2 x3 x4 = arr (ddown x0 x1 x2 x3 x4) := by
  funext i
  obtain ⟨t, k, rfl⟩ : ∃ (t : Fin 4096) (k : Fin 1024), i = ix2 t k := ⟨i 0, i 1, eq_ix2 i⟩
  unfold val_main_v32 val_main_v28 val_main_v27 val_main_v7
  pointwise
  rw [final_ref_dout]
  exact mul_comm _ _

theorem final_ref_loss : val_main_v33 (F := Ideal) x0 x1 x2 x3 x4 = arr fun _ _ => ∑ t, lossRow x0 x1 x2 x3 x4 t := by
  funext i
  obtain ⟨j, n, rfl⟩ : ∃ (j : Fin 1) (n : Fin 128), i = ix2 j n := ⟨i 0, i 1, eq_ix2 i⟩
  unfold val_main_v33 val_main_v20 val_main_v19 val_main_v18 val_main_v17 val_main_v16 val_main_v13 val_main_cst_0 val_main_cst_1
    val_main_cst_2 val_main_cst_3
  pointwise
  simp only [ref_err, div_columns]
  exact half_sum _ _

theorem final_ref_gate : val_main_v31 (F := Ideal) x0 x1 x2 x3 x4 = arr fun _ k => ∑ t, gateRow x0 x1 x2 x3 x4 t k := by
  funext i
  obtain ⟨j, k, rfl⟩ : ∃ (j : Fin 1) (k : Fin 1024), i = ix2 j k := ⟨i 0, i 1, eq_ix2 i⟩
  unfold val_main_v31 val_main_v30 val_main_v29 val_main_cst_7
  pointwise
  rw [final_ref_dout]
  simp only [ref_down]
  rfl

end Cert.Proof.LossHead
-- ==== Proof.LossHeadClaim.lean ====
/- Hand-written. The loss call: the reference's frame and the equation of the four results. -/
module

public import proofs.«01_k».proof.Defs
public import proofs.«01_k».proof.Proof.LossHeadKernel
public import proofs.«01_k».proof.Proof.LossHeadRef
public import Idealize.ShloMosaic.Adequacy

@[expose] public section

noncomputable section

namespace Cert.Proof.LossHead

open Idealize.ShloMosaic Idealize.ShloMosaic.TcCoe Idealize.SL.Sem

/-- The reference has no semaphores, so none is left counting. -/
theorem frame_ref : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

/-- The call and its reference end with equal results. -/
theorem value : Cert.algebraic_LossHeadIdeal_LossHeadRefIdeal := by
  intro m ρ m' ρ' _ hagree
  refine ⟨fun c => (Cert.LossHeadIdeal.Gen.dats m 0 c).arrAt 11 Cert.LossHeadIdeal.cfg0.N, fun c => (Cert.LossHeadIdeal.Gen.dats m 0 c).arrAt 12 Cert.LossHeadIdeal.cfg0.N, fun c => (Cert.LossHeadIdeal.Gen.dats m 0 c).arrAt 13 Cert.LossHeadIdeal.cfg0.N, fun c => (Cert.LossHeadIdeal.Gen.dats m 0 c).arrAt 14 Cert.LossHeadIdeal.cfg0.N, ?_, ?_⟩
  · exact Cert.LossHeadIdeal.Value.run_blocks m ρ
  · refine (θ_run Cert.LossHeadRefIdeal.defs _ _).mono (fun _ h c => ?_) (Cert.LossHeadRefIdeal.Value.run (F := Ideal) m' ρ')
    obtain ⟨e0, e1, e2, e3, e4⟩ := hagree c
    obtain ⟨h0, h1, h2, h3, hkept⟩ := h c
    refine ⟨?_, ?_, ?_, ?_, hkept⟩
    · refine h0.trans ((Cert.LossHeadRefIdeal.Read.val_main_v26_eq (F := Ideal) _ _ _ _ _).trans ?_)
      rw [e0, e1, e2, e3, e4]
      exact (final_ref_dout _ _ _ _ _).trans (final_dout m c).symm
    · refine h1.trans ((Cert.LossHeadRefIdeal.Read.val_main_v32_eq (F := Ideal) _ _ _ _ _).trans ?_)
      rw [e0, e1, e2, e3, e4]
      exact (final_ref_ddown _ _ _ _ _).trans (final_ddown m c).symm
    · refine h2.trans ((Cert.LossHeadRefIdeal.Read.val_main_v33_eq (F := Ideal) _ _ _ _ _).trans ?_)
      rw [e0, e1, e2, e3, e4]
      exact (final_ref_loss _ _ _ _ _).trans (final_loss m c).symm
    · refine h3.trans ((Cert.LossHeadRefIdeal.Read.val_main_v31_eq (F := Ideal) _ _ _ _ _).trans ?_)
      rw [e0, e1, e2, e3, e4]
      exact (final_ref_gate _ _ _ _ _).trans (final_gate m c).symm

end Cert.Proof.LossHead
-- ==== Proof.FfnUpWindows.lean ====
/- Hand-written. Windows of the call of the SwiGLU's up projections: which block of which array each grid point sees. -/
module

public import proofs.«01_k».proof.Proof.Gen.FfnUpIdeal.Value
public import Idealize.ShloMosaic.Lib.Pointwise

@[expose] public section

noncomputable section

namespace Cert.Proof.FfnUp

open Cert.FfnUpIdeal Cert.FfnUpIdeal.Gen Cert.FfnUpIdeal.Value Idealize.ShloMosaic Idealize.ShloMosaic.TcCoe Idealize.SL.Sem

theorem pt_lt (t : Fin cfg0.N) : t.val < 16 := by
  have h := t.isLt
  have e : cfg0.N = 16 := N_0
  omega

/-- The block indices of each window at point `t`. -/
theorem index_at : ∀ t : Fin cfg0.N, (win0_0.index t 0 = t.val % 4 ∧ win0_0.index t 1 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0) :=
  (by decide +kernel : ∀ t : Fin grid0.N, _)

/-- Element `i` of the block of 1024 at index `t.val % 4` of an axis of 4096. -/
abbrev at_g1_1024_4096 (t : Fin cfg0.N) (i : Fin 1024) : Fin 4096 :=
  ⟨(t.val % 4) * 1024 + i.val, by have := pt_lt t; omega⟩

/-- Element `i` of the block of 1 at index `t.val / 4` of an axis of 4. -/
abbrev at_g0_1_4 (t : Fin cfg0.N) (i : Fin 1) : Fin 4 :=
  ⟨(t.val / 4) * 1 + i.val, by have := pt_lt t; omega⟩

variable (m : (ℓ : Loc nD τ sig) → Buf (Elt Ideal) ℓ) (c : Dev nD)

theorem emb0 (t : Fin cfg0.N) (i0 : Fin 1024) (i1 : Fin 1024) :
    (((cfg0.win 0).blk t).view.emb (ix2 i0 i1) : S4096x1024.Idx) = ix2 (at_g1_1024_4096 t i0) i1 := by
  obtain ⟨⟨e0, e1⟩, -⟩ := index_at t
  refine funext fun b => Fin.ext ?_
  match b with
  | ⟨0, _⟩ => show win0_0.index t 0 * 1024 + 1 * i0.val = (t.val % 4) * 1024 + i0.val; omega
  | ⟨1, _⟩ => show win0_0.index t 1 * 1024 + 1 * i1.val = i1.val; omega

theorem iblk0 (t : Fin cfg0.N) (i0 : Fin 1024) (i1 : Fin 1024) :
    (iblk m c 0 t : Vec Ideal S1024x1024 .bf16) (ix2 i0 i1) = (m ((c : Thread nD τ).loc main_arg0) : Vec Ideal S4096x1024 .bf16) (ix2 (at_g1_1024_4096 t i0) i1) :=
  (congrArg (V m c main_arg0) (emb0 t i0 i1)).trans (congrFun (V_main_arg0 m c) _)

theorem emb1 (t : Fin cfg0.N) (i0 : Fin 1) (i1 : Fin 1024) (i2 : Fin 704) :
    (((cfg0.win 1).blk t).view.emb (ix3 i0 i1 i2) : S4x1024x704.Idx) = ix3 (at_g0_1_4 t i0) i1 i2 := by
  obtain ⟨-, ⟨e0, e1, e2⟩, -⟩ := index_at t
  refine funext fun b => Fin.ext ?_
  match b with
  | ⟨0, _⟩ => show win0_1.index t 0 * 1 + 1 * i0.val = (t.val / 4) * 1 + i0.val; omega
  | ⟨1, _⟩ => show win0_1.index t 1 * 1024 + 1 * i1.val = i1.val; omega
  | ⟨2, _⟩ => show win0_1.index t 2 * 704 + 1 * i2.val = i2.val; omega

theorem iblk1 (t : Fin cfg0.N) (i0 : Fin 1) (i1 : Fin 1024) (i2 : Fin 704) :
    (iblk m c 1 t : Vec Ideal S1x1024x704 .bf16) (ix3 i0 i1 i2) = (V m c main_v1 : Vec Ideal S4x1024x704 .bf16) (ix3 (at_g0_1_4 t i0) i1 i2) :=
  (congrArg (V m c main_v1) (emb1 t i0 i1 i2))

theorem emb2 (t : Fin cfg0.N) (i0 : Fin 1) (i1 : Fin 1024) (i2 : Fin 704) :
    (((cfg0.win 2).blk t).view.emb (ix3 i0 i1 i2) : S4x1024x704.Idx) = ix3 (at_g0_1_4 t i0) i1 i2 := by
  obtain ⟨-, -, ⟨e0, e1, e2⟩, -⟩ := index_at t
  refine funext fun b => Fin.ext ?_
  match b with
  | ⟨0, _⟩ => show win0_2.index t 0 * 1 + 1 * i0.val = (t.val / 4) * 1 + i0.val; omega
  | ⟨1, _⟩ => show win0_2.index t 1 * 1024 + 1 * i1.val = i1.val; omega
  | ⟨2, _⟩ => show win0_2.index t 2 * 704 + 1 * i2.val = i2.val; omega

theorem iblk2 (t : Fin cfg0.N) (i0 : Fin 1) (i1 : Fin 1024) (i2 : Fin 704) :
    (iblk m c 2 t : Vec Ideal S1x1024x704 .bf16) (ix3 i0 i1 i2) = (V m c main_v3 : Vec Ideal S4x1024x704 .bf16) (ix3 (at_g0_1_4 t i0) i1 i2) :=
  (congrArg (V m c main_v3) (emb2 t i0 i1 i2))

theorem emb3 (t : Fin cfg0.N) (i0 : Fin 1) (i1 : Fin 1024) (i2 : Fin 704) :
    (((cfg0.win 3).blk t).view.emb (ix3 i0 i1 i2) : S4x4096x704.Idx) = ix3 (at_g0_1_4 t i0) (at_g1_1024_4096 t i1) i2 := by
  obtain ⟨-, -, -, ⟨e0, e1, e2⟩, -⟩ := index_at t
  refine funext fun b => Fin.ext ?_
  match b with
  | ⟨0, _⟩ => show win0_3.index t 0 * 1 + 1 * i0.val = (t.val / 4) * 1 + i0.val; omega
  | ⟨1, _⟩ => show win0_3.index t 1 * 1024 + 1 * i1.val = (t.val % 4) * 1024 + i1.val; omega
  | ⟨2, _⟩ => show win0_3.index t 2 * 704 + 1 * i2.val = i2.val; omega

/-- The point whose block holds index `i`. -/
abbrev pt3 (i : S4x4096x704.Idx) : Fin cfg0.N :=
  ⟨((i 0).val) * 4 + ((i 1).val / 1024), by
    have h0 : (i 0).val < 4 := (i 0).isLt
    have h1 : (i 1).val < 4096 := (i 1).isLt
    have h2 : (i 2).val < 704 := (i 2).isLt
    rw [show cfg0.N = 16 from N_0]; omega⟩

theorem at_pt3 (i : S4x4096x704.Idx) : (ix3 (at_g0_1_4 (pt3 i) ⟨(i 0).val % 1, by omega⟩) (at_g1_1024_4096 (pt3 i) ⟨(i 1).val % 1024, by omega⟩) (i 2) : S4x4096x704.Idx) = i := by
  have h0 : (i 0).val < 4 := (i 0).isLt
  have h1 : (i 1).val < 4096 := (i 1).isLt
  have h2 : (i 2).val < 704 := (i 2).isLt
  refine funext fun b => Fin.ext ?_
  match b with
  | ⟨0, _⟩ => show ((((i 0).val) * 4 + ((i 1).val / 1024)) / 4) * 1 + (i 0).val % 1 = (i 0).val; omega
  | ⟨1, _⟩ => show ((((i 0).val) * 4 + ((i 1).val / 1024)) % 4) * 1024 + (i 1).val % 1024 = (i 1).val; omega
  | ⟨2, _⟩ => rfl

theorem mem3 (i : S4x4096x704.Idx) : i ∈ ((cfg0.win 3).blk (pt3 i)).view.set :=
  Eq.mp (congrArg (· ∈ ((cfg0.win 3).blk (pt3 i)).view.set) ((emb3 (pt3 i) _ _ _).trans (at_pt3 i)))
    (((cfg0.win 3).blk (pt3 i)).view.emb_mem_set (ix3 ⟨(i 0).val % 1, by omega⟩ ⟨(i 1).val % 1024, by omega⟩ (i 2)))

/-- If every block written back is the block of `G`, the array is `G` after the run. -/
theorem arr3 (X : Fin cfg0.N → Vec Ideal S1x1024x704 .bf16) (G : Vec Ideal S4x4096x704 .bf16)
    (hX : ∀ t : Fin cfg0.N, (dats m 0 c).flushed 3 t = (cfg0.win 3).cut (grid0.coords t) (X t))
    (hG : ∀ (t : Fin cfg0.N) (i0 : Fin 1) (i1 : Fin 1024) (i2 : Fin 704), X t (ix3 i0 i1 i2) = G (ix3 (at_g0_1_4 t i0) (at_g1_1024_4096 t i1) i2)) :
    (dats m 0 c).arrAt 3 cfg0.N = G :=
  (dats m 0 c).arrAt_eq_of_cover 3 G (fun t _ => by
    rw [hX t]
    funext j
    obtain ⟨i0, i1, i2, rfl⟩ : ∃ (i0 : Fin 1) (i1 : Fin 1024) (i2 : Fin 704), j = ix3 i0 i1 i2 := ⟨j 0, j 1, j 2, eq_ix3 j⟩
    show X t (ix3 i0 i1 i2) = G (((cfg0.win 3).blk t).view.emb (ix3 i0 i1 i2))
    rw [hG t i0 i1 i2, emb3]) fun i => ⟨pt3 i, flush0_3 _, mem3 i⟩

theorem emb4 (t : Fin cfg0.N) (i0 : Fin 1) (i1 : Fin 1024) (i2 : Fin 704) :
    (((cfg0.win 4).blk t).view.emb (ix3 i0 i1 i2) : S4x4096x704.Idx) = ix3 (at_g0_1_4 t i0) (at_g1_1024_4096 t i1) i2 := by
  obtain ⟨-, -, -, -, ⟨e0, e1, e2⟩, -⟩ := index_at t
  refine funext fun b => Fin.ext ?_
  match b with
  | ⟨0, _⟩ => show win0_4.index t 0 * 1 + 1 * i0.val = (t.val / 4) * 1 + i0.val; omega
  | ⟨1, _⟩ => show win0_4.index t 1 * 1024 + 1 * i1.val = (t.val % 4) * 1024 + i1.val; omega
  | ⟨2, _⟩ => show win0_4.index t 2 * 704 + 1 * i2.val = i2.val; omega

/-- The point whose block holds index `i`. -/
abbrev pt4 (i : S4x4096x704.Idx) : Fin cfg0.N :=
  ⟨((i 0).val) * 4 + ((i 1).val / 1024), by
    have h0 : (i 0).val < 4 := (i 0).isLt
    have h1 : (i 1).val < 4096 := (i 1).isLt
    have h2 : (i 2).val < 704 := (i 2).isLt
    rw [show cfg0.N = 16 from N_0]; omega⟩

theorem at_pt4 (i : S4x4096x704.Idx) : (ix3 (at_g0_1_4 (pt4 i) ⟨(i 0).val % 1, by omega⟩) (at_g1_1024_4096 (pt4 i) ⟨(i 1).val % 1024, by omega⟩) (i 2) : S4x4096x704.Idx) = i := by
  have h0 : (i 0).val < 4 := (i 0).isLt
  have h1 : (i 1).val < 4096 := (i 1).isLt
  have h2 : (i 2).val < 704 := (i 2).isLt
  refine funext fun b => Fin.ext ?_
  match b with
  | ⟨0, _⟩ => show ((((i 0).val) * 4 + ((i 1).val / 1024)) / 4) * 1 + (i 0).val % 1 = (i 0).val; omega
  | ⟨1, _⟩ => show ((((i 0).val) * 4 + ((i 1).val / 1024)) % 4) * 1024 + (i 1).val % 1024 = (i 1).val; omega
  | ⟨2, _⟩ => rfl

theorem mem4 (i : S4x4096x704.Idx) : i ∈ ((cfg0.win 4).blk (pt4 i)).view.set :=
  Eq.mp (congrArg (· ∈ ((cfg0.win 4).blk (pt4 i)).view.set) ((emb4 (pt4 i) _ _ _).trans (at_pt4 i)))
    (((cfg0.win 4).blk (pt4 i)).view.emb_mem_set (ix3 ⟨(i 0).val % 1, by omega⟩ ⟨(i 1).val % 1024, by omega⟩ (i 2)))

/-- If every block written back is the block of `G`, the array is `G` after the run. -/
theorem arr4 (X : Fin cfg0.N → Vec Ideal S1x1024x704 .bf16) (G : Vec Ideal S4x4096x704 .bf16)
    (hX : ∀ t : Fin cfg0.N, (dats m 0 c).flushed 4 t = (cfg0.win 4).cut (grid0.coords t) (X t))
    (hG : ∀ (t : Fin cfg0.N) (i0 : Fin 1) (i1 : Fin 1024) (i2 : Fin 704), X t (ix3 i0 i1 i2) = G (ix3 (at_g0_1_4 t i0) (at_g1_1024_4096 t i1) i2)) :
    (dats m 0 c).arrAt 4 cfg0.N = G :=
  (dats m 0 c).arrAt_eq_of_cover 4 G (fun t _ => by
    rw [hX t]
    funext j
    obtain ⟨i0, i1, i2, rfl⟩ : ∃ (i0 : Fin 1) (i1 : Fin 1024) (i2 : Fin 704), j = ix3 i0 i1 i2 := ⟨j 0, j 1, j 2, eq_ix3 j⟩
    show X t (ix3 i0 i1 i2) = G (((cfg0.win 4).blk t).view.emb (ix3 i0 i1 i2))
    rw [hG t i0 i1 i2, emb4]) fun i => ⟨pt4 i, flush0_4 _, mem4 i⟩

theorem emb5 (t : Fin cfg0.N) (i0 : Fin 1) (i1 : Fin 1024) (i2 : Fin 704) :
    (((cfg0.win 5).blk t).view.emb (ix3 i0 i1 i2) : S4x4096x704.Idx) = ix3 (at_g0_1_4 t i0) (at_g1_1024_4096 t i1) i2 := by
  obtain ⟨-, -, -, -, -, ⟨e0, e1, e2⟩⟩ := index_at t
  refine funext fun b => Fin.ext ?_
  match b with
  | ⟨0, _⟩ => show win0_5.index t 0 * 1 + 1 * i0.val = (t.val / 4) * 1 + i0.val; omega
  | ⟨1, _⟩ => show win0_5.index t 1 * 1024 + 1 * i1.val = (t.val % 4) * 1024 + i1.val; omega
  | ⟨2, _⟩ => show win0_5.index t 2 * 704 + 1 * i2.val = i2.val; omega

/-- The point whose block holds index `i`. -/
abbrev pt5 (i : S4x4096x704.Idx) : Fin cfg0.N :=
  ⟨((i 0).val) * 4 + ((i 1).val / 1024), by
    have h0 : (i 0).val < 4 := (i 0).isLt
    have h1 : (i 1).val < 4096 := (i 1).isLt
    have h2 : (i 2).val < 704 := (i 2).isLt
    rw [show cfg0.N = 16 from N_0]; omega⟩

theorem at_pt5 (i : S4x4096x704.Idx) : (ix3 (at_g0_1_4 (pt5 i) ⟨(i 0).val % 1, by omega⟩) (at_g1_1024_4096 (pt5 i) ⟨(i 1).val % 1024, by omega⟩) (i 2) : S4x4096x704.Idx) = i := by
  have h0 : (i 0).val < 4 := (i 0).isLt
  have h1 : (i 1).val < 4096 := (i 1).isLt
  have h2 : (i 2).val < 704 := (i 2).isLt
  refine funext fun b => Fin.ext ?_
  match b with
  | ⟨0, _⟩ => show ((((i 0).val) * 4 + ((i 1).val / 1024)) / 4) * 1 + (i 0).val % 1 = (i 0).val; omega
  | ⟨1, _⟩ => show ((((i 0).val) * 4 + ((i 1).val / 1024)) % 4) * 1024 + (i 1).val % 1024 = (i 1).val; omega
  | ⟨2, _⟩ => rfl

theorem mem5 (i : S4x4096x704.Idx) : i ∈ ((cfg0.win 5).blk (pt5 i)).view.set :=
  Eq.mp (congrArg (· ∈ ((cfg0.win 5).blk (pt5 i)).view.set) ((emb5 (pt5 i) _ _ _).trans (at_pt5 i)))
    (((cfg0.win 5).blk (pt5 i)).view.emb_mem_set (ix3 ⟨(i 0).val % 1, by omega⟩ ⟨(i 1).val % 1024, by omega⟩ (i 2)))

/-- If every block written back is the block of `G`, the array is `G` after the run. -/
theorem arr5 (X : Fin cfg0.N → Vec Ideal S1x1024x704 .bf16) (G : Vec Ideal S4x4096x704 .bf16)
    (hX : ∀ t : Fin cfg0.N, (dats m 0 c).flushed 5 t = (cfg0.win 5).cut (grid0.coords t) (X t))
    (hG : ∀ (t : Fin cfg0.N) (i0 : Fin 1) (i1 : Fin 1024) (i2 : Fin 704), X t (ix3 i0 i1 i2) = G (ix3 (at_g0_1_4 t i0) (at_g1_1024_4096 t i1) i2)) :
    (dats m 0 c).arrAt 5 cfg0.N = G :=
  (dats m 0 c).arrAt_eq_of_cover 5 G (fun t _ => by
    rw [hX t]
    funext j
    obtain ⟨i0, i1, i2, rfl⟩ : ∃ (i0 : Fin 1) (i1 : Fin 1024) (i2 : Fin 704), j = ix3 i0 i1 i2 := ⟨j 0, j 1, j 2, eq_ix3 j⟩
    show X t (ix3 i0 i1 i2) = G (((cfg0.win 5).blk t).view.emb (ix3 i0 i1 i2))
    rw [hG t i0 i1 i2, emb5]) fun i => ⟨pt5 i, flush0_5 _, mem5 i⟩

end Cert.Proof.FfnUp
-- ==== Proof.FfnUpKernel.lean ====
/- Hand-written. The SwiGLU's forward call (`FfnUp`) and its reference at the extended reals: the two projections and the gated
   product, in four blocks of columns, each element as one formula of the arguments. -/
module

public import proofs.«01_k».proof.Proof.FfnUpWindows
public import proofs.«01_k».proof.Proof.Gen.FfnUpRefIdeal.Run
public import proofs.«01_k».proof.Proof.Gen.FfnUpRefIdeal.Read
public import proofs.«01_k».proof.Proof.Algebra
public import Idealize.ShloMosaic.Lib.Tactic

@[expose] public section

noncomputable section

namespace Cert.Proof.FfnUp

open Idealize.ShloMosaic Idealize.ShloMosaic.TcCoe Idealize.SL.Sem
open Cert.Proof.Algebra (gate)

/-- `h @ w` at row `t` and column `n`. -/
def proj (h : Vec Ideal (⟨2, ![4096, 1024]⟩ : Shape) .bf16) (w : Vec Ideal (⟨2, ![1024, 2816]⟩ : Shape) .bf16) (t : Fin 4096)
    (n : Fin 2816) : EReal := ∑ k : Fin 1024, h (ix2 t k) * w (ix2 k n)

/-- The gated product `u s(u) v` of the two projections. -/
def act (h : Vec Ideal (⟨2, ![4096, 1024]⟩ : Shape) .bf16) (w1 w3 : Vec Ideal (⟨2, ![1024, 2816]⟩ : Shape) .bf16) (t : Fin 4096)
    (n : Fin 2816) : EReal := proj h w1 t n * gate (proj h w1 t n) * proj h w3 t n

/-- Column `k` of block `b` of four blocks of 704 columns. -/
abbrev col (b : Fin 4) (k : Fin 704) : Fin 2816 := ⟨b.val * 704 + k.val, by omega⟩

/-- An array of four column blocks from its elements. -/
abbrev blocks (f : Fin 4096 → Fin 2816 → EReal) : (⟨3, ![4, 4096, 704]⟩ : Shape).Idx → EReal := fun i => f (i 1) (col (i 0) (i 2))

section

open Cert.FfnUpRefIdeal Cert.FfnUpRefIdeal.Read

variable (x0 : Vec Ideal S4096x1024 .bf16) (x1 x2 : Vec Ideal S1024x2816 .bf16)

theorem ref_u (t : Fin 4096) (n : Fin 2816) : val_main_v3 (F := Ideal) x0 x1 (ix2 t n) = proj x0 x1 t n := by
  unfold val_main_v3 val_main_v0 val_main_v1
  pointwise [dot_S4096x1024_S1024x2816_S4096x2816_1_0_0_1_n_n]
  rfl

theorem ref_v (t : Fin 4096) (n : Fin 2816) : val_main_v4 (F := Ideal) x0 x2 (ix2 t n) = proj x0 x2 t n := by
  unfold val_main_v4 val_main_v0 val_main_v2
  pointwise [dot_S4096x1024_S1024x2816_S4096x2816_1_0_0_1_n_n]
  rfl

theorem final_ref_u : val_main_v7 (F := Ideal) x0 x1 = blocks (proj x0 x1) := by
  funext i
  obtain ⟨b, t, k, rfl⟩ : ∃ (b : Fin 4) (t : Fin 4096) (k : Fin 704), i = ix3 b t k := ⟨i 0, i 1, i 2, eq_ix3 i⟩
  show _ = proj x0 x1 t (col b k)
  unfold val_main_v7 val_main_v6 val_main_v5
  pointwise
  rw [ref_u]

theorem final_ref_v : val_main_v10 (F := Ideal) x0 x2 = blocks (proj x0 x2) := by
  funext i
  obtain ⟨b, t, k, rfl⟩ : ∃ (b : Fin 4) (t : Fin 4096) (k : Fin 704), i = ix3 b t k := ⟨i 0, i 1, i 2, eq_ix3 i⟩
  show _ = proj x0 x2 t (col b k)
  unfold val_main_v10 val_main_v9 val_main_v8
  pointwise
  rw [ref_v]

theorem final_ref_act : val_main_v15 (F := Ideal) x0 x1 x2 = blocks (act x0 x1 x2) := by
  funext i
  obtain ⟨b, t, k, rfl⟩ : ∃ (b : Fin 4) (t : Fin 4096) (k : Fin 704), i = ix3 b t k := ⟨i 0, i 1, i 2, eq_ix3 i⟩
  show _ = act x0 x1 x2 t (col b k)
  unfold val_main_v15 val_main_v14 val_main_v13 val_main_v12 val_main_v11 val_main_call0_v5 val_main_call0_v4 val_main_call0_cst_0
    val_main_call0_v3 val_main_call0_v2 val_main_call0_cst val_main_call0_v1 val_main_call0_v0
  pointwise
  rw [ref_u, ref_v]
  rfl

end

open Cert.FfnUpIdeal Cert.FfnUpIdeal.Gen Cert.FfnUpIdeal.Value

section

variable (v0 : Vec Ideal S1024x1024 .bf16) (v1 v2 : Vec Ideal S1x1024x704 .bf16) (a : Fin 1) (i : Fin 1024) (j : Fin 704)

theorem block_u : k0_pay3 (F := Ideal) v0 v1 (ix3 a i j) = ∑ x, v0 (ix2 i x) * v1 (ix3 0 x j) := by
  unfold_payloads
  pointwise [dot_S1024x1024_S1024x704_S1024x704_1_0_0_1_n_n]

theorem block_v : k0_pay4 (F := Ideal) v0 v2 (ix3 a i j) = ∑ x, v0 (ix2 i x) * v2 (ix3 0 x j) := by
  unfold_payloads
  pointwise [dot_S1024x1024_S1024x704_S1024x704_1_0_0_1_n_n]

theorem block_act : k0_pay5 (F := Ideal) v0 v1 v0 v2 (ix3 a i j)
    = (∑ x, v0 (ix2 i x) * v1 (ix3 0 x j)) * gate (∑ x, v0 (ix2 i x) * v1 (ix3 0 x j)) * ∑ x, v0 (ix2 i x) * v2 (ix3 0 x j) := by
  unfold_payloads
  pointwise [dot_S1024x1024_S1024x704_S1024x704_1_0_0_1_n_n]
  rw [Algebra.gate_eq]

end

theorem hz2 : (![0, 0] : Fin 2 → Nat) = fun _ => 0 := funext fun a => by fin_cases a <;> rfl
theorem hz3 : (![0, 0, 0] : Fin 3 → Nat) = fun _ => 0 := funext fun a => by fin_cases a <;> rfl

section

variable (x0 : Vec Ideal S1024x1024 .bf16) (x1 x2 : Vec Ideal S1x1024x704 .bf16)

theorem out3_eq : out0_3 x0 x1 x2 = k0_pay3 x0 x1 := by
  unfold out0_3
  rw [View.canon_unit_zero hz3, View.ld_unit_zero hz2, View.ld_unit_zero hz3]

theorem out4_eq : out0_4 x0 x1 x2 = k0_pay4 x0 x2 := by
  unfold out0_4
  rw [View.canon_unit_zero hz3, View.ld_unit_zero hz2, View.ld_unit_zero hz3]

theorem out5_eq : out0_5 x0 x1 x2 = k0_pay5 x0 x1 x0 x2 := by
  unfold out0_5
  rw [View.canon_unit_zero hz3, View.ld_unit_zero hz2, View.ld_unit_zero hz3, View.ld_unit_zero hz3]

end

variable (m : (ℓ : Loc nD τ sig) → Buf (Elt Ideal) ℓ) (c : Dev nD)

abbrev h2 : Vec Ideal S4096x1024 .bf16 := m ((c : Thread nD τ).loc main_arg0)
abbrev w1 : Vec Ideal S1024x2816 .bf16 := m ((c : Thread nD τ).loc main_arg1)
abbrev w3 : Vec Ideal S1024x2816 .bf16 := m ((c : Thread nD τ).loc main_arg2)

theorem V_w1 (b : Fin 4) (k : Fin 1024) (n : Fin 704) :
    (V m c main_v1 : Vec Ideal S4x1024x704 .bf16) (ix3 b k n) = w1 m c (ix2 k (col b n)) := by
  have h : V m c main_v1 = (transpose S4x1024x704 [1, 0, 2] (shapeCast S1024x4x704 (w1 m c) shapeCasts_S1024x2816_S1024x4x704)
      transposes_S1024x4x704_S4x1024x704_1_0_2 : Vec Ideal S4x1024x704 .bf16) := by
    show StableHlo.after hostOps0 _ (Proc.devRef .tc main_v1) = _
    after_results
    rfl
  rw [h]
  pointwise

theorem V_w3 (b : Fin 4) (k : Fin 1024) (n : Fin 704) :
    (V m c main_v3 : Vec Ideal S4x1024x704 .bf16) (ix3 b k n) = w3 m c (ix2 k (col b n)) := by
  have h : V m c main_v3 = (transpose S4x1024x704 [1, 0, 2] (shapeCast S1024x4x704 (w3 m c) shapeCasts_S1024x2816_S1024x4x704)
      transposes_S1024x4x704_S4x1024x704_1_0_2 : Vec Ideal S4x1024x704 .bf16) := by
    show StableHlo.after hostOps0 _ (Proc.devRef .tc main_v3) = _
    after_results
    rfl
  rw [h]
  pointwise

theorem block_w1 (t : Fin cfg0.N) (k : Fin 1024) (n : Fin 704) :
    (iblk m c 1 t : Vec Ideal S1x1024x704 .bf16) (ix3 0 k n) = w1 m c (ix2 k (col (at_g0_1_4 t 0) n)) :=
  (iblk1 m c t 0 k n).trans (V_w1 m c _ _ _)

theorem block_w3 (t : Fin cfg0.N) (k : Fin 1024) (n : Fin 704) :
    (iblk m c 2 t : Vec Ideal S1x1024x704 .bf16) (ix3 0 k n) = w3 m c (ix2 k (col (at_g0_1_4 t 0) n)) :=
  (iblk2 m c t 0 k n).trans (V_w3 m c _ _ _)

theorem final_u : (dats m 0 c).arrAt 3 cfg0.N = blocks (proj (h2 m c) (w1 m c)) :=
  arr3 m c _ _ (fun t => by rw [flushed3, out3_eq]) fun t a i n => by
    rw [block_u, Fin.fin_one_eq_zero a]
    simp only [iblk0, block_w1]
    rfl

theorem final_v : (dats m 0 c).arrAt 4 cfg0.N = blocks (proj (h2 m c) (w3 m c)) :=
  arr4 m c _ _ (fun t => by rw [flushed4, out4_eq]) fun t a i n => by
    rw [block_v, Fin.fin_one_eq_zero a]
    simp only [iblk0, block_w3]
    rfl

theorem final_act : (dats m 0 c).arrAt 5 cfg0.N = blocks (act (h2 m c) (w1 m c) (w3 m c)) :=
  arr5 m c _ _ (fun t => by rw [flushed5, out5_eq]) fun t a i n => by
    rw [block_act, Fin.fin_one_eq_zero a]
    simp only [iblk0, block_w1, block_w3]
    rfl

end Cert.Proof.FfnUp
-- ==== Proof.FfnUpClaim.lean ====
/- Hand-written. The SwiGLU's forward call: the reference's frame and the equation of the three results. -/
module

public import proofs.«01_k».proof.Defs
public import proofs.«01_k».proof.Proof.FfnUpKernel
public import Idealize.ShloMosaic.Adequacy

@[expose] public section

noncomputable section

namespace Cert.Proof.FfnUp

open Idealize.ShloMosaic Idealize.ShloMosaic.TcCoe Idealize.SL.Sem

/-- The reference has no semaphores, so none is left counting. -/
theorem frame_ref : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

/-- The call and its reference end with equal results. -/
theorem value : Cert.algebraic_FfnUpIdeal_FfnUpRefIdeal := by
  intro m ρ m' ρ' _ hagree
  refine ⟨fun c => (Cert.FfnUpIdeal.Gen.dats m 0 c).arrAt 3 Cert.FfnUpIdeal.cfg0.N, fun c => (Cert.FfnUpIdeal.Gen.dats m 0 c).arrAt 4 Cert.FfnUpIdeal.cfg0.N, fun c => (Cert.FfnUpIdeal.Gen.dats m 0 c).arrAt 5 Cert.FfnUpIdeal.cfg0.N, ?_, ?_⟩
  · exact Cert.FfnUpIdeal.Value.run_blocks m ρ
  · refine (θ_run Cert.FfnUpRefIdeal.defs _ _).mono (fun _ h c => ?_) (Cert.FfnUpRefIdeal.Value.run (F := Ideal) m' ρ')
    obtain ⟨e0, e1, e2⟩ := hagree c
    obtain ⟨h0, h1, h2, hkept⟩ := h c
    refine ⟨?_, ?_, ?_, hkept⟩
    · refine h0.trans ((Cert.FfnUpRefIdeal.Read.val_main_v7_eq (F := Ideal) _ _).trans ?_)
      rw [e0, e1]
      exact (final_ref_u _ _).trans (final_u m c).symm
    · refine h1.trans ((Cert.FfnUpRefIdeal.Read.val_main_v10_eq (F := Ideal) _ _).trans ?_)
      rw [e0, e2]
      exact (final_ref_v _ _).trans (final_v m c).symm
    · refine h2.trans ((Cert.FfnUpRefIdeal.Read.val_main_v15_eq (F := Ideal) _ _ _).trans ?_)
      rw [e0, e1, e2]
      exact (final_ref_act _ _ _).trans (final_act m c).symm

end Cert.Proof.FfnUp
-- ==== Proof.ProjShiftWindows.lean ====
/- Hand-written. Windows of the call of the first norm and the shifted columns of the input projection: which block of which array each grid point sees. -/
module

public import proofs.«01_k».proof.Proof.Gen.ProjShiftIdeal.Value
public import Idealize.ShloMosaic.Lib.Pointwise

@[expose] public section

noncomputable section

namespace Cert.Proof.ProjShift

open Cert.ProjShiftIdeal Cert.ProjShiftIdeal.Gen Cert.ProjShiftIdeal.Value Idealize.ShloMosaic Idealize.ShloMosaic.TcCoe Idealize.SL.Sem

theorem pt_lt (t : Fin cfg0.N) : t.val < 8 := by
  have h := t.isLt
  have e : cfg0.N = 8 := N_0
  omega

/-- The block indices of each window at point `t`. -/
theorem index_at : ∀ t : Fin cfg0.N, (win0_0.index t 0 = 0 ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) :=
  (by decide +kernel : ∀ t : Fin grid0.N, _)

/-- Element `i` of the block of 512 at index `t.val` of an axis of 4096. -/
abbrev at_g0_512_4096 (t : Fin cfg0.N) (i : Fin 512) : Fin 4096 :=
  ⟨(t.val) * 512 + i.val, by have := pt_lt t; omega⟩

variable (m : (ℓ : Loc nD τ sig) → Buf (Elt Ideal) ℓ) (c : Dev nD)

theorem emb0 (t : Fin cfg0.N) (i0 : Fin 1024) (i1 : Fin 1792) :
    (((cfg0.win 0).blk t).view.emb (ix2 i0 i1) : S1024x1792.Idx) = ix2 i0 i1 := by
  obtain ⟨⟨e0, e1⟩, -⟩ := index_at t
  refine funext fun b => Fin.ext ?_
  match b with
  | ⟨0, _⟩ => show win0_0.index t 0 * 1024 + 1 * i0.val = i0.val; omega
  | ⟨1, _⟩ => show win0_0.index t 1 * 1792 + 1 * i1.val = i1.val; omega

theorem iblk0 (t : Fin cfg0.N) (i0 : Fin 1024) (i1 : Fin 1792) :
    (iblk m c 0 t : Vec Ideal S1024x1792 .bf16) (ix2 i0 i1) = (V m c main_v0 : Vec Ideal S1024x1792 .bf16) (ix2 i0 i1) :=
  (congrArg (V m c main_v0) (emb0 t i0 i1))

theorem emb1 (t : Fin cfg0.N) (i0 : Fin 512) (i1 : Fin 1024) :
    (((cfg0.win 1).blk t).view.emb (ix2 i0 i1) : S4096x1024.Idx) = ix2 (at_g0_512_4096 t i0) i1 := by
  obtain ⟨-, ⟨e0, e1⟩, -⟩ := index_at t
  refine funext fun b => Fin.ext ?_
  match b with
  | ⟨0, _⟩ => show win0_1.index t 0 * 512 + 1 * i0.val = (t.val) * 512 + i0.val; omega
  | ⟨1, _⟩ => show win0_1.index t 1 * 1024 + 1 * i1.val = i1.val; omega

theorem iblk1 (t : Fin cfg0.N) (i0 : Fin 512) (i1 : Fin 1024) :
    (iblk m c 1 t : Vec Ideal S512x1024 .f32) (ix2 i0 i1) = (m ((c : Thread nD τ).loc main_arg0) : Vec Ideal S4096x1024 .f32) (ix2 (at_g0_512_4096 t i0) i1) :=
  (congrArg (V m c main_arg0) (emb1 t i0 i1)).trans (congrFun (V_main_arg0 m c) _)

theorem emb2 (t : Fin cfg0.N) (i0 : Fin 1) (i1 : Fin 1024) :
    (((cfg0.win 2).blk t).view.emb (ix2 i0 i1) : S1x1024.Idx) = ix2 i0 i1 := by
  obtain ⟨-, -, ⟨e0, e1⟩, -⟩ := index_at t
  refine funext fun b => Fin.ext ?_
  match b with
  | ⟨0, _⟩ => show win0_2.index t 0 * 1 + 1 * i0.val = i0.val; omega
  | ⟨1, _⟩ => show win0_2.index t 1 * 1024 + 1 * i1.val = i1.val; omega

theorem iblk2 (t : Fin cfg0.N) (i0 : Fin 1) (i1 : Fin 1024) :
    (iblk m c 2 t : Vec Ideal S1x1024 .f32) (ix2 i0 i1) = (m ((c : Thread nD τ).loc main_arg2) : Vec Ideal S1x1024 .f32) (ix2 i0 i1) :=
  (congrArg (V m c main_arg2) (emb2 t i0 i1)).trans (congrFun (V_main_arg2 m c) _)

theorem emb3 (t : Fin cfg0.N) (i0 : Fin 1) (i1 : Fin 6144) :
    (((cfg0.win 3).blk t).view.emb (ix2 i0 i1) : S1x6144.Idx) = ix2 i0 i1 := by
  obtain ⟨-, -, -, ⟨e0, e1⟩, -⟩ := index_at t
  refine funext fun b => Fin.ext ?_
  match b with
  | ⟨0, _⟩ => show win0_3.index t 0 * 1 + 1 * i0.val = i0.val; omega
  | ⟨1, _⟩ => show win0_3.index t 1 * 6144 + 1 * i1.val = i1.val; omega

theorem iblk3 (t : Fin cfg0.N) (i0 : Fin 1) (i1 : Fin 6144) :
    (iblk m c 3 t : Vec Ideal S1x6144 .f32) (ix2 i0 i1) = (m ((c : Thread nD τ).loc main_arg3) : Vec Ideal S1x6144 .f32) (ix2 i0 i1) :=
  (congrArg (V m c main_arg3) (emb3 t i0 i1)).trans (congrFun (V_main_arg3 m c) _)

theorem emb4 (t : Fin cfg0.N) (i0 : Fin 512) (i1 : Fin 1024) :
    (((cfg0.win 4).blk t).view.emb (ix2 i0 i1) : S4096x1024.Idx) = ix2 (at_g0_512_4096 t i0) i1 := by
  obtain ⟨-, -, -, -, ⟨e0, e1⟩, -⟩ := index_at t
  refine funext fun b => Fin.ext ?_
  match b with
  | ⟨0, _⟩ => show win0_4.index t 0 * 512 + 1 * i0.val = (t.val) * 512 + i0.val; omega
  | ⟨1, _⟩ => show win0_4.index t 1 * 1024 + 1 * i1.val = i1.val; omega

/-- The point whose block holds index `i`. -/
abbrev pt4 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt4 (i : S4096x1024.Idx) : (ix2 (at_g0_512_4096 (pt4 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem4 (i : S4096x1024.Idx) : i ∈ ((cfg0.win 4).blk (pt4 i)).view.set :=
  Eq.mp (congrArg (· ∈ ((cfg0.win 4).blk (pt4 i)).view.set) ((emb4 (pt4 i) _ _).trans (at_pt4 i)))
    (((cfg0.win 4).blk (pt4 i)).view.emb_mem_set (ix2 ⟨(i 0).val % 512, by omega⟩ (i 1)))

/-- If every block written back is the block of `G`, the array is `G` after the run. -/
theorem arr4 (X : Fin cfg0.N → Vec Ideal S512x1024 .bf16) (G : Vec Ideal S4096x1024 .bf16)
    (hX : ∀ t : Fin cfg0.N, (dats m 0 c).flushed 4 t = (cfg0.win 4).cut (grid0.coords t) (X t))
    (hG : ∀ (t : Fin cfg0.N) (i0 : Fin 512) (i1 : Fin 1024), X t (ix2 i0 i1) = G (ix2 (at_g0_512_4096 t i0) i1)) :
    (dats m 0 c).arrAt 4 cfg0.N = G :=
  (dats m 0 c).arrAt_eq_of_cover 4 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 4).blk t).view.emb (ix2 i0 i1))
    rw [hG t i0 i1, emb4]) fun i => ⟨pt4 i, flush0_4 _, mem4 i⟩

theorem emb5 (t : Fin cfg0.N) (i0 : Fin 512) (i1 : Fin 1792) :
    (((cfg0.win 5).blk t).view.emb (ix2 i0 i1) : S4096x1792.Idx) = ix2 (at_g0_512_4096 t i0) i1 := by
  obtain ⟨-, -, -, -, -, ⟨e0, e1⟩⟩ := index_at t
  refine funext fun b => Fin.ext ?_
  match b with
  | ⟨0, _⟩ => show win0_5.index t 0 * 512 + 1 * i0.val = (t.val) * 512 + i0.val; omega
  | ⟨1, _⟩ => show win0_5.index t 1 * 1792 + 1 * i1.val = i1.val; omega

/-- The point whose block holds index `i`. -/
abbrev pt5 (i : S4096x1792.Idx) : Fin cfg0.N :=
  ⟨((i 0).val / 512), by
    have h0 : (i 0).val < 4096 := (i 0).isLt
    have h1 : (i 1).val < 1792 := (i 1).isLt
    rw [show cfg0.N = 8 from N_0]; omega⟩

theorem at_pt5 (i : S4096x1792.Idx) : (ix2 (at_g0_512_4096 (pt5 i) ⟨(i 0).val % 512, by omega⟩) (i 1) : S4096x1792.Idx) = i := by
  have h0 : (i 0).val < 4096 := (i 0).isLt
  have h1 : (i 1).val < 1792 := (i 1).isLt
  refine funext fun b => Fin.ext ?_
  match b with
  | ⟨0, _⟩ => show ((((i 0).val / 512))) * 512 + (i 0).val % 512 = (i 0).val; omega
  | ⟨1, _⟩ => rfl

theorem mem5 (i : S4096x1792.Idx) : i ∈ ((cfg0.win 5).blk (pt5 i)).view.set :=
  Eq.mp (congrArg (· ∈ ((cfg0.win 5).blk (pt5 i)).view.set) ((emb5 (pt5 i) _ _).trans (at_pt5 i)))
    (((cfg0.win 5).blk (pt5 i)).view.emb_mem_set (ix2 ⟨(i 0).val % 512, by omega⟩ (i 1)))

/-- If every block written back is the block of `G`, the array is `G` after the run. -/
theorem arr5 (X : Fin cfg0.N → Vec Ideal S512x1792 .f32) (G : Vec Ideal S4096x1792 .f32)
    (hX : ∀ t : Fin cfg0.N, (dats m 0 c).flushed 5 t = (cfg0.win 5).cut (grid0.coords t) (X t))
    (hG : ∀ (t : Fin cfg0.N) (i0 : Fin 512) (i1 : Fin 1792), X t (ix2 i0 i1) = G (ix2 (at_g0_512_4096 t i0) i1)) :
    (dats m 0 c).arrAt 5 cfg0.N = G :=
  (dats m 0 c).arrAt_eq_of_cover 5 G (fun t _ => by
    rw [hX t]
    funext j
    obtain ⟨i0, i1, rfl⟩ : ∃ (i0 : Fin 512) (i1 : Fin 1792), j = ix2 i0 i1 := ⟨j 0, j 1, eq_ix2 j⟩
    show X t (ix2 i0 i1) = G (((cfg0.win 5).blk t).view.emb (ix2 i0 i1))
    rw [hG t i0 i1, emb5]) fun i => ⟨pt5 i, flush0_5 _, mem5 i⟩

end Cert.Proof.ProjShift
-- ==== Proof.ProjShiftKernel.lean ====
/- Hand-written. The first norm's forward call with the shifted columns of the input projection (`ProjShift`) and its reference
   at the extended reals: the normalised rows, and their product with a range of the weight's columns. -/
module

public import proofs.«01_k».proof.Proof.ProjShiftWindows
public import proofs.«01_k».proof.Proof.Gen.ProjShiftRefIdeal.Run
public import proofs.«01_k».proof.Proof.Gen.ProjShiftRefIdeal.Read
public import proofs.«01_k».proof.Proof.Norm
public import Idealize.ShloMosaic.Lib.Tactic

@[expose] public section

noncomputable section

namespace Cert.Proof.ProjShift

open Idealize.ShloMosaic Idealize.ShloMosaic.TcCoe Idealize.SL.Sem
open Cert.Proof.Norm (norm)

section

variable (x0 : Vec Ideal (⟨2, ![4096, 1024]⟩ : Shape) .f32) (x1 : Vec Ideal (⟨2, ![1024, 4608]⟩ : Shape) .bf16)
  (x2 : Vec Ideal (⟨2, ![1, 1024]⟩ : Shape) .f32) (x3 : Vec Ideal (⟨2, ![1, 6144]⟩ : Shape) .f32)

/-- The normalised row `t` at column `k`. -/
def h (t : Fin 4096) (k : Fin 1024) : EReal :=
  norm (fun n => x0 (ix2 t n)) (fun n => x2 (ix2 0 n)) (fun n => x3 (ix2 0 ⟨1024 + n.val, by omega⟩))
    (fun n => x3 (ix2 0 ⟨n.val, by omega⟩)) k

/-- The normalised rows times column `n` of the weight. -/
def prod (t : Fin 4096) (n : Fin 1792) : EReal := ∑ k : Fin 1024, h x0 x2 x3 t k * x1 (ix2 k ⟨n.val, by omega⟩)

end

/-- An array of rows and columns from its elements. -/
abbrev arr {a b : ℕ} (f : Fin a → Fin b → EReal) : (⟨2, ![a, b]⟩ : Shape).Idx → EReal := fun i => f (i 0) (i 1)

section

open Cert.ProjShiftRefIdeal Cert.ProjShiftRefIdeal.Read

variable (x0 : Vec Ideal S4096x1024 .f32) (x1 : Vec Ideal S1024x4608 .bf16) (x2 : Vec Ideal S1x1024 .f32) (x3 : Vec Ideal S1x6144 .f32)

theorem ref_h (t : Fin 4096) (k : Fin 1024) : val_main_v24 (F := Ideal) x0 x2 x3 (ix2 t k) = h x0 x2 x3 t k := by
  unfold val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7
    val_main_v2 val_main_v1 val_main_cst val_main_cst_0 val_main_cst_1 val_main_cst_2
  pointwise
  rfl

theorem final_ref_h : val_main_v25 (F := Ideal) x0 x2 x3 = arr (h x0 x2 x3) := by
  funext i
  obtain ⟨t, k, rfl⟩ : ∃ (t : Fin 4096) (k : Fin 1024), i = ix2 t k := ⟨i 0, i 1, eq_ix2 i⟩
  unfold val_main_v25
  pointwise
  exact ref_h ..

theorem final_ref_prod : val_main_v27 (F := Ideal) x0 x1 x2 x3 = arr (prod x0 x1 x2 x3) := by
  funext i
  obtain ⟨t, n, rfl⟩ : ∃ (t : Fin 4096) (n : Fin 1792), i = ix2 t n := ⟨i 0, i 1, eq_ix2 i⟩
  unfold val_main_v27 val_main_v26 val_main_v0
  pointwise [dot_S4096x1024_S1024x4608_S4096x4608_1_0_0_1_n_n]
  simp only [ref_h]
  rfl

end

open Cert.ProjShiftIdeal Cert.ProjShiftIdeal.Gen Cert.ProjShiftIdeal.Value

section

variable (x : Vec Ideal S512x1024 .f32) (g : Vec Ideal S1x1024 .f32) (a : Vec Ideal S1x6144 .f32) (w : Vec Ideal S1024x1792 .bf16)

theorem block_h (i : Fin 512) (k : Fin 1024) : k0_pay1 (F := Ideal) x g a (ix2 i k)
    = norm (fun n => x (ix2 i n)) (fun n => g (ix2 0 n)) (fun n => a (ix2 0 ⟨1024 + n.val, by omega⟩))
      (fun n => a (ix2 0 ⟨n.val, by omega⟩)) k := by
  unfold_payloads
  pointwise
  rfl

theorem block_prod (i : Fin 512) (n : Fin 1792) :
    k0_pay2 (F := Ideal) x g a w (ix2 i n) = ∑ k, k0_pay1 (F := Ideal) x g a (ix2 i k) * w (ix2 k n) := by
  unfold k0_pay2
  pointwise [dot_S512x1024_S1024x1792_S512x1792_1_0_0_1_n_n]

end

theorem hz2 : (![0, 0] : Fin 2 → Nat) = fun _ => 0 := funext fun a => by fin_cases a <;> rfl

section

variable (x0 : Vec Ideal S1024x1792 .bf16) (x1 : Vec Ideal S512x1024 .f32) (x2 : Vec Ideal S1x1024 .f32) (x3 : Vec Ideal S1x6144 .f32)

theorem out4_eq : out0_4 x0 x1 x2 x3 = k0_pay1 x1 x2 x3 := by
  unfold out0_4
  rw [View.canon_unit_zero hz2, View.ld_unit_zero hz2, View.ld_unit_zero hz2, View.ld_unit_zero hz2]

theorem out5_eq : out0_5 x0 x1 x2 x3 = k0_pay2 x1 x2 x3 x0 := by
  unfold out0_5
  rw [View.canon_unit_zero hz2, View.ld_unit_zero hz2, View.ld_unit_zero hz2, View.ld_unit_zero hz2, View.ld_unit_zero hz2]

end

variable (m : (ℓ : Loc nD τ sig) → Buf (Elt Ideal) ℓ) (c : Dev nD)

abbrev x : Vec Ideal S4096x1024 .f32 := m ((c : Thread nD τ).loc main_arg0)
abbrev w : Vec Ideal S1024x4608 .bf16 := m ((c : Thread nD τ).loc main_arg1)
abbrev g : Vec Ideal S1x1024 .f32 := m ((c : Thread nD τ).loc main_arg2)
abbrev a : Vec Ideal S1x6144 .f32 := m ((c : Thread nD τ).loc main_arg3)

theorem V_w (k : Fin 1024) (n : Fin 1792) :
    (V m c main_v0 : Vec Ideal S1024x1792 .bf16) (ix2 k n) = w m c (ix2 k ⟨n.val, by omega⟩) := by
  have e : V m c main_v0 = (extractStridedSlice S1024x1792 ![0, 0] (w m c) slices_S1024x4608_S1024x1792_0_0 :
      Vec Ideal S1024x1792 .bf16) := by
    show StableHlo.after hostOps0 _ (Proc.devRef .tc main_v0) = _
    after_results
  rw [e]
  pointwise

theorem block_w (t : Fin cfg0.N) (k : Fin 1024) (n : Fin 1792) :
    (iblk m c 0 t : Vec Ideal S1024x1792 .bf16) (ix2 k n) = w m c (ix2 k ⟨n.val, by omega⟩) := (iblk0 m c t k n).trans (V_w m c _ _)

theorem row (t : Fin cfg0.N) (i : Fin 512) (k : Fin 1024) :
    k0_pay1 (F := Ideal) (iblk m c 1 t) (iblk m c 2 t) (iblk m c 3 t) (ix2 i k)
      = h (x m c) (g m c) (a m c) (at_g0_512_4096 t i) k := by
  rw [block_h]
  simp only [iblk1, iblk2, iblk3]
  rfl

theorem final_h : (dats m 0 c).arrAt 4 cfg0.N = arr (h (x m c) (g m c) (a m c)) :=
  arr4 m c _ _ (fun t => by rw [flushed4, out4_eq]) fun t i k => row m c t i k

theorem final_prod : (dats m 0 c).arrAt 5 cfg0.N = arr (prod (x m c) (w m c) (g m c) (a m c)) :=
  arr5 m c _ _ (fun t => by rw [flushed5, out5_eq]) fun t i n => by
    rw [block_prod]
    simp only [row, block_w]
    rfl

end Cert.Proof.ProjShift
-- ==== Proof.ProjShiftClaim.lean ====
/- Hand-written. The first norm with the shifted columns of the input projection: the reference's frame and the equation of the two results. -/
module

public import proofs.«01_k».proof.Defs
public import proofs.«01_k».proof.Proof.ProjShiftKernel
public import Idealize.ShloMosaic.Adequacy

@[expose] public section

noncomputable section

namespace Cert.Proof.ProjShift

open Idealize.ShloMosaic Idealize.ShloMosaic.TcCoe Idealize.SL.Sem

/-- The reference has no semaphores, so none is left counting. -/
theorem frame_ref : Cert.quiescent_ProjShiftRefIdeal := fun m ρ _ =>
  (θ_run Cert.ProjShiftRefIdeal.defs _ _).mono (fun r h => ⟨fun c => (h c).2.2, sem_eq_zero_of_no_sems (by decide) r.2⟩)
    (Cert.ProjShiftRefIdeal.Value.run (F := Ideal) m ρ)

/-- The call and its reference end with equal results. -/
theorem value : Cert.algebraic_ProjShiftIdeal_ProjShiftRefIdeal := by
  intro m ρ m' ρ' _ hagree
  refine ⟨fun c => (Cert.ProjShiftIdeal.Gen.dats m 0 c).arrAt 4 Cert.ProjShiftIdeal.cfg0.N, fun c => (Cert.ProjShiftIdeal.Gen.dats m 0 c).arrAt 5 Cert.ProjShiftIdeal.cfg0.N, ?_, ?_⟩
  · exact Cert.ProjShiftIdeal.Value.run_blocks m ρ
  · refine (θ_run Cert.ProjShiftRefIdeal.defs _ _).mono (fun _ h c => ?_) (Cert.ProjShiftRefIdeal.Value.run (F := Ideal) m' ρ')
    obtain ⟨e0, e1, e2, e3⟩ := hagree c
    obtain ⟨h0, h1, hkept⟩ := h c
    refine ⟨?_, ?_, hkept⟩
    · refine h0.trans ((Cert.ProjShiftRefIdeal.Read.val_main_v25_eq (F := Ideal) _ _ _).trans ?_)
      rw [e0, e2, e3]
      exact (final_ref_h _ _ _).trans (final_h m c).symm
    · refine h1.trans ((Cert.ProjShiftRefIdeal.Read.val_main_v27_eq (F := Ideal) _ _ _ _).trans ?_)
      rw [e0, e1, e2, e3]
      exact (final_ref_prod _ _ _ _).trans (final_prod m c).symm

end Cert.Proof.ProjShift
-- ==== Proof.ProjQkvWindows.lean ====
/- Hand-written. Windows of the call of the attention's columns of the input projection: which block of which array each grid point sees. -/
module

public import proofs.«01_k».proof.Proof.Gen.ProjQkvIdeal.Value
public import Idealize.ShloMosaic.Lib.Pointwise

@[expose] public section

noncomputable section

namespace Cert.Proof.ProjQkv

open Cert.ProjQkvIdeal Cert.ProjQkvIdeal.Gen Cert.ProjQkvIdeal.Value Idealize.ShloMosaic Idealize.ShloMosaic.TcCoe Idealize.SL.Sem

theorem pt_lt (t : Fin cfg0.N) : t.val < 4 := by
  have h := t.isLt
  have e : cfg0.N = 4 := N_0
  omega

/-- The block indices of each window at point `t`. -/
theorem index_at : ∀ t : Fin cfg0.N, (win0_0.index t 0 = t.val % 4 ∧ win0_0.index t 1 = 0)
    ∧ (win0_1.index t 0 = 0 ∧ win0_1.index t 1 = 0)
    ∧ (win0_2.index t 0 = t.val % 4 ∧ win0_2.index t 1 = 0) :=
  (by decide +kernel : ∀ t : Fin grid0.N, _)

/-- Element `i` of the block of 1024 at index `t.val % 4` of an axis of 4096. -/
abbrev at_g1_1024_4096 (t : Fin cfg0.N) (i : Fin 1024) : Fin 4096 :=
  ⟨(t.val % 4) * 1024 + i.val, by have := pt_lt t; omega⟩

variable (m : (ℓ : Loc nD τ sig) → Buf (Elt Ideal) ℓ) (c : Dev nD)

theorem emb0 (t : Fin cfg0.N) (i0 : Fin 1024) (i1 : Fin 1024) :
    (((cfg0.win 0).blk t).view.emb (ix2 i0 i1) : S4096x1024.Idx) = ix2 (at_g1_1024_4096 t i0) i1 := by
  obtain ⟨⟨e0, e1⟩, -⟩ := index_at t
  refine funext fun b => Fin.ext ?_
  match b with
  | ⟨0, _⟩ => show win0_0.index t 0 * 1024 + 1 * i0.val = (t.val % 4) * 1024 + i0.val; omega
  | ⟨1, _⟩ => show win0_0.index t 1 * 1024 + 1 * i1.val = i1.val; omega

theorem iblk0 (t : Fin cfg0.N) (i0 : Fin 1024) (i1 : Fin 1024) :
    (iblk m c 0 t : Vec Ideal S1024x1024 .bf16) (ix2 i0 i1) = (m ((c : Thread nD τ).loc main_arg0) : Vec Ideal S4096x1024 .bf16) (ix2 (at_g1_1024_4096 t i0) i1) :=
  (congrArg (V m c main_arg0) (emb0 t i0 i1)).trans (congrFun (V_main_arg0 m c) _)

theorem emb1 (t : Fin cfg0.N) (i0 : Fin 1024) (i1 : Fin 768) :
    (((cfg0.win 1).blk t).view.emb (ix2 i0 i1) : S1024x768.Idx) = ix2 i0 i1 := by
  obtain ⟨-, ⟨e0, e1⟩, -⟩ := index_at t
  refine funext fun b => Fin.ext ?_
  match b with
  | ⟨0, _⟩ => show win0_1.index t 0 * 1024 + 1 * i0.val = i0.val; omega
  | ⟨1, _⟩ => show win0_1.index t 1 * 768 + 1 * i1.val = i1.val; omega

theorem iblk1 (t : Fin cfg0.N) (i0 : Fin 1024) (i1 : Fin 768) :
    (iblk m c 1 t : Vec Ideal S1024x768 .bf16) (ix2 i0 i1) = (V m c main_v0 : Vec Ideal S1024x768 .bf16) (ix2 i0 i1) :=
  (congrArg (V m c main_v0) (emb1 t i0 i1))

theorem emb2 (t : Fin cfg0.N) (i0 : Fin 1024) (i1 : Fin 768) :
    (((cfg0.win 2).blk t).view.emb (ix2 i0 i1) : S4096x768.Idx) = ix2 (at_g1_1024_4096 t i0) i1 := by
  obtain ⟨-, -, ⟨e0, e1⟩⟩ := index_at t
  refine funext fun b => Fin.ext ?_
  match b with
  | ⟨0, _⟩ => show win0_2.index t 0 * 1024 + 1 * i0.val = (t.val % 4) * 1024 + i0.val; omega
  | ⟨1, _⟩ => show win0_2.index t 1 * 768 + 1 * i1.val = i1.val; omega

/-- The point whose block holds index `i`. -/
abbrev pt2 (i : S4096x768.Idx) : Fin cfg0.N :=
  ⟨(0) * 4 + ((i 0).val / 1024), by
    have h0 : (i 0).val < 4096 := (i 0).isLt
    have h1 : (i 1).val < 768 := (i 1).isLt
    rw [show cfg0.N = 4 from N_0]; omega⟩

theorem at_pt2 (i : S4096x768.Idx) : (ix2 (at_g1_1024_4096 (pt2 i) ⟨(i 0).val % 1024, by omega⟩) (i 1) : S4096x768.Idx) = i := by
  have h0 : (i 0).val < 4096 := (i 0).isLt
  have h1 : (i 1).val < 768 := (i 1).isLt
  refine funext fun b => Fin.ext ?_
  match b with
  | ⟨0, _⟩ => show (((0) * 4 + ((i 0).val / 1024)) % 4) * 1024 + (i 0).val % 1024 = (i 0).val; omega
  | ⟨1, _⟩ => rfl

theorem mem2 (i : S4096x768.Idx) : i ∈ ((cfg0.win 2).blk (pt2 i)).view.set :=
  Eq.mp (congrArg (· ∈ ((cfg0.win 2).blk (pt2 i)).view.set) ((emb2 (pt2 i) _ _).trans (at_pt2 i)))
    (((cfg0.win 2).blk (pt2 i)).view.emb_mem_set (ix2 ⟨(i 0).val % 1024, by omega⟩ (i 1)))

/-- If every block written back is the block of `G`, the array is `G` after the run. -/
theorem arr2 (X : Fin cfg0.N → Vec Ideal S1024x768 .f32) (G : Vec Ideal S4096x768 .f32)
    (hX : ∀ t : Fin cfg0.N, (dats m 0 c).flushed 2 t = (cfg0.win 2).cut (grid0.coords t) (X t))
    (hG : ∀ (t : Fin cfg0.N) (i0 : Fin 1024) (i1 : Fin 768), X t (ix2 i0 i1) = G (ix2 (at_g1_1024_4096 t i0) i1)) :
    (dats m 0 c).arrAt 2 cfg0.N = G :=
  (dats m 0 c).arrAt_eq_of_cover 2 G (fun t _ => by
    rw [hX t]
    funext j
    obtain ⟨i0, i1, rfl⟩ : ∃ (i0 : Fin 1024) (i1 : Fin 768), j = ix2 i0 i1 := ⟨j 0, j 1, eq_ix2 j⟩
    show X t (ix2 i0 i1) = G (((cfg0.win 2).blk t).view.emb (ix2 i0 i1))
    rw [hG t i0 i1, emb2]) fun i => ⟨pt2 i, flush0_2 _, mem2 i⟩

end Cert.Proof.ProjQkv
-- ==== Proof.ProjQkvKernel.lean ====
/- Hand-written. The call of the attention's columns of the input projection (`ProjQkv`) and its reference at the extended
   reals: the product with a range of the weight's columns is that range of the product's columns. -/
module

public import proofs.«01_k».proof.Proof.ProjQkvWindows
public import proofs.«01_k».proof.Proof.Gen.ProjQkvRefIdeal.Run
public import proofs.«01_k».proof.Proof.Gen.ProjQkvRefIdeal.Read
public import Idealize.ShloMosaic.Lib.Tactic

@[expose] public section

noncomputable section

namespace Cert.Proof.ProjQkv

open Idealize.ShloMosaic Idealize.ShloMosaic.TcCoe Idealize.SL.Sem

/-- Column `n` of the range of `x0 @ x1` at row `t`. -/
def prod (x0 : Vec Ideal (⟨2, ![4096, 1024]⟩ : Shape) .bf16) (x1 : Vec Ideal (⟨2, ![1024, 4608]⟩ : Shape) .bf16) (t : Fin 4096)
    (n : Fin 768) : EReal := ∑ k : Fin 1024, x0 (ix2 t k) * x1 (ix2 k ⟨1792 + n.val, by omega⟩)

/-- An array of rows and columns from its elements. -/
abbrev arr {a b : ℕ} (f : Fin a → Fin b → EReal) : (⟨2, ![a, b]⟩ : Shape).Idx → EReal := fun i => f (i 0) (i 1)

section

open Cert.ProjQkvRefIdeal Cert.ProjQkvRefIdeal.Read

theorem final_ref (x0 : Vec Ideal S4096x1024 .bf16) (x1 : Vec Ideal S1024x4608 .bf16) :
    val_main_v3 (F := Ideal) x0 x1 = arr (prod x0 x1) := by
  funext i
  obtain ⟨t, n, rfl⟩ : ∃ (t : Fin 4096) (n : Fin 768), i = ix2 t n := ⟨i 0, i 1, eq_ix2 i⟩
  unfold val_main_v3 val_main_v2 val_main_v0 val_main_v1
  pointwise [dot_S4096x1024_S1024x4608_S4096x4608_1_0_0_1_n_n]
  rfl

end

open Cert.ProjQkvIdeal Cert.ProjQkvIdeal.Gen Cert.ProjQkvIdeal.Value

theorem block (v0 : Vec Ideal S1024x1024 .bf16) (v1 : Vec Ideal S1024x768 .bf16) (i : Fin 1024) (n : Fin 768) :
    k0_pay1 (F := Ideal) v0 v1 (ix2 i n) = ∑ k, v0 (ix2 i k) * v1 (ix2 k n) := by
  unfold k0_pay1
  pointwise [dot_S1024x1024_S1024x768_S1024x768_1_0_0_1_n_n]

theorem hz2 : (![0, 0] : Fin 2 → Nat) = fun _ => 0 := funext fun a => by fin_cases a <;> rfl

theorem out2_eq (x0 : Vec Ideal S1024x1024 .bf16) (x1 : Vec Ideal S1024x768 .bf16) : out0_2 x0 x1 = k0_pay1 x0 x1 := by
  unfold out0_2
  rw [View.canon_unit_zero hz2, View.ld_unit_zero hz2, View.ld_unit_zero hz2]

variable (m : (ℓ : Loc nD τ sig) → Buf (Elt Ideal) ℓ) (c : Dev nD)

abbrev w : Vec Ideal S1024x4608 .bf16 := m ((c : Thread nD τ).loc main_arg1)

theorem V_w (k : Fin 1024) (n : Fin 768) :
    (V m c main_v0 : Vec Ideal S1024x768 .bf16) (ix2 k n) = w m c (ix2 k ⟨1792 + n.val, by omega⟩) := by
  have h : V m c main_v0 = (extractStridedSlice S1024x768 ![0, 1792] (w m c) slices_S1024x4608_S1024x768_0_1792 :
      Vec Ideal S1024x768 .bf16) := by
    show StableHlo.after hostOps0 _ (Proc.devRef .tc main_v0) = _
    after_results
  rw [h]
  pointwise

theorem block_w (t : Fin cfg0.N) (k : Fin 1024) (n : Fin 768) :
    (iblk m c 1 t : Vec Ideal S1024x768 .bf16) (ix2 k n) = w m c (ix2 k ⟨1792 + n.val, by omega⟩) :=
  (iblk1 m c t k n).trans (V_w m c _ _)

theorem final : (dats m 0 c).arrAt 2 cfg0.N
    = arr (prod (m ((c : Thread nD τ).loc main_arg0)) (w m c)) :=
  arr2 m c _ _ (fun t => by rw [flushed2, out2_eq]) fun t i n => by
    rw [block]
    simp only [iblk0, block_w]
    rfl

end Cert.Proof.ProjQkv
-- ==== Proof.ProjQkvClaim.lean ====
/- Hand-written. The attention's columns of the input projection: the reference's frame and the equation of the result. -/
module

public import proofs.«01_k».proof.Defs
public import proofs.«01_k».proof.Proof.ProjQkvKernel
public import Idealize.ShloMosaic.Adequacy

@[expose] public section

noncomputable section

namespace Cert.Proof.ProjQkv

open Idealize.ShloMosaic Idealize.ShloMosaic.TcCoe Idealize.SL.Sem

/-- The reference has no semaphores, so none is left counting. -/
theorem frame_ref : Cert.quiescent_ProjQkvRefIdeal := fun m ρ _ =>
  (θ_run Cert.ProjQkvRefIdeal.defs _ _).mono (fun r h => ⟨fun c => (h c).2, sem_eq_zero_of_no_sems (by decide) r.2⟩)
    (Cert.ProjQkvRefIdeal.Value.run (F := Ideal) m ρ)

/-- The call and its reference end with equal results. -/
theorem value : Cert.algebraic_ProjQkvIdeal_ProjQkvRefIdeal := by
  intro m ρ m' ρ' _ hagree
  refine ⟨fun c => (Cert.ProjQkvIdeal.Gen.dats m 0 c).arrAt 2 Cert.ProjQkvIdeal.cfg0.N, ?_, ?_⟩
  · exact Cert.ProjQkvIdeal.Value.run_blocks m ρ
  · refine (θ_run Cert.ProjQkvRefIdeal.defs _ _).mono (fun _ h c => ?_) (Cert.ProjQkvRefIdeal.Value.run (F := Ideal) m' ρ')
    obtain ⟨e0, e1⟩ := hagree c
    obtain ⟨h0, hkept⟩ := h c
    refine ⟨?_, hkept⟩
    · refine h0.trans ((Cert.ProjQkvRefIdeal.Read.val_main_v3_eq (F := Ideal) _ _).trans ?_)
      rw [e0, e1]
      exact (final_ref _ _).trans (final m c).symm

end Cert.Proof.ProjQkv
-- ==== Proof.ProjGatesWindows.lean ====
/- Hand-written. Windows of the call of the gates' columns of the input projection: which block of which array each grid point sees. -/
module

public import proofs.«01_k».proof.Proof.Gen.ProjGatesIdeal.Value
public import Idealize.ShloMosaic.Lib.Pointwise

@[expose] public section

noncomputable section

namespace Cert.Proof.ProjGates

open Cert.ProjGatesIdeal Cert.ProjGatesIdeal.Gen Cert.ProjGatesIdeal.Value Idealize.ShloMosaic Idealize.ShloMosaic.TcCoe Idealize.SL.Sem

theorem pt_lt (t : Fin cfg0.N) : t.val < 8 := by
  have h := t.isLt
  have e : cfg0.N = 8 := N_0
  omega

/-- The block indices of each window at point `t`. -/
theorem index_at : ∀ t : Fin cfg0.N, (win0_0.index t 0 = t.val % 4 ∧ win0_0.index t 1 = 0)
    ∧ (win0_1.index t 0 = 0 ∧ win0_1.index t 1 = t.val / 4)
    ∧ (win0_2.index t 0 = t.val % 4 ∧ win0_2.index t 1 = t.val / 4) :=
  (by decide +kernel : ∀ t : Fin grid0.N, _)

/-- Element `i` of the block of 1024 at index `t.val % 4` of an axis of 4096. -/
abbrev at_g1_1024_4096 (t : Fin cfg0.N) (i : Fin 1024) : Fin 4096 :=
  ⟨(t.val % 4) * 1024 + i.val, by have := pt_lt t; omega⟩

/-- Element `i` of the block of 1024 at index `t.val / 4` of an axis of 2048. -/
abbrev at_g0_1024_2048 (t : Fin cfg0.N) (i : Fin 1024) : Fin 2048 :=
  ⟨(t.val / 4) * 1024 + i.val, by have := pt_lt t; omega⟩

variable (m : (ℓ : Loc nD τ sig) → Buf (Elt Ideal) ℓ) (c : Dev nD)

theorem emb0 (t : Fin cfg0.N) (i0 : Fin 1024) (i1 : Fin 1024) :
    (((cfg0.win 0).blk t).view.emb (ix2 i0 i1) : S4096x1024.Idx) = ix2 (at_g1_1024_4096 t i0) i1 := by
  obtain ⟨⟨e0, e1⟩, -⟩ := index_at t
  refine funext fun b => Fin.ext ?_
  match b with
  | ⟨0, _⟩ => show win0_0.index t 0 * 1024 + 1 * i0.val = (t.val % 4) * 1024 + i0.val; omega
  | ⟨1, _⟩ => show win0_0.index t 1 * 1024 + 1 * i1.val = i1.val; omega

theorem iblk0 (t : Fin cfg0.N) (i0 : Fin 1024) (i1 : Fin 1024) :
    (iblk m c 0 t : Vec Ideal S1024x1024 .bf16) (ix2 i0 i1) = (m ((c : Thread nD τ).loc main_arg0) : Vec Ideal S4096x1024 .bf16) (ix2 (at_g1_1024_4096 t i0) i1) :=
  (congrArg (V m c main_arg0) (emb0 t i0 i1)).trans (congrFun (V_main_arg0 m c) _)

theorem emb1 (t : Fin cfg0.N) (i0 : Fin 1024) (i1 : Fin 1024) :
    (((cfg0.win 1).blk t).view.emb (ix2 i0 i1) : S1024x2048.Idx) = ix2 i0 (at_g0_1024_2048 t i1) := by
  obtain ⟨-, ⟨e0, e1⟩, -⟩ := index_at t
  refine funext fun b => Fin.ext ?_
  match b with
  | ⟨0, _⟩ => show win0_1.index t 0 * 1024 + 1 * i0.val = i0.val; omega
  | ⟨1, _⟩ => show win0_1.index t 1 * 1024 + 1 * i1.val = (t.val / 4) * 1024 + i1.val; omega

theorem iblk1 (t : Fin cfg0.N) (i0 : Fin 1024) (i1 : Fin 1024) :
    (iblk m c 1 t : Vec Ideal S1024x1024 .bf16) (ix2 i0 i1) = (V m c main_v0 : Vec Ideal S1024x2048 .bf16) (ix2 i0 (at_g0_1024_2048 t i1)) :=
  (congrArg (V m c main_v0) (emb1 t i0 i1))

theorem emb2 (t : Fin cfg0.N) (i0 : Fin 1024) (i1 : Fin 1024) :
    (((cfg0.win 2).blk t).view.emb (ix2 i0 i1) : S4096x2048.Idx) = ix2 (at_g1_1024_4096 t i0) (at_g0_1024_2048 t i1) := by
  obtain ⟨-, -, ⟨e0, e1⟩⟩ := index_at t
  refine funext fun b => Fin.ext ?_
  match b with
  | ⟨0, _⟩ => show win0_2.index t 0 * 1024 + 1 * i0.val = (t.val % 4) * 1024 + i0.val; omega
  | ⟨1, _⟩ => show win0_2.index t 1 * 1024 + 1 * i1.val = (t.val / 4) * 1024 + i1.val; omega

/-- The point whose block holds index `i`. -/
abbrev pt2 (i : S4096x2048.Idx) : Fin cfg0.N :=
  ⟨((i 1).val / 1024) * 4 + ((i 0).val / 1024), by
    have h0 : (i 0).val < 4096 := (i 0).isLt
    have h1 : (i 1).val < 2048 := (i 1).isLt
    rw [show cfg0.N = 8 from N_0]; omega⟩

theorem at_pt2 (i : S4096x2048.Idx) : (ix2 (at_g1_1024_4096 (pt2 i) ⟨(i 0).val % 1024, by omega⟩) (at_g0_1024_2048 (pt2 i) ⟨(i 1).val % 1024, by omega⟩) : S4096x2048.Idx) = i := by
  have h0 : (i 0).val < 4096 := (i 0).isLt
  have h1 : (i 1).val < 2048 := (i 1).isLt
  refine funext fun b => Fin.ext ?_
  match b with
  | ⟨0, _⟩ => show ((((i 1).val / 1024) * 4 + ((i 0).val / 1024)) % 4) * 1024 + (i 0).val % 1024 = (i 0).val; omega
  | ⟨1, _⟩ => show ((((i 1).val / 1024) * 4 + ((i 0).val / 1024)) / 4) * 1024 + (i 1).val % 1024 = (i 1).val; omega

theorem mem2 (i : S4096x2048.Idx) : i ∈ ((cfg0.win 2).blk (pt2 i)).view.set :=
  Eq.mp (congrArg (· ∈ ((cfg0.win 2).blk (pt2 i)).view.set) ((emb2 (pt2 i) _ _).trans (at_pt2 i)))
    (((cfg0.win 2).blk (pt2 i)).view.emb_mem_set (ix2 ⟨(i 0).val % 1024, by omega⟩ ⟨(i 1).val % 1024, by omega⟩))

/-- If every block written back is the block of `G`, the array is `G` after the run. -/
theorem arr2 (X : Fin cfg0.N → Vec Ideal S1024x1024 .bf16) (G : Vec Ideal S4096x2048 .bf16)
    (hX : ∀ t : Fin cfg0.N, (dats m 0 c).flushed 2 t = (cfg0.win 2).cut (grid0.coords t) (X t))
    (hG : ∀ (t : Fin cfg0.N) (i0 : Fin 1024) (i1 : Fin 1024), X t (ix2 i0 i1) = G (ix2 (at_g1_1024_4096 t i0) (at_g0_1024_2048 t i1))) :
    (dats m 0 c).arrAt 2 cfg0.N = G :=
  (dats m 0 c).arrAt_eq_of_cover 2 G (fun t _ => by
    rw [hX t]
    funext j
    obtain ⟨i0, i1, rfl⟩ : ∃ (i0 : Fin 1024) (i1 : Fin 1024), j = ix2 i0 i1 := ⟨j 0, j 1, eq_ix2 j⟩
    show X t (ix2 i0 i1) = G (((cfg0.win 2).blk t).view.emb (ix2 i0 i1))
    rw [hG t i0 i1, emb2]) fun i => ⟨pt2 i, flush0_2 _, mem2 i⟩

end Cert.Proof.ProjGates
-- ==== Proof.ProjGatesKernel.lean ====
/- Hand-written. The call of the gates' columns of the input projection (`ProjGates`) and its reference at the extended
   reals: the product with a range of the weight's columns is that range of the product's columns. -/
module

public import proofs.«01_k».proof.Proof.ProjGatesWindows
public import proofs.«01_k».proof.Proof.Gen.ProjGatesRefIdeal.Run
public import proofs.«01_k».proof.Proof.Gen.ProjGatesRefIdeal.Read
public import Idealize.ShloMosaic.Lib.Tactic

@[expose] public section

noncomputable section

namespace Cert.Proof.ProjGates

open Idealize.ShloMosaic Idealize.ShloMosaic.TcCoe Idealize.SL.Sem

/-- Column `n` of the range of `x0 @ x1` at row `t`. -/
def prod (x0 : Vec Ideal (⟨2, ![4096, 1024]⟩ : Shape) .bf16) (x1 : Vec Ideal (⟨2, ![1024, 4608]⟩ : Shape) .bf16) (t : Fin 4096)
    (n : Fin 2048) : EReal := ∑ k : Fin 1024, x0 (ix2 t k) * x1 (ix2 k ⟨2560 + n.val, by omega⟩)

/-- An array of rows and columns from its elements. -/
abbrev arr {a b : ℕ} (f : Fin a → Fin b → EReal) : (⟨2, ![a, b]⟩ : Shape).Idx → EReal := fun i => f (i 0) (i 1)

section

open Cert.ProjGatesRefIdeal Cert.ProjGatesRefIdeal.Read

theorem final_ref (x0 : Vec Ideal S4096x1024 .bf16) (x1 : Vec Ideal S1024x4608 .bf16) :
    val_main_v4 (F := Ideal) x0 x1 = arr (prod x0 x1) := by
  funext i
  obtain ⟨t, n, rfl⟩ : ∃ (t : Fin 4096) (n : Fin 2048), i = ix2 t n := ⟨i 0, i 1, eq_ix2 i⟩
  unfold val_main_v4 val_main_v3 val_main_v2 val_main_v0 val_main_v1
  pointwise [dot_S4096x1024_S1024x4608_S4096x4608_1_0_0_1_n_n]
  rfl

end

open Cert.ProjGatesIdeal Cert.ProjGatesIdeal.Gen Cert.ProjGatesIdeal.Value

theorem block (v0 : Vec Ideal S1024x1024 .bf16) (v1 : Vec Ideal S1024x1024 .bf16) (i : Fin 1024) (n : Fin 1024) :
    k0_pay1 (F := Ideal) v0 v1 (ix2 i n) = ∑ k, v0 (ix2 i k) * v1 (ix2 k n) := by
  unfold k0_pay1
  pointwise [dot_S1024x1024_S1024x1024_S1024x1024_1_0_0_1_n_n]

theorem hz2 : (![0, 0] : Fin 2 → Nat) = fun _ => 0 := funext fun a => by fin_cases a <;> rfl

theorem out2_eq (x0 : Vec Ideal S1024x1024 .bf16) (x1 : Vec Ideal S1024x1024 .bf16) : out0_2 x0 x1 = k0_pay1 x0 x1 := by
  unfold out0_2
  rw [View.canon_unit_zero hz2, View.ld_unit_zero hz2, View.ld_unit_zero hz2]

variable (m : (ℓ : Loc nD τ sig) → Buf (Elt Ideal) ℓ) (c : Dev nD)

abbrev w : Vec Ideal S1024x4608 .bf16 := m ((c : Thread nD τ).loc main_arg1)

theorem V_w (k : Fin 1024) (n : Fin 2048) :
    (V m c main_v0 : Vec Ideal S1024x2048 .bf16) (ix2 k n) = w m c (ix2 k ⟨2560 + n.val, by omega⟩) := by
  have h : V m c main_v0 = (extractStridedSlice S1024x2048 ![0, 2560] (w m c) slices_S1024x4608_S1024x2048_0_2560 :
      Vec Ideal S1024x2048 .bf16) := by
    show StableHlo.after hostOps0 _ (Proc.devRef .tc main_v0) = _
    after_results
  rw [h]
  pointwise

theorem block_w (t : Fin cfg0.N) (k : Fin 1024) (n : Fin 1024) :
    (iblk m c 1 t : Vec Ideal S1024x1024 .bf16) (ix2 k n) = w m c (ix2 k ⟨2560 + (at_g0_1024_2048 t n).val, by omega⟩) :=
  (iblk1 m c t k n).trans (V_w m c _ _)

theorem final : (dats m 0 c).arrAt 2 cfg0.N
    = arr (prod (m ((c : Thread nD τ).loc main_arg0)) (w m c)) :=
  arr2 m c _ _ (fun t => by rw [flushed2, out2_eq]) fun t i n => by
    rw [block]
    simp only [iblk0, block_w]
    rfl

end Cert.Proof.ProjGates
-- ==== Proof.ProjGatesClaim.lean ====
/- Hand-written. The gates' columns of the input projection: the reference's frame and the equation of the result. -/
module

public import proofs.«01_k».proof.Defs
public import proofs.«01_k».proof.Proof.ProjGatesKernel
public import Idealize.ShloMosaic.Adequacy

@[expose] public section

noncomputable section

namespace Cert.Proof.ProjGates

open Idealize.ShloMosaic Idealize.ShloMosaic.TcCoe Idealize.SL.Sem

/-- The reference has no semaphores, so none is left counting. -/
theorem frame_ref : Cert.quiescent_ProjGatesRefIdeal := fun m ρ _ =>
  (θ_run Cert.ProjGatesRefIdeal.defs _ _).mono (fun r h => ⟨fun c => (h c).2, sem_eq_zero_of_no_sems (by decide) r.2⟩)
    (Cert.ProjGatesRefIdeal.Value.run (F := Ideal) m ρ)

/-- The call and its reference end with equal results. -/
theorem value : Cert.algebraic_ProjGatesIdeal_ProjGatesRefIdeal := by
  intro m ρ m' ρ' _ hagree
  refine ⟨fun c => (Cert.ProjGatesIdeal.Gen.dats m 0 c).arrAt 2 Cert.ProjGatesIdeal.cfg0.N, ?_, ?_⟩
  · exact Cert.ProjGatesIdeal.Value.run_blocks m ρ
  · refine (θ_run Cert.ProjGatesRefIdeal.defs _ _).mono (fun _ h c => ?_) (Cert.ProjGatesRefIdeal.Value.run (F := Ideal) m' ρ')
    obtain ⟨e0, e1⟩ := hagree c
    obtain ⟨h0, hkept⟩ := h c
    refine ⟨?_, hkept⟩
    · refine h0.trans ((Cert.ProjGatesRefIdeal.Read.val_main_v4_eq (F := Ideal) _ _).trans ?_)
      rw [e0, e1]
      exact (final_ref _ _).trans (final m c).symm

end Cert.Proof.ProjGates
-- ==== Proof.MixOutWindows.lean ====
/- Hand-written. Windows of the call of the gated merge and the output projection: which block of which array each grid point sees. -/
module

public import proofs.«01_k».proof.Proof.Gen.MixOutIdeal.Value
public import Idealize.ShloMosaic.Lib.Pointwise

@[expose] public section

noncomputable section

namespace Cert.Proof.MixOut

open Cert.MixOutIdeal Cert.MixOutIdeal.Gen Cert.MixOutIdeal.Value Idealize.ShloMosaic Idealize.ShloMosaic.TcCoe Idealize.SL.Sem

theorem pt_lt (t : Fin cfg0.N) : t.val < 8 := by
  have h := t.isLt
  have e : cfg0.N = 8 := N_0
  omega

/-- The block indices of each window at point `t`. -/
theorem index_at : ∀ t : Fin cfg0.N, (win0_0.index t 0 = 0 ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0) :=
  (by decide +kernel : ∀ t : Fin grid0.N, _)

/-- Element `i` of the block of 512 at index `t.val` of an axis of 4096. -/
abbrev at_g0_512_4096 (t : Fin cfg0.N) (i : Fin 512) : Fin 4096 :=
  ⟨(t.val) * 512 + i.val, by have := pt_lt t; omega⟩

variable (m : (ℓ : Loc nD τ sig) → Buf (Elt Ideal) ℓ) (c : Dev nD)

theorem emb0 (t : Fin cfg0.N) (i0 : Fin 1024) (i1 : Fin 1024) :
    (((cfg0.win 0).blk t).view.emb (ix2 i0 i1) : S1024x1024.Idx) = ix2 i0 i1 := by
  obtain ⟨⟨e0, e1⟩, -⟩ := index_at t
  refine funext fun b => Fin.ext ?_
  match b with
  | ⟨0, _⟩ => show win0_0.index t 0 * 1024 + 1 * i0.val = i0.val; omega
  | ⟨1, _⟩ => show win0_0.index t 1 * 1024 + 1 * i1.val = i1.val; omega

theorem iblk0 (t : Fin cfg0.N) (i0 : Fin 1024) (i1 : Fin 1024) :
    (iblk m c 0 t : Vec Ideal S1024x1024 .bf16) (ix2 i0 i1) = (m ((c : Thread nD τ).loc main_arg4) : Vec Ideal S1024x1024 .bf16) (ix2 i0 i1) :=
  (congrArg (V m c main_arg4) (emb0 t i0 i1)).trans (congrFun (V_main_arg4 m c) _)

theorem emb1 (t : Fin cfg0.N) (i0 : Fin 512) (i1 : Fin 2048) :
    (((cfg0.win 1).blk t).view.emb (ix2 i0 i1) : S4096x2048.Idx) = ix2 (at_g0_512_4096 t i0) i1 := by
  obtain ⟨-, ⟨e0, e1⟩, -⟩ := index_at t
  refine funext fun b => Fin.ext ?_
  match b with
  | ⟨0, _⟩ => show win0_1.index t 0 * 512 + 1 * i0.val = (t.val) * 512 + i0.val; omega
  | ⟨1, _⟩ => show win0_1.index t 1 * 2048 + 1 * i1.val = i1.val; omega

theorem iblk1 (t : Fin cfg0.N) (i0 : Fin 512) (i1 : Fin 2048) :
    (iblk m c 1 t : Vec Ideal S512x2048 .bf16) (ix2 i0 i1) = (m ((c : Thread nD τ).loc main_arg0) : Vec Ideal S4096x2048 .bf16) (ix2 (at_g0_512_4096 t i0) i1) :=
  (congrArg (V m c main_arg0) (emb1 t i0 i1)).trans (congrFun (V_main_arg0 m c) _)

theorem emb2 (t : Fin cfg0.N) (i0 : Fin 512) (i1 : Fin 512) :
    (((cfg0.win 2).blk t).view.emb (ix2 i0 i1) : S4096x512.Idx) = ix2 (at_g0_512_4096 t i0) i1 := by
  obtain ⟨-, -, ⟨e0, e1⟩, -⟩ := index_at t
  refine funext fun b => Fin.ext ?_
  match b with
  | ⟨0, _⟩ => show win0_2.index t 0 * 512 + 1 * i0.val = (t.val) * 512 + i0.val; omega
  | ⟨1, _⟩ => show win0_2.index t 1 * 512 + 1 * i1.val = i1.val; omega

theorem iblk2 (t : Fin cfg0.N) (i0 : Fin 512) (i1 : Fin 512) :
    (iblk m c 2 t : Vec Ideal S512x512 .bf16) (ix2 i0 i1) = (m ((c : Thread nD τ).loc main_arg1) : Vec Ideal S4096x512 .bf16) (ix2 (at_g0_512_4096 t i0) i1) :=
  (congrArg (V m c main_arg1) (emb2 t i0 i1)).trans (congrFun (V_main_arg1 m c) _)

theorem emb3 (t : Fin cfg0.N) (i0 : Fin 512) (i1 : Fin 512) :
    (((cfg0.win 3).blk t).view.emb (ix2 i0 i1) : S4096x512.Idx) = ix2 (at_g0_512_4096 t i0) i1 := by
  obtain ⟨-, -, -, ⟨e0, e1⟩, -⟩ := index_at t
  refine funext fun b => Fin.ext ?_
  match b with
  | ⟨0, _⟩ => show win0_3.index t 0 * 512 + 1 * i0.val = (t.val) * 512 + i0.val; omega
  | ⟨1, _⟩ => show win0_3.index t 1 * 512 + 1 * i1.val = i1.val; omega

theorem iblk3 (t : Fin cfg0.N) (i0 : Fin 512) (i1 : Fin 512) :
    (iblk m c 3 t : Vec Ideal S512x512 .bf16) (ix2 i0 i1) = (m ((c : Thread nD τ).loc main_arg2) : Vec Ideal S4096x512 .bf16) (ix2 (at_g0_512_4096 t i0) i1) :=
  (congrArg (V m c main_arg2) (emb3 t i0 i1)).trans (congrFun (V_main_arg2 m c) _)

theorem emb4 (t : Fin cfg0.N) (i0 : Fin 512) (i1 : Fin 1024) :
    (((cfg0.win 4).blk t).view.emb (ix2 i0 i1) : S4096x1024.Idx) = ix2 (at_g0_512_4096 t i0) i1 := by
  obtain ⟨-, -, -, -, ⟨e0, e1⟩, -⟩ := index_at t
  refine funext fun b => Fin.ext ?_
  match b with
  | ⟨0, _⟩ => show win0_4.index t 0 * 512 + 1 * i0.val = (t.val) * 512 + i0.val; omega
  | ⟨1, _⟩ => show win0_4.index t 1 * 1024 + 1 * i1.val = i1.val; omega

theorem iblk4 (t : Fin cfg0.N) (i0 : Fin 512) (i1 : Fin 1024) :
    (iblk m c 4 t : Vec Ideal S512x1024 .f32) (ix2 i0 i1) = (m ((c : Thread nD τ).loc main_arg3) : Vec Ideal S4096x1024 .f32) (ix2 (at_g0_512_4096 t i0) i1) :=
  (congrArg (V m c main_arg3) (emb4 t i0 i1)).trans (congrFun (V_main_arg3 m c) _)

theorem emb5 (t : Fin cfg0.N) (i0 : Fin 512) (i1 : Fin 1024) :
    (((cfg0.win 5).blk t).view.emb (ix2 i0 i1) : S512x1024.Idx) = ix2 i0 i1 := by
  obtain ⟨-, -, -, -, -, ⟨e0, e1⟩, -⟩ := index_at t
  refine funext fun b => Fin.ext ?_
  match b with
  | ⟨0, _⟩ => show win0_5.index t 0 * 512 + 1 * i0.val = i0.val; omega
  | ⟨1, _⟩ => show win0_5.index t 1 * 1024 + 1 * i1.val = i1.val; omega

theorem iblk5 (t : Fin cfg0.N) (i0 : Fin 512) (i1 : Fin 1024) :
    (iblk m c 5 t : Vec Ideal S512x1024 .bf16) (ix2 i0 i1) = (m ((c : Thread nD τ).loc main_arg5) : Vec Ideal S512x1024 .bf16) (ix2 i0 i1) :=
  (congrArg (V m c main_arg5) (emb5 t i0 i1)).trans (congrFun (V_main_arg5 m c) _)

theorem emb6 (t : Fin cfg0.N) (i0 : Fin 512) (i1 : Fin 1024) :
    (((cfg0.win 6).blk t).view.emb (ix2 i0 i1) : S512x1024.Idx) = ix2 i0 i1 := by
  obtain ⟨-, -, -, -, -, -, ⟨e0, e1⟩, -⟩ := index_at t
  refine funext fun b => Fin.ext ?_
  match b with
  | ⟨0, _⟩ => show win0_6.index t 0 * 512 + 1 * i0.val = i0.val; omega
  | ⟨1, _⟩ => show win0_6.index t 1 * 1024 + 1 * i1.val = i1.val; omega

theorem iblk6 (t : Fin cfg0.N) (i0 : Fin 512) (i1 : Fin 1024) :
    (iblk m c 6 t : Vec Ideal S512x1024 .bf16) (ix2 i0 i1) = (m ((c : Thread nD τ).loc main_arg6) : Vec Ideal S512x1024 .bf16) (ix2 i0 i1) :=
  (congrArg (V m c main_arg6) (emb6 t i0 i1)).trans (congrFun (V_main_arg6 m c) _)

theorem emb7 (t : Fin cfg0.N) (i0 : Fin 1) (i1 : Fin 2048) :
    (((cfg0.win 7).blk t).view.emb (ix2 i0 i1) : S1x2048.Idx) = ix2 i0 i1 := by
  obtain ⟨-, -, -, -, -, -, -, ⟨e0, e1⟩, -⟩ := index_at t
  refine funext fun b => Fin.ext ?_
  match b with
  | ⟨0, _⟩ => show win0_7.index t 0 * 1 + 1 * i0.val = i0.val; omega
  | ⟨1, _⟩ => show win0_7.index t 1 * 2048 + 1 * i1.val = i1.val; omega

theorem iblk7 (t : Fin cfg0.N) (i0 : Fin 1) (i1 : Fin 2048) :
    (iblk m c 7 t : Vec Ideal S1x2048 .f32) (ix2 i0 i1) = (m ((c : Thread nD τ).loc main_arg7) : Vec Ideal S1x2048 .f32) (ix2 i0 i1) :=
  (congrArg (V m c main_arg7) (emb7 t i0 i1)).trans (congrFun (V_main_arg7 m c) _)

theorem emb8 (t : Fin cfg0.N) (i0 : Fin 1) (i1 : Fin 1024) :
    (((cfg0.win 8).blk t).view.emb (ix2 i0 i1) : S1x1024.Idx) = ix2 i0 i1 := by
  obtain ⟨-, -, -, -, -, -, -, -, ⟨e0, e1⟩, -⟩ := index_at t
  refine funext fun b => Fin.ext ?_
  match b with
  | ⟨0, _⟩ => show win0_8.index t 0 * 1 + 1 * i0.val = i0.val; omega
  | ⟨1, _⟩ => show win0_8.index t 1 * 1024 + 1 * i1.val = i1.val; omega

theorem iblk8 (t : Fin cfg0.N) (i0 : Fin 1) (i1 : Fin 1024) :
    (iblk m c 8 t : Vec Ideal S1x1024 .f32) (ix2 i0 i1) = (m ((c : Thread nD τ).loc main_arg8) : Vec Ideal S1x1024 .f32) (ix2 i0 i1) :=
  (congrArg (V m c main_arg8) (emb8 t i0 i1)).trans (congrFun (V_main_arg8 m c) _)

theorem emb9 (t : Fin cfg0.N) (i0 : Fin 1) (i1 : Fin 6144) :
    (((cfg0.win 9).blk t).view.emb (ix2 i0 i1) : S1x6144.Idx) = ix2 i0 i1 := by
  obtain ⟨-, -, -, -, -, -, -, -, -, ⟨e0, e1⟩, -⟩ := index_at t
  refine funext fun b => Fin.ext ?_
  match b with
  | ⟨0, _⟩ => show win0_9.index t 0 * 1 + 1 * i0.val = i0.val; omega
  | ⟨1, _⟩ => show win0_9.index t 1 * 6144 + 1 * i1.val = i1.val; omega

theorem iblk9 (t : Fin cfg0.N) (i0 : Fin 1) (i1 : Fin 6144) :
    (iblk m c 9 t : Vec Ideal S1x6144 .f32) (ix2 i0 i1) = (m ((c : Thread nD τ).loc main_arg9) : Vec Ideal S1x6144 .f32) (ix2 i0 i1) :=
  (congrArg (V m c main_arg9) (emb9 t i0 i1)).trans (congrFun (V_main_arg9 m c) _)

theorem emb10 (t : Fin cfg0.N) (i0 : Fin 512) (i1 : Fin 1024) :
    (((cfg0.win 10).blk t).view.emb (ix2 i0 i1) : S4096x1024.Idx) = ix2 (at_g0_512_4096 t i0) i1 := by
  obtain ⟨-, -, -, -, -, -, -, -, -, -, ⟨e0, e1⟩, -⟩ := index_at t
  refine funext fun b => Fin.ext ?_
  match b with
  | ⟨0, _⟩ => show win0_10.index t 0 * 512 + 1 * i0.val = (t.val) * 512 + i0.val; omega
  | ⟨1, _⟩ => show win0_10.index t 1 * 1024 + 1 * i1.val = i1.val; omega

/-- The point whose block holds index `i`. -/
abbrev pt10 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt10 (i : S4096x1024.Idx) : (ix2 (at_g0_512_4096 (pt10 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem10 (i : S4096x1024.Idx) : i ∈ ((cfg0.win 10).blk (pt10 i)).view.set :=
  Eq.mp (congrArg (· ∈ ((cfg0.win 10).blk (pt10 i)).view.set) ((emb10 (pt10 i) _ _).trans (at_pt10 i)))
    (((cfg0.win 10).blk (pt10 i)).view.emb_mem_set (ix2 ⟨(i 0).val % 512, by omega⟩ (i 1)))

/-- If every block written back is the block of `G`, the array is `G` after the run. -/
theorem arr10 (X : Fin cfg0.N → Vec Ideal S512x1024 .bf16) (G : Vec Ideal S4096x1024 .bf16)
    (hX : ∀ t : Fin cfg0.N, (dats m 0 c).flushed 10 t = (cfg0.win 10).cut (grid0.coords t) (X t))
    (hG : ∀ (t : Fin cfg0.N) (i0 : Fin 512) (i1 : Fin 1024), X t (ix2 i0 i1) = G (ix2 (at_g0_512_4096 t i0) i1)) :
    (dats m 0 c).arrAt 10 cfg0.N = G :=
  (dats m 0 c).arrAt_eq_of_cover 10 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 10).blk t).view.emb (ix2 i0 i1))
    rw [hG t i0 i1, emb10]) fun i => ⟨pt10 i, flush0_10 _, mem10 i⟩

theorem emb11 (t : Fin cfg0.N) (i0 : Fin 512) (i1 : Fin 1024) :
    (((cfg0.win 11).blk t).view.emb (ix2 i0 i1) : S4096x1024.Idx) = ix2 (at_g0_512_4096 t i0) i1 := by
  obtain ⟨-, -, -, -, -, -, -, -, -, -, -, ⟨e0, e1⟩, -⟩ := index_at t
  refine funext fun b => Fin.ext ?_
  match b with
  | ⟨0, _⟩ => show win0_11.index t 0 * 512 + 1 * i0.val = (t.val) * 512 + i0.val; omega
  | ⟨1, _⟩ => show win0_11.index t 1 * 1024 + 1 * i1.val = i1.val; omega

/-- The point whose block holds index `i`. -/
abbrev pt11 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt11 (i : S4096x1024.Idx) : (ix2 (at_g0_512_4096 (pt11 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem11 (i : S4096x1024.Idx) : i ∈ ((cfg0.win 11).blk (pt11 i)).view.set :=
  Eq.mp (congrArg (· ∈ ((cfg0.win 11).blk (pt11 i)).view.set) ((emb11 (pt11 i) _ _).trans (at_pt11 i)))
    (((cfg0.win 11).blk (pt11 i)).view.emb_mem_set (ix2 ⟨(i 0).val % 512, by omega⟩ (i 1)))

/-- If every block written back is the block of `G`, the array is `G` after the run. -/
theorem arr11 (X : Fin cfg0.N → Vec Ideal S512x1024 .bf16) (G : Vec Ideal S4096x1024 .bf16)
    (hX : ∀ t : Fin cfg0.N, (dats m 0 c).flushed 11 t = (cfg0.win 11).cut (grid0.coords t) (X t))
    (hG : ∀ (t : Fin cfg0.N) (i0 : Fin 512) (i1 : Fin 1024), X t (ix2 i0 i1) = G (ix2 (at_g0_512_4096 t i0) i1)) :
    (dats m 0 c).arrAt 11 cfg0.N = G :=
  (dats m 0 c).arrAt_eq_of_cover 11 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 11).blk t).view.emb (ix2 i0 i1))
    rw [hG t i0 i1, emb11]) fun i => ⟨pt11 i, flush0_11 _, mem11 i⟩

theorem emb12 (t : Fin cfg0.N) (i0 : Fin 512) (i1 : Fin 1024) :
    (((cfg0.win 12).blk t).view.emb (ix2 i0 i1) : S4096x1024.Idx) = ix2 (at_g0_512_4096 t i0) i1 := by
  obtain ⟨-, -, -, -, -, -, -, -, -, -, -, -, ⟨e0, e1⟩, -⟩ := index_at t
  refine funext fun b => Fin.ext ?_
  match b with
  | ⟨0, _⟩ => show win0_12.index t 0 * 512 + 1 * i0.val = (t.val) * 512 + i0.val; omega
  | ⟨1, _⟩ => show win0_12.index t 1 * 1024 + 1 * i1.val = i1.val; omega

/-- The point whose block holds index `i`. -/
abbrev pt12 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt12 (i : S4096x1024.Idx) : (ix2 (at_g0_512_4096 (pt12 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem12 (i : S4096x1024.Idx) : i ∈ ((cfg0.win 12).blk (pt12 i)).view.set :=
  Eq.mp (congrArg (· ∈ ((cfg0.win 12).blk (pt12 i)).view.set) ((emb12 (pt12 i) _ _).trans (at_pt12 i)))
    (((cfg0.win 12).blk (pt12 i)).view.emb_mem_set (ix2 ⟨(i 0).val % 512, by omega⟩ (i 1)))

/-- If every block written back is the block of `G`, the array is `G` after the run. -/
theorem arr12 (X : Fin cfg0.N → Vec Ideal S512x1024 .bf16) (G : Vec Ideal S4096x1024 .bf16)
    (hX : ∀ t : Fin cfg0.N, (dats m 0 c).flushed 12 t = (cfg0.win 12).cut (grid0.coords t) (X t))
    (hG : ∀ (t : Fin cfg0.N) (i0 : Fin 512) (i1 : Fin 1024), X t (ix2 i0 i1) = G (ix2 (at_g0_512_4096 t i0) i1)) :
    (dats m 0 c).arrAt 12 cfg0.N = G :=
  (dats m 0 c).arrAt_eq_of_cover 12 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 12).blk t).view.emb (ix2 i0 i1))
    rw [hG t i0 i1, emb12]) fun i => ⟨pt12 i, flush0_12 _, mem12 i⟩

theorem emb13 (t : Fin cfg0.N) (i0 : Fin 512) (i1 : Fin 1024) :
    (((cfg0.win 13).blk t).view.emb (ix2 i0 i1) : S4096x1024.Idx) = ix2 (at_g0_512_4096 t i0) i1 := by
  obtain ⟨-, -, -, -, -, -, -, -, -, -, -, -, -, ⟨e0, e1⟩, -⟩ := index_at t
  refine funext fun b => Fin.ext ?_
  match b with
  | ⟨0, _⟩ => show win0_13.index t 0 * 512 + 1 * i0.val = (t.val) * 512 + i0.val; omega
  | ⟨1, _⟩ => show win0_13.index t 1 * 1024 + 1 * i1.val = i1.val; omega

/-- The point whose block holds index `i`. -/
abbrev pt13 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt13 (i : S4096x1024.Idx) : (ix2 (at_g0_512_4096 (pt13 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem13 (i : S4096x1024.Idx) : i ∈ ((cfg0.win 13).blk (pt13 i)).view.set :=
  Eq.mp (congrArg (· ∈ ((cfg0.win 13).blk (pt13 i)).view.set) ((emb13 (pt13 i) _ _).trans (at_pt13 i)))
    (((cfg0.win 13).blk (pt13 i)).view.emb_mem_set (ix2 ⟨(i 0).val % 512, by omega⟩ (i 1)))

/-- If every block written back is the block of `G`, the array is `G` after the run. -/
theorem arr13 (X : Fin cfg0.N → Vec Ideal S512x1024 .f32) (G : Vec Ideal S4096x1024 .f32)
    (hX : ∀ t : Fin cfg0.N, (dats m 0 c).flushed 13 t = (cfg0.win 13).cut (grid0.coords t) (X t))
    (hG : ∀ (t : Fin cfg0.N) (i0 : Fin 512) (i1 : Fin 1024), X t (ix2 i0 i1) = G (ix2 (at_g0_512_4096 t i0) i1)) :
    (dats m 0 c).arrAt 13 cfg0.N = G :=
  (dats m 0 c).arrAt_eq_of_cover 13 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 13).blk t).view.emb (ix2 i0 i1))
    rw [hG t i0 i1, emb13]) fun i => ⟨pt13 i, flush0_13 _, mem13 i⟩

theorem emb14 (t : Fin cfg0.N) (i0 : Fin 512) (i1 : Fin 1024) :
    (((cfg0.win 14).blk t).view.emb (ix2 i0 i1) : S4096x1024.Idx) = ix2 (at_g0_512_4096 t i0) i1 := by
  obtain ⟨-, -, -, -, -, -, -, -, -, -, -, -, -, -, ⟨e0, e1⟩, -⟩ := index_at t
  refine funext fun b => Fin.ext ?_
  match b with
  | ⟨0, _⟩ => show win0_14.index t 0 * 512 + 1 * i0.val = (t.val) * 512 + i0.val; omega
  | ⟨1, _⟩ => show win0_14.index t 1 * 1024 + 1 * i1.val = i1.val; omega

/-- The point whose block holds index `i`. -/
abbrev pt14 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt14 (i : S4096x1024.Idx) : (ix2 (at_g0_512_4096 (pt14 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem14 (i : S4096x1024.Idx) : i ∈ ((cfg0.win 14).blk (pt14 i)).view.set :=
  Eq.mp (congrArg (· ∈ ((cfg0.win 14).blk (pt14 i)).view.set) ((emb14 (pt14 i) _ _).trans (at_pt14 i)))
    (((cfg0.win 14).blk (pt14 i)).view.emb_mem_set (ix2 ⟨(i 0).val % 512, by omega⟩ (i 1)))

/-- If every block written back is the block of `G`, the array is `G` after the run. -/
theorem arr14 (X : Fin cfg0.N → Vec Ideal S512x1024 .f32) (G : Vec Ideal S4096x1024 .f32)
    (hX : ∀ t : Fin cfg0.N, (dats m 0 c).flushed 14 t = (cfg0.win 14).cut (grid0.coords t) (X t))
    (hG : ∀ (t : Fin cfg0.N) (i0 : Fin 512) (i1 : Fin 1024), X t (ix2 i0 i1) = G (ix2 (at_g0_512_4096 t i0) i1)) :
    (dats m 0 c).arrAt 14 cfg0.N = G :=
  (dats m 0 c).arrAt_eq_of_cover 14 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 14).blk t).view.emb (ix2 i0 i1))
    rw [hG t i0 i1, emb14]) fun i => ⟨pt14 i, flush0_14 _, mem14 i⟩

theorem emb15 (t : Fin cfg0.N) (i0 : Fin 512) (i1 : Fin 1024) :
    (((cfg0.win 15).blk t).view.emb (ix2 i0 i1) : S4096x1024.Idx) = ix2 (at_g0_512_4096 t i0) i1 := by
  obtain ⟨-, -, -, -, -, -, -, -, -, -, -, -, -, -, -, ⟨e0, e1⟩⟩ := index_at t
  refine funext fun b => Fin.ext ?_
  match b with
  | ⟨0, _⟩ => show win0_15.index t 0 * 512 + 1 * i0.val = (t.val) * 512 + i0.val; omega
  | ⟨1, _⟩ => show win0_15.index t 1 * 1024 + 1 * i1.val = i1.val; omega

/-- The point whose block holds index `i`. -/
abbrev pt15 (i : S4096x1024.Idx) : Fin cfg0.N :=
  ⟨((i 0).val / 512), by
    have h0 : (i 0).val < 4096 := (i 0).isLt
    have h1 : (i 1).val < 1024 := (i 1).isLt
    rw [show cfg0.N = 8 from N_0]; omega⟩

theorem at_pt15 (i : S4096x1024.Idx) : (ix2 (at_g0_512_4096 (pt15 i) ⟨(i 0).val % 512, by omega⟩) (i 1) : S4096x1024.Idx) = i := by
  have h0 : (i 0).val < 4096 := (i 0).isLt
  have h1 : (i 1).val < 1024 := (i 1).isLt
  refine funext fun b => Fin.ext ?_
  match b with
  | ⟨0, _⟩ => show ((((i 0).val / 512))) * 512 + (i 0).val % 512 = (i 0).val; omega
  | ⟨1, _⟩ => rfl

theorem mem15 (i : S4096x1024.Idx) : i ∈ ((cfg0.win 15).blk (pt15 i)).view.set :=
  Eq.mp (congrArg (· ∈ ((cfg0.win 15).blk (pt15 i)).view.set) ((emb15 (pt15 i) _ _).trans (at_pt15 i)))
    (((cfg0.win 15).blk (pt15 i)).view.emb_mem_set (ix2 ⟨(i 0).val % 512, by omega⟩ (i 1)))

/-- If every block written back is the block of `G`, the array is `G` after the run. -/
theorem arr15 (X : Fin cfg0.N → Vec Ideal S512x1024 .bf16) (G : Vec Ideal S4096x1024 .bf16)
    (hX : ∀ t : Fin cfg0.N, (dats m 0 c).flushed 15 t = (cfg0.win 15).cut (grid0.coords t) (X t))
    (hG : ∀ (t : Fin cfg0.N) (i0 : Fin 512) (i1 : Fin 1024), X t (ix2 i0 i1) = G (ix2 (at_g0_512_4096 t i0) i1)) :
    (dats m 0 c).arrAt 15 cfg0.N = G :=
  (dats m 0 c).arrAt_eq_of_cover 15 G (fun t _ => by
    rw [hX t]
    funext j
    obtain ⟨i0, i1, rfl⟩ : ∃ (i0 : Fin 512) (i1 : Fin 1024), j = ix2 i0 i1 := ⟨j 0, j 1, eq_ix2 j⟩
    show X t (ix2 i0 i1) = G (((cfg0.win 15).blk t).view.emb (ix2 i0 i1))
    rw [hG t i0 i1, emb15]) fun i => ⟨pt15 i, flush0_15 _, mem15 i⟩

end Cert.Proof.MixOut
-- ==== Proof.MixOutKernel.lean ====
/- Hand-written. The forward call that merges the two branches, projects them out and normalises the result (`MixOut`), at the
   extended reals: its six results as formulas of the arguments. -/
module

public import proofs.«01_k».proof.Proof.MixOutWindows
public import proofs.«01_k».proof.Proof.Algebra
public import proofs.«01_k».proof.Proof.Norm
public import Idealize.ShloMosaic.Lib.Tactic

@[expose] public section

noncomputable section

namespace Cert.Proof.MixOut

open Cert.MixOutIdeal Cert.MixOutIdeal.Gen Cert.MixOutIdeal.Value Idealize.ShloMosaic Idealize.ShloMosaic.TcCoe Idealize.SL.Sem
open Cert.Proof.Algebra (gate)
open Cert.Proof.Norm (norm)

section

variable (x0 : Vec Ideal S4096x2048 .bf16) (x1 x2 : Vec Ideal S4096x512 .bf16) (x3 : Vec Ideal S4096x1024 .f32)
  (x4 : Vec Ideal S1024x1024 .bf16) (x5 x6 : Vec Ideal S512x1024 .bf16) (x7 : Vec Ideal S1x2048 .f32)
  (x8 : Vec Ideal S1x1024 .f32) (x9 : Vec Ideal S1x6144 .f32)

/-- A branch's rows times its matrix. -/
def branch (y : Vec Ideal S4096x512 .bf16) (w : Vec Ideal S512x1024 .bf16) (t : Fin 4096) (k : Fin 1024) : EReal :=
  ∑ j : Fin 512, y (ix2 t j) * w (ix2 j k)

/-- The two branches, each times its gate, added. -/
def merged (t : Fin 4096) (k : Fin 1024) : EReal :=
  gate (x0 (ix2 t ⟨k.val, by omega⟩) + x7 (ix2 0 ⟨k.val, by omega⟩)) * branch x1 x5 t k
    + gate (x0 (ix2 t ⟨1024 + k.val, by omega⟩) + x7 (ix2 0 ⟨1024 + k.val, by omega⟩)) * branch x2 x6 t k

/-- The merged rows times the output projection. -/
def mixed (t : Fin 4096) (k : Fin 1024) : EReal := ∑ j : Fin 1024, merged x0 x1 x2 x5 x6 x7 t j * x4 (ix2 j k)

/-- The residual stream after the mixed rows, times their gate, are added. -/
def stream (t : Fin 4096) (k : Fin 1024) : EReal :=
  x3 (ix2 t k) + x9 (ix2 0 ⟨2048 + k.val, by omega⟩) * mixed x0 x1 x2 x4 x5 x6 x7 t k

/-- The second norm of the stream's rows. -/
def normed (t : Fin 4096) (k : Fin 1024) : EReal :=
  norm (stream x0 x1 x2 x3 x4 x5 x6 x7 x9 t) (fun n => x8 (ix2 0 n)) (fun n => x9 (ix2 0 ⟨4096 + n.val, by omega⟩))
    (fun n => x9 (ix2 0 ⟨3072 + n.val, by omega⟩)) k

end

/-- An array of rows and columns from its elements. -/
abbrev arr {a b : ℕ} (f : Fin a → Fin b → EReal) : (⟨2, ![a, b]⟩ : Shape).Idx → EReal := fun i => f (i 0) (i 1)

section

variable (v0 : Vec Ideal S512x2048 .bf16) (v1 v2 : Vec Ideal S512x512 .bf16) (v3 : Vec Ideal S512x1024 .f32)
  (v4 v5 : Vec Ideal S512x1024 .bf16) (v6 : Vec Ideal S1x2048 .f32) (v7 : Vec Ideal S1x1024 .f32) (v8 : Vec Ideal S1x6144 .f32)
  (v31 : Vec Ideal S1024x1024 .bf16) (v32 : Vec Ideal S512x1024 .f32) (i : Fin 512) (k : Fin 1024)

theorem block_ma : k0_pay3 (F := Ideal) v1 v4 (ix2 i k) = ∑ j, v1 (ix2 i j) * v4 (ix2 j k) := by
  unfold k0_pay3
  pointwise [dot_S512x512_S512x1024_S512x1024_1_0_0_1_n_n]

theorem block_mb : k0_pay4 (F := Ideal) v2 v5 (ix2 i k) = ∑ j, v2 (ix2 i j) * v5 (ix2 j k) := by
  unfold k0_pay4
  pointwise [dot_S512x512_S512x1024_S512x1024_1_0_0_1_n_n]

theorem block_merged : k0_pay5 (F := Ideal) v0 v1 v2 v4 v5 v6 (ix2 i k)
    = gate (v0 (ix2 i ⟨k.val, by omega⟩) + v6 (ix2 0 ⟨k.val, by omega⟩)) * k0_pay3 (F := Ideal) v1 v4 (ix2 i k)
      + gate (v0 (ix2 i ⟨1024 + k.val, by omega⟩) + v6 (ix2 0 ⟨1024 + k.val, by omega⟩)) * k0_pay4 (F := Ideal) v2 v5 (ix2 i k) := by
  unfold k0_pay5
  pointwise
  rw [Algebra.gate_eq, Algebra.gate_eq]

theorem block_mixed : k0_pay6 (F := Ideal) v0 v1 v2 v4 v5 v6 v31 (ix2 i k)
    = ∑ j, k0_pay5 (F := Ideal) v0 v1 v2 v4 v5 v6 (ix2 i j) * v31 (ix2 j k) := by
  unfold k0_pay6
  pointwise [dot_S512x1024_S1024x1024_S512x1024_1_0_0_1_n_n]

theorem block_stream : k0_pay1 (F := Ideal) v3 v8 v32 (ix2 i k)
    = v3 (ix2 i k) + v8 (ix2 0 ⟨2048 + k.val, by omega⟩) * v32 (ix2 i k) := by
  unfold k0_pay1
  pointwise

theorem block_normed : k0_pay2 (F := Ideal) v3 v7 v8 v32 (ix2 i k)
    = norm (fun n => k0_pay1 (F := Ideal) v3 v8 v32 (ix2 i n)) (fun n => v7 (ix2 0 n))
      (fun n => v8 (ix2 0 ⟨4096 + n.val, by omega⟩)) (fun n => v8 (ix2 0 ⟨3072 + n.val, by omega⟩)) k := by
  unfold k0_pay2
  pointwise
  rfl

end

theorem hz2 : (![0, 0] : Fin 2 → Nat) = fun _ => 0 := funext fun a => by fin_cases a <;> rfl

section

variable (x0 : Vec Ideal S1024x1024 .bf16) (x1 : Vec Ideal S512x2048 .bf16) (x2 x3 : Vec Ideal S512x512 .bf16)
  (x4 : Vec Ideal S512x1024 .f32) (x5 x6 : Vec Ideal S512x1024 .bf16) (x7 : Vec Ideal S1x2048 .f32) (x8 : Vec Ideal S1x1024 .f32)
  (x9 : Vec Ideal S1x6144 .f32)

theorem out10_eq : out0_10 x0 x1 x2 x3 x4 x5 x6 x7 x8 x9 = k0_pay5 x1 x2 x3 x5 x6 x7 := by
  unfold out0_10
  rw [View.canon_unit_zero hz2]
  simp only [View.ld_unit_zero (S := S512x2048) hz2, View.ld_unit_zero (S := S512x512) hz2, View.ld_unit_zero (S := S512x1024) hz2,
    View.ld_unit_zero (S := S1x2048) hz2]

theorem out11_eq : out0_11 x0 x1 x2 x3 x4 x5 x6 x7 x8 x9 = k0_pay3 x2 x5 := by
  unfold out0_11
  rw [View.canon_unit_zero hz2, View.ld_unit_zero hz2, View.ld_unit_zero hz2]

theorem out12_eq : out0_12 x0 x1 x2 x3 x4 x5 x6 x7 x8 x9 = k0_pay4 x3 x6 := by
  unfold out0_12
  rw [View.canon_unit_zero hz2, View.ld_unit_zero hz2, View.ld_unit_zero hz2]

theorem pay7_eq : k0_pay7 x0 x1 x2 x3 x4 x5 x6 x7 x8 x9 = k0_pay6 x1 x2 x3 x5 x6 x7 x0 := by
  unfold k0_pay7
  simp only [View.ld_unit_zero (S := S512x2048) hz2, View.ld_unit_zero (S := S512x512) hz2, View.ld_unit_zero (S := S512x1024) hz2,
    View.ld_unit_zero (S := S1x2048) hz2, View.ld_unit_zero (S := S1024x1024) hz2]

theorem out13_eq : out0_13 x0 x1 x2 x3 x4 x5 x6 x7 x8 x9 = k0_pay6 x1 x2 x3 x5 x6 x7 x0 := by
  unfold out0_13
  rw [View.canon_unit_zero hz2, pay7_eq]

theorem out14_eq : out0_14 x0 x1 x2 x3 x4 x5 x6 x7 x8 x9 = k0_pay1 x4 x9 (k0_pay6 x1 x2 x3 x5 x6 x7 x0) := by
  unfold out0_14
  rw [View.canon_unit_zero hz2, pay7_eq, View.ld_unit_zero hz2, View.ld_unit_zero hz2]

theorem out15_eq : out0_15 x0 x1 x2 x3 x4 x5 x6 x7 x8 x9 = k0_pay2 x4 x8 x9 (k0_pay6 x1 x2 x3 x5 x6 x7 x0) := by
  unfold out0_15
  rw [View.canon_unit_zero hz2, pay7_eq, View.ld_unit_zero hz2, View.ld_unit_zero hz2, View.ld_unit_zero hz2]

end

variable (m : (ℓ : Loc nD τ sig) → Buf (Elt Ideal) ℓ) (c : Dev nD)

abbrev a0 : Vec Ideal S4096x2048 .bf16 := m ((c : Thread nD τ).loc main_arg0)
abbrev a1 : Vec Ideal S4096x512 .bf16 := m ((c : Thread nD τ).loc main_arg1)
abbrev a2 : Vec Ideal S4096x512 .bf16 := m ((c : Thread nD τ).loc main_arg2)
abbrev a3 : Vec Ideal S4096x1024 .f32 := m ((c : Thread nD τ).loc main_arg3)
abbrev a4 : Vec Ideal S1024x1024 .bf16 := m ((c : Thread nD τ).loc main_arg4)
abbrev a5 : Vec Ideal S512x1024 .bf16 := m ((c : Thread nD τ).loc main_arg5)
abbrev a6 : Vec Ideal S512x1024 .bf16 := m ((c : Thread nD τ).loc main_arg6)
abbrev a7 : Vec Ideal S1x2048 .f32 := m ((c : Thread nD τ).loc main_arg7)
abbrev a8 : Vec Ideal S1x1024 .f32 := m ((c : Thread nD τ).loc main_arg8)
abbrev a9 : Vec Ideal S1x6144 .f32 := m ((c : Thread nD τ).loc main_arg9)

variable (t : Fin cfg0.N) (i : Fin 512) (k : Fin 1024)

theorem row_ma : k0_pay3 (F := Ideal) (iblk m c 2 t) (iblk m c 5 t) (ix2 i k) = branch (a1 m c) (a5 m c) (at_g0_512_4096 t i) k := by
  rw [block_ma]
  simp only [iblk2, iblk5]
  rfl

theorem row_mb : k0_pay4 (F := Ideal) (iblk m c 3 t) (iblk m c 6 t) (ix2 i k) = branch (a2 m c) (a6 m c) (at_g0_512_4096 t i) k := by
  rw [block_mb]
  simp only [iblk3, iblk6]
  rfl

theorem row_merged : k0_pay5 (F := Ideal) (iblk m c 1 t) (iblk m c 2 t) (iblk m c 3 t) (iblk m c 5 t) (iblk m c 6 t) (iblk m c 7 t) (ix2 i k)
    = merged (a0 m c) (a1 m c) (a2 m c) (a5 m c) (a6 m c) (a7 m c) (at_g0_512_4096 t i) k := by
  rw [block_merged, row_ma, row_mb]
  simp only [iblk1, iblk7]
  rfl

theorem row_mixed : k0_pay6 (F := Ideal) (iblk m c 1 t) (iblk m c 2 t) (iblk m c 3 t) (iblk m c 5 t) (iblk m c 6 t) (iblk m c 7 t) (iblk m c 0 t)
      (ix2 i k)
    = mixed (a0 m c) (a1 m c) (a2 m c) (a4 m c) (a5 m c) (a6 m c) (a7 m c) (at_g0_512_4096 t i) k := by
  rw [block_mixed]
  simp only [row_merged, iblk0]
  rfl

theorem row_stream : k0_pay1 (F := Ideal) (iblk m c 4 t) (iblk m c 9 t) (k0_pay6 (F := Ideal) (iblk m c 1 t) (iblk m c 2 t) (iblk m c 3 t)
      (iblk m c 5 t) (iblk m c 6 t) (iblk m c 7 t) (iblk m c 0 t)) (ix2 i k)
    = stream (a0 m c) (a1 m c) (a2 m c) (a3 m c) (a4 m c) (a5 m c) (a6 m c) (a7 m c) (a9 m c) (at_g0_512_4096 t i) k := by
  rw [block_stream, row_mixed]
  simp only [iblk4, iblk9]
  rfl

theorem final_merged : (dats m 0 c).arrAt 10 cfg0.N = arr (merged (a0 m c) (a1 m c) (a2 m c) (a5 m c) (a6 m c) (a7 m c)) :=
  arr10 m c _ _ (fun t => by rw [flushed10, out10_eq]) (row_merged m c)

theorem final_ma : (dats m 0 c).arrAt 11 cfg0.N = arr (branch (a1 m c) (a5 m c)) :=
  arr11 m c _ _ (fun t => by rw [flushed11, out11_eq]) (row_ma m c)

theorem final_mb : (dats m 0 c).arrAt 12 cfg0.N = arr (branch (a2 m c) (a6 m c)) :=
  arr12 m c _ _ (fun t => by rw [flushed12, out12_eq]) (row_mb m c)

theorem final_mixed : (dats m 0 c).arrAt 13 cfg0.N = arr (mixed (a0 m c) (a1 m c) (a2 m c) (a4 m c) (a5 m c) (a6 m c) (a7 m c)) :=
  arr13 m c _ _ (fun t => by rw [flushed13, out13_eq]) (row_mixed m c)

theorem final_stream : (dats m 0 c).arrAt 14 cfg0.N
    = arr (stream (a0 m c) (a1 m c) (a2 m c) (a3 m c) (a4 m c) (a5 m c) (a6 m c) (a7 m c) (a9 m c)) :=
  arr14 m c _ _ (fun t => by rw [flushed14, out14_eq]) (row_stream m c)

theorem final_normed : (dats m 0 c).arrAt 15 cfg0.N
    = arr (normed (a0 m c) (a1 m c) (a2 m c) (a3 m c) (a4 m c) (a5 m c) (a6 m c) (a7 m c) (a8 m c) (a9 m c)) :=
  arr15 m c _ _ (fun t => by rw [flushed15, out15_eq]) fun t i k => by
    rw [block_normed]
    simp only [row_stream, iblk8, iblk9]
    rfl

end Cert.Proof.MixOut
-- ==== Proof.MixOutRef.lean ====
/- Hand-written. The reference of the merging call at the extended reals: its six results are the same formulas as the call's. -/
module

public import proofs.«01_k».proof.Proof.Gen.MixOutRefIdeal.Run
public import proofs.«01_k».proof.Proof.Gen.MixOutRefIdeal.Read
public import proofs.«01_k».proof.Proof.MixOutKernel

@[expose] public section

noncomputable section

namespace Cert.Proof.MixOut

open Cert.MixOutRefIdeal Cert.MixOutRefIdeal.Read Idealize.ShloMosaic Idealize.ShloMosaic.TcCoe Idealize.SL.Sem

variable (x0 : Vec Ideal S4096x2048 .bf16) (x1 x2 : Vec Ideal S4096x512 .bf16) (x3 : Vec Ideal S4096x1024 .f32)
  (x4 : Vec Ideal S1024x1024 .bf16) (x5 x6 : Vec Ideal S512x1024 .bf16) (x7 : Vec Ideal S1x2048 .f32)
  (x8 : Vec Ideal S1x1024 .f32) (x9 : Vec Ideal S1x6144 .f32) (t : Fin 4096) (k : Fin 1024)

theorem ref_ma : val_main_v22 (F := Ideal) x1 x5 (ix2 t k) = branch x1 x5 t k := by
  unfold val_main_v22 val_main_v1 val_main_v4
  pointwise [dot_S4096x512_S512x1024_S4096x1024_1_0_0_1_n_n]
  rfl

theorem ref_mb : val_main_v23 (F := Ideal) x2 x6 (ix2 t k) = branch x2 x6 t k := by
  unfold val_main_v23 val_main_v2 val_main_v5
  pointwise [dot_S4096x512_S512x1024_S4096x1024_1_0_0_1_n_n]
  rfl

theorem ref_merged : val_main_v26 (F := Ideal) x0 x1 x2 x5 x6 x7 (ix2 t k) = merged x0 x1 x2 x5 x6 x7 t k := by
  unfold val_main_v26 val_main_v25 val_main_v24 val_main_v21 val_main_v20 val_main_v19 val_main_v18 val_main_v17 val_main_v16
    val_main_v15 val_main_v14 val_main_v13 val_main_v12 val_main_v0 val_main_cst val_main_cst_0
  pointwise
  rw [ref_ma, ref_mb]
  rfl

theorem ref_mixed : val_main_v27 (F := Ideal) x0 x1 x2 x4 x5 x6 x7 (ix2 t k) = mixed x0 x1 x2 x4 x5 x6 x7 t k := by
  unfold val_main_v27 val_main_v3
  pointwise [dot_S4096x1024_S1024x1024_S4096x1024_1_0_0_1_n_n]
  simp only [ref_merged]
  rfl

theorem ref_stream : val_main_v30 (F := Ideal) x0 x1 x2 x3 x4 x5 x6 x7 x9 (ix2 t k) = stream x0 x1 x2 x3 x4 x5 x6 x7 x9 t k := by
  unfold val_main_v30 val_main_v29 val_main_v28 val_main_v8
  pointwise
  rw [ref_mixed]
  rfl

theorem ref_normed : val_main_v48 (F := Ideal) x0 x1 x2 x3 x4 x5 x6 x7 x8 x9 (ix2 t k) = normed x0 x1 x2 x3 x4 x5 x6 x7 x8 x9 t k := by
  unfold val_main_v48 val_main_v47 val_main_v46 val_main_v45 val_main_v44 val_main_v43 val_main_v42 val_main_v41 val_main_v40
    val_main_v39 val_main_v38 val_main_v37 val_main_v36 val_main_v35 val_main_v34 val_main_v33 val_main_v32 val_main_v31
    val_main_v10 val_main_v9 val_main_cst_1 val_main_cst_2 val_main_cst_3 val_main_cst_4
  pointwise
  simp only [ref_stream]
  rfl

omit t k

theorem final_ref_mixed : val_main_v27 (F := Ideal) x0 x1 x2 x4 x5 x6 x7 = arr (mixed x0 x1 x2 x4 x5 x6 x7) := by
  funext i
  obtain ⟨t, k, rfl⟩ : ∃ (t : Fin 4096) (k : Fin 1024), i = ix2 t k := ⟨i 0, i 1, eq_ix2 i⟩
  exact ref_mixed x0 x1 x2 x4 x5 x6 x7 t k

theorem final_ref_stream : val_main_v30 (F := Ideal) x0 x1 x2 x3 x4 x5 x6 x7 x9 = arr (stream x0 x1 x2 x3 x4 x5 x6 x7 x9) := by
  funext i
  obtain ⟨t, k, rfl⟩ : ∃ (t : Fin 4096) (k : Fin 1024), i = ix2 t k := ⟨i 0, i 1, eq_ix2 i⟩
  exact ref_stream x0 x1 x2 x3 x4 x5 x6 x7 x9 t k

theorem final_ref_merged : val_main_v49 (F := Ideal) x0 x1 x2 x5 x6 x7 = arr (merged x0 x1 x2 x5 x6 x7) := by
  funext i
  obtain ⟨t, k, rfl⟩ : ∃ (t : Fin 4096) (k : Fin 1024), i = ix2 t k := ⟨i 0, i 1, eq_ix2 i⟩
  unfold val_main_v49
  pointwise
  exact ref_merged x0 x1 x2 x5 x6 x7 t k

theorem final_ref_ma : val_main_v50 (F := Ideal) x1 x5 = arr (branch x1 x5) := by
  funext i
  obtain ⟨t, k, rfl⟩ : ∃ (t : Fin 4096) (k : Fin 1024), i = ix2 t k := ⟨i 0, i 1, eq_ix2 i⟩
  unfold val_main_v50
  pointwise
  exact ref_ma x1 x5 t k

theorem final_ref_mb : val_main_v51 (F := Ideal) x2 x6 = arr (branch x2 x6) := by
  funext i
  obtain ⟨t, k, rfl⟩ : ∃ (t : Fin 4096) (k : Fin 1024), i = ix2 t k := ⟨i 0, i 1, eq_ix2 i⟩
  unfold val_main_v51
  pointwise
  exact ref_mb x2 x6 t k

theorem final_ref_normed : val_main_v52 (F := Ideal) x0 x1 x2 x3 x4 x5 x6 x7 x8 x9 = arr (normed x0 x1 x2 x3 x4 x5 x6 x7 x8 x9) := by
  funext i
  obtain ⟨t, k, rfl⟩ : ∃ (t : Fin 4096) (k : Fin 1024), i = ix2 t k := ⟨i 0, i 1, eq_ix2 i⟩
  unfold val_main_v52
  pointwise
  exact ref_normed x0 x1 x2 x3 x4 x5 x6 x7 x8 x9 t k

end Cert.Proof.MixOut
-- ==== Proof.MixOutClaim.lean ====
/- Hand-written. The merging call: the reference's frame and the equation of the six results. -/
module

public import proofs.«01_k».proof.Defs
public import proofs.«01_k».proof.Proof.MixOutKernel
public import proofs.«01_k».proof.Proof.MixOutRef
public import Idealize.ShloMosaic.Adequacy

@[expose] public section

noncomputable section

namespace Cert.Proof.MixOut

open Idealize.ShloMosaic Idealize.ShloMosaic.TcCoe Idealize.SL.Sem

/-- The reference has no semaphores, so none is left counting. -/
theorem frame_ref : Cert.quiescent_MixOutRefIdeal := fun m ρ _ =>
  (θ_run Cert.MixOutRefIdeal.defs _ _).mono (fun r h => ⟨fun c => (h c).2.2.2.2.2.2, sem_eq_zero_of_no_sems (by decide) r.2⟩)
    (Cert.MixOutRefIdeal.Value.run (F := Ideal) m ρ)

/-- The call and its reference end with equal results. -/
theorem value : Cert.algebraic_MixOutIdeal_MixOutRefIdeal := by
  intro m ρ m' ρ' _ hagree
  refine ⟨fun c => (Cert.MixOutIdeal.Gen.dats m 0 c).arrAt 10 Cert.MixOutIdeal.cfg0.N, fun c => (Cert.MixOutIdeal.Gen.dats m 0 c).arrAt 11 Cert.MixOutIdeal.cfg0.N, fun c => (Cert.MixOutIdeal.Gen.dats m 0 c).arrAt 12 Cert.MixOutIdeal.cfg0.N, fun c => (Cert.MixOutIdeal.Gen.dats m 0 c).arrAt 13 Cert.MixOutIdeal.cfg0.N, fun c => (Cert.MixOutIdeal.Gen.dats m 0 c).arrAt 14 Cert.MixOutIdeal.cfg0.N, fun c => (Cert.MixOutIdeal.Gen.dats m 0 c).arrAt 15 Cert.MixOutIdeal.cfg0.N, ?_, ?_⟩
  · exact Cert.MixOutIdeal.Value.run_blocks m ρ
  · refine (θ_run Cert.MixOutRefIdeal.defs _ _).mono (fun _ h c => ?_) (Cert.MixOutRefIdeal.Value.run (F := Ideal) m' ρ')
    obtain ⟨e0, e1, e2, e3, e4, e5, e6, e7, e8, e9⟩ := hagree c
    obtain ⟨h0, h1, h2, h3, h4, h5, hkept⟩ := h c
    refine ⟨?_, ?_, ?_, ?_, ?_, ?_, hkept⟩
    · refine h0.trans ((Cert.MixOutRefIdeal.Read.val_main_v49_eq (F := Ideal) _ _ _ _ _ _).trans ?_)
      rw [e0, e1, e2, e5, e6, e7]
      exact (final_ref_merged _ _ _ _ _ _).trans (final_merged m c).symm
    · refine h1.trans ((Cert.MixOutRefIdeal.Read.val_main_v50_eq (F := Ideal) _ _).trans ?_)
      rw [e1, e5]
      exact (final_ref_ma _ _).trans (final_ma m c).symm
    · refine h2.trans ((Cert.MixOutRefIdeal.Read.val_main_v51_eq (F := Ideal) _ _).trans ?_)
      rw [e2, e6]
      exact (final_ref_mb _ _).trans (final_mb m c).symm
    · refine h3.trans ((Cert.MixOutRefIdeal.Read.val_main_v27_eq (F := Ideal) _ _ _ _ _ _ _).trans ?_)
      rw [e0, e1, e2, e4, e5, e6, e7]
      exact (final_ref_mixed _ _ _ _ _ _ _).trans (final_mixed m c).symm
    · refine h4.trans ((Cert.MixOutRefIdeal.Read.val_main_v30_eq (F := Ideal) _ _ _ _ _ _ _ _ _).trans ?_)
      rw [e0, e1, e2, e3, e4, e5, e6, e7, e9]
      exact (final_ref_stream _ _ _ _ _ _ _ _ _).trans (final_stream m c).symm
    · refine h5.trans ((Cert.MixOutRefIdeal.Read.val_main_v52_eq (F := Ideal) _ _).trans ?_)
      rw [e0, e1, e2, e3, e4, e5, e6, e7, e8, e9]
      exact (final_ref_normed _ _ _ _ _ _ _ _ _ _).trans (final_normed m c).symm

end Cert.Proof.MixOut
-- ==== Proof.AttnMath.lean ====
/- Hand-written. What the attention computes, as plain functions over the extended reals: a head's norm, its rotation by the
   position's angles, and a row's softmax with a sink. -/
module

public import Idealize.ShloMosaic.Lib.Pointwise

@[expose] public section

noncomputable section

namespace Cert.Proof.Attn

open Idealize.ShloMosaic

/-- A head's row over the root of its mean square, times the gain. -/
def normed (x g : Fin 64 → EReal) (d : Fin 64) : EReal :=
  x d * Ideal.rsqrt ((∑ e, x e * x e) * Ideal.ofBits .f32 0x3C800000#32 + Ideal.ofBits .f32 0x358637BD#32) * g d

/-- The first eight lanes and the next eight rotated by their angles (cosine `c`, sine `s`), the rest as they are. -/
def roped (n : Fin 64 → EReal) (c s : Fin 8 → EReal) (d : Fin 64) : EReal :=
  if h : d.val < 8 then n d * c ⟨d.val, h⟩ - n ⟨d.val + 8, by omega⟩ * s ⟨d.val, h⟩
  else if h' : d.val < 16 then n d * c ⟨d.val - 8, by omega⟩ + n ⟨d.val - 8, by omega⟩ * s ⟨d.val - 8, by omega⟩
  else n d

/-- The greatest of a row of scores and its sink. -/
def top (s : Fin 256 → EReal) (b : EReal) : EReal := max ((Finset.univ : Finset (Fin 256)).fold max ⊥ s) b

/-- The exponentials of a row's scores and of its sink, added. -/
def mass (s : Fin 256 → EReal) (b : EReal) : EReal := ∑ j, Ideal.exp (s j - top s b) + Ideal.exp (b - top s b)

/-- The values weighted by the softmax of the scores, the sink a score without a value. -/
def attend (s v : Fin 256 → EReal) (b : EReal) : EReal :=
  ∑ j, Ideal.div (Ideal.exp (s j - top s b)) (mass s b) * v j

theorem inv64 : Ideal.ofBits .f32 0x3C800000#32 = ((1 / 64 : ℝ) : EReal) := by
  simp [Ideal.ofBits, Ideal.ieee, -EReal.coe_mul]
  norm_num

theorem c64 : Ideal.ofBits .f32 0x42800000#32 = ((64 : ℝ) : EReal) := by
  simp [Ideal.ofBits, Ideal.ieee, -EReal.coe_mul]
  norm_num

/-- The mean as a division is the mean as a product. -/
theorem div64 (x : EReal) : Ideal.div x (Ideal.ofBits .f32 0x42800000#32) = x * Ideal.ofBits .f32 0x3C800000#32 := by
  rw [c64, inv64, Ideal.div_coe (by norm_num)]

/-- A real square has no low part left once its high part, itself, is taken. -/
theorem sq_sub (x : EReal) (h : ∃ r : ℝ, x = r) : x * x - x * x = 0 := by
  obtain ⟨r, rfl⟩ := h
  rw [← EReal.coe_mul, ← EReal.coe_sub, sub_self, EReal.coe_zero]

/-- A sum over all lanes in which only those of lane `k`'s group of 64 count. -/
theorem sum_seg {M : ℕ} (f : Fin (64 * M) → EReal) (k : Fin (64 * M)) :
    (∑ j, f j * (if j.val / 64 = k.val / 64 then 1 else 0)) = ∑ e : Fin 64, f ⟨k.val / 64 * 64 + e.val, by omega⟩ := by
  simp only [mul_ite, mul_one, mul_zero]
  rw [← Finset.sum_filter]
  symm
  refine Finset.sum_bij' (fun e _ => (⟨k.val / 64 * 64 + e.val, by omega⟩ : Fin (64 * M))) (fun j _ => (⟨j.val % 64, by omega⟩ : Fin 64)) ?_ ?_ ?_ ?_ ?_
  · intro e _
    rw [Finset.mem_filter]
    refine ⟨Finset.mem_univ _, ?_⟩
    show (k.val / 64 * 64 + e.val) / 64 = k.val / 64
    omega
  · intro j _; exact Finset.mem_univ _
  · intro e _; exact Fin.ext (show (k.val / 64 * 64 + e.val) % 64 = e.val by omega)
  · intro j hj
    rw [Finset.mem_filter] at hj
    have := hj.2
    exact Fin.ext (show k.val / 64 * 64 + j.val % 64 = j.val by omega)
  · intro e _; rfl

/-- The bit of two equal numbers, as a number. -/
theorem bit_eq (a b : ℕ) (ha : a < 2 ^ 32) (hb : b < 2 ^ 32) :
    (FloatOps.sitofp (F := Ideal) .f32 (BitVec.setWidth 32 (IntOp.cmpi .eq (BitVec.ofNat 32 a) (BitVec.ofNat 32 b))) : EReal)
      = if a = b then 1 else 0 := by
  show ((((BitVec.setWidth 32 (IntOp.cmpi .eq (BitVec.ofNat 32 a) (BitVec.ofNat 32 b))).toInt : ℝ)) : EReal) = _
  have e : (BitVec.ofNat 32 a == BitVec.ofNat 32 b) = decide (a = b) := by
    rw [Bool.eq_iff_iff]
    simp only [beq_iff_eq, decide_eq_true_eq]
    constructor
    · intro h
      have := congrArg BitVec.toNat h
      rwa [BitVec.toNat_ofNat, BitVec.toNat_ofNat, Nat.mod_eq_of_lt ha, Nat.mod_eq_of_lt hb] at this
    · rintro rfl; rfl
  unfold IntOp.cmpi
  simp only [e]
  by_cases h : a = b
  · simp [h]
  · simp [h]

/-- The rotation's three bands of 128 lanes: the cosines, the sines that go up negated, the sines that go down. -/
def band (c s : Fin 8 → EReal) (j : Fin 384) : EReal :=
  if j.val < 128 then (if j.val % 64 < 16 then c ⟨j.val % 8, by omega⟩ else 1)
  else if j.val < 256 then (if j.val % 64 < 8 then -s ⟨j.val % 8, by omega⟩ else 0)
  else (if 8 ≤ j.val % 64 ∧ j.val % 64 < 16 then s ⟨j.val % 8, by omega⟩ else 0)

/-- Three products with the bands are the rotation, whatever the neighbours hold where a band is zero. -/
theorem roped_eq (n : Fin 64 → EReal) (c s : Fin 8 → EReal) (l : Fin 64) (u w : EReal) (a b d : Fin 384)
    (hu : ∀ h : l.val < 8, u = n ⟨l.val + 8, by omega⟩) (hw : ∀ h : 8 ≤ l.val, l.val < 16 → w = n ⟨l.val - 8, by omega⟩)
    (ha : a.val < 128 ∧ a.val % 64 = l.val) (hb : 128 ≤ b.val ∧ b.val < 256 ∧ b.val % 64 = l.val)
    (hd : 256 ≤ d.val ∧ d.val % 64 = l.val) :
    n l * band c s a + u * band c s b + w * band c s d = roped n c s l := by
  obtain ⟨ha, ha'⟩ := ha
  obtain ⟨hb, hb', hb''⟩ := hb
  obtain ⟨hd, hd'⟩ := hd
  have hl := l.isLt
  unfold band roped
  rw [if_pos ha, if_neg (by omega : ¬ b.val < 128), if_pos hb', if_neg (by omega : ¬ d.val < 128), if_neg (by omega : ¬ d.val < 256)]
  by_cases h8 : l.val < 8
  · rw [if_pos (by omega), if_pos (by omega), if_neg (by omega), dif_pos h8, hu h8, mul_zero, add_zero, mul_neg, sub_eq_add_neg]
    have e : (⟨a.val % 8, by omega⟩ : Fin 8) = ⟨l.val, h8⟩ := Fin.ext (show a.val % 8 = l.val by omega)
    have e' : (⟨b.val % 8, by omega⟩ : Fin 8) = ⟨l.val, h8⟩ := Fin.ext (show b.val % 8 = l.val by omega)
    rw [e, e']
  · by_cases h16 : l.val < 16
    · rw [if_pos (by omega), if_neg (by omega), if_pos (by omega), dif_neg h8, dif_pos h16, hw (by omega) h16, mul_zero, add_zero]
      have e : (⟨a.val % 8, by omega⟩ : Fin 8) = ⟨l.val - 8, by omega⟩ := Fin.ext (show a.val % 8 = l.val - 8 by omega)
      have e' : (⟨d.val % 8, by omega⟩ : Fin 8) = ⟨l.val - 8, by omega⟩ := Fin.ext (show d.val % 8 = l.val - 8 by omega)
      rw [e, e']
    · rw [if_neg (by omega), if_neg (by omega), if_neg (by omega), dif_neg h8, dif_neg h16, mul_one, mul_zero, mul_zero, add_zero, add_zero]

/-- The kernel's norm of a lane: the squares' high and low parts summed over the lane's group through a matrix of bits. -/
theorem normed_eq {M : ℕ} (hM : M ≤ 512) (x : Fin (64 * M) → EReal) (g : Fin 64 → EReal) (k : Fin (64 * M)) (hx : ∀ j, ∃ r : ℝ, x j = r) :
    x k * Ideal.rsqrt (((∑ j, x j * x j * (FloatOps.sitofp (F := Ideal) .f32 (BitVec.setWidth 32 (IntOp.cmpi .eq (BitVec.ofNat 32 (j.val / 64)) (BitVec.ofNat 32 (k.val / 64)))) : EReal))
          + ∑ j, (x j * x j - x j * x j) * (FloatOps.sitofp (F := Ideal) .f32 (BitVec.setWidth 32 (IntOp.cmpi .eq (BitVec.ofNat 32 (j.val / 64)) (BitVec.ofNat 32 (k.val / 64)))) : EReal))
        * Ideal.ofBits .f32 0x3C800000#32 + Ideal.ofBits .f32 0x358637BD#32) * g ⟨k.val % 64, by omega⟩
      = normed (fun e => x ⟨k.val / 64 * 64 + e.val, by omega⟩) g ⟨k.val % 64, by omega⟩ := by
  have e1 : ∀ j : Fin (64 * M), (FloatOps.sitofp (F := Ideal) .f32 (BitVec.setWidth 32 (IntOp.cmpi .eq (BitVec.ofNat 32 (j.val / 64)) (BitVec.ofNat 32 (k.val / 64)))) : EReal)
      = if j.val / 64 = k.val / 64 then 1 else 0 := fun j => bit_eq _ _ (by omega) (by omega)
  simp only [e1, fun j => sq_sub _ (hx j), zero_mul, Finset.sum_const_zero, add_zero]
  rw [sum_seg (fun j => x j * x j) k]
  unfold normed
  have e : (⟨k.val / 64 * 64 + k.val % 64, by omega⟩ : Fin (64 * M)) = k := Fin.ext (by show k.val / 64 * 64 + k.val % 64 = k.val; omega)
  simp only [e]

/-- Entries at indices of equal numbers are equal. -/
theorem at_ix2 {A B : ℕ} {α : Type} (f : (Shape.mk 2 ![A, B]).Idx → α) {a a' : Fin A} {b b' : Fin B} (h : a.val = a'.val) (h' : b.val = b'.val) :
    f (ix2 a b) = f (ix2 a' b') := by
  rw [Fin.ext h, Fin.ext h']

/-- The same with three indices. -/
theorem at_ix3 {A B C : ℕ} {α : Type} (f : (Shape.mk 3 ![A, B, C]).Idx → α) {a a' : Fin A} {b b' : Fin B} {c c' : Fin C}
    (h : a.val = a'.val) (h' : b.val = b'.val) (h'' : c.val = c'.val) : f (ix3 a b c) = f (ix3 a' b' c') := by
  rw [Fin.ext h, Fin.ext h', Fin.ext h'']

/-- Either case of a choice is the value if both are. -/
theorem dite_elim {p : Prop} [Decidable p] {α : Type} {a : p → α} {b : ¬p → α} {c : α} (h : ∀ h, a h = c) (h' : ∀ h, b h = c) : dite p a b = c := by
  by_cases hp : p
  · rw [dif_pos hp]; exact h hp
  · rw [dif_neg hp]; exact h' hp

end Cert.Proof.Attn
-- ==== Proof.AttnRows.lean ====
/- Hand-written. The rows the attention kernel scores: its queries and keys are `normed` and then rotated, the rotation being
   three products with the table's bands and the lanes eight to either side. -/
module

public import proofs.«01_k».proof.Proof.Gen.AttnIdeal.Value
public import proofs.«01_k».proof.Proof.AttnMath
public import Idealize.ShloMosaic.Lib.Tactic
public import Idealize.ShloMosaic.Lib.Pointwise

@[expose] public section

noncomputable section

namespace Cert.Proof.Attn

open Cert.AttnIdeal Cert.AttnIdeal.Gen Cert.AttnIdeal.Value Idealize.ShloMosaic Idealize.ShloMosaic.TcCoe Idealize.SL.Sem

/-- The floor division by 64 the kernel spells out on words, at a lane. -/
theorem seg_word (x : Fin 512) :
    (Scalar.select
      (IntOp.andi
        (IntOp.cmpi .ne
          (IntOp.subi (BitVec.setWidth 32 (IntOp.cmpi .sgt (BitVec.ofNat 32 x.val) 0#32)) (BitVec.setWidth 32 (IntOp.cmpi .slt (BitVec.ofNat 32 x.val) 0#32)))
          (Scalar.subi (Scalar.extui (Scalar.cmpi .sgt 64#32 0#32)) (Scalar.extui (Scalar.cmpi .slt 64#32 0#32))))
        (IntOp.cmpi .ne (IntOp.remsi .vector (BitVec.ofNat 32 x.val) 64#32) 0#32))
      (IntOp.subi (IntOp.divsi .vector (BitVec.ofNat 32 x.val) 64#32) 1#32)
      (IntOp.divsi .vector (BitVec.ofNat 32 x.val) 64#32)) = BitVec.ofNat 32 (x.val / 64) := by
  revert x
  decide +kernel

/-- The same at any number below 512. -/
theorem seg_nat (x : ℕ) (h : x < 512) :
    (Scalar.select
      (IntOp.andi
        (IntOp.cmpi .ne
          (IntOp.subi (BitVec.setWidth 32 (IntOp.cmpi .sgt (BitVec.ofNat 32 x) 0#32)) (BitVec.setWidth 32 (IntOp.cmpi .slt (BitVec.ofNat 32 x) 0#32)))
          (Scalar.subi (Scalar.extui (Scalar.cmpi .sgt 64#32 0#32)) (Scalar.extui (Scalar.cmpi .slt 64#32 0#32))))
        (IntOp.cmpi .ne (IntOp.remsi .vector (BitVec.ofNat 32 x) 64#32) 0#32))
      (IntOp.subi (IntOp.divsi .vector (BitVec.ofNat 32 x) 64#32) 1#32)
      (IntOp.divsi .vector (BitVec.ofNat 32 x) 64#32)) = BitVec.ofNat 32 (x / 64) := seg_word ⟨x, h⟩

/-- A row of the block's normed queries. -/
theorem q_normed (g : Vec Ideal S1x64 .f32) (x : Vec Ideal S512x768 .f32) (i k : Fin 512)
    (hx : ∀ j : Fin 512, ∃ r : ℝ, x (ix2 i ⟨j.val, by omega⟩) = r) :
    k0_pay10 (F := Ideal) (k0_pay3 g) (k0_pay5 x) (k0_pay6 x) k0_pay7 k0_pay8 k0_pay9 (ix2 i k)
      = normed (fun e => x (ix2 i ⟨k.val / 64 * 64 + e.val, by omega⟩)) (fun e => g (ix2 0 e)) ⟨k.val % 64, by omega⟩ := by
  unfold_payloads
  pointwise [dot_S512x512_S512x512_S512x512_1_0_0_1_n_n]
  simp only [seg_word]
  refine Eq.trans ?_ (normed_eq (M := 8) (by omega) (fun j => x (ix2 i ⟨j.val, by omega⟩)) (fun e => g (ix2 0 e)) k hx)
  refine congrArg₂ (· * ·) rfl ?_
  split_ifs <;> exact congrArg (fun e => g (ix2 0 e)) (Fin.ext (by show _ = k.val % 64; simp only []; omega))

/-- A row of the block's rotated queries. -/
theorem q_roped (g : Vec Ideal S1x64 .f32) (x : Vec Ideal S512x768 .f32) (tab : FVec Ideal S512x384 .f32) (c s : Fin 512 → Fin 8 → EReal)
    (i k : Fin 512) (hx : ∀ j : Fin 512, ∃ r : ℝ, x (ix2 i ⟨j.val, by omega⟩) = r) (ht : ∀ j, tab (ix2 i j) = band (c i) (s i) j) :
    k0_pay13 (F := Ideal) tab (k0_pay10 (k0_pay3 g) (k0_pay5 x) (k0_pay6 x) k0_pay7 k0_pay8 k0_pay9) (k0_pay11 tab) (k0_pay12 tab) (ix2 i k)
      = roped (normed (fun e => x (ix2 i ⟨k.val / 64 * 64 + e.val, by omega⟩)) (fun e => g (ix2 0 e))) (c i) (s i) ⟨k.val % 64, by omega⟩ := by
  have hn := fun k => q_normed g x i k hx
  generalize k0_pay10 (F := Ideal) (k0_pay3 g) (k0_pay5 x) (k0_pay6 x) k0_pay7 k0_pay8 k0_pay9 = n at hn ⊢
  unfold_payloads
  pointwise
  simp only [ht, hn]
  refine Eq.trans ?_ (roped_eq (normed (fun e => x (ix2 i ⟨k.val / 64 * 64 + e.val, by omega⟩)) (fun e => g (ix2 0 e))) (c i) (s i) ⟨k.val % 64, by omega⟩
    (normed (fun e => x (ix2 i ⟨(k.val + 512 - 504) % 512 / 64 * 64 + e.val, by omega⟩)) (fun e => g (ix2 0 e)) ⟨(k.val + 512 - 504) % 512 % 64, by omega⟩)
    (normed (fun e => x (ix2 i ⟨(k.val + 512 - 8) % 512 / 64 * 64 + e.val, by omega⟩)) (fun e => g (ix2 0 e)) ⟨(k.val + 512 - 8) % 512 % 64, by omega⟩)
    ⟨k.val % 128, by omega⟩ ⟨128 + k.val % 128, by omega⟩ ⟨256 + k.val % 128, by omega⟩ ?_ ?_ ?_ ?_ ?_)
  · refine congrArg₂ (· + ·) (congrArg₂ (· + ·) (congrArg₂ (· * ·) rfl ?_) (congrArg₂ (· * ·) rfl ?_)) (congrArg₂ (· * ·) rfl ?_) <;>
      (split_ifs <;> exact congrArg (band (c i) (s i)) (Fin.ext (by simp only []; omega)))
  · intro h
    simp only [] at h
    have e : (k.val + 512 - 504) % 512 / 64 = k.val / 64 := by omega
    have e' : (k.val + 512 - 504) % 512 % 64 = k.val % 64 + 8 := by omega
    simp only [e, e']
  · intro h h'
    simp only [] at h h'
    have e : (k.val + 512 - 8) % 512 / 64 = k.val / 64 := by omega
    have e' : (k.val + 512 - 8) % 512 % 64 = k.val % 64 - 8 := by omega
    simp only [e, e']
  all_goals (simp only []; omega)

/-- A row of the band's rotated keys: the block's rows after the 128 before it. -/
theorem k_roped (g : Vec Ideal S1x64 .f32) (x : FVec Ideal S640x128 .f32) (tab : FVec Ideal S512x384 .f32) (old : FVec Ideal S128x384 .f32)
    (c s : Fin 640 → Fin 8 → EReal) (i : Fin 640) (k : Fin 128) (hx : ∀ j, ∃ r : ℝ, x (ix2 i j) = r)
    (ht : ∀ (h : 128 ≤ i.val) j, tab (ix2 ⟨i.val - 128, by omega⟩ j) = band (c i) (s i) j)
    (ho : ∀ (h : i.val < 128) j, old (ix2 ⟨i.val, h⟩ j) = band (c i) (s i) j) :
    k0_pay20 (F := Ideal) tab old (k0_pay4 g) x (mulf x x) k0_pay16 (iota .tc S128x128 32 [1] iota_S128x128_d1_w32) 64#32 k0_pay17 k0_pay18 k0_pay19 (ix2 i k)
      = roped (normed (fun e => x (ix2 i ⟨k.val / 64 * 64 + e.val, by omega⟩)) (fun e => g (ix2 0 e))) (c i) (s i) ⟨k.val % 64, by omega⟩ := by
  unfold_payloads
  pointwise [dot_S640x128_S128x128_S640x128_1_0_0_1_n_n]
  simp only [fun k : Fin 128 => seg_nat k.val (by omega), seg_nat ((k.val + 128 - 120) % 128) (by omega), seg_nat ((k.val + 128 - 8) % 128) (by omega)]
  have hg : ∀ k : Fin 128, (if h : k.val < 64 then g (ix2 0 ⟨k.val, h⟩) else g (ix2 0 ⟨k.val - 64, by omega⟩)) = g (ix2 0 ⟨k.val % 64, by omega⟩) := by
    intro k
    split_ifs <;> exact congrArg (fun e => g (ix2 0 e)) (Fin.ext (by simp only []; omega))
  have hb : ∀ j, (if h : i.val < 128 then old (ix2 ⟨i.val, h⟩ j) else tab (ix2 ⟨i.val - 128, by omega⟩ j)) = band (c i) (s i) j := by
    intro j
    split_ifs with h
    · exact ho h j
    · exact ht (by omega) j
  have hn := fun k => normed_eq (M := 2) (by omega) (fun j => x (ix2 i j)) (fun e => g (ix2 0 e)) k hx
  refine Eq.trans (congrArg₂ (· + ·) (congrArg₂ (· + ·) (congrArg₂ (· * ·) (Eq.trans (congrArg₂ (· * ·) rfl (hg k)) (hn k)) (hb ⟨k.val, by omega⟩))
    (congrArg₂ (· * ·) (Eq.trans (congrArg₂ (· * ·) rfl (hg ⟨(k.val + 128 - 120) % 128, by omega⟩)) (hn ⟨(k.val + 128 - 120) % 128, by omega⟩)) (hb ⟨128 + k.val, by omega⟩)))
    (congrArg₂ (· * ·) (Eq.trans (congrArg₂ (· * ·) rfl (hg ⟨(k.val + 128 - 8) % 128, by omega⟩)) (hn ⟨(k.val + 128 - 8) % 128, by omega⟩)) (hb ⟨256 + k.val, by omega⟩))) ?_
  refine roped_eq (normed (fun e => x (ix2 i ⟨k.val / 64 * 64 + e.val, by omega⟩)) (fun e => g (ix2 0 e))) (c i) (s i) ⟨k.val % 64, by omega⟩ _ _
    ⟨k.val, by omega⟩ ⟨128 + k.val, by omega⟩ ⟨256 + k.val, by omega⟩ ?_ ?_ ?_ ?_ ?_
  · intro h
    simp only [] at h
    have e : (k.val + 128 - 120) % 128 / 64 = k.val / 64 := by omega
    have e' : (k.val + 128 - 120) % 128 % 64 = k.val % 64 + 8 := by omega
    simp only [e, e']
  · intro h h'
    simp only [] at h h'
    have e : (k.val + 128 - 8) % 128 / 64 = k.val / 64 := by omega
    have e' : (k.val + 128 - 8) % 128 % 64 = k.val % 64 - 8 := by omega
    simp only [e, e']
  · exact ⟨k.isLt, rfl⟩
  · have := k.isLt; refine ⟨?_, ?_, ?_⟩ <;> simp only [] <;> omega
  · have := k.isLt; refine ⟨?_, ?_⟩ <;> simp only [] <;> omega

/-- The band's own columns of the block's rows after the 128 before it. -/
theorem k_cols (x : Vec Ideal S512x768 .f32) (old : Vec Ideal S128x768 .f32) (i : Fin 640) (k : Fin 128) :
    k0_pay14 (F := Ideal) x old (ix2 i k)
      = if h : i.val < 128 then old (ix2 ⟨i.val, h⟩ ⟨512 + k.val, by omega⟩) else x (ix2 ⟨i.val - 128, by omega⟩ ⟨512 + k.val, by omega⟩) := by
  unfold_payloads
  pointwise

/-- The values' columns likewise. -/
theorem v_cols (x : Vec Ideal S512x768 .f32) (old : Vec Ideal S128x768 .f32) (i : Fin 640) (k : Fin 128) :
    k0_pay21 (F := Ideal) x old (ix2 i k)
      = if h : i.val < 128 then old (ix2 ⟨i.val, h⟩ ⟨640 + k.val, by omega⟩) else x (ix2 ⟨i.val - 128, by omega⟩ ⟨640 + k.val, by omega⟩) := by
  unfold_payloads
  pointwise

end Cert.Proof.Attn
-- ==== Proof.AttnScores.lean ====
/- Hand-written. The attention kernel's scores: eight bands (two key heads by four blocks of 128 queries) of 512 rows (four
   query heads by 128 queries) against 256 keys, the keys out of the window masked; and the sinks' column. -/
module

public import proofs.«01_k».proof.Proof.Gen.AttnIdeal.Value
public import proofs.«01_k».proof.Proof.AttnMath
public import Idealize.ShloMosaic.Lib.Tactic
public import Idealize.ShloMosaic.Lib.Pointwise

@[expose] public section

noncomputable section

namespace Cert.Proof.Attn

open Cert.AttnIdeal Cert.AttnIdeal.Gen Cert.AttnIdeal.Value Idealize.ShloMosaic Idealize.ShloMosaic.TcCoe Idealize.SL.Sem

/-- The queries stacked in bands. -/
theorem q_bands (q : FVec Ideal S512x512 .f32) (P : Fin 8) (r : Fin 512) (d : Fin 64) :
    k0_pay23 (F := Ideal) q (k0_pay22 q) (ix3 P r d)
      = q (ix2 ⟨P.val % 4 * 128 + r.val % 128, by omega⟩ ⟨P.val / 4 * 256 + r.val / 128 * 64 + d.val, by omega⟩) := by
  have hP := P.isLt
  have hr := r.isLt
  unfold_payloads
  pointwise
  repeat' (refine dite_elim (fun _ => ?_) (fun _ => ?_))
  all_goals (refine at_ix2 q ?_ ?_ <;> simp only [] <;> omega)

/-- The scores before the mask. -/
theorem scores (q : FVec Ideal S8x512x64 .f32) (k : FVec Ideal S640x128 .f32) (P : Fin 8) (r : Fin 512) (j : Fin 256) :
    k0_pay32 (F := Ideal) q (k0_pay24 k) (k0_pay25 k) (k0_pay26 k) (k0_pay27 k) (k0_pay28 k) (k0_pay29 k) (k0_pay30 k) (k0_pay31 k) (ix3 P r j)
      = (∑ d : Fin 64, q (ix3 P r d) * k (ix2 ⟨P.val % 4 * 128 + j.val, by omega⟩ ⟨P.val / 4 * 64 + d.val, by omega⟩))
        * Ideal.ofBits .f32 0x3E000000#32 := by
  have hP := P.isLt
  unfold_payloads
  pointwise [dot_S8x512x64_S8x256x64_S8x512x256_2_2_1_1_0_0]
  refine congrArg₂ (· * ·) (Finset.sum_congr rfl fun d _ => congrArg₂ (· * ·) rfl ?_) rfl
  repeat' (refine dite_elim (fun _ => ?_) (fun _ => ?_))
  all_goals (refine at_ix2 k ?_ ?_ <;> simp only [] <;> omega)

/-- The row within its block, as the kernel's words spell it. -/
theorem row_word (r : Fin 512) :
    (Scalar.select
      (IntOp.andi (IntOp.xori (IntOp.cmpi .slt (IntOp.remsi .vector (BitVec.ofNat 32 r.val) (Scalar.select (Scalar.cmpi .eq 128#32 0#32) 1#32 128#32)) 0#32) (Scalar.cmpi .slt (Scalar.select (Scalar.cmpi .eq 128#32 0#32) 1#32 128#32) 0#32)) (IntOp.cmpi .ne (IntOp.remsi .vector (BitVec.ofNat 32 r.val) (Scalar.select (Scalar.cmpi .eq 128#32 0#32) 1#32 128#32)) 0#32))
      (IntOp.addi (IntOp.remsi .vector (BitVec.ofNat 32 r.val) (Scalar.select (Scalar.cmpi .eq 128#32 0#32) 1#32 128#32)) (Scalar.select (Scalar.cmpi .eq 128#32 0#32) 1#32 128#32)) (IntOp.remsi .vector (BitVec.ofNat 32 r.val) (Scalar.select (Scalar.cmpi .eq 128#32 0#32) 1#32 128#32))) = BitVec.ofNat 32 (r.val % 128) := by
  revert r
  decide +kernel

/-- The window on words: a row's own 128 keys before and at it. -/
theorem window_word (a : Fin 128) (j : Fin 256) :
    IntOp.andi (IntOp.cmpi .sge (IntOp.subi (IntOp.addi (BitVec.ofNat 32 a.val) 128#32) (BitVec.ofNat 32 j.val)) 0#32)
        (IntOp.cmpi .slt (IntOp.subi (IntOp.addi (BitVec.ofNat 32 a.val) 128#32) (BitVec.ofNat 32 j.val)) 128#32)
      = if a.val < j.val ∧ j.val ≤ a.val + 128 then 1#1 else 0#1 := by
  revert a j
  decide +kernel

/-- The window's mask. -/
theorem window_bit (r : Fin 512) (j : Fin 256) :
    k0_pay33 (ix2 r j) = if r.val % 128 < j.val ∧ j.val ≤ r.val % 128 + 128 then 1#1 else 0#1 := by
  unfold_payloads
  pointwise
  simp only [row_word]
  exact window_word ⟨r.val % 128, by omega⟩ j

/-- Whether a band is the block's first, on words. -/
theorem first_word (P : Fin 8) :
    IntOp.cmpi .eq (Scalar.select
      (IntOp.andi (IntOp.xori (IntOp.cmpi .slt (IntOp.remsi .vector (BitVec.ofNat 32 P.val) (Scalar.select (Scalar.cmpi .eq 4#32 0#32) 1#32 4#32)) 0#32) (Scalar.cmpi .slt (Scalar.select (Scalar.cmpi .eq 4#32 0#32) 1#32 4#32) 0#32)) (IntOp.cmpi .ne (IntOp.remsi .vector (BitVec.ofNat 32 P.val) (Scalar.select (Scalar.cmpi .eq 4#32 0#32) 1#32 4#32)) 0#32))
      (IntOp.addi (IntOp.remsi .vector (BitVec.ofNat 32 P.val) (Scalar.select (Scalar.cmpi .eq 4#32 0#32) 1#32 4#32)) (Scalar.select (Scalar.cmpi .eq 4#32 0#32) 1#32 4#32)) (IntOp.remsi .vector (BitVec.ofNat 32 P.val) (Scalar.select (Scalar.cmpi .eq 4#32 0#32) 1#32 4#32))) 0#32 = if P.val % 4 = 0 then 1#1 else 0#1 := by
  revert P
  decide +kernel

/-- Whether a key is of the block's own rows, on words. -/
theorem own_word (j : Fin 256) : IntOp.cmpi .sge (BitVec.ofNat 32 j.val) 128#32 = if 128 ≤ j.val then 1#1 else 0#1 := by
  revert j
  decide +kernel

/-- The masked scores: minus infinity out of the window, and before the first row. -/
theorem masked (W F : Prop) [Decidable W] [Decidable F] (s : FVec Ideal S8x512x256 .f32) (w : IVec S512x256 1) (P : Fin 8) (r : Fin 512) (j : Fin 256)
    (hw : w (ix2 r j) = if W then 1#1 else 0#1) :
    k0_pay37 (F := Ideal) (if F then 1#1 else 0#1) s (iota .tc S512x256 32 [1] iota_S512x256_d1_w32) w
        (Scalar.select (Scalar.cmpi .eq 4#32 0#32) 1#32 4#32) k0_pay34 k0_pay35 k0_pay36 (ix3 P r j)
      = if W ∧ ¬(P.val % 4 = 0 ∧ F ∧ j.val < 128) then s (ix3 P r j) else ⊥ := by
  unfold_payloads
  pointwise
  simp only [first_word, own_word, hw]
  have hn : (Named.named (F := Ideal) κ "mask" (φ := .f32) 0xF149F2CA#32 : EReal) = ⊥ := rfl
  by_cases hW : W <;> by_cases hF : F <;> by_cases hP : P.val % 4 = 0 <;> by_cases hj : 128 ≤ j.val <;>
    simp [hW, hF, hP, hj, hn, Scalar.select, IntOp.andi, IntOp.ori, IntOp.xori] <;> omega

/-- The row's query head within its group, as the kernel's words spell it. -/
theorem head_word (r : Fin 512) :
    (Scalar.select
      (IntOp.andi
        (IntOp.cmpi .ne
          (IntOp.subi (BitVec.setWidth 32 (IntOp.cmpi .sgt (BitVec.ofNat 32 r.val) 0#32)) (BitVec.setWidth 32 (IntOp.cmpi .slt (BitVec.ofNat 32 r.val) 0#32)))
          (Scalar.subi (Scalar.extui (Scalar.cmpi .sgt 128#32 0#32)) (Scalar.extui (Scalar.cmpi .slt 128#32 0#32))))
        (IntOp.cmpi .ne (IntOp.remsi .vector (BitVec.ofNat 32 r.val) 128#32) 0#32))
      (IntOp.subi (IntOp.divsi .vector (BitVec.ofNat 32 r.val) 128#32) 1#32)
      (IntOp.divsi .vector (BitVec.ofNat 32 r.val) 128#32)) = BitVec.ofNat 32 (r.val / 128) := by
  revert r
  decide +kernel

/-- Comparing the row's query head with each of the four. -/
theorem head_bits (r : Fin 512) (h : Fin 4) : IntOp.cmpi .eq (BitVec.ofNat 32 (r.val / 128)) (BitVec.ofNat 32 h.val) = if r.val / 128 = h.val then 1#1 else 0#1 := by
  revert r h
  decide +kernel

/-- The first group's sinks' column. -/
theorem sinks_lo (x : Vec Ideal S1x8 .f32) (r : Fin 512) :
    k0_pay42 (F := Ideal) x k0_pay38 k0_pay39 k0_pay40 (ix2 r 0) = x (ix2 0 ⟨r.val / 128, by omega⟩) := by
  have hr := r.isLt
  unfold_payloads
  pointwise
  simp only [head_word]
  have h0 := head_bits r 0
  have h1 := head_bits r 1
  have h2 := head_bits r 2
  have h3 := head_bits r 3
  simp only [Fin.val_zero, Fin.val_one, show ((2 : Fin 4) : ℕ) = 2 from rfl, show ((3 : Fin 4) : ℕ) = 3 from rfl] at h0 h1 h2 h3
  rw [h0, h1, h2, h3]
  unfold Scalar.select
  have hc : r.val / 128 = 0 ∨ r.val / 128 = 1 ∨ r.val / 128 = 2 ∨ r.val / 128 = 3 := by omega
  rcases hc with h | h | h | h <;> simp [h] <;> rfl

/-- The second group's sinks' column. -/
theorem sinks_hi (x : Vec Ideal S1x8 .f32) (r : Fin 512) :
    Scalar.select (k0_pay44 k0_pay38 k0_pay39 k0_pay40 (ix2 r 0)) (k0_pay45 (F := Ideal) x (ix2 0 0)) (k0_pay43 (F := Ideal) x k0_pay38 k0_pay39 k0_pay40 (ix2 r 0))
      = x (ix2 0 ⟨4 + r.val / 128, by omega⟩) := by
  have hr := r.isLt
  unfold_payloads
  pointwise
  simp only [head_word]
  have h0 := head_bits r 0
  have h1 := head_bits r 1
  have h2 := head_bits r 2
  have h3 := head_bits r 3
  simp only [Fin.val_zero, Fin.val_one, show ((2 : Fin 4) : ℕ) = 2 from rfl, show ((3 : Fin 4) : ℕ) = 3 from rfl] at h0 h1 h2 h3
  rw [h0, h1, h2, h3]
  unfold Scalar.select
  have hc : r.val / 128 = 0 ∨ r.val / 128 = 1 ∨ r.val / 128 = 2 ∨ r.val / 128 = 3 := by omega
  rcases hc with h | h | h | h <;> simp [h] <;> rfl

end Cert.Proof.Attn
-- ==== Proof.AttnSoft.lean ====
/- Hand-written. The attention kernel's softmax with a sink, its product with the values' bands, and the bands put back in rows. -/
module

public import proofs.«01_k».proof.Proof.Gen.AttnIdeal.Value
public import proofs.«01_k».proof.Proof.AttnMath
public import Idealize.ShloMosaic.Lib.Tactic
public import Idealize.ShloMosaic.Lib.Pointwise

@[expose] public section

noncomputable section

namespace Cert.Proof.Attn

open Cert.AttnIdeal Cert.AttnIdeal.Gen Cert.AttnIdeal.Value Idealize.ShloMosaic Idealize.ShloMosaic.TcCoe Idealize.SL.Sem

theorem bot_word : Ideal.ofBits .f32 0xFF800000#32 = ⊥ := by
  simp [Ideal.ofBits, Ideal.ieee]

/-- The column of sinks by bands: the first four are the first group's, the others the second's. -/
theorem by_bands (P : Fin 8) (x y : EReal) :
    (if _h : P.val < 1 then x else (if _h : P.val - 1 < 1 then x else (if _h : P.val - 1 - 1 < 1 then x else (if _h : P.val - 1 - 1 - 1 < 1 then x else (if _h : P.val - 1 - 1 - 1 - 1 < 1 then y else (if _h : P.val - 1 - 1 - 1 - 1 - 1 < 1 then y else (if _h : P.val - 1 - 1 - 1 - 1 - 1 - 1 < 1 then y else (y)))))))) = if P.val < 4 then x else y := by
  have hP := P.isLt
  repeat' (refine dite_elim (fun _ => ?_) (fun _ => ?_))
  all_goals first
    | exact (if_pos (by omega)).symm
    | exact (if_neg (by omega)).symm

/-- The softmax's weights against the values' bands. -/
theorem attended (v : FVec Ideal S640x128 .f32) (s : FVec Ideal S8x512x256 .f32) (a b : FVec Ideal S512x1 .f32) (c : IVec S512x1 1) (e : FVec Ideal S1x1 .f32)
    (P : Fin 8) (r : Fin 512) (d : Fin 64) (S : EReal)
    (hS : (if P.val < 4 then a (ix2 r 0) else Scalar.select (c (ix2 r 0)) (e (ix2 0 0)) (b (ix2 r 0))) = S) :
    k0_pay46 (F := Ideal) v s a b c e (ix3 P r d)
      = ∑ j : Fin 256, Ideal.exp (s (ix3 P r j) - top (fun j => s (ix3 P r j)) S) * Ideal.div 1 (mass (fun j => s (ix3 P r j)) S)
          * v (ix2 ⟨P.val % 4 * 128 + j.val, by omega⟩ ⟨P.val / 4 * 64 + d.val, by omega⟩) := by
  have hP := P.isLt
  have hs := (by_bands P (a (ix2 r 0)) (Scalar.select (c (ix2 r 0)) (e (ix2 0 0)) (b (ix2 r 0)))).trans hS
  unfold_payloads
  pointwise [dot_S8x512x256_S8x256x64_S8x512x64_2_1_1_2_0_0]
  simp only [hs, bot_word]
  refine Finset.sum_congr rfl fun j _ => congrArg₂ (· * ·) rfl ?_
  repeat' (refine dite_elim (fun _ => ?_) (fun _ => ?_))
  all_goals (refine at_ix2 v ?_ ?_ <;> simp only [] <;> omega)

end Cert.Proof.Attn
-- ==== Proof.AttnUnband.lean ====
/- Hand-written. The attention kernel's bands put back in rows. -/
module

public import proofs.«01_k».proof.Proof.Gen.AttnIdeal.Value
public import proofs.«01_k».proof.Proof.AttnMath
public import Idealize.ShloMosaic.Lib.Tactic
public import Idealize.ShloMosaic.Lib.Pointwise

@[expose] public section

noncomputable section

namespace Cert.Proof.Attn

open Cert.AttnIdeal Cert.AttnIdeal.Gen Cert.AttnIdeal.Value Idealize.ShloMosaic Idealize.ShloMosaic.TcCoe Idealize.SL.Sem

set_option maxHeartbeats 1000000 in
/-- The result's blocks back in rows. -/
theorem unband (y : FVec Ideal S8x512x64 .f32) (s1 s2 s3 s4 s5 : FVec Ideal S128x64 .f32) (r k : Fin 512)
    (h1 : ∀ a d, s1 (ix2 a d) = y (ix3 0 ⟨a.val, by omega⟩ d)) (h2 : ∀ a d, s2 (ix2 a d) = y (ix3 0 ⟨128 + a.val, by omega⟩ d))
    (h3 : ∀ a d, s3 (ix2 a d) = y (ix3 0 ⟨256 + a.val, by omega⟩ d)) (h4 : ∀ a d, s4 (ix2 a d) = y (ix3 0 ⟨384 + a.val, by omega⟩ d))
    (h5 : ∀ a d, s5 (ix2 a d) = y (ix3 4 ⟨a.val, by omega⟩ d)) :
    k0_pay52 (F := Ideal) y s1 s2 s3 s4 s5 (ix2 r k)
      = y (ix3 ⟨k.val / 256 * 4 + r.val / 128, by omega⟩ ⟨k.val / 64 % 4 * 128 + r.val % 128, by omega⟩ ⟨k.val % 64, by omega⟩) := by
  have hr := r.isLt
  have hk := k.isLt
  unfold_payloads
  pointwise
  simp only [h1, h2, h3, h4, h5]
  repeat' (refine dite_elim (fun _ => ?_) (fun _ => ?_))
  all_goals
    refine at_ix3 y ?_ ?_ ?_
    · show _ = k.val / 256 * 4 + r.val / 128
      first
        | (show (0 : ℕ) = _; omega)
        | (show (1 : ℕ) = _; omega)
        | (show (2 : ℕ) = _; omega)
        | (show (3 : ℕ) = _; omega)
        | (show (4 : ℕ) = _; omega)
        | (show (5 : ℕ) = _; omega)
        | (show (6 : ℕ) = _; omega)
        | (show (7 : ℕ) = _; omega)
    · simp only []; omega
    · simp only []; omega

end Cert.Proof.Attn
-- ==== Proof.AttnSpec.lean ====
/- Hand-written. The attention as one function of its arrays, and what finite arguments give: real scores, a real maximum and a
   positive denominator. -/
module

public import proofs.«01_k».proof.Proof.AttnMath
public import Idealize.ShloMosaic.Lib.Pointwise

@[expose] public section

noncomputable section

namespace Cert.Proof.Attn

open Idealize.ShloMosaic

/-- The frequency of a pair of lanes: a power of the base. -/
def freq (i : Fin 8) : EReal := Ideal.pow (Ideal.ofBits .f32 0x48F42400#32) (Ideal.div (-(((BitVec.ofNat 32 i.val).toInt : ℝ) : EReal)) (Ideal.ofBits .f32 0x41000000#32))

/-- The angle of a position and a pair of lanes. -/
def angle (p : BitVec 32) (i : Fin 8) : EReal := ((p.toInt : ℝ) : EReal) * freq i

/-- The cosines of a position. -/
def cosv (p : BitVec 32) (i : Fin 8) : EReal := Ideal.cos (angle p i)

/-- The sines of a position. -/
def sinv (p : BitVec 32) (i : Fin 8) : EReal := Ideal.sin (angle p i)

section Spec

variable (X : Fin 4096 → Fin 768 → EReal) (p : Fin 4096 → BitVec 32) (g k : Fin 64 → EReal) (b : Fin 8 → EReal)

/-- A row's query in head `H`. -/
def qrow (n : Fin 4096) (H : Fin 8) : Fin 64 → EReal :=
  roped (normed (fun e => X n ⟨H.val * 64 + e.val, by omega⟩) g) (cosv (p n)) (sinv (p n))

/-- A row's key in key head `h`. -/
def krow (n : Fin 4096) (h : Fin 2) : Fin 64 → EReal :=
  roped (normed (fun e => X n ⟨512 + h.val * 64 + e.val, by omega⟩) k) (cosv (p n)) (sinv (p n))

/-- Row `n` sees the `j`-th row of its own block of 128 and the block before. -/
def seen (n : Fin 4096) (j : Fin 256) : Prop := (n.val % 128 < j.val ∧ j.val ≤ n.val % 128 + 128) ∧ (128 ≤ n.val ∨ 128 ≤ j.val)

instance (n : Fin 4096) (j : Fin 256) : Decidable (seen n j) := by unfold seen; infer_instance

/-- The `j`-th row of the block before row `n`'s and its own. -/
def keyrow (n : Fin 4096) (j : Fin 256) : Fin 4096 := ⟨n.val / 128 * 128 + j.val - 128, by omega⟩

def score (n : Fin 4096) (H : Fin 8) (j : Fin 256) : EReal :=
  if seen n j then (∑ d, qrow X p g n H d * krow X p k (keyrow n j) ⟨H.val / 4, by omega⟩ d) * Ideal.ofBits .f32 0x3E000000#32 else ⊥

def value (n : Fin 4096) (H : Fin 8) (d : Fin 64) (j : Fin 256) : EReal := X (keyrow n j) ⟨640 + H.val / 4 * 64 + d.val, by omega⟩

/-- The attention of row `n` at column `l`. -/
def spec (n : Fin 4096) (l : Fin 512) : EReal :=
  attend (score X p g k n ⟨l.val / 64, by omega⟩) (value X n ⟨l.val / 64, by omega⟩ ⟨l.val % 64, by omega⟩) (b ⟨l.val / 64, by omega⟩)

end Spec

/-- `x` is a real number. -/
def Real' (x : EReal) : Prop := ∃ r : ℝ, x = r

theorem Real'.add {x y : EReal} : Real' x → Real' y → Real' (x + y) := by
  rintro ⟨a, rfl⟩ ⟨b, rfl⟩; exact ⟨a + b, (EReal.coe_add a b).symm⟩
theorem Real'.sub {x y : EReal} : Real' x → Real' y → Real' (x - y) := by
  rintro ⟨a, rfl⟩ ⟨b, rfl⟩; exact ⟨a - b, (EReal.coe_sub a b).symm⟩
theorem Real'.mul {x y : EReal} : Real' x → Real' y → Real' (x * y) := by
  rintro ⟨a, rfl⟩ ⟨b, rfl⟩; exact ⟨a * b, (EReal.coe_mul a b).symm⟩
theorem Real'.sum {n : ℕ} {f : Fin n → EReal} (h : ∀ i, Real' (f i)) : Real' (∑ i, f i) :=
  Finset.sum_induction f Real' (fun _ _ => Real'.add) ⟨0, EReal.coe_zero.symm⟩ fun i _ => h i
theorem Real'.ne_top {x : EReal} : Real' x → x ≠ ⊤ := by
  rintro ⟨a, rfl⟩; exact EReal.coe_ne_top a

theorem eps_real : ∃ r : ℝ, 0 < r ∧ Ideal.ofBits .f32 0x358637BD#32 = r := by
  refine ⟨_, ?_, by simp [Ideal.ofBits, Ideal.ieee, -EReal.coe_mul]; rfl⟩
  norm_num

theorem eighth_real : Real' (Ideal.ofBits .f32 0x3E000000#32) := ⟨_, by simp [Ideal.ofBits, Ideal.ieee, -EReal.coe_mul]; rfl⟩

theorem base_real : Real' (Ideal.ofBits .f32 0x48F42400#32) := ⟨_, by simp [Ideal.ofBits, Ideal.ieee, -EReal.coe_mul]; rfl⟩

theorem c8 : Ideal.ofBits .f32 0x41000000#32 = ((8 : ℝ) : EReal) := by
  simp [Ideal.ofBits, Ideal.ieee, -EReal.coe_mul]
  norm_num

/-- A row of reals over the root of its mean square is real. -/
theorem normed_real (x g : Fin 64 → EReal) (hx : ∀ e, Real' (x e)) (hg : ∀ e, Real' (g e)) (d : Fin 64) : Real' (normed x g d) := by
  unfold normed
  refine Real'.mul (Real'.mul (hx d) ?_) (hg d)
  obtain ⟨s, hs, es⟩ : ∃ s : ℝ, 0 ≤ s ∧ (∑ e, x e * x e) = (s : EReal) :=
    Finset.sum_induction (fun e => x e * x e) (fun y => ∃ s : ℝ, 0 ≤ s ∧ y = (s : EReal))
      (by rintro _ _ ⟨a, ha, rfl⟩ ⟨b, hb, rfl⟩; exact ⟨a + b, by positivity, (EReal.coe_add a b).symm⟩)
      ⟨0, le_refl _, EReal.coe_zero.symm⟩
      (fun e _ => by obtain ⟨r, hr⟩ := hx e; exact ⟨r * r, mul_self_nonneg r, by rw [hr, EReal.coe_mul]⟩)
  obtain ⟨ε, hε, eε⟩ := eps_real
  rw [es, eε, inv64, ← EReal.coe_mul, ← EReal.coe_add]
  have hp : 0 < s * (1 / 64) + ε := by positivity
  refine ⟨(Real.sqrt (s * (1 / 64) + ε))⁻¹, ?_⟩
  show (if _ then _ else if _ then _ else _) = _
  rw [if_neg (not_lt.mpr hp.le), if_neg hp.ne']

theorem freq_real (i : Fin 8) : Real' (freq i) := by
  obtain ⟨a, ha⟩ := base_real
  unfold freq
  rw [ha, c8, Ideal.div_coe (by norm_num), ← EReal.coe_neg, ← EReal.coe_mul]
  exact ⟨_, rfl⟩

theorem angle_real (w : BitVec 32) (i : Fin 8) : Real' (angle w i) := Real'.mul ⟨_, rfl⟩ (freq_real i)

theorem cosv_real (w : BitVec 32) (i : Fin 8) : Real' (cosv w i) := by
  obtain ⟨a, ha⟩ := angle_real w i
  unfold cosv
  rw [ha]
  exact ⟨Real.cos a, rfl⟩

theorem sinv_real (w : BitVec 32) (i : Fin 8) : Real' (sinv w i) := by
  obtain ⟨a, ha⟩ := angle_real w i
  unfold sinv
  rw [ha]
  exact ⟨Real.sin a, rfl⟩

theorem roped_real (n : Fin 64 → EReal) (c s : Fin 8 → EReal) (hn : ∀ e, Real' (n e)) (hc : ∀ i, Real' (c i)) (hs : ∀ i, Real' (s i))
    (d : Fin 64) : Real' (roped n c s d) := by
  unfold roped
  by_cases h : d.val < 8
  · rw [dif_pos h]; exact ((hn _).mul (hc _)).sub ((hn _).mul (hs _))
  · by_cases h' : d.val < 16
    · rw [dif_neg h, dif_pos h']; exact ((hn _).mul (hc _)).add ((hn _).mul (hs _))
    · rw [dif_neg h, dif_neg h']; exact hn d

/-- With finite queries, keys and gains no score is infinite above. -/
theorem score_ne_top (X : Fin 4096 → Fin 768 → EReal) (p : Fin 4096 → BitVec 32) (g k : Fin 64 → EReal)
    (hX : ∀ n (j : Fin 768), j.val < 640 → Real' (X n j)) (hg : ∀ e, Real' (g e)) (hk : ∀ e, Real' (k e))
    (n : Fin 4096) (H : Fin 8) (j : Fin 256) : score X p g k n H j ≠ ⊤ := by
  unfold score
  by_cases h : seen n j
  · rw [if_pos h]
    refine Real'.ne_top (Real'.mul (Real'.sum fun d => Real'.mul ?_ ?_) eighth_real)
    · exact roped_real _ _ _ (normed_real _ _ (fun e => hX _ _ (by show H.val * 64 + e.val < 640; omega)) hg) (cosv_real _) (sinv_real _) d
    · exact roped_real _ _ _ (normed_real _ _ (fun e => hX _ _ (by show 512 + H.val / 4 * 64 + e.val < 640; omega)) hk) (cosv_real _) (sinv_real _) d
  · rw [if_neg h]; exact bot_ne_top

/-- Scores not infinite above and a real sink have a real maximum. -/
theorem top_real (s : Fin 256 → EReal) (b : EReal) (hs : ∀ j, s j ≠ ⊤) (hb : Real' b) : Real' (top s b) := by
  obtain ⟨r, rfl⟩ := hb
  have h1 : top s r < ⊤ := by
    unfold top
    refine max_lt ?_ (EReal.coe_lt_top r)
    rw [Finset.fold_max_lt]
    exact ⟨bot_lt_top, fun j _ => lt_top_iff_ne_top.mpr (hs j)⟩
  have h2 : ⊥ < top s r := lt_of_lt_of_le (EReal.bot_lt_coe r) (le_max_right _ _)
  exact ⟨(top s r).toReal, (EReal.coe_toReal h1.ne h2.ne').symm⟩

theorem exp_nonneg (x : EReal) : 0 ≤ Ideal.exp x := by
  induction x with
  | bot => exact le_refl _
  | coe r => exact EReal.coe_nonneg.mpr (Real.exp_pos r).le
  | top => exact le_top

/-- The denominator is not zero. -/
theorem mass_ne (s : Fin 256 → EReal) (b : EReal) (hs : ∀ j, s j ≠ ⊤) (hb : Real' b) : mass s b ≠ 0 := by
  obtain ⟨t, ht⟩ := top_real s b hs hb
  obtain ⟨r, rfl⟩ := hb
  have h : (0 : EReal) < Ideal.exp ((r : EReal) - top s r) := by
    rw [ht, ← EReal.coe_sub]
    exact EReal.coe_pos.mpr (Real.exp_pos _)
  unfold mass
  exact (lt_of_lt_of_le h (le_add_of_nonneg_left (Finset.sum_nonneg fun j _ => exp_nonneg _))).ne'

/-- The quotient by the denominator may be taken first. -/
theorem attend_eq (s v : Fin 256 → EReal) (b : EReal) (hs : ∀ j, s j ≠ ⊤) (hb : Real' b) :
    (∑ j, Ideal.exp (s j - top s b) * Ideal.div 1 (mass s b) * v j) = attend s v b := by
  have hm := mass_ne s b hs hb
  unfold attend
  refine Finset.sum_congr rfl fun j _ => ?_
  unfold Ideal.div
  rw [if_neg hm, if_neg hm, one_mul]

/-- The values of unseen rows do not count. -/
theorem attend_congr (s v w : Fin 256 → EReal) (b : EReal) (hs : ∀ j, s j ≠ ⊤) (hb : Real' b) (h : ∀ j, s j ≠ ⊥ → v j = w j) :
    attend s v b = attend s w b := by
  have hm := mass_ne s b hs hb
  unfold attend
  refine Finset.sum_congr rfl fun j _ => ?_
  by_cases hj : s j = ⊥
  · have e : Ideal.exp (s j - top s b) = 0 := by rw [hj, EReal.bot_sub]; rfl
    have e' : Ideal.div (Ideal.exp (s j - top s b)) (mass s b) = 0 := by
      rw [e]; unfold Ideal.div; rw [if_neg hm, zero_mul]
    rw [e', zero_mul, zero_mul]
  · rw [h j hj]

end Cert.Proof.Attn
-- ==== Proof.AttnBlock.lean ====
/- Hand-written. A block of the attention kernel's output, from blocks that hold rows of the arrays: the attention of its rows. -/
module

public import proofs.«01_k».proof.Proof.Gen.AttnIdeal.Value
public import proofs.«01_k».proof.Proof.AttnRows
public import proofs.«01_k».proof.Proof.AttnScores
public import proofs.«01_k».proof.Proof.AttnSoft
public import proofs.«01_k».proof.Proof.AttnUnband
public import proofs.«01_k».proof.Proof.AttnSpec
public import Idealize.ShloMosaic.Lib.Tactic
public import Idealize.ShloMosaic.Lib.Pointwise

@[expose] public section

noncomputable section

namespace Cert.Proof.Attn

open Cert.AttnIdeal Cert.AttnIdeal.Gen Cert.AttnIdeal.Value Idealize.ShloMosaic Idealize.ShloMosaic.TcCoe Idealize.SL.Sem

/-- Row `i` of block `t`. -/
abbrev row (t : Fin 8) (i : Fin 512) : Fin 4096 := ⟨t.val * 512 + i.val, by omega⟩

/-- Row `i` of the 128 before block `t`, or of the first 128 at the first block. -/
abbrev oldrow (t : Fin 8) (i : Fin 128) : Fin 4096 := ⟨(t.val * 4 - 1) * 128 + i.val, by omega⟩

/-- Row `i` of block `t` with the 128 before it. -/
def allrow (t : Fin 8) (i : Fin 640) : Fin 4096 := if h : i.val < 128 then oldrow t ⟨i.val, h⟩ else row t ⟨i.val - 128, by omega⟩

/-- The queries' payload of a block. -/
abbrev queries (x0 : Vec Ideal S512x768 .f32) (x2 : Vec Ideal S512x384 .f32) (x4 : Vec Ideal S1x64 .f32) : FVec Ideal S512x512 .f32 :=
  k0_pay13 (k0_pay1 x2) (k0_pay10 (k0_pay3 x4) (k0_pay5 x0) (k0_pay6 x0) k0_pay7 k0_pay8 k0_pay9) (k0_pay11 (k0_pay1 x2)) (k0_pay12 (k0_pay1 x2))

/-- The keys' payload of a block. -/
abbrev keys (x0 : Vec Ideal S512x768 .f32) (x1 : Vec Ideal S128x768 .f32) (x2 : Vec Ideal S512x384 .f32) (x3 : Vec Ideal S128x384 .f32)
    (x5 : Vec Ideal S1x64 .f32) : FVec Ideal S640x128 .f32 :=
  k0_pay20 (k0_pay1 x2) (k0_pay2 x3) (k0_pay4 x5) (k0_pay14 x0 x1) (k0_pay15 x0 x1) k0_pay16 (iota .tc S128x128 32 [1] iota_S128x128_d1_w32) 64#32 k0_pay17 k0_pay18 k0_pay19

/-- The masked scores' payload, from queries and keys. -/
abbrev maskedScores (f : BitVec 1) (Q : FVec Ideal S512x512 .f32) (K : FVec Ideal S640x128 .f32) : FVec Ideal S8x512x256 .f32 :=
  k0_pay37 f (k0_pay32 (k0_pay23 Q (k0_pay22 Q)) (k0_pay24 K) (k0_pay25 K) (k0_pay26 K) (k0_pay27 K) (k0_pay28 K) (k0_pay29 K) (k0_pay30 K) (k0_pay31 K))
    (iota .tc S512x256 32 [1] iota_S512x256_d1_w32) k0_pay33 (Scalar.select (Scalar.cmpi .eq 4#32 0#32) 1#32 4#32) k0_pay34 k0_pay35 k0_pay36

/-- The payload written, from values, masked scores and sinks. -/
abbrev blockOf (v : FVec Ideal S640x128 .f32) (s : FVec Ideal S8x512x256 .f32) (x6 : Vec Ideal S1x8 .f32) : Vec Ideal S512x512 .bf16 :=
  k0_pay52
    (k0_pay46 v s (k0_pay42 x6 k0_pay38 k0_pay39 k0_pay40) (k0_pay43 x6 k0_pay38 k0_pay39 k0_pay40) (k0_pay44 k0_pay38 k0_pay39 k0_pay40) (k0_pay45 x6))
    (k0_pay47 v s (k0_pay42 x6 k0_pay38 k0_pay39 k0_pay40) (k0_pay43 x6 k0_pay38 k0_pay39 k0_pay40) (k0_pay44 k0_pay38 k0_pay39 k0_pay40) (k0_pay45 x6))
    (k0_pay48 v s (k0_pay42 x6 k0_pay38 k0_pay39 k0_pay40) (k0_pay43 x6 k0_pay38 k0_pay39 k0_pay40) (k0_pay44 k0_pay38 k0_pay39 k0_pay40) (k0_pay45 x6))
    (k0_pay49 v s (k0_pay42 x6 k0_pay38 k0_pay39 k0_pay40) (k0_pay43 x6 k0_pay38 k0_pay39 k0_pay40) (k0_pay44 k0_pay38 k0_pay39 k0_pay40) (k0_pay45 x6))
    (k0_pay50 v s (k0_pay42 x6 k0_pay38 k0_pay39 k0_pay40) (k0_pay43 x6 k0_pay38 k0_pay39 k0_pay40) (k0_pay44 k0_pay38 k0_pay39 k0_pay40) (k0_pay45 x6))
    (k0_pay51 v s (k0_pay42 x6 k0_pay38 k0_pay39 k0_pay40) (k0_pay43 x6 k0_pay38 k0_pay39 k0_pay40) (k0_pay44 k0_pay38 k0_pay39 k0_pay40) (k0_pay45 x6))

theorem pay1_at (x : Vec Ideal S512x384 .f32) (i : Fin 512) (j : Fin 384) : k0_pay1 (F := Ideal) x (ix2 i j) = x (ix2 i j) := by
  unfold k0_pay1
  pointwise

theorem pay2_at (x : Vec Ideal S128x384 .f32) (i : Fin 128) (j : Fin 384) : k0_pay2 (F := Ideal) x (ix2 i j) = x (ix2 i j) := by
  unfold k0_pay2
  pointwise

section

variable (X : Fin 4096 → Fin 768 → EReal) (p : Fin 4096 → BitVec 32) (g k : Fin 64 → EReal) (b : Fin 8 → EReal) (t : Fin 8)

section

variable (x0 : Vec Ideal S512x768 .f32) (x1 : Vec Ideal S128x768 .f32) (x2 : Vec Ideal S512x384 .f32) (x3 : Vec Ideal S128x384 .f32)
  (x4 x5 : Vec Ideal S1x64 .f32)

theorem queries_at (h0 : ∀ i j, x0 (ix2 i j) = X (row t i) j) (h2 : ∀ i j, x2 (ix2 i j) = band (cosv (p (row t i))) (sinv (p (row t i))) j)
    (h4 : ∀ e, x4 (ix2 0 e) = g e) (hX : ∀ n (j : Fin 768), j.val < 640 → Real' (X n j)) (i : Fin 512) (H : Fin 8) (d : Fin 64) :
    queries x0 x2 x4 (ix2 i ⟨H.val * 64 + d.val, by omega⟩) = qrow X p g (row t i) H d := by
  refine (q_roped x4 x0 (k0_pay1 x2) (fun i => cosv (p (row t i))) (fun i => sinv (p (row t i))) i ⟨H.val * 64 + d.val, by omega⟩ ?_ ?_).trans ?_
  · intro j
    rw [h0]
    exact hX _ _ (show j.val < 640 by omega)
  · intro j
    rw [pay1_at, h2]
  · unfold qrow
    have e1 : ∀ e : Fin 64, x0 (ix2 i ⟨(H.val * 64 + d.val) / 64 * 64 + e.val, by omega⟩) = X (row t i) ⟨H.val * 64 + e.val, by omega⟩ := by
      intro e
      rw [h0]
      exact congrArg (X (row t i)) (Fin.ext (show (H.val * 64 + d.val) / 64 * 64 + e.val = H.val * 64 + e.val by omega))
    have e2 : (⟨(H.val * 64 + d.val) % 64, by omega⟩ : Fin 64) = d := Fin.ext (show (H.val * 64 + d.val) % 64 = d.val by omega)
    simp only [e1, h4, e2]

theorem keys_at (h0 : ∀ i j, x0 (ix2 i j) = X (row t i) j) (h1 : ∀ i j, x1 (ix2 i j) = X (oldrow t i) j)
    (h2 : ∀ i j, x2 (ix2 i j) = band (cosv (p (row t i))) (sinv (p (row t i))) j)
    (h3 : ∀ i j, x3 (ix2 i j) = band (cosv (p (oldrow t i))) (sinv (p (oldrow t i))) j)
    (h5 : ∀ e, x5 (ix2 0 e) = k e) (hX : ∀ n (j : Fin 768), j.val < 640 → Real' (X n j)) (i : Fin 640) (h : Fin 2) (d : Fin 64) :
    keys x0 x1 x2 x3 x5 (ix2 i ⟨h.val * 64 + d.val, by omega⟩) = krow X p k (allrow t i) h d := by
  have hc : ∀ l : Fin 128, k0_pay14 (F := Ideal) x0 x1 (ix2 i l) = X (allrow t i) ⟨512 + l.val, by omega⟩ := by
    intro l
    rw [k_cols]
    unfold allrow
    by_cases q : i.val < 128
    · rw [dif_pos q, dif_pos q, h1]
    · rw [dif_neg q, dif_neg q, h0]
  refine (k_roped x5 (k0_pay14 x0 x1) (k0_pay1 x2) (k0_pay2 x3) (fun i => cosv (p (allrow t i))) (fun i => sinv (p (allrow t i))) i
    ⟨h.val * 64 + d.val, by omega⟩ ?_ ?_ ?_).trans ?_
  · intro j
    rw [hc]
    exact hX _ _ (show 512 + j.val < 640 by omega)
  · intro q j
    rw [pay1_at, h2]
    unfold allrow
    rw [dif_neg (show ¬ i.val < 128 by omega)]
  · intro q j
    rw [pay2_at, h3]
    unfold allrow
    rw [dif_pos q]
  · unfold krow
    have e1 : ∀ e : Fin 64, k0_pay14 (F := Ideal) x0 x1 (ix2 i ⟨(h.val * 64 + d.val) / 64 * 64 + e.val, by omega⟩)
        = X (allrow t i) ⟨512 + h.val * 64 + e.val, by omega⟩ := by
      intro e
      rw [hc]
      exact congrArg (X (allrow t i)) (Fin.ext (show 512 + ((h.val * 64 + d.val) / 64 * 64 + e.val) = 512 + h.val * 64 + e.val by omega))
    have e2 : (⟨(h.val * 64 + d.val) % 64, by omega⟩ : Fin 64) = d := Fin.ext (show (h.val * 64 + d.val) % 64 = d.val by omega)
    simp only [e1, h5, e2]

/-- The values of the rows seen. -/
theorem values_at (h0 : ∀ i j, x0 (ix2 i j) = X (row t i) j) (h1 : ∀ i j, x1 (ix2 i j) = X (oldrow t i) j) (i : Fin 640) (l : Fin 128) :
    k0_pay21 (F := Ideal) x0 x1 (ix2 i l) = X (allrow t i) ⟨640 + l.val, by omega⟩ := by
  rw [v_cols]
  unfold allrow
  by_cases q : i.val < 128
  · rw [dif_pos q, dif_pos q, h1]
  · rw [dif_neg q, dif_neg q, h0]

end

/-- The row a band's row stands for. -/
abbrev bandrow (P : Fin 8) (r : Fin 512) : Fin 4096 := row t ⟨P.val % 4 * 128 + r.val % 128, by omega⟩

/-- The query head a band's row stands for. -/
abbrev bandhead (P : Fin 8) (r : Fin 512) : Fin 8 := ⟨P.val / 4 * 4 + r.val / 128, by omega⟩

/-- A row seen is the row of the block, with the 128 before it, that the band names. -/
theorem allrow_seen (P : Fin 8) (r : Fin 512) (j : Fin 256) (h : seen (bandrow t P r) j) :
    allrow t ⟨P.val % 4 * 128 + j.val, by omega⟩ = keyrow (bandrow t P r) j := by
  unfold seen at h
  have h' : (t.val * 512 + (P.val % 4 * 128 + r.val % 128)) % 128 < j.val ∧ j.val ≤ (t.val * 512 + (P.val % 4 * 128 + r.val % 128)) % 128 + 128 := h.1
  have h'' : 128 ≤ t.val * 512 + (P.val % 4 * 128 + r.val % 128) ∨ 128 ≤ j.val := h.2
  unfold allrow keyrow
  refine Fin.ext ?_
  show _ = (t.val * 512 + (P.val % 4 * 128 + r.val % 128)) / 128 * 128 + j.val - 128
  by_cases q : P.val % 4 * 128 + j.val < 128
  · rw [dif_pos q]
    show (t.val * 4 - 1) * 128 + (P.val % 4 * 128 + j.val) = _
    omega
  · rw [dif_neg q]
    show t.val * 512 + (P.val % 4 * 128 + j.val - 128) = _
    omega

theorem seen_iff (P : Fin 8) (r : Fin 512) (j : Fin 256) :
    ((r.val % 128 < j.val ∧ j.val ≤ r.val % 128 + 128) ∧ ¬(P.val % 4 = 0 ∧ t.val = 0 ∧ j.val < 128)) ↔ seen (bandrow t P r) j := by
  unfold seen
  show _ ↔ ((t.val * 512 + (P.val % 4 * 128 + r.val % 128)) % 128 < j.val ∧ j.val ≤ (t.val * 512 + (P.val % 4 * 128 + r.val % 128)) % 128 + 128)
    ∧ (128 ≤ t.val * 512 + (P.val % 4 * 128 + r.val % 128) ∨ 128 ≤ j.val)
  omega

/-- The masked scores of a band's row. -/
theorem scores_at (Q : FVec Ideal S512x512 .f32) (K : FVec Ideal S640x128 .f32)
    (hQ : ∀ (i : Fin 512) (H : Fin 8) (d : Fin 64), Q (ix2 i ⟨H.val * 64 + d.val, by omega⟩) = qrow X p g (row t i) H d)
    (hK : ∀ (i : Fin 640) (h : Fin 2) (d : Fin 64), K (ix2 i ⟨h.val * 64 + d.val, by omega⟩) = krow X p k (allrow t i) h d)
    (f : BitVec 1) (hf : f = if t.val = 0 then 1#1 else 0#1) (P : Fin 8) (r : Fin 512) (j : Fin 256) :
    maskedScores f Q K (ix3 P r j) = score X p g k (bandrow t P r) (bandhead P r) j := by
  subst hf
  refine (masked (r.val % 128 < j.val ∧ j.val ≤ r.val % 128 + 128) (t.val = 0) _ k0_pay33 P r j (window_bit r j)).trans ?_
  rw [scores]
  unfold score
  by_cases h : seen (bandrow t P r) j
  · rw [if_pos ((seen_iff t P r j).mpr h), if_pos h]
    refine congrArg₂ (· * ·) (Finset.sum_congr rfl fun d _ => congrArg₂ (· * ·) ?_ ?_) rfl
    · rw [q_bands]
      refine Eq.trans ?_ (hQ ⟨P.val % 4 * 128 + r.val % 128, by omega⟩ (bandhead P r) d)
      exact at_ix2 Q rfl (show P.val / 4 * 256 + r.val / 128 * 64 + d.val = (P.val / 4 * 4 + r.val / 128) * 64 + d.val by omega)
    · refine (hK ⟨P.val % 4 * 128 + j.val, by omega⟩ ⟨P.val / 4, by omega⟩ d).trans ?_
      rw [allrow_seen t P r j h]
      exact congrArg (fun h => krow X p k (keyrow (bandrow t P r) j) h d) (Fin.ext (show P.val / 4 = (P.val / 4 * 4 + r.val / 128) / 4 by omega))
  · rw [if_neg (fun q => h ((seen_iff t P r j).mp q)), if_neg h]

/-- The payload written puts the bands' rows back in their places. -/
theorem written (v : FVec Ideal S640x128 .f32) (s : FVec Ideal S8x512x256 .f32) (a a' : FVec Ideal S512x1 .f32) (q : IVec S512x1 1) (e : FVec Ideal S1x1 .f32)
    (r l : Fin 512) :
    k0_pay52 (F := Ideal) (k0_pay46 v s a a' q e) (k0_pay47 v s a a' q e) (k0_pay48 v s a a' q e) (k0_pay49 v s a a' q e) (k0_pay50 v s a a' q e)
        (k0_pay51 v s a a' q e) (ix2 r l)
      = k0_pay46 (F := Ideal) v s a a' q e (ix3 ⟨l.val / 256 * 4 + r.val / 128, by omega⟩ ⟨l.val / 64 % 4 * 128 + r.val % 128, by omega⟩ ⟨l.val % 64, by omega⟩) := by
  unfold k0_pay47 k0_pay48 k0_pay49 k0_pay50 k0_pay51
  generalize k0_pay46 (F := Ideal) v s a a' q e = y
  refine unband y _ _ _ _ _ r l ?_ ?_ ?_ ?_ ?_ <;> (intro a d; pointwise)

/-- The block written is the attention of its rows. -/
theorem block (v : FVec Ideal S640x128 .f32) (s : FVec Ideal S8x512x256 .f32) (x6 : Vec Ideal S1x8 .f32) (h6 : ∀ H, x6 (ix2 0 H) = b H)
    (hv : ∀ (i : Fin 640) (l : Fin 128), v (ix2 i l) = X (allrow t i) ⟨640 + l.val, by omega⟩)
    (hs : ∀ P r j, s (ix3 P r j) = score X p g k (bandrow t P r) (bandhead P r) j)
    (ht : ∀ n H j, score X p g k n H j ≠ ⊤) (hb : ∀ H, Real' (b H)) (r l : Fin 512) :
    blockOf v s x6 (ix2 r l)
      = spec X p g k b (row t r) l := by
  unfold blockOf
  rw [written]
  have hS : ∀ (P : Fin 8) (r : Fin 512),
      (if P.val < 4 then k0_pay42 (F := Ideal) x6 k0_pay38 k0_pay39 k0_pay40 (ix2 r 0)
        else Scalar.select (k0_pay44 k0_pay38 k0_pay39 k0_pay40 (ix2 r 0)) (k0_pay45 (F := Ideal) x6 (ix2 0 0)) (k0_pay43 (F := Ideal) x6 k0_pay38 k0_pay39 k0_pay40 (ix2 r 0)))
        = b (bandhead P r) := by
    intro P r
    rw [sinks_lo, sinks_hi, h6, h6]
    by_cases q : P.val < 4
    · rw [if_pos q]
      exact congrArg b (Fin.ext (show r.val / 128 = P.val / 4 * 4 + r.val / 128 by omega))
    · rw [if_neg q]
      exact congrArg b (Fin.ext (show 4 + r.val / 128 = P.val / 4 * 4 + r.val / 128 by omega))
  have hP : ∀ (P : Fin 8) (R : Fin 512) (d : Fin 64),
      k0_pay46 (F := Ideal) v s (k0_pay42 x6 k0_pay38 k0_pay39 k0_pay40) (k0_pay43 x6 k0_pay38 k0_pay39 k0_pay40) (k0_pay44 k0_pay38 k0_pay39 k0_pay40) (k0_pay45 x6) (ix3 P R d)
        = attend (score X p g k (bandrow t P R) (bandhead P R)) (value X (bandrow t P R) (bandhead P R) d) (b (bandhead P R)) := by
    intro P R d
    rw [attended v s _ _ _ _ P R d _ (hS P R)]
    simp only [hs, hv]
    refine (attend_eq _ _ _ (ht _ _) (hb _)).trans (attend_congr _ _ _ _ (ht _ _) (hb _) fun j hj => ?_)
    have hc : seen (bandrow t P R) j := by
      by_contra q
      exact hj (by unfold score; rw [if_neg q])
    unfold value
    rw [allrow_seen t P R j hc]
    exact congrArg (X (keyrow (bandrow t P R) j)) (Fin.ext (show 640 + (P.val / 4 * 64 + d.val) = 640 + (P.val / 4 * 4 + R.val / 128) / 4 * 64 + d.val by omega))
  rw [hP]
  unfold spec
  have e1 : bandrow t ⟨l.val / 256 * 4 + r.val / 128, by omega⟩ ⟨l.val / 64 % 4 * 128 + r.val % 128, by omega⟩ = row t r := by
    refine Fin.ext ?_
    show t.val * 512 + ((l.val / 256 * 4 + r.val / 128) % 4 * 128 + (l.val / 64 % 4 * 128 + r.val % 128) % 128) = t.val * 512 + r.val
    omega
  have e2 : bandhead ⟨l.val / 256 * 4 + r.val / 128, by omega⟩ ⟨l.val / 64 % 4 * 128 + r.val % 128, by omega⟩ = ⟨l.val / 64, by omega⟩ := by
    refine Fin.ext ?_
    show (l.val / 256 * 4 + r.val / 128) / 4 * 4 + (l.val / 64 % 4 * 128 + r.val % 128) / 128 = l.val / 64
    omega
  rw [e1, e2]

end

end Cert.Proof.Attn
-- ==== Proof.AttnTable.lean ====
/- Hand-written. The table of the rotation, as the host fills it before the call. -/
module

public import proofs.«01_k».proof.Proof.Gen.AttnIdeal.Value
public import proofs.«01_k».proof.Proof.AttnSpec
public import Idealize.ShloMosaic.Lib.Tactic
public import Idealize.ShloMosaic.Lib.Pointwise
public import Idealize.ShloMosaic.Lib.StableHlo.ReadAt

@[expose] public section

noncomputable section

namespace Cert.Proof.Attn

open Cert.AttnIdeal Cert.AttnIdeal.Gen Cert.AttnIdeal.Value Idealize.ShloMosaic Idealize.ShloMosaic.TcCoe Idealize.SL.Sem

variable (m : (ℓ : Loc nD τ sig) → Buf (Elt Ideal) ℓ)

/-- The table is three bands side by side. -/
theorem table_parts (c : Dev nD) : V m c main_v36 = (concatenate S4096x384 1 [⟨S4096x128, (V m c main_v27 : FVec Ideal S4096x128 .f32)⟩, ⟨S4096x128, (V m c main_v31 : FVec Ideal S4096x128 .f32)⟩, ⟨S4096x128, (V m c main_v35 : FVec Ideal S4096x128 .f32)⟩] concatenates_S4096x128_S4096x128_S4096x128_S4096x384_d1 : (⟨S4096x384, .f32⟩ : BufTy).Contents (Elt Ideal)) := by
  unfold V
  after_reads_simp
  all_goals try simp -implicitDefEqProofs only [StableHlo.TRef.toBuf, StableHlo.TRef.ofBuf, cast_cast, cast_eq]
  try rfl

/-- The cosines where the lane rotates, one elsewhere. -/
theorem cos_band (c : Dev nD) : V m c main_v27 = (select (broadcastInDim S4096x128 ![1] bcast_S128_S4096x128_1 (V m c main_v9 : IVec S128 1)) (V m c main_v25 : FVec Ideal S4096x128 .f32) (broadcastInDim S4096x128 ![] bcast_S_S4096x128 (constant (F := Ideal) S_ .f32 0x3F800000#32)) : FVec Ideal S4096x128 .f32) := by
  unfold V
  after_reads_simp
  all_goals try simp -implicitDefEqProofs only [StableHlo.TRef.toBuf, StableHlo.TRef.ofBuf, cast_cast, cast_eq]
  try rfl

/-- The negated sines on the first eight lanes. -/
theorem low_band (c : Dev nD) : V m c main_v31 = (select (broadcastInDim S4096x128 ![1] bcast_S128_S4096x128_1 (V m c main_v29 : IVec S128 1)) (V m c main_v30 : FVec Ideal S4096x128 .f32) (broadcastInDim S4096x128 ![] bcast_S_S4096x128 (constant (F := Ideal) S_ .f32 0x00000000#32)) : FVec Ideal S4096x128 .f32) := by
  unfold V
  after_reads_simp
  all_goals try simp -implicitDefEqProofs only [StableHlo.TRef.toBuf, StableHlo.TRef.ofBuf, cast_cast, cast_eq]
  try rfl

/-- The sines on the next eight. -/
theorem high_band (c : Dev nD) : V m c main_v35 = (select (broadcastInDim S4096x128 ![1] bcast_S128_S4096x128_1 (V m c main_v34 : IVec S128 1)) (V m c main_v26 : FVec Ideal S4096x128 .f32) (broadcastInDim S4096x128 ![] bcast_S_S4096x128 (constant (F := Ideal) S_ .f32 0x00000000#32)) : FVec Ideal S4096x128 .f32) := by
  unfold V
  after_reads_simp
  all_goals try simp -implicitDefEqProofs only [StableHlo.TRef.toBuf, StableHlo.TRef.ofBuf, cast_cast, cast_eq]
  try rfl

/-- The cosine of each angle. -/
theorem cos_eq (c : Dev nD) : V m c main_v25 = (Host.cos (V m c main_v24 : FVec Ideal S4096x128 .f32) : FVec Ideal S4096x128 .f32) := by
  unfold V
  after_reads_simp
  all_goals try simp -implicitDefEqProofs only [StableHlo.TRef.toBuf, StableHlo.TRef.ofBuf, cast_cast, cast_eq]
  try rfl

/-- The sine of each angle. -/
theorem sin_eq (c : Dev nD) : V m c main_v26 = (Host.sin (V m c main_v24 : FVec Ideal S4096x128 .f32) : FVec Ideal S4096x128 .f32) := by
  unfold V
  after_reads_simp
  all_goals try simp -implicitDefEqProofs only [StableHlo.TRef.toBuf, StableHlo.TRef.ofBuf, cast_cast, cast_eq]
  try rfl

/-- Its negation. -/
theorem neg_eq (c : Dev nD) : V m c main_v30 = (Host.negf (V m c main_v26 : FVec Ideal S4096x128 .f32) : FVec Ideal S4096x128 .f32) := by
  unfold V
  after_reads_simp
  all_goals try simp -implicitDefEqProofs only [StableHlo.TRef.toBuf, StableHlo.TRef.ofBuf, cast_cast, cast_eq]
  try rfl

/-- An angle is the position times the frequency of the lane. -/
theorem angle_eq (c : Dev nD) : V m c main_v24 = (mulf (broadcastInDim S4096x128 ![0, 1] bcast_S4096x1_S4096x128_0_1 (broadcastInDim S4096x1 ![0] bcast_S4096_S4096x1_0 (sitofp .f32 (m ((c : Thread nD τ).loc main_arg1) : IVec S4096 32) : FVec Ideal S4096 .f32))) (broadcastInDim S4096x128 ![0, 1] bcast_S1x128_S4096x128_0_1 (broadcastInDim S1x128 ![1] bcast_S128_S1x128_1 (V m c main_v18 : FVec Ideal S128 .f32))) : FVec Ideal S4096x128 .f32) := by
  unfold V
  after_reads_simp
  all_goals try simp -implicitDefEqProofs only [StableHlo.TRef.toBuf, StableHlo.TRef.ofBuf, cast_cast, cast_eq]
  try rfl

/-- The frequency of a lane. -/
theorem freq_lane (c : Dev nD) : V m c main_v18 = (select (V m c main_v9 : IVec S128 1) (V m c main_v17 : FVec Ideal S128 .f32) (broadcastInDim S128 ![] bcast_S_S128 (constant (F := Ideal) S_ .f32 0x00000000#32)) : FVec Ideal S128 .f32) := by
  unfold V
  after_reads_simp
  all_goals try simp -implicitDefEqProofs only [StableHlo.TRef.toBuf, StableHlo.TRef.ofBuf, cast_cast, cast_eq]
  try rfl

/-- The frequencies picked by lane. -/
theorem picked (c : Dev nD) : V m c main_v17 = Host.gather gather_S8_S128x1_S128_n_0_n_n_0_1_1 (V m c main_v5 : (⟨S8, .f32⟩ : BufTy).Contents (Elt Ideal)) (V m c main_v16 : (⟨S128x1, .i32⟩ : BufTy).Contents (Elt Ideal)) := by
  unfold V
  after_reads_simp
  all_goals try simp -implicitDefEqProofs only [StableHlo.TRef.toBuf, StableHlo.TRef.ofBuf, cast_cast, cast_eq]
  try rfl

/-- The lane within its head. -/
theorem lane_word (c : Dev nD) (j : Fin 128) :
    (V m c main_v7 : S128.Idx → BitVec 32) (ix1 j) = BitVec.ofNat 32 (j.val % 64) := by
  unfold V
  after_reads_at
  revert j
  decide +kernel

/-- The lane rotates. -/
theorem rot_bit (c : Dev nD) (j : Fin 128) :
    (V m c main_v9 : S128.Idx → BitVec 1) (ix1 j) = if j.val % 64 < 16 then 1#1 else 0#1 := by
  unfold V
  after_reads_at
  revert j
  decide +kernel

/-- The lane is one of the first eight. -/
theorem low_bit (c : Dev nD) (j : Fin 128) :
    (V m c main_v29 : S128.Idx → BitVec 1) (ix1 j) = if j.val % 64 < 8 then 1#1 else 0#1 := by
  unfold V
  after_reads_at
  revert j
  decide +kernel

/-- The lane is one of the next eight. -/
theorem high_bit (c : Dev nD) (j : Fin 128) :
    (V m c main_v34 : S128.Idx → BitVec 1) (ix1 j) = if 8 ≤ j.val % 64 ∧ j.val % 64 < 16 then 1#1 else 0#1 := by
  unfold V
  after_reads_at
  revert j
  decide +kernel

/-- The lane within its eight, which picks the frequency. -/
theorem pick_word (c : Dev nD) (j : Fin 128) :
    (V m c main_v16 : S128x1.Idx → BitVec 32) (ix2 j 0) = BitVec.ofNat 32 (j.val % 8) := by
  unfold V
  after_reads_at
  revert j
  decide +kernel

theorem freq_word (c : Dev nD) (i : Fin 8) : (V m c main_v5 : S8.Idx → EReal) (ix1 i) = (freq i : EReal) := by
  unfold V
  after_reads_at
  pointwise
  rfl

/-- A picked entry is the one its word names. -/
theorem pick_at (x : FVec Ideal S8 .f32) (idx : IVec S128x1 32) (j : Fin 128) :
    Host.gather gather_S8_S128x1_S128_n_0_n_n_0_1_1 x idx (ix1 j)
      = x (ix1 ⟨min (idx (ix2 j 0)).toInt.toNat 7, by omega⟩) := by
  unfold Host.gather
  congr 1
  funext a
  obtain rfl : a = 0 := Subsingleton.elim _ _
  refine Fin.ext ?_
  show gather_S8_S128x1_S128_n_0_n_n_0_1_1.start (ix1 j) idx 0 + gather_S8_S128x1_S128_n_0_n_n_0_1_1.batchCoord (ix1 j) 0 + gather_S8_S128x1_S128_n_0_n_n_0_1_1.offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S128x1_S128_n_0_n_n_0_1_1.startIndexMap from List.mem_singleton.mpr rfl)]
  have hsi : gather_S8_S128x1_S128_n_0_n_n_0_1_1.siIdx (ix1 j) ⟨List.idxOf (0 : Fin 1) gather_S8_S128x1_S128_n_0_n_n_0_1_1.startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

theorem pick_nat : ∀ j : Fin 128, min (BitVec.ofNat 32 (j.val % 8)).toInt.toNat 7 = j.val % 8 := by decide +kernel

/-- The angle on a lane that rotates. -/
theorem angle_at (c : Dev nD) (n : Fin 4096) (j : Fin 128) (h : j.val % 64 < 16) :
    (V m c main_v24 : S4096x128.Idx → EReal) (ix2 n j)
      = (angle ((m ((c : Thread nD τ).loc main_arg1) : S4096.Idx → BitVec 32) (ix1 n)) ⟨j.val % 8, by omega⟩ : EReal) := by
  have e : (V m c main_v18 : S128.Idx → EReal) (ix1 j) = (freq ⟨j.val % 8, by omega⟩ : EReal) := by
    rw [freq_lane]
    pointwise
    rw [rot_bit, if_pos h, Scalar.select, if_pos (by decide), picked, pick_at]
    refine (congrArg (fun k => (V m c main_v5 : S8.Idx → EReal) (ix1 k)) (Fin.ext ?_)).trans (freq_word m c ⟨j.val % 8, by omega⟩)
    exact (congrArg (fun w : BitVec 32 => min w.toInt.toNat 7) (pick_word m c j)).trans (pick_nat j)
  rw [angle_eq]
  pointwise
  rw [e]
  rfl

theorem one_word : Ideal.ofBits .f32 0x3F800000#32 = 1 := by
  simp [Ideal.ofBits, Ideal.ieee, -EReal.coe_mul]
  norm_num

theorem zero_word : Ideal.ofBits .f32 0x00000000#32 = 0 := by
  simp [Ideal.ofBits, Ideal.ieee]

/-- The cosines' band. -/
theorem cos_at (c : Dev nD) (n : Fin 4096) (j : Fin 128) :
    (V m c main_v27 : S4096x128.Idx → EReal) (ix2 n j)
      = (if j.val % 64 < 16 then Ideal.cos (angle ((m ((c : Thread nD τ).loc main_arg1) : S4096.Idx → BitVec 32) (ix1 n)) ⟨j.val % 8, by omega⟩) else 1 : EReal) := by
  rw [cos_band]
  pointwise
  rw [rot_bit]
  by_cases h : j.val % 64 < 16
  · rw [if_pos h, if_pos h, Scalar.select, if_pos (by decide), cos_eq]
    pointwise
    rw [angle_at m c n j h]
  · rw [if_neg h, if_neg h, Scalar.select, if_neg (by decide)]

/-- The negated sines' band. -/
theorem low_at (c : Dev nD) (n : Fin 4096) (j : Fin 128) :
    (V m c main_v31 : S4096x128.Idx → EReal) (ix2 n j)
      = (if j.val % 64 < 8 then -Ideal.sin (angle ((m ((c : Thread nD τ).loc main_arg1) : S4096.Idx → BitVec 32) (ix1 n)) ⟨j.val % 8, by omega⟩) else 0 : EReal) := by
  rw [low_band]
  pointwise
  rw [low_bit]
  by_cases h : j.val % 64 < 8
  · rw [if_pos h, if_pos h, Scalar.select, if_pos (by decide), neg_eq, sin_eq]
    pointwise
    rw [angle_at m c n j (by omega)]
  · rw [if_neg h, if_neg h, Scalar.select, if_neg (by decide)]

/-- The sines' band. -/
theorem high_at (c : Dev nD) (n : Fin 4096) (j : Fin 128) :
    (V m c main_v35 : S4096x128.Idx → EReal) (ix2 n j)
      = (if 8 ≤ j.val % 64 ∧ j.val % 64 < 16 then Ideal.sin (angle ((m ((c : Thread nD τ).loc main_arg1) : S4096.Idx → BitVec 32) (ix1 n)) ⟨j.val % 8, by omega⟩) else 0 : EReal) := by
  rw [high_band]
  pointwise
  rw [high_bit]
  by_cases h : 8 ≤ j.val % 64 ∧ j.val % 64 < 16
  · rw [if_pos h, if_pos h, Scalar.select, if_pos (by decide), sin_eq]
    pointwise
    rw [angle_at m c n j h.2]
  · rw [if_neg h, if_neg h, Scalar.select, if_neg (by decide)]

/-- The table at a position: the bands of its angles. -/
theorem table_at (c : Dev nD) (n : Fin 4096) (j : Fin 384) :
    (V m c main_v36 : S4096x384.Idx → EReal) (ix2 n j) = (band (cosv ((m ((c : Thread nD τ).loc main_arg1) : S4096.Idx → BitVec 32) (ix1 n))) (sinv ((m ((c : Thread nD τ).loc main_arg1) : S4096.Idx → BitVec 32) (ix1 n))) j : EReal) := by
  have hj := j.isLt
  rw [table_parts]
  pointwise
  unfold band cosv sinv
  by_cases h1 : j.val < 128
  · rw [dif_pos h1, if_pos h1, cos_at]
  · by_cases h2 : j.val < 256
    · rw [dif_neg h1, if_neg h1, dif_pos (show j.val - 128 < 128 by omega), if_pos h2, low_at]
      have e : (j.val - 128) % 64 = j.val % 64 := by omega
      have e' : (⟨(j.val - 128) % 8, by omega⟩ : Fin 8) = ⟨j.val % 8, by omega⟩ := Fin.ext (show (j.val - 128) % 8 = j.val % 8 by omega)
      simp only [e, e']
    · rw [dif_neg h1, if_neg h1, dif_neg (show ¬ j.val - 128 < 128 by omega), if_neg h2, high_at]
      have e : (j.val - 128 - 128) % 64 = j.val % 64 := by omega
      have e' : (⟨(j.val - 128 - 128) % 8, by omega⟩ : Fin 8) = ⟨j.val % 8, by omega⟩ := Fin.ext (show (j.val - 128 - 128) % 8 = j.val % 8 by omega)
      simp only [e, e']

end Cert.Proof.Attn
-- ==== Proof.AttnWindows.lean ====
/- Hand-written. Windows of the call of the attention: which block of which array each grid point sees. -/
module

public import proofs.«01_k».proof.Proof.Gen.AttnIdeal.Value
public import Idealize.ShloMosaic.Lib.Pointwise

@[expose] public section

noncomputable section

namespace Cert.Proof.Attn

open Cert.AttnIdeal Cert.AttnIdeal.Gen Cert.AttnIdeal.Value Idealize.ShloMosaic Idealize.ShloMosaic.TcCoe Idealize.SL.Sem

theorem pt_lt (t : Fin cfg0.N) : t.val < 8 := by
  have h := t.isLt
  have e : cfg0.N = 8 := N_0
  omega

/-- The block indices of each window at point `t`. -/
theorem index_at : ∀ t : Fin cfg0.N, (win0_0.index t 0 = t.val ∧ win0_0.index t 1 = 0)
    ∧ (win0_1.index t 0 = t.val * 4 - 1 ∧ win0_1.index t 1 = 0)
    ∧ (win0_2.index t 0 = t.val ∧ win0_2.index t 1 = 0)
    ∧ (win0_3.index t 0 = t.val * 4 - 1 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0) :=
  (by decide +kernel : ∀ t : Fin grid0.N, _)

/-- Element `i` of the block of 512 at index `t.val` of an axis of 4096. -/
abbrev at_g0_512_4096 (t : Fin cfg0.N) (i : Fin 512) : Fin 4096 :=
  ⟨(t.val) * 512 + i.val, by have := pt_lt t; omega⟩

/-- Element `i` of the block of 128 at index `t.val * 4 - 1` of an axis of 4096. -/
abbrev at_p_128_4096 (t : Fin cfg0.N) (i : Fin 128) : Fin 4096 :=
  ⟨(t.val * 4 - 1) * 128 + i.val, by have := pt_lt t; omega⟩

variable (m : (ℓ : Loc nD τ sig) → Buf (Elt Ideal) ℓ) (c : Dev nD)

theorem emb0 (t : Fin cfg0.N) (i0 : Fin 512) (i1 : Fin 768) :
    (((cfg0.win 0).blk t).view.emb (ix2 i0 i1) : S4096x768.Idx) = ix2 (at_g0_512_4096 t i0) i1 := by
  obtain ⟨⟨e0, e1⟩, -⟩ := index_at t
  refine funext fun b => Fin.ext ?_
  match b with
  | ⟨0, _⟩ => show win0_0.index t 0 * 512 + 1 * i0.val = (t.val) * 512 + i0.val; omega
  | ⟨1, _⟩ => show win0_0.index t 1 * 768 + 1 * i1.val = i1.val; omega

theorem iblk0 (t : Fin cfg0.N) (i0 : Fin 512) (i1 : Fin 768) :
    (iblk m c 0 t : Vec Ideal S512x768 .f32) (ix2 i0 i1) = (m ((c : Thread nD τ).loc main_arg0) : Vec Ideal S4096x768 .f32) (ix2 (at_g0_512_4096 t i0) i1) :=
  (congrArg (V m c main_arg0) (emb0 t i0 i1)).trans (congrFun (V_main_arg0 m c) _)

theorem emb1 (t : Fin cfg0.N) (i0 : Fin 128) (i1 : Fin 768) :
    (((cfg0.win 1).blk t).view.emb (ix2 i0 i1) : S4096x768.Idx) = ix2 (at_p_128_4096 t i0) i1 := by
  obtain ⟨-, ⟨e0, e1⟩, -⟩ := index_at t
  refine funext fun b => Fin.ext ?_
  match b with
  | ⟨0, _⟩ => show win0_1.index t 0 * 128 + 1 * i0.val = (t.val * 4 - 1) * 128 + i0.val; omega
  | ⟨1, _⟩ => show win0_1.index t 1 * 768 + 1 * i1.val = i1.val; omega

theorem iblk1 (t : Fin cfg0.N) (i0 : Fin 128) (i1 : Fin 768) :
    (iblk m c 1 t : Vec Ideal S128x768 .f32) (ix2 i0 i1) = (m ((c : Thread nD τ).loc main_arg0) : Vec Ideal S4096x768 .f32) (ix2 (at_p_128_4096 t i0) i1) :=
  (congrArg (V m c main_arg0) (emb1 t i0 i1)).trans (congrFun (V_main_arg0 m c) _)

theorem emb2 (t : Fin cfg0.N) (i0 : Fin 512) (i1 : Fin 384) :
    (((cfg0.win 2).blk t).view.emb (ix2 i0 i1) : S4096x384.Idx) = ix2 (at_g0_512_4096 t i0) i1 := by
  obtain ⟨-, -, ⟨e0, e1⟩, -⟩ := index_at t
  refine funext fun b => Fin.ext ?_
  match b with
  | ⟨0, _⟩ => show win0_2.index t 0 * 512 + 1 * i0.val = (t.val) * 512 + i0.val; omega
  | ⟨1, _⟩ => show win0_2.index t 1 * 384 + 1 * i1.val = i1.val; omega

theorem iblk2 (t : Fin cfg0.N) (i0 : Fin 512) (i1 : Fin 384) :
    (iblk m c 2 t : Vec Ideal S512x384 .f32) (ix2 i0 i1) = (V m c main_v36 : Vec Ideal S4096x384 .f32) (ix2 (at_g0_512_4096 t i0) i1) :=
  (congrArg (V m c main_v36) (emb2 t i0 i1))

theorem emb3 (t : Fin cfg0.N) (i0 : Fin 128) (i1 : Fin 384) :
    (((cfg0.win 3).blk t).view.emb (ix2 i0 i1) : S4096x384.Idx) = ix2 (at_p_128_4096 t i0) i1 := by
  obtain ⟨-, -, -, ⟨e0, e1⟩, -⟩ := index_at t
  refine funext fun b => Fin.ext ?_
  match b with
  | ⟨0, _⟩ => show win0_3.index t 0 * 128 + 1 * i0.val = (t.val * 4 - 1) * 128 + i0.val; omega
  | ⟨1, _⟩ => show win0_3.index t 1 * 384 + 1 * i1.val = i1.val; omega

theorem iblk3 (t : Fin cfg0.N) (i0 : Fin 128) (i1 : Fin 384) :
    (iblk m c 3 t : Vec Ideal S128x384 .f32) (ix2 i0 i1) = (V m c main_v36 : Vec Ideal S4096x384 .f32) (ix2 (at_p_128_4096 t i0) i1) :=
  (congrArg (V m c main_v36) (emb3 t i0 i1))

theorem emb4 (t : Fin cfg0.N) (i0 : Fin 1) (i1 : Fin 64) :
    (((cfg0.win 4).blk t).view.emb (ix2 i0 i1) : S1x64.Idx) = ix2 i0 i1 := by
  obtain ⟨-, -, -, -, ⟨e0, e1⟩, -⟩ := index_at t
  refine funext fun b => Fin.ext ?_
  match b with
  | ⟨0, _⟩ => show win0_4.index t 0 * 1 + 1 * i0.val = i0.val; omega
  | ⟨1, _⟩ => show win0_4.index t 1 * 64 + 1 * i1.val = i1.val; omega

theorem iblk4 (t : Fin cfg0.N) (i0 : Fin 1) (i1 : Fin 64) :
    (iblk m c 4 t : Vec Ideal S1x64 .f32) (ix2 i0 i1) = (m ((c : Thread nD τ).loc main_arg2) : Vec Ideal S1x64 .f32) (ix2 i0 i1) :=
  (congrArg (V m c main_arg2) (emb4 t i0 i1)).trans (congrFun (V_main_arg2 m c) _)

theorem emb5 (t : Fin cfg0.N) (i0 : Fin 1) (i1 : Fin 64) :
    (((cfg0.win 5).blk t).view.emb (ix2 i0 i1) : S1x64.Idx) = ix2 i0 i1 := by
  obtain ⟨-, -, -, -, -, ⟨e0, e1⟩, -⟩ := index_at t
  refine funext fun b => Fin.ext ?_
  match b with
  | ⟨0, _⟩ => show win0_5.index t 0 * 1 + 1 * i0.val = i0.val; omega
  | ⟨1, _⟩ => show win0_5.index t 1 * 64 + 1 * i1.val = i1.val; omega

theorem iblk5 (t : Fin cfg0.N) (i0 : Fin 1) (i1 : Fin 64) :
    (iblk m c 5 t : Vec Ideal S1x64 .f32) (ix2 i0 i1) = (m ((c : Thread nD τ).loc main_arg3) : Vec Ideal S1x64 .f32) (ix2 i0 i1) :=
  (congrArg (V m c main_arg3) (emb5 t i0 i1)).trans (congrFun (V_main_arg3 m c) _)

theorem emb6 (t : Fin cfg0.N) (i0 : Fin 1) (i1 : Fin 8) :
    (((cfg0.win 6).blk t).view.emb (ix2 i0 i1) : S1x8.Idx) = ix2 i0 i1 := by
  obtain ⟨-, -, -, -, -, -, ⟨e0, e1⟩, -⟩ := index_at t
  refine funext fun b => Fin.ext ?_
  match b with
  | ⟨0, _⟩ => show win0_6.index t 0 * 1 + 1 * i0.val = i0.val; omega
  | ⟨1, _⟩ => show win0_6.index t 1 * 8 + 1 * i1.val = i1.val; omega

theorem iblk6 (t : Fin cfg0.N) (i0 : Fin 1) (i1 : Fin 8) :
    (iblk m c 6 t : Vec Ideal S1x8 .f32) (ix2 i0 i1) = (m ((c : Thread nD τ).loc main_arg4) : Vec Ideal S1x8 .f32) (ix2 i0 i1) :=
  (congrArg (V m c main_arg4) (emb6 t i0 i1)).trans (congrFun (V_main_arg4 m c) _)

theorem emb7 (t : Fin cfg0.N) (i0 : Fin 512) (i1 : Fin 512) :
    (((cfg0.win 7).blk t).view.emb (ix2 i0 i1) : S4096x512.Idx) = ix2 (at_g0_512_4096 t i0) i1 := by
  obtain ⟨-, -, -, -, -, -, -, ⟨e0, e1⟩⟩ := index_at t
  refine funext fun b => Fin.ext ?_
  match b with
  | ⟨0, _⟩ => show win0_7.index t 0 * 512 + 1 * i0.val = (t.val) * 512 + i0.val; omega
  | ⟨1, _⟩ => show win0_7.index t 1 * 512 + 1 * i1.val = i1.val; omega

/-- The point whose block holds index `i`. -/
abbrev pt7 (i : S4096x512.Idx) : Fin cfg0.N :=
  ⟨((i 0).val / 512), by
    have h0 : (i 0).val < 4096 := (i 0).isLt
    have h1 : (i 1).val < 512 := (i 1).isLt
    rw [show cfg0.N = 8 from N_0]; omega⟩

theorem at_pt7 (i : S4096x512.Idx) : (ix2 (at_g0_512_4096 (pt7 i) ⟨(i 0).val % 512, by omega⟩) (i 1) : S4096x512.Idx) = i := by
  have h0 : (i 0).val < 4096 := (i 0).isLt
  have h1 : (i 1).val < 512 := (i 1).isLt
  refine funext fun b => Fin.ext ?_
  match b with
  | ⟨0, _⟩ => show ((((i 0).val / 512))) * 512 + (i 0).val % 512 = (i 0).val; omega
  | ⟨1, _⟩ => rfl

theorem mem7 (i : S4096x512.Idx) : i ∈ ((cfg0.win 7).blk (pt7 i)).view.set :=
  Eq.mp (congrArg (· ∈ ((cfg0.win 7).blk (pt7 i)).view.set) ((emb7 (pt7 i) _ _).trans (at_pt7 i)))
    (((cfg0.win 7).blk (pt7 i)).view.emb_mem_set (ix2 ⟨(i 0).val % 512, by omega⟩ (i 1)))

/-- If every block written back is the block of `G`, the array is `G` after the run. -/
theorem arr7 (X : Fin cfg0.N → Vec Ideal S512x512 .bf16) (G : Vec Ideal S4096x512 .bf16)
    (hX : ∀ t : Fin cfg0.N, (dats m 0 c).flushed 7 t = (cfg0.win 7).cut (grid0.coords t) (X t))
    (hG : ∀ (t : Fin cfg0.N) (i0 : Fin 512) (i1 : Fin 512), X t (ix2 i0 i1) = G (ix2 (at_g0_512_4096 t i0) i1)) :
    (dats m 0 c).arrAt 7 cfg0.N = G :=
  (dats m 0 c).arrAt_eq_of_cover 7 G (fun t _ => by
    rw [hX t]
    funext j
    obtain ⟨i0, i1, rfl⟩ : ∃ (i0 : Fin 512) (i1 : Fin 512), j = ix2 i0 i1 := ⟨j 0, j 1, eq_ix2 j⟩
    show X t (ix2 i0 i1) = G (((cfg0.win 7).blk t).view.emb (ix2 i0 i1))
    rw [hG t i0 i1, emb7]) fun i => ⟨pt7 i, flush0_7 _, mem7 i⟩

end Cert.Proof.Attn
-- ==== Proof.AttnKernel.lean ====
/- Hand-written. The attention kernel's result: the attention of the argument arrays. -/
module

public import proofs.«01_k».proof.Proof.AttnBlock
public import proofs.«01_k».proof.Proof.AttnTable
public import proofs.«01_k».proof.Proof.AttnWindows

@[expose] public section

noncomputable section

namespace Cert.Proof.Attn

open Cert.AttnIdeal Cert.AttnIdeal.Gen Cert.AttnIdeal.Value Idealize.ShloMosaic Idealize.ShloMosaic.TcCoe Idealize.SL.Sem

theorem hz2 : (![0, 0] : Fin 2 → Nat) = fun _ => 0 := funext fun a => by fin_cases a <;> rfl

/-- The bit that says whether a grid point is the first. -/
theorem first_bit : ∀ t : Fin cfg0.N, Scalar.cmpi .eq (BitVec.ofNat 32 (grid0.coords t 0).val) 0#32 = if t.val = 0 then 1#1 else 0#1 := by
  decide +kernel

theorem out_eq (i : grid0.Coords) (x0 : Vec Ideal S512x768 .f32) (x1 : Vec Ideal S128x768 .f32) (x2 : Vec Ideal S512x384 .f32)
    (x3 : Vec Ideal S128x384 .f32) (x4 x5 : Vec Ideal S1x64 .f32) (x6 : Vec Ideal S1x8 .f32) :
    out0_7 i x0 x1 x2 x3 x4 x5 x6
      = blockOf (k0_pay21 x0 x1)
          (maskedScores (Scalar.cmpi .eq (BitVec.ofNat 32 (i 0).val) 0#32) (queries x0 x2 x4) (keys x0 x1 x2 x3 x5)) x6 := by
  unfold_out out0_7
  rw [View.canon_unit_zero hz2]
  simp only [View.ld_unit_zero (S := S512x768) hz2, View.ld_unit_zero (S := S128x768) hz2, View.ld_unit_zero (S := S512x384) hz2,
    View.ld_unit_zero (S := S128x384) hz2, View.ld_unit_zero (S := S1x64) hz2, View.ld_unit_zero (S := S1x8) hz2]

variable (m : (ℓ : Loc nD τ sig) → Buf (Elt Ideal) ℓ) (c : Dev nD)

/-- The rows of queries, keys and values. -/
def aX (n : Fin 4096) (j : Fin 768) : EReal := (m ((c : Thread nD τ).loc main_arg0) : Vec Ideal S4096x768 .f32) (ix2 n j)
/-- The positions. -/
def aP (n : Fin 4096) : BitVec 32 := (m ((c : Thread nD τ).loc main_arg1) : S4096.Idx → BitVec 32) (ix1 n)
/-- The queries' gain. -/
def aG (e : Fin 64) : EReal := (m ((c : Thread nD τ).loc main_arg2) : Vec Ideal S1x64 .f32) (ix2 0 e)
/-- The keys' gain. -/
def aK (e : Fin 64) : EReal := (m ((c : Thread nD τ).loc main_arg3) : Vec Ideal S1x64 .f32) (ix2 0 e)
/-- The sinks. -/
def aB (H : Fin 8) : EReal := (m ((c : Thread nD τ).loc main_arg4) : Vec Ideal S1x8 .f32) (ix2 0 H)

theorem row_out (hX : ∀ n (j : Fin 768), j.val < 640 → Real' (aX m c n j)) (hg : ∀ e, Real' (aG m c e)) (hk : ∀ e, Real' (aK m c e))
    (hb : ∀ H, Real' (aB m c H)) (t : Fin cfg0.N) (r l : Fin 512) :
    blockOf (k0_pay21 (iblk m c 0 t) (iblk m c 1 t))
        (maskedScores (Scalar.cmpi .eq (BitVec.ofNat 32 (grid0.coords t 0).val) 0#32) (queries (iblk m c 0 t) (iblk m c 2 t) (iblk m c 4 t))
          (keys (iblk m c 0 t) (iblk m c 1 t) (iblk m c 2 t) (iblk m c 3 t) (iblk m c 5 t))) (iblk m c 6 t) (ix2 r l)
      = spec (aX m c) (aP m c) (aG m c) (aK m c) (aB m c) (at_g0_512_4096 t r) l := by
  have h0 := iblk0 m c t
  have h1 := iblk1 m c t
  have h2 : ∀ i j, (iblk m c 2 t : Vec Ideal S512x384 .f32) (ix2 i j) = band (cosv (aP m c (at_g0_512_4096 t i))) (sinv (aP m c (at_g0_512_4096 t i))) j :=
    fun i j => (iblk2 m c t i j).trans (table_at m c _ j)
  have h3 : ∀ i j, (iblk m c 3 t : Vec Ideal S128x384 .f32) (ix2 i j) = band (cosv (aP m c (at_p_128_4096 t i))) (sinv (aP m c (at_p_128_4096 t i))) j :=
    fun i j => (iblk3 m c t i j).trans (table_at m c _ j)
  have h4 := iblk4 m c t 0
  have h5 := iblk5 m c t 0
  have h6 := iblk6 m c t 0
  have hf := first_bit t
  generalize (iblk m c 0 t : Vec Ideal S512x768 .f32) = x0 at h0 ⊢
  generalize (iblk m c 1 t : Vec Ideal S128x768 .f32) = x1 at h1 ⊢
  generalize (iblk m c 2 t : Vec Ideal S512x384 .f32) = x2 at h2 ⊢
  generalize (iblk m c 3 t : Vec Ideal S128x384 .f32) = x3 at h3 ⊢
  generalize (iblk m c 4 t : Vec Ideal S1x64 .f32) = x4 at h4 ⊢
  generalize (iblk m c 5 t : Vec Ideal S1x64 .f32) = x5 at h5 ⊢
  generalize (iblk m c 6 t : Vec Ideal S1x8 .f32) = x6 at h6 ⊢
  generalize Scalar.cmpi .eq (BitVec.ofNat 32 (grid0.coords t 0).val) 0#32 = f at hf ⊢
  refine block (aX m c) (aP m c) (aG m c) (aK m c) (aB m c) ⟨t.val, pt_lt t⟩ _ _ x6 h6 ?_ ?_ (score_ne_top _ _ _ _ hX hg hk) hb r l
  · exact values_at (aX m c) ⟨t.val, pt_lt t⟩ x0 x1 h0 h1
  · refine scores_at (aX m c) (aP m c) (aG m c) (aK m c) ⟨t.val, pt_lt t⟩ _ _ ?_ ?_ f hf
    · exact queries_at (aX m c) (aP m c) (aG m c) ⟨t.val, pt_lt t⟩ x0 x2 x4 h0 h2 h4 hX
    · exact keys_at (aX m c) (aP m c) (aK m c) ⟨t.val, pt_lt t⟩ x0 x1 x2 x3 x5 h0 h1 h2 h3 h5 hX

/-- The array the call leaves. -/
theorem final (hX : ∀ n (j : Fin 768), j.val < 640 → Real' (aX m c n j)) (hg : ∀ e, Real' (aG m c e)) (hk : ∀ e, Real' (aK m c e))
    (hb : ∀ H, Real' (aB m c H)) (G : Vec Ideal S4096x512 .bf16)
    (hG : ∀ n l, G (ix2 n l) = spec (aX m c) (aP m c) (aG m c) (aK m c) (aB m c) n l) :
    (dats m 0 c).arrAt 7 cfg0.N = G :=
  arr7 m c _ _ (fun t => by rw [flushed7, out_eq]) fun t r l => (row_out m c hX hg hk hb t r l).trans (hG _ l).symm

end Cert.Proof.Attn
-- ==== Proof.AttnRef.lean ====
/- Hand-written. The attention's reference: what it computes, read stage by stage. -/
module

public import proofs.«01_k».proof.Proof.Gen.AttnRefIdeal.Run
public import proofs.«01_k».proof.Proof.Gen.AttnRefIdeal.Read
public import proofs.«01_k».proof.Proof.AttnSpec
public import Idealize.ShloMosaic.Lib.Pointwise
public import Idealize.ShloMosaic.Lib.KernelVsHost

@[expose] public section

noncomputable section

namespace Cert.Proof.Attn.Ref

open Cert.AttnRefIdeal Cert.AttnRefIdeal.Gen Cert.AttnRefIdeal.Read Idealize.ShloMosaic Idealize.ShloMosaic.TcCoe Idealize.SL.Sem

variable (x0 : (⟨S4096x768, .f32⟩ : BufTy).Contents (Elt Ideal)) (x1 : (⟨S4096, .i32⟩ : BufTy).Contents (Elt Ideal))
  (x2 x3 : (⟨S1x64, .f32⟩ : BufTy).Contents (Elt Ideal)) (x4 : (⟨S1x8, .f32⟩ : BufTy).Contents (Elt Ideal))

/-- A row's queries by head. -/
theorem q_heads (n : Fin 4096) (H : Fin 8) (d : Fin 64) : (val_main_v3 x0 : S4096x8x64.Idx → EReal) (ix3 n H d) = x0 (ix2 n ⟨H.val * 64 + d.val, by omega⟩) := by
  unfold val_main_v3 val_main_v0
  pointwise

/-- A row's keys by head. -/
theorem k_heads (n : Fin 4096) (h : Fin 2) (d : Fin 64) : (val_main_v48 x0 : S4096x2x64.Idx → EReal) (ix3 n h d) = x0 (ix2 n ⟨512 + h.val * 64 + d.val, by omega⟩) := by
  unfold val_main_v48 val_main_v1
  pointwise
  exact at_ix2 x0 rfl (show 512 + (h.val * 64 + d.val) = 512 + h.val * 64 + d.val by omega)

theorem q_mean (n : Fin 4096) (H : Fin 8) : (val_main_v9 x0 : S4096x8x1.Idx → EReal) (ix3 n H 0)
    = (∑ e : Fin 64, x0 (ix2 n ⟨H.val * 64 + e.val, by omega⟩) * x0 (ix2 n ⟨H.val * 64 + e.val, by omega⟩)) * Ideal.ofBits .f32 0x3C800000#32 := by
  rw [← div64]
  unfold val_main_v9 val_main_v8 val_main_cst_0 val_main_v7 val_main_v6 val_main_cst val_main_v5
  pointwise
  simp only [q_heads]

theorem k_mean (n : Fin 4096) (h : Fin 2) : (val_main_v54 x0 : S4096x2x1.Idx → EReal) (ix3 n h 0)
    = (∑ e : Fin 64, x0 (ix2 n ⟨512 + h.val * 64 + e.val, by omega⟩) * x0 (ix2 n ⟨512 + h.val * 64 + e.val, by omega⟩)) * Ideal.ofBits .f32 0x3C800000#32 := by
  rw [← div64]
  unfold val_main_v54 val_main_v53 val_main_cst_5 val_main_v52 val_main_v51 val_main_cst_4 val_main_v50
  pointwise
  simp only [k_heads]

/-- A row's normed queries. -/
theorem q_norm (n : Fin 4096) (H : Fin 8) (d : Fin 64) : (val_main_v17 x0 x2 : S4096x8x64.Idx → EReal) (ix3 n H d)
    = normed (fun e => x0 (ix2 n ⟨H.val * 64 + e.val, by omega⟩)) (fun e => x2 (ix2 0 e)) d := by
  unfold val_main_v17 val_main_v16 val_main_v15 val_main_v4 val_main_v14 val_main_v13 val_main_v12 val_main_v11 val_main_v10 val_main_cst_1 normed
  pointwise
  rw [q_heads, q_mean]

/-- A row's normed keys. -/
theorem k_norm (n : Fin 4096) (h : Fin 2) (d : Fin 64) : (val_main_v62 x0 x3 : S4096x2x64.Idx → EReal) (ix3 n h d)
    = normed (fun e => x0 (ix2 n ⟨512 + h.val * 64 + e.val, by omega⟩)) (fun e => x3 (ix2 0 e)) d := by
  unfold val_main_v62 val_main_v61 val_main_v60 val_main_v49 val_main_v59 val_main_v58 val_main_v57 val_main_v56 val_main_v55 val_main_cst_6 normed
  pointwise
  rw [k_heads, k_mean]

theorem q_angles (n : Fin 4096) (i : Fin 8) : (val_main_v29 x1 : S4096x8.Idx → EReal) (ix2 n i) = angle (x1 (ix1 n)) i := by
  unfold val_main_v29 val_main_v28 val_main_v27 val_main_v26 val_main_v25 val_main_v24 val_main_v23 val_main_v22 val_main_v21 val_main_v20 val_main_v19 val_main_v18 val_main_cst_2 val_main_cst_3
  pointwise
  rfl

theorem k_angles (n : Fin 4096) (i : Fin 8) : (val_main_v74 x1 : S4096x8.Idx → EReal) (ix2 n i) = angle (x1 (ix1 n)) i := by
  unfold val_main_v74 val_main_v73 val_main_v72 val_main_v71 val_main_v70 val_main_v69 val_main_v68 val_main_v67 val_main_v66 val_main_v65 val_main_v64 val_main_v63 val_main_cst_7 val_main_cst_8
  pointwise
  rfl

/-- Lanes joined from the rotated first eight, the rotated next eight and the rest are the rotated row. -/
theorem joined (n : Fin 64 → EReal) (w : BitVec 32) (d : Fin 64) :
    (if h : d.val < 8 then n d * Ideal.cos (angle w ⟨d.val, h⟩) - n ⟨8 + d.val, by omega⟩ * Ideal.sin (angle w ⟨d.val, h⟩)
      else if h' : d.val - 8 < 8 then
        n ⟨8 + (d.val - 8), by omega⟩ * Ideal.cos (angle w ⟨d.val - 8, h'⟩) + n ⟨d.val - 8, by omega⟩ * Ideal.sin (angle w ⟨d.val - 8, h'⟩)
      else n ⟨16 + (d.val - 8 - 8), by omega⟩) = roped n (cosv w) (sinv w) d := by
  have hd := d.isLt
  unfold roped cosv sinv
  by_cases h : d.val < 8
  · rw [dif_pos h, dif_pos h]
    have e : (⟨8 + d.val, by omega⟩ : Fin 64) = ⟨d.val + 8, by omega⟩ := Fin.ext (Nat.add_comm _ _)
    rw [e]
  · by_cases h' : d.val < 16
    · rw [dif_neg h, dif_neg h, dif_pos (show d.val - 8 < 8 by omega), dif_pos h']
      have e : (⟨8 + (d.val - 8), by omega⟩ : Fin 64) = d := Fin.ext (show 8 + (d.val - 8) = d.val by omega)
      rw [e]
    · rw [dif_neg h, dif_neg h, dif_neg (show ¬ d.val - 8 < 8 by omega), dif_neg h']
      exact congrArg n (Fin.ext (show 16 + (d.val - 8 - 8) = d.val by omega))

/-- A row's rotated queries. -/
theorem q_rot (n : Fin 4096) (H : Fin 8) (d : Fin 64) : (val_main_v47 x0 x1 x2 : S4096x8x64.Idx → EReal) (ix3 n H d)
    = qrow (fun n j => x0 (ix2 n j)) (fun n => x1 (ix1 n)) (fun e => x2 (ix2 0 e)) n H d := by
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30
  pointwise
  simp only [q_norm, q_angles]
  exact joined _ _ d

/-- A row's rotated keys. -/
theorem k_rot (n : Fin 4096) (h : Fin 2) (d : Fin 64) : (val_main_v92 x0 x1 x3 : S4096x2x64.Idx → EReal) (ix3 n h d)
    = krow (fun n j => x0 (ix2 n j)) (fun n => x1 (ix1 n)) (fun e => x3 (ix2 0 e)) n h d := by
  unfold val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75
  pointwise
  simp only [k_norm, k_angles]
  exact joined _ _ d

theorem k_block (N : Fin 32) (a : Fin 128) (h : Fin 2) (d : Fin 64) : (val_main_v93 x0 x1 x3 : S32x128x2x64.Idx → EReal) (ix4 N a h d)
    = krow (fun n j => x0 (ix2 n j)) (fun n => x1 (ix1 n)) (fun e => x3 (ix2 0 e)) ⟨N.val * 128 + a.val, by omega⟩ h d := by
  unfold val_main_v93
  pointwise
  exact k_rot x0 x1 x3 _ h d

theorem v_block (N : Fin 32) (a : Fin 128) (h : Fin 2) (d : Fin 64) : (val_main_v97 x0 : S32x128x2x64.Idx → EReal) (ix4 N a h d)
    = x0 (ix2 ⟨N.val * 128 + a.val, by omega⟩ ⟨640 + h.val * 64 + d.val, by omega⟩) := by
  unfold val_main_v97 val_main_v2
  pointwise
  exact at_ix2 x0 rfl (show 640 + (h.val * 64 + d.val) = 640 + h.val * 64 + d.val by omega)

/-- A padded array at a block that is not the padding is the array a block before. -/
theorem pad_at (x : FVec Ideal S32x128x2x64 .f32) (z : FVec Ideal S_ .f32) (N : Fin 33) (a : Fin 128) (h : Fin 2) (d : Fin 64) (hN : 0 < N.val) :
    pad S33x128x2x64 ![1, 0, 0, 0] ![0, 0, 0, 0] ![0, 0, 0, 0] x z pads_S32x128x2x64_S33x128x2x64_100_000_000_000 h_S_ (ix4 N a h d)
      = x (ix4 ⟨N.val - 1, by omega⟩ a h d) :=
  pad_apply_of_inside _ _ _ x z pads_S32x128x2x64_S33x128x2x64_100_000_000_000 h_S_ (ix4 N a h d) (ix4 ⟨N.val - 1, by omega⟩ a h d) fun b => by
    match b with
    | ⟨0, _⟩ => show N.val = 1 + (N.val - 1) * (0 + 1); omega
    | ⟨1, _⟩ => show a.val = 0 + a.val * (0 + 1); omega
    | ⟨2, _⟩ => show h.val = 0 + h.val * (0 + 1); omega
    | ⟨3, _⟩ => show d.val = 0 + d.val * (0 + 1); omega

/-- The keys of the block before and of the block. -/
theorem k_band (N : Fin 32) (j : Fin 256) (h : Fin 2) (d : Fin 64) (hj : 128 ≤ N.val * 128 + j.val) : (val_main_v96 x0 x1 x3 : S32x256x2x64.Idx → EReal) (ix4 N j h d)
    = krow (fun n j => x0 (ix2 n j)) (fun n => x1 (ix1 n)) (fun e => x3 (ix2 0 e)) ⟨N.val * 128 + j.val - 128, by omega⟩ h d := by
  unfold val_main_v96 val_main_v95
  pointwise
  refine dite_elim (fun h1 => ?_) (fun h1 => ?_)
  · unfold val_main_v94
    rw [pad_at _ _ ⟨N.val, by omega⟩ ⟨j.val, h1⟩ h d (show 0 < N.val by omega), k_block]
    exact congrArg (fun n => krow _ _ _ n h d) (Fin.ext (show (N.val - 1) * 128 + j.val = N.val * 128 + j.val - 128 by omega))
  · rw [k_block]
    exact congrArg (fun n => krow _ _ _ n h d) (Fin.ext (show N.val * 128 + (j.val - 128) = N.val * 128 + j.val - 128 by omega))

/-- The values of the block before and of the block. -/
theorem v_band (N : Fin 32) (j : Fin 256) (h : Fin 2) (d : Fin 64) (hj : 128 ≤ N.val * 128 + j.val) : (val_main_v100 x0 : S32x256x2x64.Idx → EReal) (ix4 N j h d)
    = x0 (ix2 ⟨N.val * 128 + j.val - 128, by omega⟩ ⟨640 + h.val * 64 + d.val, by omega⟩) := by
  unfold val_main_v100 val_main_v99
  pointwise
  refine dite_elim (fun h1 => ?_) (fun h1 => ?_)
  · unfold val_main_v98
    rw [pad_at _ _ ⟨N.val, by omega⟩ ⟨j.val, h1⟩ h d (show 0 < N.val by omega), v_block]
    exact at_ix2 x0 (show (N.val - 1) * 128 + j.val = N.val * 128 + j.val - 128 by omega) rfl
  · rw [v_block]
    exact at_ix2 x0 (show N.val * 128 + (j.val - 128) = N.val * 128 + j.val - 128 by omega) rfl

theorem in_word : ∀ (a : Fin 128) (j : Fin 256),
    IntOp.andi (IntOp.cmpi .sge (IntOp.subi (IntOp.addi (BitVec.ofNat 32 a.val) 128#32) (BitVec.ofNat 32 j.val)) 0#32)
      (IntOp.cmpi .slt (IntOp.subi (IntOp.addi (BitVec.ofNat 32 a.val) 128#32) (BitVec.ofNat 32 j.val)) 128#32)
      = if a.val < j.val ∧ j.val ≤ a.val + 128 then 1#1 else 0#1 := by
  decide +kernel

theorem block_word : ∀ N : Fin 32, IntOp.cmpi .sgt (BitVec.ofNat 32 N.val) 0#32 = if 0 < N.val then 1#1 else 0#1 := by decide +kernel

theorem own_word' : ∀ j : Fin 256, IntOp.cmpi .sge (BitVec.ofNat 32 j.val) 128#32 = if 128 ≤ j.val then 1#1 else 0#1 := by decide +kernel

/-- The bit of a row seen. -/
theorem seen_bit (N : Fin 32) (a : Fin 128) (j : Fin 256) : (val_main_v133 (F := Ideal) : S32x128x256.Idx → BitVec 1) (ix3 N a j)
    = if (a.val < j.val ∧ j.val ≤ a.val + 128) ∧ (0 < N.val ∨ 128 ≤ j.val) then 1#1 else 0#1 := by
  have e1 : (val_main_v119 (F := Ideal) : S128x256.Idx → BitVec 1) (ix2 a j) = if a.val < j.val ∧ j.val ≤ a.val + 128 then 1#1 else 0#1 := by
    rw [← in_word a j]
    simp only [val_main_v119_apply, val_main_v118_apply, val_main_v117_apply, val_main_c_13_apply, val_main_v116_apply, val_main_v115_apply, val_main_c_12_apply,
      val_main_v114_apply, val_main_v113_apply, val_main_v109_apply, val_main_v108_apply, val_main_v112_apply, val_main_v111_apply, val_main_v110_apply, val_main_c_11_apply, val_main_v107_apply, val_main_v106_apply]
    rfl
  have e2 : (val_main_v124 (F := Ideal) : S32x1x1.Idx → BitVec 1) (ix3 N 0 0) = if 0 < N.val then 1#1 else 0#1 := by
    rw [← block_word N]
    simp only [val_main_v124_apply, val_main_v123_apply, val_main_c_14_apply, val_main_v121_apply, val_main_v120_apply]
    rfl
  have e3 : (val_main_v126 (F := Ideal) : S1x256.Idx → BitVec 1) (ix2 0 j) = if 128 ≤ j.val then 1#1 else 0#1 := by
    rw [← own_word' j]
    simp only [val_main_v126_apply, val_main_v125_apply, val_main_c_15_apply, val_main_v109_apply, val_main_v108_apply]
    rfl
  have f1 : (val_main_v131 (F := Ideal) : S32x128x256.Idx → BitVec 1) (ix3 N a j) = if a.val < j.val ∧ j.val ≤ a.val + 128 then 1#1 else 0#1 := by
    rw [val_main_v131_apply, val_main_v122_apply]
    exact (congrArg (val_main_v119 (F := Ideal)) (funext fun b => by match b with | ⟨0, _⟩ => rfl | ⟨1, _⟩ => rfl)).trans e1
  have f2 : (val_main_v132 (F := Ideal) : S32x128x256.Idx → BitVec 1) (ix3 N a j)
      = IntOp.ori (if 0 < N.val then 1#1 else 0#1) (if 128 ≤ j.val then 1#1 else 0#1) := by
    rw [val_main_v132_apply, val_main_v130_apply, val_main_v128_apply, val_main_v129_apply, val_main_v127_apply]
    exact congrArg₂ IntOp.ori
      ((congrArg (val_main_v124 (F := Ideal)) (funext fun b => by match b with | ⟨0, _⟩ => rfl | ⟨1, _⟩ => rfl | ⟨2, _⟩ => rfl)).trans e2)
      ((congrArg (val_main_v126 (F := Ideal)) (funext fun b => by match b with | ⟨0, _⟩ => rfl | ⟨1, _⟩ => rfl)).trans e3)
  rw [val_main_v133_apply, f1, f2]
  by_cases h1 : a.val < j.val ∧ j.val ≤ a.val + 128 <;> by_cases h2 : 0 < N.val <;> by_cases h3 : 128 ≤ j.val <;> simp [h1, h2, h3, IntOp.andi, IntOp.ori]

end Cert.Proof.Attn.Ref
-- ==== Proof.AttnRefEnd.lean ====
/- Hand-written. The attention's reference: its scores, their softmax and its output. -/
module

public import proofs.«01_k».proof.Proof.Gen.AttnRefIdeal.Run
public import proofs.«01_k».proof.Proof.Gen.AttnRefIdeal.Read
public import proofs.«01_k».proof.Proof.AttnRef
public import Idealize.ShloMosaic.Lib.Pointwise
public import Idealize.ShloMosaic.Lib.KernelVsHost

@[expose] public section

noncomputable section

namespace Cert.Proof.Attn.Ref

open Cert.AttnRefIdeal Cert.AttnRefIdeal.Gen Cert.AttnRefIdeal.Read Idealize.ShloMosaic Idealize.ShloMosaic.TcCoe Idealize.SL.Sem

variable (x0 : (⟨S4096x768, .f32⟩ : BufTy).Contents (Elt Ideal)) (x1 : (⟨S4096, .i32⟩ : BufTy).Contents (Elt Ideal))
  (x2 x3 : (⟨S1x64, .f32⟩ : BufTy).Contents (Elt Ideal)) (x4 : (⟨S1x8, .f32⟩ : BufTy).Contents (Elt Ideal))

/-- A masked score. -/
theorem score_at (N : Fin 32) (h : Fin 2) (g : Fin 4) (a : Fin 128) (j : Fin 256) : (val_main_v135 x0 x1 x2 x3 : S32x2x4x128x256.Idx → EReal) (ix5 N h g a j)
    = score (fun n j => x0 (ix2 n j)) (fun n => x1 (ix1 n)) (fun e => x2 (ix2 0 e)) (fun e => x3 (ix2 0 e)) ⟨N.val * 128 + a.val, by omega⟩ ⟨h.val * 4 + g.val, by omega⟩ j := by
  have hN := N.isLt
  have ha := a.isLt
  have hg := g.isLt
  have hh := h.isLt
  have hc : seen ⟨N.val * 128 + a.val, by omega⟩ j ↔ (a.val < j.val ∧ j.val ≤ a.val + 128) ∧ (0 < N.val ∨ 128 ≤ j.val) := by
    unfold seen
    show ((N.val * 128 + a.val) % 128 < j.val ∧ j.val ≤ (N.val * 128 + a.val) % 128 + 128) ∧ (128 ≤ N.val * 128 + a.val ∨ 128 ≤ j.val) ↔ _
    omega
  unfold val_main_v135 val_main_v105 val_main_v104 val_main_v103 val_main_v102 val_main_v101 val_main_call2_v1 val_main_v134 score
  pointwise
  rw [seen_bit]
  by_cases hs : (a.val < j.val ∧ j.val ≤ a.val + 128) ∧ (0 < N.val ∨ 128 ≤ j.val)
  · rw [if_pos hs, if_pos (hc.mpr hs), Scalar.select, if_pos (by decide)]
    refine congrArg (fun y : EReal => y * Ideal.ofBits .f32 0x3E000000#32) (Finset.sum_congr rfl fun d _ => ?_)
    rw [k_band x0 x1 x3 N j h d (by omega), q_rot, mul_comm]
    refine congrArg₂ (fun n l => qrow _ _ _ _ _ d * krow _ _ _ n l d) (Fin.ext ?_) (Fin.ext ?_)
    · show N.val * 128 + j.val - 128 = (N.val * 128 + a.val) / 128 * 128 + j.val - 128
      omega
    · show h.val = (h.val * 4 + g.val) / 4
      omega
  · rw [if_neg hs, if_neg (fun q => hs (hc.mp q)), Scalar.select, if_neg (by decide), val_main_call2_v2_apply, val_main_call2_v0_apply, val_main_cst_16_apply]
    simp [Ideal.ofBits, Ideal.ieee]

/-- A maximum over the last axis, read at an index. -/
theorem max_last (x : FVec Ideal S32x2x4x128x256 .f32) (z : FVec Ideal S_ .f32) (N : Fin 32) (h : Fin 2) (g : Fin 4) (a : Fin 128) :
    (Host.reduce (FloatOps.maximumf (F := Ideal) (φ := .f32)) x z reducesTo_S32x2x4x128x256_S32x2x4x128_d4 h_S_) (ix4 N h g a)
      = (Finset.univ : Finset (Fin 256)).fold max (z (Shape.Idx.first h_S_) : EReal) (fun j : Fin 256 => (x (ix5 N h g a j) : EReal)) := by
  simp only [pointwise]

/-- The sink of a head. -/
theorem sink_at (h : Fin 2) (g : Fin 4) : (val_main_v137 x4 : S1x2x4x1x1.Idx → EReal) (ix5 0 h g 0 0) = x4 (ix2 0 ⟨h.val * 4 + g.val, by omega⟩) := by
  unfold val_main_v137 val_main_v136
  pointwise

/-- A row's maximum set against a column of sinks. -/
theorem max_row (x : FVec Ideal S32x2x4x128x256 .f32) (y : FVec Ideal S32x2x4x128 .f32) (w : FVec Ideal S1x2x4x1x1 .f32)
    (N : Fin 32) (h : Fin 2) (g : Fin 4) (a : Fin 128) (b : EReal)
    (hy : y (ix4 N h g a) = (Finset.univ : Finset (Fin 256)).fold max (⊥ : EReal) (fun j : Fin 256 => (x (ix5 N h g a j) : EReal)))
    (hw : w (ix5 0 h g 0 0) = b) :
    maximumf (broadcastInDim S32x2x4x128x1 ![0, 1, 2, 3] bcast_S32x2x4x128_S32x2x4x128x1_0_1_2_3 y)
        (broadcastInDim S32x2x4x128x1 ![0, 1, 2, 3, 4] bcast_S1x2x4x1x1_S32x2x4x128x1_0_1_2_3_4 w) (ix5 N h g a 0)
      = top (fun j => x (ix5 N h g a j)) b := by
  unfold top
  pointwise
  rw [← hw, ← hy]

/-- The greatest of a row's scores and its sink. -/
theorem max_at (N : Fin 32) (h : Fin 2) (g : Fin 4) (a : Fin 128) : (val_main_v141 x0 x1 x2 x3 x4 : S32x2x4x128x1.Idx → EReal) (ix5 N h g a 0)
    = top (fun j => val_main_v135 x0 x1 x2 x3 (ix5 N h g a j)) (x4 (ix2 0 ⟨h.val * 4 + g.val, by omega⟩)) := by
  have e : (val_main_cst_17 (F := Ideal) : S_.Idx → EReal) (Shape.Idx.first h_S_) = (⊥ : EReal) := by
    rw [val_main_cst_17_apply]
    simp [Ideal.ofBits, Ideal.ieee]
  unfold val_main_v141 val_main_v140 val_main_v139 val_main_v138
  generalize val_main_v135 x0 x1 x2 x3 = x
  refine max_row x _ (val_main_v137 x4) N h g a _ ?_ (sink_at x4 h g)
  rw [max_last, e]

/-- The reference's output is the attention. -/
theorem final (n : Fin 4096) (l : Fin 512)
    (hs : ∀ (n : Fin 4096) (H : Fin 8) (j : Fin 256), score (fun n j => x0 (ix2 n j)) (fun n => x1 (ix1 n)) (fun e => x2 (ix2 0 e)) (fun e => x3 (ix2 0 e)) n H j ≠ ⊤)
    (hb : ∀ H : Fin 8, Real' (x4 (ix2 0 H))) : (val_main_v156 x0 x1 x2 x3 x4 : S4096x512.Idx → EReal) (ix2 n l)
    = spec (fun n j => x0 (ix2 n j)) (fun n => x1 (ix1 n)) (fun e => x2 (ix2 0 e)) (fun e => x3 (ix2 0 e)) (fun H => x4 (ix2 0 H)) n l := by
  have hn := n.isLt
  have hl := l.isLt
  have z : (val_main_cst_18 (F := Ideal) : S_.Idx → EReal) (Shape.Idx.first h_S_) = (0 : EReal) := by
    rw [val_main_cst_18_apply]
    simp [Ideal.ofBits, Ideal.ieee]
  unfold val_main_v156 val_main_v155 val_main_v154 val_main_v153 val_main_v152 val_main_v151 val_main_v150 val_main_v149 val_main_v148 val_main_v147 val_main_v146 val_main_v145 val_main_v144 val_main_v143 val_main_v142
  pointwise
  simp only [max_at, score_at, sink_at, z, zero_add]
  have en : (⟨n.val / 128 * 128 + n.val % 128, by omega⟩ : Fin 4096) = n := Fin.ext (show n.val / 128 * 128 + n.val % 128 = n.val by omega)
  have eh : (⟨l.val / 256 * 4 + l.val / 64 % 4, by omega⟩ : Fin 8) = ⟨l.val / 64, by omega⟩ := Fin.ext (show l.val / 256 * 4 + l.val / 64 % 4 = l.val / 64 by omega)
  simp only [en, eh]
  unfold spec
  refine Eq.trans ?_ (attend_congr _ (fun x => val_main_v100 x0 (ix4 ⟨n.val / 128, by omega⟩ x ⟨l.val / 256, by omega⟩ ⟨l.val % 64, by omega⟩)) _ _ (hs n ⟨l.val / 64, by omega⟩) (hb ⟨l.val / 64, by omega⟩) ?_)
  · unfold attend mass
    exact Finset.sum_congr rfl fun x _ => mul_comm _ _
  · intro j hj
    have hc : seen n j := by
      by_contra q
      exact hj (by unfold score; rw [if_neg q])
    unfold seen at hc
    show val_main_v100 x0 _ = _
    rw [v_band x0 ⟨n.val / 128, by omega⟩ j ⟨l.val / 256, by omega⟩ ⟨l.val % 64, by omega⟩ (show 128 ≤ n.val / 128 * 128 + j.val by omega)]
    exact at_ix2 x0 rfl (show 640 + l.val / 256 * 64 + l.val % 64 = 640 + l.val / 64 / 4 * 64 + l.val % 64 by omega)

end Cert.Proof.Attn.Ref
-- ==== Proof.AttnClaim.lean ====
/- Hand-written. The attention: the reference's frame, the mask's constant and the equation of the result. -/
module

public import proofs.«01_k».proof.Defs
public import proofs.«01_k».proof.Proof.Gen.Pre_attn_finite
public import proofs.«01_k».proof.Proof.AttnKernel
public import proofs.«01_k».proof.Proof.AttnRefEnd
public import Idealize.ShloMosaic.Adequacy

@[expose] public section

noncomputable section

namespace Cert.Proof.Attn

open Idealize.ShloMosaic Idealize.ShloMosaic.TcCoe Idealize.SL.Sem

/-- The reference has no semaphores, so none is left counting. -/
theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The mask's constant, named, is the constant below every real. -/
theorem preserves : Cert.preserves_Attn_AttnIdeal :=
  IdealRules.named_const.statement Cert.AttnIdeal.κ "mask" .f32 0xF149F2CA#32 (⊥ : EReal) rfl

/-- A magnitude below the word of infinity is a real's. -/
theorem real_of_bit (x : EReal) (h : BitVec.ofBool (decide ((FloatOps.absf (F := Ideal) (φ := .f32) x : EReal) < Ideal.ofBits .f32 0x7F800000#32)) = 1#1) : Real' x := by
  have hi : Ideal.ofBits .f32 0x7F800000#32 = ⊤ := by simp [Ideal.ofBits, Ideal.ieee]
  rw [hi] at h
  have h' : max x (-x) < ⊤ := by
    by_contra q
    have e : decide ((FloatOps.absf (F := Ideal) (φ := .f32) x : EReal) < ⊤) = false := decide_eq_false q
    rw [e] at h
    exact absurd h (by decide)
  induction x with
  | bot => exact absurd h' (by simp)
  | coe r => exact ⟨r, rfl⟩
  | top => exact absurd h' (by simp)

section Pre

open Cert.Pre_attn_finite

variable (x0 : FVec Ideal S4096x768 .f32) (x1 : IVec S4096 32) (x2 x3 : FVec Ideal S1x64 .f32) (x4 : FVec Ideal S1x8 .f32)

/-- The precondition read at an index. -/
theorem pre_at (h : Cert.Pre_attn_finite.fn (F := Ideal) x0 x1 x2 x3 x4 = fun _ => 1#1) (n : Fin 4096) (j : Fin 776) :
    Real' (if h : j.val < 640 then x0 (ix2 n ⟨j.val, by omega⟩)
      else if h : j.val - 640 < 64 then x2 (ix2 0 ⟨j.val - 640, h⟩)
      else if h : j.val - 640 - 64 < 64 then x3 (ix2 0 ⟨j.val - 640 - 64, h⟩) else x4 (ix2 0 ⟨j.val - 640 - 64 - 64, by omega⟩)) := by
  have e := congrFun h (ix2 n j)
  unfold Cert.Pre_attn_finite.fn at e
  pointwise at e
  exact real_of_bit _ e

theorem pre_rows (h : Cert.Pre_attn_finite.fn (F := Ideal) x0 x1 x2 x3 x4 = fun _ => 1#1) (n : Fin 4096) (j : Fin 768) (hj : j.val < 640) :
    Real' (x0 (ix2 n j)) := by
  have e := pre_at x0 x1 x2 x3 x4 h n ⟨j.val, by omega⟩
  rw [dif_pos hj] at e
  exact e

theorem pre_q (h : Cert.Pre_attn_finite.fn (F := Ideal) x0 x1 x2 x3 x4 = fun _ => 1#1) (d : Fin 64) : Real' (x2 (ix2 0 d)) := by
  have e := pre_at x0 x1 x2 x3 x4 h 0 ⟨640 + d.val, by omega⟩
  rw [dif_neg (show ¬ 640 + d.val < 640 by omega), dif_pos (show 640 + d.val - 640 < 64 by omega)] at e
  rwa [at_ix2 x2 (b' := d) rfl (show 640 + d.val - 640 = d.val by omega)] at e

theorem pre_k (h : Cert.Pre_attn_finite.fn (F := Ideal) x0 x1 x2 x3 x4 = fun _ => 1#1) (d : Fin 64) : Real' (x3 (ix2 0 d)) := by
  have e := pre_at x0 x1 x2 x3 x4 h 0 ⟨704 + d.val, by omega⟩
  rw [dif_neg (show ¬ 704 + d.val < 640 by omega), dif_neg (show ¬ 704 + d.val - 640 < 64 by omega), dif_pos (show 704 + d.val - 640 - 64 < 64 by omega)] at e
  rwa [at_ix2 x3 (b' := d) rfl (show 704 + d.val - 640 - 64 = d.val by omega)] at e

theorem pre_b (h : Cert.Pre_attn_finite.fn (F := Ideal) x0 x1 x2 x3 x4 = fun _ => 1#1) (H : Fin 8) : Real' (x4 (ix2 0 H)) := by
  have e := pre_at x0 x1 x2 x3 x4 h 0 ⟨768 + H.val, by omega⟩
  rw [dif_neg (show ¬ 768 + H.val < 640 by omega), dif_neg (show ¬ 768 + H.val - 640 < 64 by omega), dif_neg (show ¬ 768 + H.val - 640 - 64 < 64 by omega)] at e
  rwa [at_ix2 x4 (b' := H) rfl (show 768 + H.val - 640 - 64 - 64 = H.val by omega)] at e

end Pre

/-- The reference's array, of arguments equal to the call's, is the call's. -/
theorem ref_final (m : (ℓ : Loc Cert.AttnIdeal.nD Cert.AttnIdeal.τ Cert.AttnIdeal.sig) → Buf (Elt Ideal) ℓ) (c : Dev Cert.AttnIdeal.nD)
    (hpre : Cert.Pre_AttnIdeal_attn_finite m) (y0 : FVec Ideal Cert.AttnIdeal.S4096x768 .f32) (y1 : IVec Cert.AttnIdeal.S4096 32)
    (y2 y3 : FVec Ideal Cert.AttnIdeal.S1x64 .f32) (y4 : FVec Ideal Cert.AttnIdeal.S1x8 .f32)
    (e0 : y0 = m ((c : Thread Cert.AttnIdeal.nD Cert.AttnIdeal.τ).loc Cert.AttnIdeal.main_arg0))
    (e1 : y1 = m ((c : Thread Cert.AttnIdeal.nD Cert.AttnIdeal.τ).loc Cert.AttnIdeal.main_arg1))
    (e2 : y2 = m ((c : Thread Cert.AttnIdeal.nD Cert.AttnIdeal.τ).loc Cert.AttnIdeal.main_arg2))
    (e3 : y3 = m ((c : Thread Cert.AttnIdeal.nD Cert.AttnIdeal.τ).loc Cert.AttnIdeal.main_arg3))
    (e4 : y4 = m ((c : Thread Cert.AttnIdeal.nD Cert.AttnIdeal.τ).loc Cert.AttnIdeal.main_arg4)) :
    Cert.AttnRefIdeal.Read.val_main_v156 (F := Ideal) y0 y1 y2 y3 y4 = (Cert.AttnIdeal.Gen.dats m 0 c).arrAt 7 Cert.AttnIdeal.cfg0.N := by
  have hX := pre_rows _ _ _ _ _ (hpre c)
  have hg := pre_q _ _ _ _ _ (hpre c)
  have hk := pre_k _ _ _ _ _ (hpre c)
  have hb := pre_b _ _ _ _ _ (hpre c)
  subst e0 e1 e2 e3 e4
  exact (final m c hX hg hk hb _ fun n l =>
    Ref.final _ _ _ _ _ n l (score_ne_top (aX m c) (aP m c) (aG m c) (aK m c) hX hg hk) hb).symm

/-- The call and its reference end with equal results. -/
theorem equal : Cert.algebraic_AttnIdeal_AttnRefIdeal_pre_attn_finite := by
  intro m ρ m' ρ' hpre hagree
  refine ⟨fun c => (Cert.AttnIdeal.Gen.dats m 0 c).arrAt 7 Cert.AttnIdeal.cfg0.N, ?_, ?_⟩
  · exact Cert.AttnIdeal.Value.run_blocks m ρ
  · refine (θ_run Cert.AttnRefIdeal.defs _ _).mono (fun _ h c => ?_) (Cert.AttnRefIdeal.Value.run (F := Ideal) m' ρ')
    obtain ⟨e0, e1, e2, e3, e4⟩ := hagree c
    obtain ⟨h0, hkept⟩ := h c
    refine ⟨?_, hkept⟩
    exact h0.trans ((Cert.AttnRefIdeal.Read.val_main_v156_eq (F := Ideal) _).trans (ref_final m c hpre _ _ _ _ _ e0 e1 e2 e3 e4))

end Cert.Proof.Attn
-- ==== Proof.lean ====
/- Hand-written. The claims of this certificate, put together from one module per call. -/
module

public import proofs.«01_k».proof.Defs
public import proofs.«01_k».proof.Proof.Gen.MergeGrad
public import proofs.«01_k».proof.Proof.Gen.MergeGradIdeal
public import proofs.«01_k».proof.Proof.Gen.MergeGradRefIdeal
public import proofs.«01_k».proof.Proof.Gen.MergeGrad.Frame
public import proofs.«01_k».proof.Proof.Gen.MergeGradIdeal.Frame
public import proofs.«01_k».proof.Proof.MergeClaim
public import proofs.«01_k».proof.Proof.Gen.GluGrad
public import proofs.«01_k».proof.Proof.Gen.GluGradIdeal
public import proofs.«01_k».proof.Proof.Gen.GluGradRefIdeal
public import proofs.«01_k».proof.Proof.Gen.GluGrad.Frame
public import proofs.«01_k».proof.Proof.Gen.GluGradIdeal.Frame
public import proofs.«01_k».proof.Proof.GluClaim
public import proofs.«01_k».proof.Proof.Gen.UpDw
public import proofs.«01_k».proof.Proof.Gen.UpDwIdeal
public import proofs.«01_k».proof.Proof.Gen.UpDwRefIdeal
public import proofs.«01_k».proof.Proof.Gen.UpDw.Frame
public import proofs.«01_k».proof.Proof.Gen.UpDwIdeal.Frame
public import proofs.«01_k».proof.Proof.UpDwClaim
public import proofs.«01_k».proof.Proof.Gen.DownDw
public import proofs.«01_k».proof.Proof.Gen.DownDwIdeal
public import proofs.«01_k».proof.Proof.Gen.DownDwRefIdeal
public import proofs.«01_k».proof.Proof.Gen.DownDw.Frame
public import proofs.«01_k».proof.Proof.Gen.DownDwIdeal.Frame
public import proofs.«01_k».proof.Proof.DownDwClaim
public import proofs.«01_k».proof.Proof.Gen.OutDw
public import proofs.«01_k».proof.Proof.Gen.OutDwIdeal
public import proofs.«01_k».proof.Proof.Gen.OutDwRefIdeal
public import proofs.«01_k».proof.Proof.Gen.OutDw.Frame
public import proofs.«01_k».proof.Proof.Gen.OutDwIdeal.Frame
public import proofs.«01_k».proof.Proof.OutDwClaim
public import proofs.«01_k».proof.Proof.Gen.InDw
public import proofs.«01_k».proof.Proof.Gen.InDwIdeal
public import proofs.«01_k».proof.Proof.Gen.InDwRefIdeal
public import proofs.«01_k».proof.Proof.Gen.InDw.Frame
public import proofs.«01_k».proof.Proof.Gen.InDwIdeal.Frame
public import proofs.«01_k».proof.Proof.InDwClaim
public import proofs.«01_k».proof.Proof.Gen.BranchDw
public import proofs.«01_k».proof.Proof.Gen.BranchDwIdeal
public import proofs.«01_k».proof.Proof.Gen.BranchDwRefIdeal
public import proofs.«01_k».proof.Proof.Gen.BranchDw.Frame
public import proofs.«01_k».proof.Proof.Gen.BranchDwIdeal.Frame
public import proofs.«01_k».proof.Proof.BranchDwClaim
public import proofs.«01_k».proof.Proof.Gen.InDx
public import proofs.«01_k».proof.Proof.Gen.InDxIdeal
public import proofs.«01_k».proof.Proof.Gen.InDxRefIdeal
public import proofs.«01_k».proof.Proof.Gen.InDx.Frame
public import proofs.«01_k».proof.Proof.Gen.InDxIdeal.Frame
public import proofs.«01_k».proof.Proof.InDxClaim
public import proofs.«01_k».proof.Proof.Gen.NormGrad
public import proofs.«01_k».proof.Proof.Gen.NormGradIdeal
public import proofs.«01_k».proof.Proof.Gen.NormGradRefIdeal
public import proofs.«01_k».proof.Proof.Gen.NormGrad.Frame
public import proofs.«01_k».proof.Proof.Gen.NormGradIdeal.Frame
public import proofs.«01_k».proof.Proof.NormGradClaim
public import proofs.«01_k».proof.Proof.Gen.LossHead
public import proofs.«01_k».proof.Proof.Gen.LossHeadIdeal
public import proofs.«01_k».proof.Proof.Gen.LossHeadRefIdeal
public import proofs.«01_k».proof.Proof.Gen.LossHead.Frame
public import proofs.«01_k».proof.Proof.Gen.LossHeadIdeal.Frame
public import proofs.«01_k».proof.Proof.LossHeadClaim
public import proofs.«01_k».proof.Proof.Gen.FfnUp
public import proofs.«01_k».proof.Proof.Gen.FfnUpIdeal
public import proofs.«01_k».proof.Proof.Gen.FfnUpRefIdeal
public import proofs.«01_k».proof.Proof.Gen.FfnUp.Frame
public import proofs.«01_k».proof.Proof.Gen.FfnUpIdeal.Frame
public import proofs.«01_k».proof.Proof.FfnUpClaim
public import proofs.«01_k».proof.Proof.Gen.ProjShift
public import proofs.«01_k».proof.Proof.Gen.ProjShiftIdeal
public import proofs.«01_k».proof.Proof.Gen.ProjShiftRefIdeal
public import proofs.«01_k».proof.Proof.Gen.ProjShift.Frame
public import proofs.«01_k».proof.Proof.Gen.ProjShiftIdeal.Frame
public import proofs.«01_k».proof.Proof.ProjShiftClaim
public import proofs.«01_k».proof.Proof.Gen.ProjQkv
public import proofs.«01_k».proof.Proof.Gen.ProjQkvIdeal
public import proofs.«01_k».proof.Proof.Gen.ProjQkvRefIdeal
public import proofs.«01_k».proof.Proof.Gen.ProjQkv.Frame
public import proofs.«01_k».proof.Proof.Gen.ProjQkvIdeal.Frame
public import proofs.«01_k».proof.Proof.ProjQkvClaim
public import proofs.«01_k».proof.Proof.Gen.ProjGates
public import proofs.«01_k».proof.Proof.Gen.ProjGatesIdeal
public import proofs.«01_k».proof.Proof.Gen.ProjGatesRefIdeal
public import proofs.«01_k».proof.Proof.Gen.ProjGates.Frame
public import proofs.«01_k».proof.Proof.Gen.ProjGatesIdeal.Frame
public import proofs.«01_k».proof.Proof.ProjGatesClaim
public import proofs.«01_k».proof.Proof.Gen.MixOut
public import proofs.«01_k».proof.Proof.Gen.MixOutIdeal
public import proofs.«01_k».proof.Proof.Gen.MixOutRefIdeal
public import proofs.«01_k».proof.Proof.Gen.MixOut.Frame
public import proofs.«01_k».proof.Proof.Gen.MixOutIdeal.Frame
public import proofs.«01_k».proof.Proof.MixOutClaim
public import proofs.«01_k».proof.Proof.Gen.Attn
public import proofs.«01_k».proof.Proof.Gen.AttnIdeal
public import proofs.«01_k».proof.Proof.Gen.AttnRefIdeal
public import proofs.«01_k».proof.Proof.Gen.Attn.Frame
public import proofs.«01_k».proof.Proof.Gen.AttnIdeal.Frame
public import proofs.«01_k».proof.Proof.Gen.Pre_attn_finite
public import proofs.«01_k».proof.Proof.AttnClaim
public import Idealize.ShloMosaic.Adequacy

@[expose] public section

noncomputable section

namespace Cert.Proof

open Idealize.ShloMosaic Idealize.SL.Sem

theorem claim : Cert.Claim := ⟨Cert.MergeGrad.Gen.facts, Cert.MergeGradIdeal.Gen.facts, Cert.MergeGradRefIdeal.Gen.facts, Cert.GluGrad.Gen.facts, Cert.GluGradIdeal.Gen.facts, Cert.GluGradRefIdeal.Gen.facts, Cert.UpDw.Gen.facts, Cert.UpDwIdeal.Gen.facts, Cert.UpDwRefIdeal.Gen.facts, Cert.DownDw.Gen.facts, Cert.DownDwIdeal.Gen.facts, Cert.DownDwRefIdeal.Gen.facts, Cert.OutDw.Gen.facts, Cert.OutDwIdeal.Gen.facts, Cert.OutDwRefIdeal.Gen.facts, Cert.InDw.Gen.facts, Cert.InDwIdeal.Gen.facts, Cert.InDwRefIdeal.Gen.facts, Cert.BranchDw.Gen.facts, Cert.BranchDwIdeal.Gen.facts, Cert.BranchDwRefIdeal.Gen.facts, Cert.InDx.Gen.facts, Cert.InDxIdeal.Gen.facts, Cert.InDxRefIdeal.Gen.facts, Cert.NormGrad.Gen.facts, Cert.NormGradIdeal.Gen.facts, Cert.NormGradRefIdeal.Gen.facts, Cert.LossHead.Gen.facts, Cert.LossHeadIdeal.Gen.facts, Cert.LossHeadRefIdeal.Gen.facts, Cert.FfnUp.Gen.facts, Cert.FfnUpIdeal.Gen.facts, Cert.FfnUpRefIdeal.Gen.facts, Cert.ProjShift.Gen.facts, Cert.ProjShiftIdeal.Gen.facts, Cert.ProjShiftRefIdeal.Gen.facts, Cert.ProjQkv.Gen.facts, Cert.ProjQkvIdeal.Gen.facts, Cert.ProjQkvRefIdeal.Gen.facts, Cert.ProjGates.Gen.facts, Cert.ProjGatesIdeal.Gen.facts, Cert.ProjGatesRefIdeal.Gen.facts, Cert.MixOut.Gen.facts, Cert.MixOutIdeal.Gen.facts, Cert.MixOutRefIdeal.Gen.facts, Cert.Attn.Gen.facts, Cert.AttnIdeal.Gen.facts, Cert.AttnRefIdeal.Gen.facts, Cert.Pre_attn_finite.Gen.facts,
  fun m ρ _ => Cert.MergeGrad.Gen.frame m ρ,
  fun m ρ _ => Cert.MergeGradIdeal.Gen.frame m ρ,
  Cert.Proof.Merge.frame_ref,
  fun m ρ _ => Cert.GluGrad.Gen.frame m ρ,
  fun m ρ _ => Cert.GluGradIdeal.Gen.frame m ρ,
  Cert.Proof.Glu.frame_ref,
  fun m ρ _ => Cert.UpDw.Gen.frame m ρ,
  fun m ρ _ => Cert.UpDwIdeal.Gen.frame m ρ,
  Cert.Proof.UpDw.frame_ref,
  fun m ρ _ => Cert.DownDw.Gen.frame m ρ,
  fun m ρ _ => Cert.DownDwIdeal.Gen.frame m ρ,
  Cert.Proof.DownDw.frame_ref,
  fun m ρ _ => Cert.OutDw.Gen.frame m ρ,
  fun m ρ _ => Cert.OutDwIdeal.Gen.frame m ρ,
  Cert.Proof.OutDw.frame_ref,
  fun m ρ _ => Cert.InDw.Gen.frame m ρ,
  fun m ρ _ => Cert.InDwIdeal.Gen.frame m ρ,
  Cert.Proof.InDw.frame_ref,
  fun m ρ _ => Cert.BranchDw.Gen.frame m ρ,
  fun m ρ _ => Cert.BranchDwIdeal.Gen.frame m ρ,
  Cert.Proof.BranchDw.frame_ref,
  fun m ρ _ => Cert.InDx.Gen.frame m ρ,
  fun m ρ _ => Cert.InDxIdeal.Gen.frame m ρ,
  Cert.Proof.InDx.frame_ref,
  fun m ρ _ => Cert.NormGrad.Gen.frame m ρ,
  fun m ρ _ => Cert.NormGradIdeal.Gen.frame m ρ,
  Cert.Proof.NormGrad.frame_ref,
  fun m ρ _ => Cert.LossHead.Gen.frame m ρ,
  fun m ρ _ => Cert.LossHeadIdeal.Gen.frame m ρ,
  Cert.Proof.LossHead.frame_ref,
  fun m ρ _ => Cert.FfnUp.Gen.frame m ρ,
  fun m ρ _ => Cert.FfnUpIdeal.Gen.frame m ρ,
  Cert.Proof.FfnUp.frame_ref,
  fun m ρ _ => Cert.ProjShift.Gen.frame m ρ,
  fun m ρ _ => Cert.ProjShiftIdeal.Gen.frame m ρ,
  Cert.Proof.ProjShift.frame_ref,
  fun m ρ _ => Cert.ProjQkv.Gen.frame m ρ,
  fun m ρ _ => Cert.ProjQkvIdeal.Gen.frame m ρ,
  Cert.Proof.ProjQkv.frame_ref,
  fun m ρ _ => Cert.ProjGates.Gen.frame m ρ,
  fun m ρ _ => Cert.ProjGatesIdeal.Gen.frame m ρ,
  Cert.Proof.ProjGates.frame_ref,
  fun m ρ _ => Cert.MixOut.Gen.frame m ρ,
  fun m ρ _ => Cert.MixOutIdeal.Gen.frame m ρ,
  Cert.Proof.MixOut.frame_ref,
  fun m ρ _ => Cert.Attn.Gen.frame m ρ,
  fun m ρ _ => Cert.AttnIdeal.Gen.frame m ρ,
  fun m ρ _ => Cert.AttnIdeal.Gen.frame m ρ,
  Cert.Proof.Attn.frame_ref,
  fun m ρ _ => Cert.Proof.Attn.frame_ref m ρ trivial,
  trivial,
  Cert.Proof.Merge.value,
  trivial,
  Cert.Proof.Glu.value,
  trivial,
  Cert.Proof.UpDw.value,
  trivial,
  Cert.Proof.DownDw.value,
  trivial,
  Cert.Proof.OutDw.value,
  trivial,
  Cert.Proof.InDw.value,
  trivial,
  Cert.Proof.BranchDw.value,
  trivial,
  Cert.Proof.InDx.value,
  trivial,
  Cert.Proof.NormGrad.value,
  trivial,
  Cert.Proof.LossHead.value,
  trivial,
  Cert.Proof.FfnUp.value,
  trivial,
  Cert.Proof.ProjShift.value,
  trivial,
  Cert.Proof.ProjQkv.value,
  trivial,
  Cert.Proof.ProjGates.value,
  trivial,
  Cert.Proof.MixOut.value,
  Cert.Proof.Attn.preserves,
  Cert.Proof.Attn.equal⟩

end Cert.Proof

end
